-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10)
      ∧ r.2.mem ((c.tc : Thread Cert.Kernel10.nD Cert.Kernel10.τ).loc Cert.Kernel10.main_arg11) = m ((c.tc : Thread Cert.Kernel10.nD Cert.Kernel10.τ).loc Cert.Kernel10.main_arg11)
      ∧ r.2.mem ((c.tc : Thread Cert.Kernel10.nD Cert.Kernel10.τ).loc Cert.Kernel10.main_arg12) = m ((c.tc : Thread Cert.Kernel10.nD Cert.Kernel10.τ).loc Cert.Kernel10.main_arg12)
      ∧ r.2.mem ((c.tc : Thread Cert.Kernel10.nD Cert.Kernel10.τ).loc Cert.Kernel10.main_arg13) = m ((c.tc : Thread Cert.Kernel10.nD Cert.Kernel10.τ).loc Cert.Kernel10.main_arg13)
      ∧ r.2.mem ((c.tc : Thread Cert.Kernel10.nD Cert.Kernel10.τ).loc Cert.Kernel10.main_arg14) = m ((c.tc : Thread Cert.Kernel10.nD Cert.Kernel10.τ).loc Cert.Kernel10.main_arg14)
      ∧ r.2.mem ((c.tc : Thread Cert.Kernel10.nD Cert.Kernel10.τ).loc Cert.Kernel10.main_arg15) = m ((c.tc : Thread Cert.Kernel10.nD Cert.Kernel10.τ).loc Cert.Kernel10.main_arg15)
      ∧ r.2.mem ((c.tc : Thread Cert.Kernel10.nD Cert.Kernel10.τ).loc Cert.Kernel10.main_arg16) = m ((c.tc : Thread Cert.Kernel10.nD Cert.Kernel10.τ).loc Cert.Kernel10.main_arg16))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
      ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
      ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
      ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
      ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
      ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
      ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5)
      ∧ r.2.mem ((c.tc : Thread Cert.Reference10Ideal.nD Cert.Reference10Ideal.τ).loc Cert.Reference10Ideal.main_arg6) = m ((c.tc : Thread Cert.Reference10Ideal.nD Cert.Reference10Ideal.τ).loc Cert.Reference10Ideal.main_arg6)
      ∧ r.2.mem ((c.tc : Thread Cert.Reference10Ideal.nD Cert.Reference10Ideal.τ).loc Cert.Reference10Ideal.main_arg7) = m ((c.tc : Thread Cert.Reference10Ideal.nD Cert.Reference10Ideal.τ).loc Cert.Reference10Ideal.main_arg7)
      ∧ r.2.mem ((c.tc : Thread Cert.Reference10Ideal.nD Cert.Reference10Ideal.τ).loc Cert.Reference10Ideal.main_arg8) = m ((c.tc : Thread Cert.Reference10Ideal.nD Cert.Reference10Ideal.τ).loc Cert.Reference10Ideal.main_arg8)
      ∧ r.2.mem ((c.tc : Thread Cert.Reference10Ideal.nD Cert.Reference10Ideal.τ).loc Cert.Reference10Ideal.main_arg9) = m ((c.tc : Thread Cert.Reference10Ideal.nD Cert.Reference10Ideal.τ).loc Cert.Reference10Ideal.main_arg9)
      ∧ r.2.mem ((c.tc : Thread Cert.Reference10Ideal.nD Cert.Reference10Ideal.τ).loc Cert.Reference10Ideal.main_arg10) = m ((c.tc : Thread Cert.Reference10Ideal.nD Cert.Reference10Ideal.τ).loc Cert.Reference10Ideal.main_arg10)
      ∧ r.2.mem ((c.tc : Thread Cert.Reference10Ideal.nD Cert.Reference10Ideal.τ).loc Cert.Reference10Ideal.main_arg11) = m ((c.tc : Thread Cert.Reference10Ideal.nD Cert.Reference10Ideal.τ).loc Cert.Reference10Ideal.main_arg11)
      ∧ r.2.mem ((c.tc : Thread Cert.Reference10Ideal.nD Cert.Reference10Ideal.τ).loc Cert.Reference10Ideal.main_arg12) = m ((c.tc : Thread Cert.Reference10Ideal.nD Cert.Reference10Ideal.τ).loc Cert.Reference10Ideal.main_arg12)
      ∧ r.2.mem ((c.tc : Thread Cert.Reference10Ideal.nD Cert.Reference10Ideal.τ).loc Cert.Reference10Ideal.main_arg13) = m ((c.tc : Thread Cert.Reference10Ideal.nD Cert.Reference10Ideal.τ).loc Cert.Reference10Ideal.main_arg13)
      ∧ r.2.mem ((c.tc : Thread Cert.Reference10Ideal.nD Cert.Reference10Ideal.τ).loc Cert.Reference10Ideal.main_arg14) = m ((c.tc : Thread Cert.Reference10Ideal.nD Cert.Reference10Ideal.τ).loc Cert.Reference10Ideal.main_arg14)
      ∧ r.2.mem ((c.tc : Thread Cert.Reference10Ideal.nD Cert.Reference10Ideal.τ).loc Cert.Reference10Ideal.main_arg15) = m ((c.tc : Thread Cert.Reference10Ideal.nD Cert.Reference10Ideal.τ).loc Cert.Reference10Ideal.main_arg15)
      ∧ r.2.mem ((c.tc : Thread Cert.Reference10Ideal.nD Cert.Reference10Ideal.τ).loc Cert.Reference10Ideal.main_arg16) = m ((c.tc : Thread Cert.Reference10Ideal.nD Cert.Reference10Ideal.τ).loc Cert.Reference10Ideal.main_arg16))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v25) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_v19) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v39) = v0 c
          ∧ r.2.mem ((c.tc : Thread Cert.Reference5Ideal.nD Cert.Reference5Ideal.τ).loc Cert.Reference5Ideal.main_v79) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v22_0)) (v1 : (c : Dev Cert.Kernel7Ideal.nD) → Buf (Elt Ideal) ((c.tc : Thread Cert.Kernel7Ideal.nD Cert.Kernel7Ideal.τ).loc Cert.Kernel7Ideal.main_v22_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v22_0) = v0 c
          ∧ r.2.mem ((c.tc : Thread Cert.Kernel7Ideal.nD Cert.Kernel7Ideal.τ).loc Cert.Kernel7Ideal.main_v22_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v19) = v0 c
          ∧ r.2.mem ((c.tc : Thread Cert.Reference7Ideal.nD Cert.Reference7Ideal.τ).loc Cert.Reference7Ideal.main_v38) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v22_0)) (v1 : (c : Dev Cert.Kernel8Ideal.nD) → Buf (Elt Ideal) ((c.tc : Thread Cert.Kernel8Ideal.nD Cert.Kernel8Ideal.τ).loc Cert.Kernel8Ideal.main_v22_1)) (v2 : (c : Dev Cert.Kernel8Ideal.nD) → Buf (Elt Ideal) ((c.tc : Thread Cert.Kernel8Ideal.nD Cert.Kernel8Ideal.τ).loc Cert.Kernel8Ideal.main_v22_2)) (v3 : (c : Dev Cert.Kernel8Ideal.nD) → Buf (Elt Ideal) ((c.tc : Thread Cert.Kernel8Ideal.nD Cert.Kernel8Ideal.τ).loc Cert.Kernel8Ideal.main_v22_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v22_0) = v0 c
          ∧ r.2.mem ((c.tc : Thread Cert.Kernel8Ideal.nD Cert.Kernel8Ideal.τ).loc Cert.Kernel8Ideal.main_v22_1) = v1 c
          ∧ r.2.mem ((c.tc : Thread Cert.Kernel8Ideal.nD Cert.Kernel8Ideal.τ).loc Cert.Kernel8Ideal.main_v22_2) = v2 c
          ∧ r.2.mem ((c.tc : Thread Cert.Kernel8Ideal.nD Cert.Kernel8Ideal.τ).loc Cert.Kernel8Ideal.main_v22_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v101) = v0 c
          ∧ r.2.mem ((c.tc : Thread Cert.Reference8Ideal.nD Cert.Reference8Ideal.τ).loc Cert.Reference8Ideal.main_v110) = v1 c
          ∧ r.2.mem ((c.tc : Thread Cert.Reference8Ideal.nD Cert.Reference8Ideal.τ).loc Cert.Reference8Ideal.main_v123) = v2 c
          ∧ r.2.mem ((c.tc : Thread Cert.Reference8Ideal.nD Cert.Reference8Ideal.τ).loc Cert.Reference8Ideal.main_v131) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)
      ∧ m' ((c.tc : Thread Cert.Reference10Ideal.nD Cert.Reference10Ideal.τ).loc Cert.Reference10Ideal.main_arg6) = m ((c.tc : Thread Cert.Kernel10Ideal.nD Cert.Kernel10Ideal.τ).loc Cert.Kernel10Ideal.main_arg6)
      ∧ m' ((c.tc : Thread Cert.Reference10Ideal.nD Cert.Reference10Ideal.τ).loc Cert.Reference10Ideal.main_arg7) = m ((c.tc : Thread Cert.Kernel10Ideal.nD Cert.Kernel10Ideal.τ).loc Cert.Kernel10Ideal.main_arg7)
      ∧ m' ((c.tc : Thread Cert.Reference10Ideal.nD Cert.Reference10Ideal.τ).loc Cert.Reference10Ideal.main_arg8) = m ((c.tc : Thread Cert.Kernel10Ideal.nD Cert.Kernel10Ideal.τ).loc Cert.Kernel10Ideal.main_arg8)
      ∧ m' ((c.tc : Thread Cert.Reference10Ideal.nD Cert.Reference10Ideal.τ).loc Cert.Reference10Ideal.main_arg9) = m ((c.tc : Thread Cert.Kernel10Ideal.nD Cert.Kernel10Ideal.τ).loc Cert.Kernel10Ideal.main_arg9)
      ∧ m' ((c.tc : Thread Cert.Reference10Ideal.nD Cert.Reference10Ideal.τ).loc Cert.Reference10Ideal.main_arg10) = m ((c.tc : Thread Cert.Kernel10Ideal.nD Cert.Kernel10Ideal.τ).loc Cert.Kernel10Ideal.main_arg10)
      ∧ m' ((c.tc : Thread Cert.Reference10Ideal.nD Cert.Reference10Ideal.τ).loc Cert.Reference10Ideal.main_arg11) = m ((c.tc : Thread Cert.Kernel10Ideal.nD Cert.Kernel10Ideal.τ).loc Cert.Kernel10Ideal.main_arg11)
      ∧ m' ((c.tc : Thread Cert.Reference10Ideal.nD Cert.Reference10Ideal.τ).loc Cert.Reference10Ideal.main_arg12) = m ((c.tc : Thread Cert.Kernel10Ideal.nD Cert.Kernel10Ideal.τ).loc Cert.Kernel10Ideal.main_arg12)
      ∧ m' ((c.tc : Thread Cert.Reference10Ideal.nD Cert.Reference10Ideal.τ).loc Cert.Reference10Ideal.main_arg13) = m ((c.tc : Thread Cert.Kernel10Ideal.nD Cert.Kernel10Ideal.τ).loc Cert.Kernel10Ideal.main_arg13)
      ∧ m' ((c.tc : Thread Cert.Reference10Ideal.nD Cert.Reference10Ideal.τ).loc Cert.Reference10Ideal.main_arg14) = m ((c.tc : Thread Cert.Kernel10Ideal.nD Cert.Kernel10Ideal.τ).loc Cert.Kernel10Ideal.main_arg14)
      ∧ m' ((c.tc : Thread Cert.Reference10Ideal.nD Cert.Reference10Ideal.τ).loc Cert.Reference10Ideal.main_arg15) = m ((c.tc : Thread Cert.Kernel10Ideal.nD Cert.Kernel10Ideal.τ).loc Cert.Kernel10Ideal.main_arg15)
      ∧ m' ((c.tc : Thread Cert.Reference10Ideal.nD Cert.Reference10Ideal.τ).loc Cert.Reference10Ideal.main_arg16) = m ((c.tc : Thread Cert.Kernel10Ideal.nD Cert.Kernel10Ideal.τ).loc Cert.Kernel10Ideal.main_arg16)) →
    ∃ (v0 : (c : Dev Cert.Kernel10Ideal.nD) → Buf (Elt Ideal) ((c.tc : Thread Cert.Kernel10Ideal.nD Cert.Kernel10Ideal.τ).loc Cert.Kernel10Ideal.main_v21_0)) (v1 : (c : Dev Cert.Kernel10Ideal.nD) → Buf (Elt Ideal) ((c.tc : Thread Cert.Kernel10Ideal.nD Cert.Kernel10Ideal.τ).loc Cert.Kernel10Ideal.main_v21_1)) (v2 : (c : Dev Cert.Kernel10Ideal.nD) → Buf (Elt Ideal) ((c.tc : Thread Cert.Kernel10Ideal.nD Cert.Kernel10Ideal.τ).loc Cert.Kernel10Ideal.main_v21_2)) (v3 : (c : Dev Cert.Kernel10Ideal.nD) → Buf (Elt Ideal) ((c.tc : Thread Cert.Kernel10Ideal.nD Cert.Kernel10Ideal.τ).loc Cert.Kernel10Ideal.main_v21_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v21_0) = v0 c
          ∧ r.2.mem ((c.tc : Thread Cert.Kernel10Ideal.nD Cert.Kernel10Ideal.τ).loc Cert.Kernel10Ideal.main_v21_1) = v1 c
          ∧ r.2.mem ((c.tc : Thread Cert.Kernel10Ideal.nD Cert.Kernel10Ideal.τ).loc Cert.Kernel10Ideal.main_v21_2) = v2 c
          ∧ r.2.mem ((c.tc : Thread Cert.Kernel10Ideal.nD Cert.Kernel10Ideal.τ).loc Cert.Kernel10Ideal.main_v21_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
          ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
          ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
          ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
          ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
          ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10)
          ∧ r.2.mem ((c.tc : Thread Cert.Kernel10Ideal.nD Cert.Kernel10Ideal.τ).loc Cert.Kernel10Ideal.main_arg11) = m ((c.tc : Thread Cert.Kernel10Ideal.nD Cert.Kernel10Ideal.τ).loc Cert.Kernel10Ideal.main_arg11)
          ∧ r.2.mem ((c.tc : Thread Cert.Kernel10Ideal.nD Cert.Kernel10Ideal.τ).loc Cert.Kernel10Ideal.main_arg12) = m ((c.tc : Thread Cert.Kernel10Ideal.nD Cert.Kernel10Ideal.τ).loc Cert.Kernel10Ideal.main_arg12)
          ∧ r.2.mem ((c.tc : Thread Cert.Kernel10Ideal.nD Cert.Kernel10Ideal.τ).loc Cert.Kernel10Ideal.main_arg13) = m ((c.tc : Thread Cert.Kernel10Ideal.nD Cert.Kernel10Ideal.τ).loc Cert.Kernel10Ideal.main_arg13)
          ∧ r.2.mem ((c.tc : Thread Cert.Kernel10Ideal.nD Cert.Kernel10Ideal.τ).loc Cert.Kernel10Ideal.main_arg14) = m ((c.tc : Thread Cert.Kernel10Ideal.nD Cert.Kernel10Ideal.τ).loc Cert.Kernel10Ideal.main_arg14)
          ∧ r.2.mem ((c.tc : Thread Cert.Kernel10Ideal.nD Cert.Kernel10Ideal.τ).loc Cert.Kernel10Ideal.main_arg15) = m ((c.tc : Thread Cert.Kernel10Ideal.nD Cert.Kernel10Ideal.τ).loc Cert.Kernel10Ideal.main_arg15)
          ∧ r.2.mem ((c.tc : Thread Cert.Kernel10Ideal.nD Cert.Kernel10Ideal.τ).loc Cert.Kernel10Ideal.main_arg16) = m ((c.tc : Thread Cert.Kernel10Ideal.nD Cert.Kernel10Ideal.τ).loc Cert.Kernel10Ideal.main_arg16))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v114) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v116) = v2 c
          ∧ r.2.mem ((c.tc : Thread Cert.Reference10Ideal.nD Cert.Reference10Ideal.τ).loc Cert.Reference10Ideal.main_v113) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5)
          ∧ r.2.mem ((c.tc : Thread Cert.Reference10Ideal.nD Cert.Reference10Ideal.τ).loc Cert.Reference10Ideal.main_arg6) = m' ((c.tc : Thread Cert.Reference10Ideal.nD Cert.Reference10Ideal.τ).loc Cert.Reference10Ideal.main_arg6)
          ∧ r.2.mem ((c.tc : Thread Cert.Reference10Ideal.nD Cert.Reference10Ideal.τ).loc Cert.Reference10Ideal.main_arg7) = m' ((c.tc : Thread Cert.Reference10Ideal.nD Cert.Reference10Ideal.τ).loc Cert.Reference10Ideal.main_arg7)
          ∧ r.2.mem ((c.tc : Thread Cert.Reference10Ideal.nD Cert.Reference10Ideal.τ).loc Cert.Reference10Ideal.main_arg8) = m' ((c.tc : Thread Cert.Reference10Ideal.nD Cert.Reference10Ideal.τ).loc Cert.Reference10Ideal.main_arg8)
          ∧ r.2.mem ((c.tc : Thread Cert.Reference10Ideal.nD Cert.Reference10Ideal.τ).loc Cert.Reference10Ideal.main_arg9) = m' ((c.tc : Thread Cert.Reference10Ideal.nD Cert.Reference10Ideal.τ).loc Cert.Reference10Ideal.main_arg9)
          ∧ r.2.mem ((c.tc : Thread Cert.Reference10Ideal.nD Cert.Reference10Ideal.τ).loc Cert.Reference10Ideal.main_arg10) = m' ((c.tc : Thread Cert.Reference10Ideal.nD Cert.Reference10Ideal.τ).loc Cert.Reference10Ideal.main_arg10)
          ∧ r.2.mem ((c.tc : Thread Cert.Reference10Ideal.nD Cert.Reference10Ideal.τ).loc Cert.Reference10Ideal.main_arg11) = m' ((c.tc : Thread Cert.Reference10Ideal.nD Cert.Reference10Ideal.τ).loc Cert.Reference10Ideal.main_arg11)
          ∧ r.2.mem ((c.tc : Thread Cert.Reference10Ideal.nD Cert.Reference10Ideal.τ).loc Cert.Reference10Ideal.main_arg12) = m' ((c.tc : Thread Cert.Reference10Ideal.nD Cert.Reference10Ideal.τ).loc Cert.Reference10Ideal.main_arg12)
          ∧ r.2.mem ((c.tc : Thread Cert.Reference10Ideal.nD Cert.Reference10Ideal.τ).loc Cert.Reference10Ideal.main_arg13) = m' ((c.tc : Thread Cert.Reference10Ideal.nD Cert.Reference10Ideal.τ).loc Cert.Reference10Ideal.main_arg13)
          ∧ r.2.mem ((c.tc : Thread Cert.Reference10Ideal.nD Cert.Reference10Ideal.τ).loc Cert.Reference10Ideal.main_arg14) = m' ((c.tc : Thread Cert.Reference10Ideal.nD Cert.Reference10Ideal.τ).loc Cert.Reference10Ideal.main_arg14)
          ∧ r.2.mem ((c.tc : Thread Cert.Reference10Ideal.nD Cert.Reference10Ideal.τ).loc Cert.Reference10Ideal.main_arg15) = m' ((c.tc : Thread Cert.Reference10Ideal.nD Cert.Reference10Ideal.τ).loc Cert.Reference10Ideal.main_arg15)
          ∧ r.2.mem ((c.tc : Thread Cert.Reference10Ideal.nD Cert.Reference10Ideal.τ).loc Cert.Reference10Ideal.main_arg16) = m' ((c.tc : Thread Cert.Reference10Ideal.nD Cert.Reference10Ideal.τ).loc Cert.Reference10Ideal.main_arg16))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_v5) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Kernel.lean ====
abbrev S8192x7168 : Shape := ⟨2, ![8192, 7168]⟩
abbrev S4x1024 : Shape := ⟨2, ![4, 1024]⟩
abbrev S1024 : Shape := ⟨1, ![1024]⟩
abbrev S8x128x128 : Shape := ⟨3, ![8, 128, 128]⟩
abbrev S1x1024 : Shape := ⟨2, ![1, 1024]⟩
abbrev S8192x1024 : Shape := ⟨2, ![8192, 1024]⟩
abbrev S4x1x1024 : Shape := ⟨3, ![4, 1, 1024]⟩
abbrev S2048x512 : Shape := ⟨2, ![2048, 512]⟩
abbrev S4x512 : Shape := ⟨2, ![4, 512]⟩
abbrev S1x512 : Shape := ⟨2, ![1, 512]⟩
abbrev S4x128x128 : Shape := ⟨3, ![4, 128, 128]⟩
abbrev S1x1x512 : Shape := ⟨3, ![1, 1, 512]⟩
abbrev S2048x128 : Shape := ⟨2, ![2048, 128]⟩
abbrev S1x128x128 : Shape := ⟨3, ![1, 128, 128]⟩
abbrev S128x128 : Shape := ⟨2, ![128, 128]⟩
abbrev S8x512 : Shape := ⟨2, ![8, 512]⟩

abbrev nBuf : Space → Nat
  | .hbm => 16
  | .vmem => 24
  | .smem => 0
  | _ => 0

abbrev bufTy : (tb : Table) → Fin (tcTables nBuf tb) → BufTy
  | .hbm, ⟨0, _⟩ => ⟨S8192x7168, .f32⟩
  | .hbm, ⟨1, _⟩ => ⟨S4x1024, .f32⟩
  | .hbm, ⟨2, _⟩ => ⟨S1024, .f32⟩
  | .hbm, ⟨3, _⟩ => ⟨S8x128x128, .f32⟩
  | .hbm, ⟨4, _⟩ => ⟨S1024, .f32⟩
  | .hbm, ⟨5, _⟩ => ⟨S8x128x128, .f32⟩
  | .hbm, ⟨6, _⟩ => ⟨S1024, .f32⟩
  | .hbm, ⟨7, _⟩ => ⟨S1024, .f32⟩
  | .hbm, ⟨8, _⟩ => ⟨S1x1024, .f32⟩
  | .hbm, ⟨9, _⟩ => ⟨S8x128x128, .bf16⟩
  | .hbm, ⟨10, _⟩ => ⟨S8x128x128, .bf16⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S8192x1024, .bf16⟩
  | .hbm, ⟨15, _⟩ => ⟨S4x1x1024, .f32⟩
  | .local _ .vmem, ⟨0, _⟩ => ⟨S2048x512, .f32⟩
  | .local _ .vmem, ⟨1, _⟩ => ⟨S2048x512, .f32⟩
  | .local _ .vmem, ⟨2, _⟩ => ⟨S2048x512, .f32⟩
  | .local _ .vmem, ⟨3, _⟩ => ⟨S2048x512, .f32⟩
  | .local _ .vmem, ⟨4, _⟩ => ⟨S4x512, .f32⟩
  | .local _ .vmem, ⟨5, _⟩ => ⟨S4x512, .f32⟩
  | .local _ .vmem, ⟨6, _⟩ => ⟨S1x512, .f32⟩
  | .local _ .vmem, ⟨7, _⟩ => ⟨S1x512, .f32⟩
  | .local _ .vmem, ⟨8, _⟩ => ⟨S4x128x128, .bf16⟩
  | .local _ .vmem, ⟨9, _⟩ => ⟨S4x128x128, .bf16⟩
  | .local _ .vmem, ⟨10, _⟩ => ⟨S4x128x128, .bf16⟩
  | .local _ .vmem, ⟨11, _⟩ => ⟨S4x128x128, .bf16⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S2048x512, .bf16⟩
  | .local _ .vmem, ⟨19, _⟩ => ⟨S2048x512, .bf16⟩
  | .local _ .vmem, ⟨20, _⟩ => ⟨S1x1x512, .f32⟩
  | .local _ .vmem, ⟨21, _⟩ => ⟨S1x1x512, .f32⟩
  | .local _ .vmem, ⟨22, _⟩ => ⟨S2048x512, .f32⟩
  | .local _ .vmem, ⟨23, _⟩ => ⟨S2048x512, .f32⟩
  | _, _ => ⟨S8192x7168, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

@[reducible] def k0_t1_loop : Scf.Loop 32 :=
  let c0_i32 : BitVec 32 := 0#32
  let c64_i32 : BitVec 32 := 64#32
  let v126 : BitVec 32 := Scalar.addi c0_i32 c64_i32
  let c1_i32_68 : BitVec 32 := 1#32
  ⟨c0_i32, v126, c1_i32_68⟩
def k0_mult1 (k0_t1 : Fin k0_t1_loop.trips) : BitVec 32 :=
  let c0_i32 : BitVec 32 := 0#32
  let c1_i32_68 : BitVec 32 := 1#32
  let arg15 : BitVec 32 := Scf.iv c0_i32 c1_i32_68 k0_t1
  let c32_i32 : BitVec 32 := 32#32
  let v136 : BitVec 32 := Scalar.muli arg15 c32_i32
  v136
def k0_off1 (k0_t1 : Fin k0_t1_loop.trips) (c0_i32_79 : BitVec 32) : Fin 2 → Nat :=
  let c0_i32 : BitVec 32 := 0#32
  let c1_i32_68 : BitVec 32 := 1#32
  let arg15 : BitVec 32 := Scf.iv c0_i32 c1_i32_68 k0_t1
  let c32_i32 : BitVec 32 := 32#32
  let v136 : BitVec 32 := Scalar.muli arg15 c32_i32
  let v137 : BitVec 32 := v136
  let v138 : BitVec 32 := Scalar.addi v137 c0_i32_79
  let v139 : Index := Scalar.indexCast v138
  let c0_80 : Index := 0#32
  ![v139.toNat, 0]
def cc0_transform_0 (i : grid0.Coords) : Fin 2 → Nat :=
  let arg0 : BitVec 32 := BitVec.ofNat 32 (i 0).val
  let arg1 : BitVec 32 := BitVec.ofNat 32 (i 1).val
  let c10_i32 : BitVec 32 := 10#32
  let v0 : BitVec 32 := Scalar.addi c10_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x128x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S8192x7168 : Shape := ⟨2, ![8192, 7168]⟩
abbrev S4x1024 : Shape := ⟨2, ![4, 1024]⟩
abbrev S1024 : Shape := ⟨1, ![1024]⟩
abbrev S8x128x128 : Shape := ⟨3, ![8, 128, 128]⟩
abbrev S8192x1024 : Shape := ⟨2, ![8192, 1024]⟩
abbrev S4x2048x1024 : Shape := ⟨3, ![4, 2048, 1024]⟩
abbrev S_ : Shape := ⟨0, ![]⟩
abbrev S4x3x1024 : Shape := ⟨3, ![4, 3, 1024]⟩
abbrev S4x2051x1024 : Shape := ⟨3, ![4, 2051, 1024]⟩
abbrev S1x1024 : Shape := ⟨2, ![1, 1024]⟩
abbrev S1x1x1024 : Shape := ⟨3, ![1, 1, 1024]⟩
abbrev S4x2048x8x128 : Shape := ⟨4, ![4, 2048, 8, 128]⟩
abbrev S8x128x4x2048 : Shape := ⟨4, ![8, 128, 4, 2048]⟩
abbrev S2048x4x1024 : Shape := ⟨3, ![2048, 4, 1024]⟩
abbrev S1x4x1024 : Shape := ⟨3, ![1, 4, 1024]⟩
abbrev S4x1x1024 : Shape := ⟨3, ![4, 1, 1024]⟩

abbrev nBuf : Space → Nat
  | .hbm => 139
  | .vmem => 0
  | .smem => 0
  | _ => 0

abbrev hbmTy0_0 (i : Nat) : BufTy := match i % 128 with
  | 0 => ⟨S8192x7168, .f32⟩
  | 1 => ⟨S4x1024, .f32⟩
  | 2 => ⟨S1024, .f32⟩
  | 3 => ⟨S8x128x128, .f32⟩
  | 4 => ⟨S1024, .f32⟩
  | 5 => ⟨S8x128x128, .f32⟩
  | 6 => ⟨S1024, .f32⟩
  | 7 => ⟨S1024, .f32⟩
  | 8 => ⟨S8192x1024, .f32⟩
  | 9 => ⟨S4x2048x1024, .f32⟩
  | 10 => ⟨S_, .f32⟩
  | 11 => ⟨S4x3x1024, .f32⟩
  | 12 => ⟨S4x2051x1024, .f32⟩
  | 13 => ⟨S4x2048x1024, .f32⟩
  | 14 => ⟨S1x1024, .f32⟩
  | 15 => ⟨S1024, .f32⟩
  | 16 => ⟨S1x1x1024, .f32⟩
  | 17 => ⟨S4x2048x1024, .f32⟩
  | 18 => ⟨S4x2048x1024, .f32⟩
  | 19 => ⟨S1x1x1024, .f32⟩
  | 20 => ⟨S4x2048x1024, .f32⟩
  | 21 => ⟨S4x2048x1024, .f32⟩
  | 22 => ⟨S4x2048x1024, .f32⟩
  | 23 => ⟨S1x1024, .f32⟩
  | 24 => ⟨S1024, .f32⟩
  | 25 => ⟨S1x1x1024, .f32⟩
  | 26 => ⟨S4x2048x1024, .f32⟩
  | 27 => ⟨S4x2048x1024, .f32⟩
  | 28 => ⟨S4x2048x1024, .f32⟩
  | 29 => ⟨S4x2048x1024, .f32⟩
  | 30 => ⟨S1x1024, .f32⟩
  | 31 => ⟨S1024, .f32⟩
  | 32 => ⟨S1x1x1024, .f32⟩
  | 33 => ⟨S4x2048x1024, .f32⟩
  | 34 => ⟨S4x2048x1024, .f32⟩
  | 35 => ⟨S4x2048x1024, .f32⟩
  | 36 => ⟨S4x2048x1024, .f32⟩
  | 37 => ⟨S1x1024, .f32⟩
  | 38 => ⟨S1024, .f32⟩
  | 39 => ⟨S1x1x1024, .f32⟩
  | 40 => ⟨S4x2048x1024, .f32⟩
  | 41 => ⟨S4x2048x1024, .f32⟩
  | 42 => ⟨S4x2048x1024, .f32⟩
  | 43 => ⟨S4x2048x8x128, .f32⟩
  | 44 => ⟨S8x128x4x2048, .f32⟩
  | 45 => ⟨S4x2048x8x128, .f32⟩
  | 46 => ⟨S4x2048x1024, .f32⟩
  | 47 => ⟨S1x1x1024, .f32⟩
  | 48 => ⟨S4x2048x1024, .f32⟩
  | 49 => ⟨S4x2048x1024, .f32⟩
  | 50 => ⟨S4x2048x1024, .f32⟩
  | 51 => ⟨S4x2048x1024, .f32⟩
  | 52 => ⟨S_, .f32⟩
  | 53 => ⟨S4x2048x1024, .f32⟩
  | 54 => ⟨S4x2048x1024, .f32⟩
  | 55 => ⟨S_, .f32⟩
  | 56 => ⟨S4x2048x1024, .f32⟩
  | 57 => ⟨S4x2048x1024, .f32⟩
  | 58 => ⟨S8x128x4x2048, .f32⟩
  | 59 => ⟨S4x2048x8x128, .f32⟩
  | 60 => ⟨S4x2048x1024, .f32⟩
  | 61 => ⟨S1x1x1024, .f32⟩
  | 62 => ⟨S4x2048x1024, .f32⟩
  | 63 => ⟨S4x2048x1024, .f32⟩
  | 64 => ⟨S4x2048x1024, .f32⟩
  | 65 => ⟨S4x2048x1024, .f32⟩
  | 66 => ⟨S_, .f32⟩
  | 67 => ⟨S4x2048x1024, .f32⟩
  | 68 => ⟨S4x2048x1024, .f32⟩
  | 69 => ⟨S_, .f32⟩
  | 70 => ⟨S4x2048x1024, .f32⟩
  | 71 => ⟨S4x2048x1024, .f32⟩
  | 72 => ⟨S_, .f32⟩
  | 73 => ⟨S4x2048x1024, .f32⟩
  | 74 => ⟨S4x2048x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1x1024, .f32⟩
  | 91 => ⟨S4x2048x1024, .f32⟩
  | 92 => ⟨S4x2048x1024, .f32⟩
  | 93 => ⟨S4x2048x1024, .f32⟩
  | 94 => ⟨S_, .f32⟩
  | 95 => ⟨S4x2048x1024, .f32⟩
  | 96 => ⟨S4x2048x1024, .f32⟩
  | 97 => ⟨S4x2048x1024, .f32⟩
  | 98 => ⟨S4x2048x1024, .f32⟩
  | 99 => ⟨S4x2048x1024, .f32⟩
  | 100 => ⟨S4x2048x1024, .f32⟩
  | 101 => ⟨S4x2048x1024, .f32⟩
  | 102 => ⟨S_, .f32⟩
  | 103 => ⟨S4x1024, .f32⟩
  | 104 => ⟨S2048x4x1024, .f32⟩
  | 105 => ⟨S2048x4x1024, .f32⟩
  | 106 => ⟨S_, .f32⟩
  | 107 => ⟨S2048x4x1024, .f32⟩
  | 108 => ⟨S_, .i32⟩
  | 109 => ⟨S2048x4x1024, .f32⟩
  | 110 => ⟨S2048x4x1024, .f32⟩
  | 111 => ⟨S_, .i32⟩
  | 112 => ⟨S4x1024, .f32⟩
  | 113 => ⟨S2048x4x1024, .f32⟩
  | 114 => ⟨S_, .i32⟩
  | 115 => ⟨S_, .i1⟩
  | 116 => ⟨S_, .i32⟩
  | 117 => ⟨S_, .i32⟩
  | 118 => ⟨S1x4x1024, .f32⟩
  | 119 => ⟨S4x1024, .f32⟩
  | 120 => ⟨S_, .i32⟩
  | 121 => ⟨S_, .i32⟩
  | 122 => ⟨S1x4x1024, .f32⟩
  | 123 => ⟨S4x1024, .f32⟩
  | 124 => ⟨S4x1024, .f32⟩
  | 125 => ⟨S4x1024, .f32⟩
  | 126 => ⟨S1x4x1024, .f32⟩
  | 127 => ⟨S_, .i32⟩
  | _ => ⟨S8192x7168, .f32⟩

abbrev hbmTy0_1 (i : Nat) : BufTy := match i % 128 with
  | 0 => ⟨S_, .i32⟩
  | 1 => ⟨S2048x4x1024, .f32⟩
  | 2 => ⟨S_, .i32⟩
  | 3 => ⟨S_, .i32⟩
  | 4 => ⟨S8192x1024, .f32⟩
  | 5 => ⟨S4x2048x1024, .f32⟩
  | 6 => ⟨S4x2048x1024, .f32⟩
  | 7 => ⟨S4x2048x1024, .f32⟩
  | 8 => ⟨S8192x1024, .f32⟩
  | 9 => ⟨S8192x1024, .bf16⟩
  | 10 => ⟨S4x1x1024, .f32⟩
  | _ => ⟨S8192x7168, .f32⟩

abbrev hbmTy (i : Nat) : BufTy := match i / 128 with
  | 0 => hbmTy0_0 i
  | 1 => hbmTy0_1 i
  | _ => ⟨S8192x7168, .f32⟩

abbrev bufTy : (tb : Table) → Fin (tcTables nBuf tb) → BufTy
  | .hbm, ⟨i, _⟩ => hbmTy i
  | _, _ => ⟨S8192x7168, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_0 : Ref sig .tc := ⟨.hbm, 52, rfl⟩
abbrev main_v43 : Ref sig .tc := ⟨.hbm, 53, rfl⟩
abbrev main_v44 : Ref sig .tc := ⟨.hbm, 54, rfl⟩
abbrev main_cst_1 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_2 : Ref sig .tc := ⟨.hbm, 66, rfl⟩
abbrev main_v55 : Ref sig .tc := ⟨.hbm, 67, rfl⟩
abbrev main_v56 : Ref sig .tc := ⟨.hbm, 68, rfl⟩
abbrev main_cst_3 : Ref sig .tc := ⟨.hbm, 69, rfl⟩
abbrev main_v57 : Ref sig .tc := ⟨.hbm, 70, rfl⟩
abbrev main_v58 : Ref sig .tc := ⟨.hbm, 71, rfl⟩
abbrev main_cst_4 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_5 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_6 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_7 : Ref sig .tc := ⟨.hbm, 106, rfl⟩
abbrev main_v77 : Ref sig .tc := ⟨.hbm, 107, rfl⟩
abbrev main_c : Ref sig .tc := ⟨.hbm, 108, rfl⟩
abbrev main_v78_0 : Ref sig .tc := ⟨.hbm, 109, rfl⟩
abbrev main_v78_1 : Ref sig .tc := ⟨.hbm, 110, rfl⟩
abbrev main_v78_2 : Ref sig .tc := ⟨.hbm, 111, rfl⟩
abbrev main_v78_3 : Ref sig .tc := ⟨.hbm, 112, rfl⟩
abbrev main_v78_4 : Ref sig .tc := ⟨.hbm, 113, rfl⟩
abbrev main_while0c_c_12 : Ref sig .tc := ⟨.hbm, 114, rfl⟩
abbrev main_while0c_v86 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_v0 : Ref sig .tc := ⟨.hbm, 118, rfl⟩
abbrev main_while0b_v86 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_v0 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_v90 : Ref sig .tc := ⟨.hbm, 129, rfl⟩
abbrev main_while0b_c_12 : Ref sig .tc := ⟨.hbm, 130, rfl⟩
abbrev main_while0b_v91 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩

abbrev nD : Nat := 1
abbrev τ : Topo := Topo.v7x

variable {F : FTy → Type} [FloatOps F]

abbrev main_while0_count : Scf.Loop 32 := ⟨0#32, 2048#32, 1#32⟩
-- ==== Kernel2.lean ====
abbrev S8192x2048 : Shape := ⟨2, ![8192, 2048]⟩
abbrev S8192x1024 : Shape := ⟨2, ![8192, 1024]⟩
abbrev S2x2048x4096 : Shape := ⟨3, ![2, 2048, 4096]⟩
abbrev S2x1024x4096 : Shape := ⟨3, ![2, 1024, 4096]⟩
abbrev S8192x12288 : Shape := ⟨2, ![8192, 12288]⟩
abbrev S8192x4096 : Shape := ⟨2, ![8192, 4096]⟩
abbrev S1024x2048 : Shape := ⟨2, ![1024, 2048]⟩
abbrev S1024x1024 : Shape := ⟨2, ![1024, 1024]⟩
abbrev S1x2048x512 : Shape := ⟨3, ![1, 2048, 512]⟩
abbrev S1x1024x512 : Shape := ⟨3, ![1, 1024, 512]⟩
abbrev S1024x512 : Shape := ⟨2, ![1024, 512]⟩
abbrev S2048x512 : Shape := ⟨2, ![2048, 512]⟩

abbrev nBuf : Space → Nat
  | .hbm => 11
  | .vmem => 20
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S2x2048x4096, .f32⟩
  | .hbm, ⟨4, _⟩ => ⟨S2x1024x4096, .f32⟩
  | .hbm, ⟨5, _⟩ => ⟨S2x1024x4096, .f32⟩
  | .hbm, ⟨6, _⟩ => ⟨S8192x12288, .bf16⟩
  | .hbm, ⟨7, _⟩ => ⟨S2x2048x4096, .bf16⟩
  | .hbm, ⟨8, _⟩ => ⟨S2x1024x4096, .bf16⟩
  | .hbm, ⟨9, _⟩ => ⟨S2x1024x4096, .bf16⟩
  | .hbm, ⟨10, _⟩ => ⟨S8192x4096, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x1024x512, .bf16⟩
  | .local _ .vmem, ⟨11, _⟩ => ⟨S1x1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_8 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference2Ideal.lean ====
abbrev S8192x2048 : Shape := ⟨2, ![8192, 2048]⟩
abbrev S8192x1024 : Shape := ⟨2, ![8192, 1024]⟩
abbrev S2x2048x4096 : Shape := ⟨3, ![2, 2048, 4096]⟩
abbrev S2x1024x4096 : Shape := ⟨3, ![2, 1024, 4096]⟩
abbrev S8192x12288 : Shape := ⟨2, ![8192, 12288]⟩
abbrev S8192x3x4096 : Shape := ⟨3, ![8192, 3, 4096]⟩
abbrev S8192x1x4096 : Shape := ⟨3, ![8192, 1, 4096]⟩
abbrev S8192x4096 : Shape := ⟨2, ![8192, 4096]⟩
abbrev S1x2048x4096 : Shape := ⟨3, ![1, 2048, 4096]⟩
abbrev S2048x4096 : Shape := ⟨2, ![2048, 4096]⟩
abbrev S1x1024x4096 : Shape := ⟨3, ![1, 1024, 4096]⟩
abbrev S1024x4096 : Shape := ⟨2, ![1024, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x1024, .bf16⟩
  | .hbm, ⟨3, _⟩ => ⟨S2x2048x4096, .f32⟩
  | .hbm, ⟨4, _⟩ => ⟨S2x1024x4096, .f32⟩
  | .hbm, ⟨5, _⟩ => ⟨S2x1024x4096, .f32⟩
  | .hbm, ⟨6, _⟩ => ⟨S8192x12288, .bf16⟩
  | .hbm, ⟨7, _⟩ => ⟨S8192x12288, .f32⟩
  | .hbm, ⟨8, _⟩ => ⟨S8192x3x4096, .f32⟩
  | .hbm, ⟨9, _⟩ => ⟨S8192x1x4096, .f32⟩
  | .hbm, ⟨10, _⟩ => ⟨S8192x4096, .f32⟩
  | .hbm, ⟨11, _⟩ => ⟨S8192x2048, .f32⟩
  | .hbm, ⟨12, _⟩ => ⟨S1x2048x4096, .f32⟩
  | .hbm, ⟨13, _⟩ => ⟨S2048x4096, .f32⟩
  | .hbm, ⟨14, _⟩ => ⟨S8192x4096, .f32⟩
  | .hbm, ⟨15, _⟩ => ⟨S8192x4096, .f32⟩
  | .hbm, ⟨16, _⟩ => ⟨S8192x1x4096, .f32⟩
  | .hbm, ⟨17, _⟩ => ⟨S8192x4096, .f32⟩
  | .hbm, ⟨18, _⟩ => ⟨S8192x1024, .f32⟩
  | .hbm, ⟨19, _⟩ => ⟨S1x1024x4096, .f32⟩
  | .hbm, ⟨20, _⟩ => ⟨S1024x4096, .f32⟩
  | .hbm, ⟨21, _⟩ => ⟨S8192x4096, .f32⟩
  | .hbm, ⟨22, _⟩ => ⟨S8192x4096, .f32⟩
  | .hbm, ⟨23, _⟩ => ⟨S8192x4096, .f32⟩
  | .hbm, ⟨24, _⟩ => ⟨S8192x1x4096, .f32⟩
  | .hbm, ⟨25, _⟩ => ⟨S8192x4096, .f32⟩
  | .hbm, ⟨26, _⟩ => ⟨S8192x1024, .f32⟩
  | .hbm, ⟨27, _⟩ => ⟨S1x1024x4096, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩

abbrev nD : Nat := 1
abbrev τ : Topo := Topo.v7x

variable {F : FTy → Type} [FloatOps F]
-- ==== Kernel3.lean ====
abbrev S8192x4096 : Shape := ⟨2, ![8192, 4096]⟩
abbrev S2x4096x4096 : Shape := ⟨3, ![2, 4096, 4096]⟩
abbrev S1024x4096 : Shape := ⟨2, ![1024, 4096]⟩
abbrev S1x4096x512 : Shape := ⟨3, ![1, 4096, 512]⟩
abbrev S1024x512 : Shape := ⟨2, ![1024, 512]⟩
abbrev S4096x512 : Shape := ⟨2, ![4096, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S2x4096x4096, .bf16⟩
  | .hbm, ⟨4, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference3Ideal.lean ====
abbrev S8192x4096 : Shape := ⟨2, ![8192, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x4096, .f32⟩
  | .hbm, ⟨2, _⟩ => ⟨S8192x4096, .f32⟩
  | .hbm, ⟨3, _⟩ => ⟨S8192x4096, .f32⟩
  | .hbm, ⟨4, _⟩ => ⟨S1x4096x4096, .f32⟩
  | .hbm, ⟨5, _⟩ => ⟨S4096x4096, .f32⟩
  | .hbm, ⟨6, _⟩ => ⟨S8192x4096, .f32⟩
  | .hbm, ⟨7, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel4.lean ====
abbrev S8192x4096 : Shape := ⟨2, ![8192, 4096]⟩
abbrev S8x4096 : Shape := ⟨2, ![8, 4096]⟩
abbrev S4096x25088 : Shape := ⟨2, ![4096, 25088]⟩
abbrev S8192x12288 : Shape := ⟨2, ![8192, 12288]⟩
abbrev S8x12288 : Shape := ⟨2, ![8, 12288]⟩
abbrev S1024x4096 : Shape := ⟨2, ![1024, 4096]⟩
abbrev S4096x512 : Shape := ⟨2, ![4096, 512]⟩
abbrev S1024x512 : Shape := ⟨2, ![1024, 512]⟩
abbrev S8x512 : Shape := ⟨2, ![8, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8x4096, .bf16⟩
  | .hbm, ⟨2, _⟩ => ⟨S4096x25088, .bf16⟩
  | .hbm, ⟨3, _⟩ => ⟨S8192x12288, .bf16⟩
  | .hbm, ⟨4, _⟩ => ⟨S8x12288, .bf16⟩
  | .local _ .vmem, ⟨0, _⟩ => ⟨S1024x4096, .bf16⟩
  | .local _ .vmem, ⟨1, _⟩ => ⟨S1024x4096, .bf16⟩
  | .local _ .vmem, ⟨2, _⟩ => ⟨S8x4096, .bf16⟩
  | .local _ .vmem, ⟨3, _⟩ => ⟨S4096x512, .bf16⟩
  | .local _ .vmem, ⟨4, _⟩ => ⟨S4096x512, .bf16⟩
  | .local _ .vmem, ⟨5, _⟩ => ⟨S1024x512, .bf16⟩
  | .local _ .vmem, ⟨6, _⟩ => ⟨S1024x512, .bf16⟩
  | .local _ .vmem, ⟨7, _⟩ => ⟨S8x512, .bf16⟩
  | .local _ .vmem, ⟨8, _⟩ => ⟨S8x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 24], ![false, false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c23_i32 : BitVec 32 := 23#32
  let v1 : BitVec 32 := Scalar.select v0 arg1 c23_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference4Ideal.lean ====
abbrev S8192x4096 : Shape := ⟨2, ![8192, 4096]⟩
abbrev S8x4096 : Shape := ⟨2, ![8, 4096]⟩
abbrev S4096x25088 : Shape := ⟨2, ![4096, 25088]⟩
abbrev S4096x12288 : Shape := ⟨2, ![4096, 12288]⟩
abbrev S8192x12288 : Shape := ⟨2, ![8192, 12288]⟩
abbrev S_ : Shape := ⟨0, ![]⟩
abbrev S8x12288 : Shape := ⟨2, ![8, 12288]⟩

abbrev nBuf : Space → Nat
  | .hbm => 27
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x4096, .bf16⟩
  | .hbm, ⟨2, _⟩ => ⟨S4096x25088, .bf16⟩
  | .hbm, ⟨3, _⟩ => ⟨S4096x12288, .bf16⟩
  | .hbm, ⟨4, _⟩ => ⟨S4096x12288, .f32⟩
  | .hbm, ⟨5, _⟩ => ⟨S8192x4096, .f32⟩
  | .hbm, ⟨6, _⟩ => ⟨S8192x12288, .f32⟩
  | .hbm, ⟨7, _⟩ => ⟨S8192x12288, .f32⟩
  | .hbm, ⟨8, _⟩ => ⟨S8192x12288, .f32⟩
  | .hbm, ⟨9, _⟩ => ⟨S_, .f32⟩
  | .hbm, ⟨10, _⟩ => ⟨S8192x12288, .f32⟩
  | .hbm, ⟨11, _⟩ => ⟨S8192x12288, .f32⟩
  | .hbm, ⟨12, _⟩ => ⟨S_, .f32⟩
  | .hbm, ⟨13, _⟩ => ⟨S8192x12288, .f32⟩
  | .hbm, ⟨14, _⟩ => ⟨S8192x12288, .f32⟩
  | .hbm, ⟨15, _⟩ => ⟨S8192x12288, .bf16⟩
  | .hbm, ⟨16, _⟩ => ⟨S8x4096, .f32⟩
  | .hbm, ⟨17, _⟩ => ⟨S8x12288, .f32⟩
  | .hbm, ⟨18, _⟩ => ⟨S8x12288, .f32⟩
  | .hbm, ⟨19, _⟩ => ⟨S8x12288, .f32⟩
  | .hbm, ⟨20, _⟩ => ⟨S_, .f32⟩
  | .hbm, ⟨21, _⟩ => ⟨S8x12288, .f32⟩
  | .hbm, ⟨22, _⟩ => ⟨S8x12288, .f32⟩
  | .hbm, ⟨23, _⟩ => ⟨S_, .f32⟩
  | .hbm, ⟨24, _⟩ => ⟨S8x12288, .f32⟩
  | .hbm, ⟨25, _⟩ => ⟨S8x12288, .f32⟩
  | .hbm, ⟨26, _⟩ => ⟨S8x12288, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_1 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩

abbrev nD : Nat := 1
abbrev τ : Topo := Topo.v7x

variable {F : FTy → Type} [FloatOps F]
-- ==== Kernel5.lean ====
abbrev S8192x4096 : Shape := ⟨2, ![8192, 4096]⟩
abbrev S8x4096 : Shape := ⟨2, ![8, 4096]⟩
abbrev S4096x25088 : Shape := ⟨2, ![4096, 25088]⟩
abbrev S8192x7168 : Shape := ⟨2, ![8192, 7168]⟩
abbrev S8x7168 : Shape := ⟨2, ![8, 7168]⟩
abbrev S1024x4096 : Shape := ⟨2, ![1024, 4096]⟩
abbrev S4096x512 : Shape := ⟨2, ![4096, 512]⟩
abbrev S1024x512 : Shape := ⟨2, ![1024, 512]⟩
abbrev S8x512 : Shape := ⟨2, ![8, 512]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .bf16⟩
  | .hbm, ⟨1, _⟩ => ⟨S8x4096, .bf16⟩
  | .hbm, ⟨2, _⟩ => ⟨S4096x25088, .bf16⟩
  | .hbm, ⟨3, _⟩ => ⟨S8192x7168, .f32⟩
  | .hbm, ⟨4, _⟩ => ⟨S8x7168, .f32⟩
  | .local _ .vmem, ⟨0, _⟩ => ⟨S1024x4096, .bf16⟩
  | .local _ .vmem, ⟨1, _⟩ => ⟨S1024x4096, .bf16⟩
  | .local _ .vmem, ⟨2, _⟩ => ⟨S8x4096, .bf16⟩
  | .local _ .vmem, ⟨3, _⟩ => ⟨S4096x512, .bf16⟩
  | .local _ .vmem, ⟨4, _⟩ => ⟨S4096x512, .bf16⟩
  | .local _ .vmem, ⟨5, _⟩ => ⟨S1024x512, .f32⟩
  | .local _ .vmem, ⟨6, _⟩ => ⟨S1024x512, .f32⟩
  | .local _ .vmem, ⟨7, _⟩ => ⟨S8x512, .f32⟩
  | .local _ .vmem, ⟨8, _⟩ => ⟨S8x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 14], ![false, false]⟩

def k0_cond1 (i : grid0.Coords) : BitVec 1 :=
  let arg1 : BitVec 32 := BitVec.ofNat 32 (i 1).val
  let c0_i32 : BitVec 32 := 0#32
  let v3 : BitVec 1 := Scalar.cmpi .sge arg1 c0_i32
  let c4_i32 : BitVec 32 := 4#32
  let v4 : BitVec 1 := Scalar.cmpi .slt arg1 c4_i32
  let v5 : BitVec 1 := Scalar.andi v3 v4
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c4_i32_4 : BitVec 32 := 4#32
  let v8 : BitVec 1 := Scalar.cmpi .sge arg1 c4_i32_4
  let c8_i32 : BitVec 32 := 8#32
  let v9 : BitVec 1 := Scalar.cmpi .slt arg1 c8_i32
  let v10 : BitVec 1 := Scalar.andi v8 v9
  let v11 : BitVec 32 := Scalar.extui v10
  let c0_i32_5 : BitVec 32 := 0#32
  let v12 : BitVec 1 := Scalar.cmpi .ne v11 c0_i32_5
  v12

def k0_cond3 (i : grid0.Coords) : BitVec 1 :=
  let arg1 : BitVec 32 := BitVec.ofNat 32 (i 1).val
  let c8_i32_6 : BitVec 32 := 8#32
  let v13 : BitVec 1 := Scalar.cmpi .sge arg1 c8_i32_6
  let c10_i32 : BitVec 32 := 10#32
  let v14 : BitVec 1 := Scalar.cmpi .slt arg1 c10_i32
  let v15 : BitVec 1 := Scalar.andi v13 v14
  let v16 : BitVec 32 := Scalar.extui v15
  let c0_i32_7 : BitVec 32 := 0#32
  let v17 : BitVec 1 := Scalar.cmpi .ne v16 c0_i32_7
  v17

def k0_cond4 (i : grid0.Coords) : BitVec 1 :=
  let arg1 : BitVec 32 := BitVec.ofNat 32 (i 1).val
  let c10_i32_8 : BitVec 32 := 10#32
  let v18 : BitVec 1 := Scalar.cmpi .sge arg1 c10_i32_8
  let c12_i32 : BitVec 32 := 12#32
  let v19 : BitVec 1 := Scalar.cmpi .slt arg1 c12_i32
  let v20 : BitVec 1 := Scalar.andi v18 v19
  let v21 : BitVec 32 := Scalar.extui v20
  let c0_i32_9 : BitVec 32 := 0#32
  let v22 : BitVec 1 := Scalar.cmpi .ne v21 c0_i32_9
  v22

def k0_cond5 (i : grid0.Coords) : BitVec 1 :=
  let arg1 : BitVec 32 := BitVec.ofNat 32 (i 1).val
  let c12_i32_10 : BitVec 32 := 12#32
  let v23 : BitVec 1 := Scalar.cmpi .sge arg1 c12_i32_10
  let c14_i32 : BitVec 32 := 14#32
  let v24 : BitVec 1 := Scalar.cmpi .slt arg1 c14_i32
  let v25 : BitVec 1 := Scalar.andi v23 v24
  let v26 : BitVec 32 := Scalar.extui v25
  let c0_i32_11 : BitVec 32 := 0#32
  let v27 : BitVec 1 := Scalar.cmpi .ne v26 c0_i32_11
  v27

def k0_cond6 (i : grid0.Coords) : BitVec 1 :=
  let arg0 : BitVec 32 := BitVec.ofNat 32 (i 0).val
  let c0_i32_12 : BitVec 32 := 0#32
  let v28 : BitVec 1 := Scalar.cmpi .eq arg0 c0_i32_12
  let v29 : BitVec 32 := Scalar.extui v28
  let c0_i32_13 : BitVec 32 := 0#32
  let v30 : BitVec 1 := Scalar.cmpi .ne v29 c0_i32_13
  v30

def k0_cond7 (i : grid0.Coords) : BitVec 1 :=
  let arg1 : BitVec 32 := BitVec.ofNat 32 (i 1).val
  let c0_i32_17 : BitVec 32 := 0#32
  let v33 : BitVec 1 := Scalar.cmpi .sge arg1 c0_i32_17
  let c4_i32_18 : BitVec 32 := 4#32
  let v34 : BitVec 1 := Scalar.cmpi .slt arg1 c4_i32_18
  let v35 : BitVec 1 := Scalar.andi v33 v34
  let v36 : BitVec 32 := Scalar.extui v35
  let c0_i32_19 : BitVec 32 := 0#32
  let v37 : BitVec 1 := Scalar.cmpi .ne v36 c0_i32_19
  v37

def k0_cond8 (i : grid0.Coords) : BitVec 1 :=
  let arg1 : BitVec 32 := BitVec.ofNat 32 (i 1).val
  let c4_i32_20 : BitVec 32 := 4#32
  let v38 : BitVec 1 := Scalar.cmpi .sge arg1 c4_i32_20
  let c8_i32_21 : BitVec 32 := 8#32
  let v39 : BitVec 1 := Scalar.cmpi .slt arg1 c8_i32_21
  let v40 : BitVec 1 := Scalar.andi v38 v39
  let v41 : BitVec 32 := Scalar.extui v40
  let c0_i32_22 : BitVec 32 := 0#32
  let v42 : BitVec 1 := Scalar.cmpi .ne v41 c0_i32_22
  v42

def k0_cond9 (i : grid0.Coords) : BitVec 1 :=
  let arg1 : BitVec 32 := BitVec.ofNat 32 (i 1).val
  let c8_i32_23 : BitVec 32 := 8#32
  let v43 : BitVec 1 := Scalar.cmpi .sge arg1 c8_i32_23
  let c10_i32_24 : BitVec 32 := 10#32
  let v44 : BitVec 1 := Scalar.cmpi .slt arg1 c10_i32_24
  let v45 : BitVec 1 := Scalar.andi v43 v44
  let v46 : BitVec 32 := Scalar.extui v45
  let c0_i32_25 : BitVec 32 := 0#32
  let v47 : BitVec 1 := Scalar.cmpi .ne v46 c0_i32_25
  v47

def k0_cond10 (i : grid0.Coords) : BitVec 1 :=
  let arg1 : BitVec 32 := BitVec.ofNat 32 (i 1).val
  let c10_i32_26 : BitVec 32 := 10#32
  let v48 : BitVec 1 := Scalar.cmpi .sge arg1 c10_i32_26
  let c12_i32_27 : BitVec 32 := 12#32
  let v49 : BitVec 1 := Scalar.cmpi .slt arg1 c12_i32_27
  let v50 : BitVec 1 := Scalar.andi v48 v49
  let v51 : BitVec 32 := Scalar.extui v50
  let c0_i32_28 : BitVec 32 := 0#32
  let v52 : BitVec 1 := Scalar.cmpi .ne v51 c0_i32_28
  v52

def k0_cond11 (i : grid0.Coords) : BitVec 1 :=
  let arg1 : BitVec 32 := BitVec.ofNat 32 (i 1).val
  let c12_i32_29 : BitVec 32 := 12#32
  let v53 : BitVec 1 := Scalar.cmpi .sge arg1 c12_i32_29
  let c14_i32_30 : BitVec 32 := 14#32
  let v54 : BitVec 1 := Scalar.cmpi .slt arg1 c14_i32_30
  let v55 : BitVec 1 := Scalar.andi v53 v54
  let v56 : BitVec 32 := Scalar.extui v55
  let c0_i32_31 : BitVec 32 := 0#32
  let v57 : BitVec 1 := Scalar.cmpi .ne v56 c0_i32_31
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c13_i32 : BitVec 32 := 13#32
  let v1 : BitVec 32 := Scalar.select v0 arg1 c13_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference5Ideal.lean ====
abbrev S8192x4096 : Shape := ⟨2, ![8192, 4096]⟩
abbrev S8x4096 : Shape := ⟨2, ![8, 4096]⟩
abbrev S4096x25088 : Shape := ⟨2, ![4096, 25088]⟩
abbrev S4096x7168 : Shape := ⟨2, ![4096, 7168]⟩
abbrev S8192x7168 : Shape := ⟨2, ![8192, 7168]⟩
abbrev S8192x2048 : Shape := ⟨2, ![8192, 2048]⟩
abbrev S8192x1024 : Shape := ⟨2, ![8192, 1024]⟩
abbrev S_ : Shape := ⟨0, ![]⟩
abbrev S8x7168 : Shape := ⟨2, ![8, 7168]⟩
abbrev S8x2048 : Shape := ⟨2, ![8, 2048]⟩
abbrev S8x1024 : Shape := ⟨2, ![8, 1024]⟩

abbrev nBuf : Space → Nat
  | .hbm => 147
  | .vmem => 0
  | .smem => 0
  | _ => 0

abbrev hbmTy0_0 (i : Nat) : BufTy := match i % 128 with
  | 0 => ⟨S8192x4096, .bf16⟩
  | 1 => ⟨S8x4096, .bf16⟩
  | 2 => ⟨S4096x25088, .bf16⟩
  | 3 => ⟨S8192x4096, .f32⟩
  | 4 => ⟨S4096x7168, .bf16⟩
  | 5 => ⟨S4096x7168, .f32⟩
  | 6 => ⟨S8192x7168, .f32⟩
  | 7 => ⟨S8192x2048, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x2048, .f32⟩
  | 14 => ⟨S8192x2048, .f32⟩
  | 15 => ⟨S_, .f32⟩
  | 16 => ⟨S8192x2048, .f32⟩
  | 17 => ⟨S8192x2048, .f32⟩
  | 18 => ⟨S_, .f32⟩
  | 19 => ⟨S8192x2048, .f32⟩
  | 20 => ⟨S8192x2048, .f32⟩
  | 21 => ⟨S8192x2048, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S8192x1024, .f32⟩
  | 32 => ⟨S_, .f32⟩
  | 33 => ⟨S8192x1024, .f32⟩
  | 34 => ⟨S8192x1024, .f32⟩
  | 35 => ⟨S_, .f32⟩
  | 36 => ⟨S8192x1024, .f32⟩
  | 37 => ⟨S8192x1024, .f32⟩
  | 38 => ⟨S8192x1024, .f32⟩
  | 39 => ⟨S8192x1024, .f32⟩
  | 40 => ⟨S8192x1024, .f32⟩
  | 41 => ⟨S_, .f32⟩
  | 42 => ⟨S8192x1024, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192x1024, .f32⟩
  | 63 => ⟨S8192x1024, .f32⟩
  | 64 => ⟨S8192x1024, .f32⟩
  | 65 => ⟨S8192x1024, .f32⟩
  | 66 => ⟨S8192x1024, .f32⟩
  | 67 => ⟨S_, .f32⟩
  | 68 => ⟨S8192x1024, .f32⟩
  | 69 => ⟨S8192x1024, .f32⟩
  | 70 => ⟨S_, .f32⟩
  | 71 => ⟨S8192x1024, .f32⟩
  | 72 => ⟨S8192x1024, .f32⟩
  | 73 => ⟨S8192x1024, .f32⟩
  | 74 => ⟨S8192x7168, .f32⟩
  | 75 => ⟨S8x4096, .f32⟩
  | 76 => ⟨S4096x7168, .bf16⟩
  | 77 => ⟨S4096x7168, .f32⟩
  | 78 => ⟨S8x7168, .f32⟩
  | 79 => ⟨S8x2048, .f32⟩
  | 80 => ⟨S8x1024, .f32⟩
  | 81 => ⟨S8x1024, .f32⟩
  | 82 => ⟨S8x1024, .f32⟩
  | 83 => ⟨S8x1024, .f32⟩
  | 84 => ⟨S8x1024, .f32⟩
  | 85 => ⟨S8x2048, .f32⟩
  | 86 => ⟨S8x2048, .f32⟩
  | 87 => ⟨S_, .f32⟩
  | 88 => ⟨S8x2048, .f32⟩
  | 89 => ⟨S8x2048, .f32⟩
  | 90 => ⟨S_, .f32⟩
  | 91 => ⟨S8x2048, .f32⟩
  | 92 => ⟨S8x2048, .f32⟩
  | 93 => ⟨S8x2048, .f32⟩
  | 94 => ⟨S8x1024, .f32⟩
  | 95 => ⟨S8x1024, .f32⟩
  | 96 => ⟨S_, .f32⟩
  | 97 => ⟨S8x1024, .f32⟩
  | 98 => ⟨S8x1024, .f32⟩
  | 99 => ⟨S8x1024, .f32⟩
  | 100 => ⟨S_, .f32⟩
  | 101 => ⟨S8x1024, .f32⟩
  | 102 => ⟨S8x1024, .f32⟩
  | 103 => ⟨S8x1024, .f32⟩
  | 104 => ⟨S_, .f32⟩
  | 105 => ⟨S8x1024, .f32⟩
  | 106 => ⟨S8x1024, .f32⟩
  | 107 => ⟨S_, .f32⟩
  | 108 => ⟨S8x1024, .f32⟩
  | 109 => ⟨S8x1024, .f32⟩
  | 110 => ⟨S8x1024, .f32⟩
  | 111 => ⟨S8x1024, .f32⟩
  | 112 => ⟨S8x1024, .f32⟩
  | 113 => ⟨S_, .f32⟩
  | 114 => ⟨S8x1024, .f32⟩
  | 115 => ⟨S8x1024, .f32⟩
  | 116 => ⟨S8x1024, .f32⟩
  | 117 => ⟨S_, .f32⟩
  | 118 => ⟨S8x1024, .f32⟩
  | 119 => ⟨S8x1024, .f32⟩
  | 120 => ⟨S8x1024, .f32⟩
  | 121 => ⟨S_, .f32⟩
  | 122 => ⟨S8x1024, .f32⟩
  | 123 => ⟨S8x1024, .f32⟩
  | 124 => ⟨S_, .f32⟩
  | 125 => ⟨S8x1024, .f32⟩
  | 126 => ⟨S8x1024, .f32⟩
  | 127 => ⟨S8x1024, .f32⟩
  | _ => ⟨S8192x4096, .bf16⟩

abbrev hbmTy0_1 (i : Nat) : BufTy := match i % 128 with
  | 0 => ⟨S8x1024, .f32⟩
  | 1 => ⟨S8x1024, .f32⟩
  | 2 => ⟨S_, .f32⟩
  | 3 => ⟨S8x1024, .f32⟩
  | 4 => ⟨S8x1024, .f32⟩
  | 5 => ⟨S_, .f32⟩
  | 6 => ⟨S8x1024, .f32⟩
  | 7 => ⟨S8x1024, .f32⟩
  | 8 => ⟨S8x1024, .f32⟩
  | 9 => ⟨S8x1024, .f32⟩
  | 10 => ⟨S8x1024, .f32⟩
  | 11 => ⟨S_, .f32⟩
  | 12 => ⟨S8x1024, .f32⟩
  | 13 => ⟨S8x1024, .f32⟩
  | 14 => ⟨S_, .f32⟩
  | 15 => ⟨S8x1024, .f32⟩
  | 16 => ⟨S8x1024, .f32⟩
  | 17 => ⟨S8x1024, .f32⟩
  | 18 => ⟨S8x7168, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_5 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_cst : Ref sig .tc := ⟨.hbm, 58, rfl⟩
abbrev main_call1_v2 : Ref sig .tc := ⟨.hbm, 59, rfl⟩
abbrev main_call1_v3 : Ref sig .tc := ⟨.hbm, 60, rfl⟩
abbrev main_call1_cst_0 : Ref sig .tc := ⟨.hbm, 61, rfl⟩
abbrev main_call1_v4 : Ref sig .tc := ⟨.hbm, 62, rfl⟩
abbrev main_call1_v5 : Ref sig .tc := ⟨.hbm, 63, rfl⟩
abbrev main_v37 : Ref sig .tc := ⟨.hbm, 64, rfl⟩
abbrev main_call2_v0 : Ref sig .tc := ⟨.hbm, 65, rfl⟩
abbrev main_call2_v1 : Ref sig .tc := ⟨.hbm, 66, rfl⟩
abbrev main_call2_cst : Ref sig .tc := ⟨.hbm, 67, rfl⟩
abbrev main_call2_v2 : Ref sig .tc := ⟨.hbm, 68, rfl⟩
abbrev main_call2_v3 : Ref sig .tc := ⟨.hbm, 69, rfl⟩
abbrev main_call2_cst_0 : Ref sig .tc := ⟨.hbm, 70, rfl⟩
abbrev main_call2_v4 : Ref sig .tc := ⟨.hbm, 71, rfl⟩
abbrev main_call2_v5 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_call3_v0 : Ref sig .tc := ⟨.hbm, 85, rfl⟩
abbrev main_call3_v1 : Ref sig .tc := ⟨.hbm, 86, rfl⟩
abbrev main_call3_cst : Ref sig .tc := ⟨.hbm, 87, rfl⟩
abbrev main_call3_v2 : Ref sig .tc := ⟨.hbm, 88, rfl⟩
abbrev main_call3_v3 : Ref sig .tc := ⟨.hbm, 89, rfl⟩
abbrev main_call3_cst_0 : Ref sig .tc := ⟨.hbm, 90, rfl⟩
abbrev main_call3_v4 : Ref sig .tc := ⟨.hbm, 91, rfl⟩
abbrev main_call3_v5 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_cst_7 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_cst_8 : Ref sig .tc := ⟨.hbm, 100, rfl⟩
abbrev main_v56 : Ref sig .tc := ⟨.hbm, 101, rfl⟩
abbrev main_v57 : Ref sig .tc := ⟨.hbm, 102, rfl⟩
abbrev main_v58 : Ref sig .tc := ⟨.hbm, 103, rfl⟩
abbrev main_cst_9 : Ref sig .tc := ⟨.hbm, 104, rfl⟩
abbrev main_v59 : Ref sig .tc := ⟨.hbm, 105, rfl⟩
abbrev main_v60 : Ref sig .tc := ⟨.hbm, 106, rfl⟩
abbrev main_cst_10 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_cst_11 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_cst_12 : Ref sig .tc := ⟨.hbm, 117, rfl⟩
abbrev main_v69 : Ref sig .tc := ⟨.hbm, 118, rfl⟩
abbrev main_v70 : Ref sig .tc := ⟨.hbm, 119, rfl⟩
abbrev main_v71 : Ref sig .tc := ⟨.hbm, 120, rfl⟩
abbrev main_cst_13 : Ref sig .tc := ⟨.hbm, 121, rfl⟩
abbrev main_v72 : Ref sig .tc := ⟨.hbm, 122, rfl⟩
abbrev main_v73 : Ref sig .tc := ⟨.hbm, 123, rfl⟩
abbrev main_cst_14 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_call4_v0 : Ref sig .tc := ⟨.hbm, 128, rfl⟩
abbrev main_call4_v1 : Ref sig .tc := ⟨.hbm, 129, rfl⟩
abbrev main_call4_cst : Ref sig .tc := ⟨.hbm, 130, rfl⟩
abbrev main_call4_v2 : Ref sig .tc := ⟨.hbm, 131, rfl⟩
abbrev main_call4_v3 : Ref sig .tc := ⟨.hbm, 132, rfl⟩
abbrev main_call4_cst_0 : Ref sig .tc := ⟨.hbm, 133, rfl⟩
abbrev main_call4_v4 : Ref sig .tc := ⟨.hbm, 134, rfl⟩
abbrev main_call4_v5 : Ref sig .tc := ⟨.hbm, 135, rfl⟩
abbrev main_v77 : Ref sig .tc := ⟨.hbm, 136, rfl⟩
abbrev main_call5_v0 : Ref sig .tc := ⟨.hbm, 137, rfl⟩
abbrev main_call5_v1 : Ref sig .tc := ⟨.hbm, 138, rfl⟩
abbrev main_call5_cst : Ref sig .tc := ⟨.hbm, 139, rfl⟩
abbrev main_call5_v2 : Ref sig .tc := ⟨.hbm, 140, rfl⟩
abbrev main_call5_v3 : Ref sig .tc := ⟨.hbm, 141, rfl⟩
abbrev main_call5_cst_0 : Ref sig .tc := ⟨.hbm, 142, rfl⟩
abbrev main_call5_v4 : Ref sig .tc := ⟨.hbm, 143, rfl⟩
abbrev main_call5_v5 : Ref sig .tc := ⟨.hbm, 144, rfl⟩
abbrev main_v78 : Ref sig .tc := ⟨.hbm, 145, rfl⟩
abbrev main_v79 : Ref sig .tc := ⟨.hbm, 146, rfl⟩

abbrev nD : Nat := 1
abbrev τ : Topo := Topo.v7x

variable {F : FTy → Type} [FloatOps F]
-- ==== Kernel7.lean ====
abbrev S8192x4096 : Shape := ⟨2, ![8192, 4096]⟩
abbrev S8x4096 : Shape := ⟨2, ![8, 4096]⟩
abbrev S4096x25088 : Shape := ⟨2, ![4096, 25088]⟩
abbrev S128 : Shape := ⟨1, ![128]⟩
abbrev S3x128 : Shape := ⟨2, ![3, 128]⟩
abbrev S_ : Shape := ⟨0, ![]⟩
abbrev S512 : Shape := ⟨1, ![512]⟩
abbrev S1x128 : Shape := ⟨2, ![1, 128]⟩
abbrev S16x128 : Shape := ⟨2, ![16, 128]⟩
abbrev S2048 : Shape := ⟨1, ![2048]⟩
abbrev S4x128 : Shape := ⟨2, ![4, 128]⟩
abbrev S5120 : Shape := ⟨1, ![5120]⟩
abbrev S1x5120 : Shape := ⟨2, ![1, 5120]⟩
abbrev S1x2048 : Shape := ⟨2, ![1, 2048]⟩
abbrev S8192x2048 : Shape := ⟨2, ![8192, 2048]⟩
abbrev S8x2048 : Shape := ⟨2, ![8, 2048]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S8x512 : Shape := ⟨2, ![8, 512]⟩
abbrev S1024x128 : Shape := ⟨2, ![1024, 128]⟩
abbrev S1024 : Shape := ⟨1, ![1024]⟩
abbrev S1024x1 : Shape := ⟨2, ![1024, 1]⟩
abbrev S8x128 : Shape := ⟨2, ![8, 128]⟩
abbrev S8 : Shape := ⟨1, ![8]⟩
abbrev S8x1 : Shape := ⟨2, ![8, 1]⟩

abbrev nBuf : Space → Nat
  | .hbm => 32
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S8x4096, .bf16⟩
  | .hbm, ⟨2, _⟩ => ⟨S4096x25088, .bf16⟩
  | .hbm, ⟨3, _⟩ => ⟨S128, .f32⟩
  | .hbm, ⟨4, _⟩ => ⟨S3x128, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x128, .f32⟩
  | .hbm, ⟨10, _⟩ => ⟨S16x128, .f32⟩
  | .hbm, ⟨11, _⟩ => ⟨S2048, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S4x128, .f32⟩
  | .hbm, ⟨16, _⟩ => ⟨S512, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S4x128, .f32⟩
  | .hbm, ⟨21, _⟩ => ⟨S512, .f32⟩
  | .hbm, ⟨22, _⟩ => ⟨S5120, .f32⟩
  | .hbm, ⟨23, _⟩ => ⟨S_, .f32⟩
  | .hbm, ⟨24, _⟩ => ⟨S2048, .f32⟩
  | .hbm, ⟨25, _⟩ => ⟨S5120, .f32⟩
  | .hbm, ⟨26, _⟩ => ⟨S1x5120, .f32⟩
  | .hbm, ⟨27, _⟩ => ⟨S1x5120, .f32⟩
  | .hbm, ⟨28, _⟩ => ⟨S1x2048, .f32⟩
  | .hbm, ⟨29, _⟩ => ⟨S1x2048, .f32⟩
  | .hbm, ⟨30, _⟩ => ⟨S8192x2048, .bf16⟩
  | .hbm, ⟨31, _⟩ => ⟨S8x2048, .f32⟩
  | .local _ .vmem, ⟨0, _⟩ => ⟨S1024x4096, .bf16⟩
  | .local _ .vmem, ⟨1, _⟩ => ⟨S1024x4096, .bf16⟩
  | .local _ .vmem, ⟨2, _⟩ => ⟨S8x4096, .bf16⟩
  | .local _ .vmem, ⟨3, _⟩ => ⟨S4096x512, .bf16⟩
  | .local _ .vmem, ⟨4, _⟩ => ⟨S4096x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1024x512, .bf16⟩
  | .local _ .vmem, ⟨10, _⟩ => ⟨S1024x512, .bf16⟩
  | .local _ .vmem, ⟨11, _⟩ => ⟨S8x512, .f32⟩
  | .local _ .vmem, ⟨12, _⟩ => ⟨S8x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_cond1 (i : grid0.Coords) : BitVec 1 :=
  let arg0 : BitVec 32 := BitVec.ofNat 32 (i 0).val
  let c0_i32 : BitVec 32 := 0#32
  let v94 : BitVec 1 := Scalar.cmpi .eq arg0 c0_i32
  let v95 : BitVec 32 := Scalar.extui v94
  let c0_i32_34 : BitVec 32 := 0#32
  let v96 : BitVec 1 := Scalar.cmpi .ne v95 c0_i32_34
  v96

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c3_i32 : BitVec 32 := 3#32
  let v1 : BitVec 32 := Scalar.select v0 arg1 c3_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8192x4096 : Shape := ⟨2, ![8192, 4096]⟩
abbrev S8x4096 : Shape := ⟨2, ![8, 4096]⟩
abbrev S4096x25088 : Shape := ⟨2, ![4096, 25088]⟩
abbrev S128 : Shape := ⟨1, ![128]⟩
abbrev S3x128 : Shape := ⟨2, ![3, 128]⟩
abbrev S4096x2048 : Shape := ⟨2, ![4096, 2048]⟩
abbrev S8192x2048 : Shape := ⟨2, ![8192, 2048]⟩
abbrev S8192x4x4x128 : Shape := ⟨4, ![8192, 4, 4, 128]⟩
abbrev S_ : Shape := ⟨0, ![]⟩
abbrev S8192x4x4 : Shape := ⟨3, ![8192, 4, 4]⟩
abbrev S8192x4x4x1 : Shape := ⟨4, ![8192, 4, 4, 1]⟩
abbrev S1x1x1x128 : Shape := ⟨4, ![1, 1, 1, 128]⟩
abbrev S8x2048 : Shape := ⟨2, ![8, 2048]⟩
abbrev S8x4x4x128 : Shape := ⟨4, ![8, 4, 4, 128]⟩
abbrev S8x4x4 : Shape := ⟨3, ![8, 4, 4]⟩
abbrev S8x4x4x1 : Shape := ⟨4, ![8, 4, 4, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x4096, .bf16⟩
  | .hbm, ⟨2, _⟩ => ⟨S4096x25088, .bf16⟩
  | .hbm, ⟨3, _⟩ => ⟨S128, .f32⟩
  | .hbm, ⟨4, _⟩ => ⟨S3x128, .f32⟩
  | .hbm, ⟨5, _⟩ => ⟨S8192x4096, .f32⟩
  | .hbm, ⟨6, _⟩ => ⟨S4096x2048, .bf16⟩
  | .hbm, ⟨7, _⟩ => ⟨S4096x2048, .f32⟩
  | .hbm, ⟨8, _⟩ => ⟨S8192x2048, .f32⟩
  | .hbm, ⟨9, _⟩ => ⟨S8192x4x4x128, .f32⟩
  | .hbm, ⟨10, _⟩ => ⟨S8192x4x4x128, .f32⟩
  | .hbm, ⟨11, _⟩ => ⟨S_, .f32⟩
  | .hbm, ⟨12, _⟩ => ⟨S8192x4x4, .f32⟩
  | .hbm, ⟨13, _⟩ => ⟨S8192x4x4x1, .f32⟩
  | .hbm, ⟨14, _⟩ => ⟨S_, .f32⟩
  | .hbm, ⟨15, _⟩ => ⟨S8192x4x4x1, .f32⟩
  | .hbm, ⟨16, _⟩ => ⟨S8192x4x4x1, .f32⟩
  | .hbm, ⟨17, _⟩ => ⟨S_, .f32⟩
  | .hbm, ⟨18, _⟩ => ⟨S8192x4x4x1, .f32⟩
  | .hbm, ⟨19, _⟩ => ⟨S8192x4x4x1, .f32⟩
  | .hbm, ⟨20, _⟩ => ⟨S8192x4x4x1, .f32⟩
  | .hbm, ⟨21, _⟩ => ⟨S8192x4x4x128, .f32⟩
  | .hbm, ⟨22, _⟩ => ⟨S8192x4x4x128, .f32⟩
  | .hbm, ⟨23, _⟩ => ⟨S1x1x1x128, .f32⟩
  | .hbm, ⟨24, _⟩ => ⟨S8192x4x4x128, .f32⟩
  | .hbm, ⟨25, _⟩ => ⟨S8192x4x4x128, .f32⟩
  | .hbm, ⟨26, _⟩ => ⟨S8192x2048, .f32⟩
  | .hbm, ⟨27, _⟩ => ⟨S8192x2048, .bf16⟩
  | .hbm, ⟨28, _⟩ => ⟨S8x4096, .f32⟩
  | .hbm, ⟨29, _⟩ => ⟨S4096x2048, .bf16⟩
  | .hbm, ⟨30, _⟩ => ⟨S4096x2048, .f32⟩
  | .hbm, ⟨31, _⟩ => ⟨S8x2048, .f32⟩
  | .hbm, ⟨32, _⟩ => ⟨S8x4x4x128, .f32⟩
  | .hbm, ⟨33, _⟩ => ⟨S8x4x4x128, .f32⟩
  | .hbm, ⟨34, _⟩ => ⟨S_, .f32⟩
  | .hbm, ⟨35, _⟩ => ⟨S8x4x4, .f32⟩
  | .hbm, ⟨36, _⟩ => ⟨S8x4x4x1, .f32⟩
  | .hbm, ⟨37, _⟩ => ⟨S_, .f32⟩
  | .hbm, ⟨38, _⟩ => ⟨S8x4x4x1, .f32⟩
  | .hbm, ⟨39, _⟩ => ⟨S8x4x4x1, .f32⟩
  | .hbm, ⟨40, _⟩ => ⟨S_, .f32⟩
  | .hbm, ⟨41, _⟩ => ⟨S8x4x4x1, .f32⟩
  | .hbm, ⟨42, _⟩ => ⟨S8x4x4x1, .f32⟩
  | .hbm, ⟨43, _⟩ => ⟨S8x4x4x1, .f32⟩
  | .hbm, ⟨44, _⟩ => ⟨S8x4x4x128, .f32⟩
  | .hbm, ⟨45, _⟩ => ⟨S8x4x4x128, .f32⟩
  | .hbm, ⟨46, _⟩ => ⟨S1x1x1x128, .f32⟩
  | .hbm, ⟨47, _⟩ => ⟨S8x4x4x128, .f32⟩
  | .hbm, ⟨48, _⟩ => ⟨S8x4x4x128, .f32⟩
  | .hbm, ⟨49, _⟩ => ⟨S8x2048, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel8.lean ====
abbrev S8192x4096 : Shape := ⟨2, ![8192, 4096]⟩
abbrev S8x4096 : Shape := ⟨2, ![8, 4096]⟩
abbrev S4096x25088 : Shape := ⟨2, ![4096, 25088]⟩
abbrev S128 : Shape := ⟨1, ![128]⟩
abbrev S3x128 : Shape := ⟨2, ![3, 128]⟩
abbrev S_ : Shape := ⟨0, ![]⟩
abbrev S512 : Shape := ⟨1, ![512]⟩
abbrev S1x128 : Shape := ⟨2, ![1, 128]⟩
abbrev S16x128 : Shape := ⟨2, ![16, 128]⟩
abbrev S2048 : Shape := ⟨1, ![2048]⟩
abbrev S4x128 : Shape := ⟨2, ![4, 128]⟩
abbrev S5120 : Shape := ⟨1, ![5120]⟩
abbrev S1x5120 : Shape := ⟨2, ![1, 5120]⟩
abbrev S1x3072 : Shape := ⟨2, ![1, 3072]⟩
abbrev S8192x3072 : Shape := ⟨2, ![8192, 3072]⟩
abbrev S6x32768x128 : Shape := ⟨3, ![6, 32768, 128]⟩
abbrev S8x3072 : Shape := ⟨2, ![8, 3072]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩
abbrev S1x4096x128 : Shape := ⟨3, ![1, 4096, 128]⟩
abbrev S8x512 : Shape := ⟨2, ![8, 512]⟩
abbrev S1024x128 : Shape := ⟨2, ![1024, 128]⟩
abbrev S1024 : Shape := ⟨1, ![1024]⟩
abbrev S1024x1 : Shape := ⟨2, ![1024, 1]⟩
abbrev S1x1024x128 : Shape := ⟨3, ![1, 1024, 128]⟩
abbrev S8x128 : Shape := ⟨2, ![8, 128]⟩
abbrev S8 : Shape := ⟨1, ![8]⟩
abbrev S8x1 : Shape := ⟨2, ![8, 1]⟩

abbrev nBuf : Space → Nat
  | .hbm => 34
  | .vmem => 17
  | .smem => 0
  | _ => 0

abbrev bufTy : (tb : Table) → Fin (tcTables nBuf tb) → BufTy
  | .hbm, ⟨0, _⟩ => ⟨S8192x4096, .bf16⟩
  | .hbm, ⟨1, _⟩ => ⟨S8x4096, .bf16⟩
  | .hbm, ⟨2, _⟩ => ⟨S4096x25088, .bf16⟩
  | .hbm, ⟨3, _⟩ => ⟨S128, .f32⟩
  | .hbm, ⟨4, _⟩ => ⟨S3x128, .f32⟩
  | .hbm, ⟨5, _⟩ => ⟨S_, .f32⟩
  | .hbm, ⟨6, _⟩ => ⟨S512, .f32⟩
  | .hbm, ⟨7, _⟩ => ⟨S_, .f32⟩
  | .hbm, ⟨8, _⟩ => ⟨S512, .f32⟩
  | .hbm, ⟨9, _⟩ => ⟨S1x128, .f32⟩
  | .hbm, ⟨10, _⟩ => ⟨S16x128, .f32⟩
  | .hbm, ⟨11, _⟩ => ⟨S2048, .f32⟩
  | .hbm, ⟨12, _⟩ => ⟨S1x128, .f32⟩
  | .hbm, ⟨13, _⟩ => ⟨S128, .f32⟩
  | .hbm, ⟨14, _⟩ => ⟨S1x128, .f32⟩
  | .hbm, ⟨15, _⟩ => ⟨S4x128, .f32⟩
  | .hbm, ⟨16, _⟩ => ⟨S512, .f32⟩
  | .hbm, ⟨17, _⟩ => ⟨S1x128, .f32⟩
  | .hbm, ⟨18, _⟩ => ⟨S128, .f32⟩
  | .hbm, ⟨19, _⟩ => ⟨S1x128, .f32⟩
  | .hbm, ⟨20, _⟩ => ⟨S4x128, .f32⟩
  | .hbm, ⟨21, _⟩ => ⟨S512, .f32⟩
  | .hbm, ⟨22, _⟩ => ⟨S5120, .f32⟩
  | .hbm, ⟨23, _⟩ => ⟨S_, .f32⟩
  | .hbm, ⟨24, _⟩ => ⟨S2048, .f32⟩
  | .hbm, ⟨25, _⟩ => ⟨S5120, .f32⟩
  | .hbm, ⟨26, _⟩ => ⟨S1x5120, .f32⟩
  | .hbm, ⟨27, _⟩ => ⟨S1x5120, .f32⟩
  | .hbm, ⟨28, _⟩ => ⟨S1x3072, .f32⟩
  | .hbm, ⟨29, _⟩ => ⟨S1x3072, .f32⟩
  | .hbm, ⟨30, _⟩ => ⟨S8192x3072, .f32⟩
  | .hbm, ⟨31, _⟩ => ⟨S8192x3072, .bf16⟩
  | .hbm, ⟨32, _⟩ => ⟨S6x32768x128, .f32⟩
  | .hbm, ⟨33, _⟩ => ⟨S8x3072, .f32⟩
  | .local _ .vmem, ⟨0, _⟩ => ⟨S1024x4096, .bf16⟩
  | .local _ .vmem, ⟨1, _⟩ => ⟨S1024x4096, .bf16⟩
  | .local _ .vmem, ⟨2, _⟩ => ⟨S8x4096, .bf16⟩
  | .local _ .vmem, ⟨3, _⟩ => ⟨S4096x512, .bf16⟩
  | .local _ .vmem, ⟨4, _⟩ => ⟨S4096x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1024x512, .f32⟩
  | .local _ .vmem, ⟨10, _⟩ => ⟨S1024x512, .f32⟩
  | .local _ .vmem, ⟨11, _⟩ => ⟨S1024x512, .bf16⟩
  | .local _ .vmem, ⟨12, _⟩ => ⟨S1024x512, .bf16⟩
  | .local _ .vmem, ⟨13, _⟩ => ⟨S1x4096x128, .f32⟩
  | .local _ .vmem, ⟨14, _⟩ => ⟨S1x4096x128, .f32⟩
  | .local _ .vmem, ⟨15, _⟩ => ⟨S8x512, .f32⟩
  | .local _ .vmem, ⟨16, _⟩ => ⟨S8x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 6], ![false, false]⟩

def k0_cond1 (i : grid0.Coords) : BitVec 1 :=
  let arg0 : BitVec 32 := BitVec.ofNat 32 (i 0).val
  let c0_i32 : BitVec 32 := 0#32
  let v111 : BitVec 1 := Scalar.cmpi .eq arg0 c0_i32
  let v112 : BitVec 32 := Scalar.extui v111
  let c0_i32_45 : BitVec 32 := 0#32
  let v113 : BitVec 1 := Scalar.cmpi .ne v112 c0_i32_45
  v113

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c5_i32 : BitVec 32 := 5#32
  let v1 : BitVec 32 := Scalar.select v0 arg1 c5_i32
  let c0_i32_0 : BitVec 32 := 0#32
  let c0_i32_1 : BitVec 32 := 0#32
  ![c0_i32_0.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference8Ideal.lean ====
abbrev S8192x4096 : Shape := ⟨2, ![8192, 4096]⟩
abbrev S8x4096 : Shape := ⟨2, ![8, 4096]⟩
abbrev S4096x25088 : Shape := ⟨2, ![4096, 25088]⟩
abbrev S128 : Shape := ⟨1, ![128]⟩
abbrev S3x128 : Shape := ⟨2, ![3, 128]⟩
abbrev S4096x3072 : Shape := ⟨2, ![4096, 3072]⟩
abbrev S8192x3072 : Shape := ⟨2, ![8192, 3072]⟩
abbrev S8192x6x4x128 : Shape := ⟨4, ![8192, 6, 4, 128]⟩
abbrev S8192x1x4x128 : Shape := ⟨4, ![8192, 1, 4, 128]⟩
abbrev S8192x4x128 : Shape := ⟨3, ![8192, 4, 128]⟩
abbrev S1x128 : Shape := ⟨2, ![1, 128]⟩
abbrev S_ : Shape := ⟨0, ![]⟩
abbrev S8192x4 : Shape := ⟨2, ![8192, 4]⟩
abbrev S8192x4x1 : Shape := ⟨3, ![8192, 4, 1]⟩
abbrev S1x1x128 : Shape := ⟨3, ![1, 1, 128]⟩
abbrev S8x3072 : Shape := ⟨2, ![8, 3072]⟩
abbrev S8x6x4x128 : Shape := ⟨4, ![8, 6, 4, 128]⟩
abbrev S8x1x4x128 : Shape := ⟨4, ![8, 1, 4, 128]⟩
abbrev S8x4x128 : Shape := ⟨3, ![8, 4, 128]⟩
abbrev S8x4 : Shape := ⟨2, ![8, 4]⟩
abbrev S8x4x1 : Shape := ⟨3, ![8, 4, 1]⟩
abbrev S32768x128 : Shape := ⟨2, ![32768, 128]⟩
abbrev S1x32768x128 : Shape := ⟨3, ![1, 32768, 128]⟩
abbrev S6x32768x128 : Shape := ⟨3, ![6, 32768, 128]⟩

abbrev nBuf : Space → Nat
  | .hbm => 149
  | .vmem => 0
  | .smem => 0
  | _ => 0

abbrev hbmTy0_0 (i : Nat) : BufTy := match i % 128 with
  | 0 => ⟨S8192x4096, .bf16⟩
  | 1 => ⟨S8x4096, .bf16⟩
  | 2 => ⟨S4096x25088, .bf16⟩
  | 3 => ⟨S128, .f32⟩
  | 4 => ⟨S3x128, .f32⟩
  | 5 => ⟨S8192x4096, .f32⟩
  | 6 => ⟨S4096x3072, .bf16⟩
  | 7 => ⟨S4096x3072, .f32⟩
  | 8 => ⟨S8192x3072, .f32⟩
  | 9 => ⟨S8192x6x4x128, .f32⟩
  | 10 => ⟨S8192x1x4x128, .f32⟩
  | 11 => ⟨S8192x4x128, .f32⟩
  | 12 => ⟨S8192x1x4x128, .f32⟩
  | 13 => ⟨S8192x4x128, .f32⟩
  | 14 => ⟨S8192x1x4x128, .f32⟩
  | 15 => ⟨S8192x4x128, .f32⟩
  | 16 => ⟨S8192x1x4x128, .f32⟩
  | 17 => ⟨S8192x4x128, .f32⟩
  | 18 => ⟨S8192x1x4x128, .f32⟩
  | 19 => ⟨S8192x4x128, .f32⟩
  | 20 => ⟨S8192x1x4x128, .f32⟩
  | 21 => ⟨S8192x4x128, .f32⟩
  | 22 => ⟨S1x128, .f32⟩
  | 23 => ⟨S128, .f32⟩
  | 24 => ⟨S8192x4x128, .f32⟩
  | 25 => ⟨S_, .f32⟩
  | 26 => ⟨S8192x4, .f32⟩
  | 27 => ⟨S8192x4x1, .f32⟩
  | 28 => ⟨S_, .f32⟩
  | 29 => ⟨S8192x4x1, .f32⟩
  | 30 => ⟨S8192x4x1, .f32⟩
  | 31 => ⟨S_, .f32⟩
  | 32 => ⟨S8192x4x1, .f32⟩
  | 33 => ⟨S8192x4x1, .f32⟩
  | 34 => ⟨S8192x4x1, .f32⟩
  | 35 => ⟨S8192x4x128, .f32⟩
  | 36 => ⟨S8192x4x128, .f32⟩
  | 37 => ⟨S1x1x128, .f32⟩
  | 38 => ⟨S8192x4x128, .f32⟩
  | 39 => ⟨S8192x4x128, .f32⟩
  | 40 => ⟨S1x128, .f32⟩
  | 41 => ⟨S128, .f32⟩
  | 42 => ⟨S8192x4x128, .f32⟩
  | 43 => ⟨S_, .f32⟩
  | 44 => ⟨S8192x4, .f32⟩
  | 45 => ⟨S8192x4x1, .f32⟩
  | 46 => ⟨S_, .f32⟩
  | 47 => ⟨S8192x4x1, .f32⟩
  | 48 => ⟨S8192x4x1, .f32⟩
  | 49 => ⟨S_, .f32⟩
  | 50 => ⟨S8192x4x1, .f32⟩
  | 51 => ⟨S8192x4x1, .f32⟩
  | 52 => ⟨S8192x4x1, .f32⟩
  | 53 => ⟨S8192x4x128, .f32⟩
  | 54 => ⟨S8192x4x128, .f32⟩
  | 55 => ⟨S1x1x128, .f32⟩
  | 56 => ⟨S8192x4x128, .f32⟩
  | 57 => ⟨S8192x4x128, .f32⟩
  | 58 => ⟨S8x4096, .f32⟩
  | 59 => ⟨S4096x3072, .bf16⟩
  | 60 => ⟨S4096x3072, .f32⟩
  | 61 => ⟨S8x3072, .f32⟩
  | 62 => ⟨S8x6x4x128, .f32⟩
  | 63 => ⟨S8x1x4x128, .f32⟩
  | 64 => ⟨S8x4x128, .f32⟩
  | 65 => ⟨S8x1x4x128, .f32⟩
  | 66 => ⟨S8x4x128, .f32⟩
  | 67 => ⟨S8x1x4x128, .f32⟩
  | 68 => ⟨S8x4x128, .f32⟩
  | 69 => ⟨S8x1x4x128, .f32⟩
  | 70 => ⟨S8x4x128, .f32⟩
  | 71 => ⟨S8x1x4x128, .f32⟩
  | 72 => ⟨S8x4x128, .f32⟩
  | 73 => ⟨S8x1x4x128, .f32⟩
  | 74 => ⟨S8x4x128, .f32⟩
  | 75 => ⟨S1x128, .f32⟩
  | 76 => ⟨S128, .f32⟩
  | 77 => ⟨S8x4x128, .f32⟩
  | 78 => ⟨S_, .f32⟩
  | 79 => ⟨S8x4, .f32⟩
  | 80 => ⟨S8x4x1, .f32⟩
  | 81 => ⟨S_, .f32⟩
  | 82 => ⟨S8x4x1, .f32⟩
  | 83 => ⟨S8x4x1, .f32⟩
  | 84 => ⟨S_, .f32⟩
  | 85 => ⟨S8x4x1, .f32⟩
  | 86 => ⟨S8x4x1, .f32⟩
  | 87 => ⟨S8x4x1, .f32⟩
  | 88 => ⟨S8x4x128, .f32⟩
  | 89 => ⟨S8x4x128, .f32⟩
  | 90 => ⟨S1x1x128, .f32⟩
  | 91 => ⟨S8x4x128, .f32⟩
  | 92 => ⟨S8x4x128, .f32⟩
  | 93 => ⟨S1x128, .f32⟩
  | 94 => ⟨S128, .f32⟩
  | 95 => ⟨S8x4x128, .f32⟩
  | 96 => ⟨S_, .f32⟩
  | 97 => ⟨S8x4, .f32⟩
  | 98 => ⟨S8x4x1, .f32⟩
  | 99 => ⟨S_, .f32⟩
  | 100 => ⟨S8x4x1, .f32⟩
  | 101 => ⟨S8x4x1, .f32⟩
  | 102 => ⟨S_, .f32⟩
  | 103 => ⟨S8x4x1, .f32⟩
  | 104 => ⟨S8x4x1, .f32⟩
  | 105 => ⟨S8x4x1, .f32⟩
  | 106 => ⟨S8x4x128, .f32⟩
  | 107 => ⟨S8x4x128, .f32⟩
  | 108 => ⟨S1x1x128, .f32⟩
  | 109 => ⟨S8x4x128, .f32⟩
  | 110 => ⟨S8x4x128, .f32⟩
  | 111 => ⟨S8192x1x4x128, .f32⟩
  | 112 => ⟨S8192x1x4x128, .f32⟩
  | 113 => ⟨S8192x1x4x128, .f32⟩
  | 114 => ⟨S8192x1x4x128, .f32⟩
  | 115 => ⟨S8192x1x4x128, .f32⟩
  | 116 => ⟨S8192x1x4x128, .f32⟩
  | 117 => ⟨S8192x6x4x128, .f32⟩
  | 118 => ⟨S8192x3072, .f32⟩
  | 119 => ⟨S8192x1x4x128, .f32⟩
  | 120 => ⟨S8192x1x4x128, .f32⟩
  | 121 => ⟨S8192x1x4x128, .f32⟩
  | 122 => ⟨S8192x1x4x128, .f32⟩
  | 123 => ⟨S8192x1x4x128, .f32⟩
  | 124 => ⟨S8192x1x4x128, .f32⟩
  | 125 => ⟨S8192x6x4x128, .f32⟩
  | 126 => ⟨S8192x3072, .f32⟩
  | 127 => ⟨S8192x3072, .bf16⟩
  | _ => ⟨S8192x4096, .bf16⟩

abbrev hbmTy0_1 (i : Nat) : BufTy := match i % 128 with
  | 0 => ⟨S32768x128, .f32⟩
  | 1 => ⟨S32768x128, .f32⟩
  | 2 => ⟨S32768x128, .f32⟩
  | 3 => ⟨S32768x128, .f32⟩
  | 4 => ⟨S32768x128, .f32⟩
  | 5 => ⟨S32768x128, .f32⟩
  | 6 => ⟨S1x32768x128, .f32⟩
  | 7 => ⟨S1x32768x128, .f32⟩
  | 8 => ⟨S1x32768x128, .f32⟩
  | 9 => ⟨S1x32768x128, .f32⟩
  | 10 => ⟨S1x32768x128, .f32⟩
  | 11 => ⟨S1x32768x128, .f32⟩
  | 12 => ⟨S6x32768x128, .f32⟩
  | 13 => ⟨S8x1x4x128, .f32⟩
  | 14 => ⟨S8x1x4x128, .f32⟩
  | 15 => ⟨S8x1x4x128, .f32⟩
  | 16 => ⟨S8x1x4x128, .f32⟩
  | 17 => ⟨S8x1x4x128, .f32⟩
  | 18 => ⟨S8x1x4x128, .f32⟩
  | 19 => ⟨S8x6x4x128, .f32⟩
  | 20 => ⟨S8x3072, .f32⟩
  | _ => ⟨S8192x4096, .bf16⟩

abbrev hbmTy (i : Nat) : BufTy := match i / 128 with
  | 0 => hbmTy0_0 i
  | 1 => hbmTy0_1 i
  | _ => ⟨S8192x4096, .bf16⟩

abbrev bufTy : (tb : Table) → Fin (tcTables nBuf tb) → BufTy
  | .hbm, ⟨i, _⟩ => hbmTy i
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_cst_2 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_cst_4 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_cst_5 : Ref sig .tc := ⟨.hbm, 78, rfl⟩
abbrev main_v67 : Ref sig .tc := ⟨.hbm, 79, rfl⟩
abbrev main_v68 : Ref sig .tc := ⟨.hbm, 80, rfl⟩
abbrev main_cst_6 : Ref sig .tc := ⟨.hbm, 81, rfl⟩
abbrev main_v69 : Ref sig .tc := ⟨.hbm, 82, rfl⟩
abbrev main_v70 : Ref sig .tc := ⟨.hbm, 83, rfl⟩
abbrev main_cst_7 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_cst_8 : Ref sig .tc := ⟨.hbm, 96, rfl⟩
abbrev main_v82 : Ref sig .tc := ⟨.hbm, 97, rfl⟩
abbrev main_v83 : Ref sig .tc := ⟨.hbm, 98, rfl⟩
abbrev main_cst_9 : Ref sig .tc := ⟨.hbm, 99, rfl⟩
abbrev main_v84 : Ref sig .tc := ⟨.hbm, 100, rfl⟩
abbrev main_v85 : Ref sig .tc := ⟨.hbm, 101, rfl⟩
abbrev main_cst_10 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_v119 : Ref sig .tc := ⟨.hbm, 136, rfl⟩
abbrev main_v120 : Ref sig .tc := ⟨.hbm, 137, rfl⟩
abbrev main_v121 : Ref sig .tc := ⟨.hbm, 138, rfl⟩
abbrev main_v122 : Ref sig .tc := ⟨.hbm, 139, rfl⟩
abbrev main_v123 : Ref sig .tc := ⟨.hbm, 140, rfl⟩
abbrev main_v124 : Ref sig .tc := ⟨.hbm, 141, rfl⟩
abbrev main_v125 : Ref sig .tc := ⟨.hbm, 142, rfl⟩
abbrev main_v126 : Ref sig .tc := ⟨.hbm, 143, rfl⟩
abbrev main_v127 : Ref sig .tc := ⟨.hbm, 144, rfl⟩
abbrev main_v128 : Ref sig .tc := ⟨.hbm, 145, rfl⟩
abbrev main_v129 : Ref sig .tc := ⟨.hbm, 146, rfl⟩
abbrev main_v130 : Ref sig .tc := ⟨.hbm, 147, rfl⟩
abbrev main_v131 : Ref sig .tc := ⟨.hbm, 148, rfl⟩

abbrev nD : Nat := 1
abbrev τ : Topo := Topo.v7x

variable {F : FTy → Type} [FloatOps F]
-- ==== Kernel9.lean ====
abbrev S8192x4096 : Shape := ⟨2, ![8192, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .bf16⟩
  | .local _ .vmem, ⟨4, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference9Ideal.lean ====
abbrev S8192x4096 : Shape := ⟨2, ![8192, 4096]⟩
abbrev S4096 : Shape := ⟨1, ![4096]⟩
abbrev S_ : Shape := ⟨0, ![]⟩
abbrev S8192 : Shape := ⟨1, ![8192]⟩
abbrev S8192x1 : Shape := ⟨2, ![8192, 1]⟩
abbrev S1x4096 : Shape := ⟨2, ![1, 4096]⟩

abbrev nBuf : Space → Nat
  | .hbm => 19
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8192x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x4096, .f32⟩
  | .hbm, ⟨14, _⟩ => ⟨S8192x4096, .f32⟩
  | .hbm, ⟨15, _⟩ => ⟨S1x4096, .f32⟩
  | .hbm, ⟨16, _⟩ => ⟨S8192x4096, .f32⟩
  | .hbm, ⟨17, _⟩ => ⟨S8192x4096, .f32⟩
  | .hbm, ⟨18, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel10.lean ====
abbrev S8x2048 : Shape := ⟨2, ![8, 2048]⟩
abbrev S8x1024 : Shape := ⟨2, ![8, 1024]⟩
abbrev S8x3x1024 : Shape := ⟨3, ![8, 3, 1024]⟩
abbrev S1024 : Shape := ⟨1, ![1024]⟩
abbrev S8x128x128 : Shape := ⟨3, ![8, 128, 128]⟩
abbrev S8x128 : Shape := ⟨2, ![8, 128]⟩
abbrev S4x1024 : Shape := ⟨2, ![4, 1024]⟩
abbrev S3x8x1024 : Shape := ⟨3, ![3, 8, 1024]⟩
abbrev S8x1x1 : Shape := ⟨3, ![8, 1, 1]⟩
abbrev S8 : Shape := ⟨1, ![8]⟩
abbrev S1x1024 : Shape := ⟨2, ![1, 1024]⟩
abbrev S8x1 : Shape := ⟨2, ![8, 1]⟩
abbrev S1x8x1024 : Shape := ⟨3, ![1, 8, 1024]⟩
abbrev S1x128x128 : Shape := ⟨3, ![1, 128, 128]⟩
abbrev S128x128 : Shape := ⟨2, ![128, 128]⟩

abbrev nBuf : Space → Nat
  | .hbm => 42
  | .vmem => 22
  | .smem => 0
  | _ => 0

abbrev bufTy : (tb : Table) → Fin (tcTables nBuf tb) → BufTy
  | .hbm, ⟨0, _⟩ => ⟨S8x2048, .f32⟩
  | .hbm, ⟨1, _⟩ => ⟨S8x1024, .f32⟩
  | .hbm, ⟨2, _⟩ => ⟨S8x1024, .f32⟩
  | .hbm, ⟨3, _⟩ => ⟨S8x1024, .f32⟩
  | .hbm, ⟨4, _⟩ => ⟨S8x3x1024, .f32⟩
  | .hbm, ⟨5, _⟩ => ⟨S8x1024, .f32⟩
  | .hbm, ⟨6, _⟩ => ⟨S1024, .f32⟩
  | .hbm, ⟨7, _⟩ => ⟨S1024, .f32⟩
  | .hbm, ⟨8, _⟩ => ⟨S8x128x128, .f32⟩
  | .hbm, ⟨9, _⟩ => ⟨S8x128, .f32⟩
  | .hbm, ⟨10, _⟩ => ⟨S4x1024, .f32⟩
  | .hbm, ⟨11, _⟩ => ⟨S1024, .f32⟩
  | .hbm, ⟨12, _⟩ => ⟨S8x128x128, .f32⟩
  | .hbm, ⟨13, _⟩ => ⟨S1024, .f32⟩
  | .hbm, ⟨14, _⟩ => ⟨S8x128x128, .f32⟩
  | .hbm, ⟨15, _⟩ => ⟨S1024, .f32⟩
  | .hbm, ⟨16, _⟩ => ⟨S1024, .f32⟩
  | .hbm, ⟨17, _⟩ => ⟨S3x8x1024, .f32⟩
  | .hbm, ⟨18, _⟩ => ⟨S8x1x1, .f32⟩
  | .hbm, ⟨19, _⟩ => ⟨S8, .f32⟩
  | .hbm, ⟨20, _⟩ => ⟨S8x128, .f32⟩
  | .hbm, ⟨21, _⟩ => ⟨S1024, .f32⟩
  | .hbm, ⟨22, _⟩ => ⟨S1x1024, .f32⟩
  | .hbm, ⟨23, _⟩ => ⟨S8x1, .f32⟩
  | .hbm, ⟨24, _⟩ => ⟨S8, .f32⟩
  | .hbm, ⟨25, _⟩ => ⟨S8x128, .f32⟩
  | .hbm, ⟨26, _⟩ => ⟨S1024, .f32⟩
  | .hbm, ⟨27, _⟩ => ⟨S1x1024, .f32⟩
  | .hbm, ⟨28, _⟩ => ⟨S8x1024, .f32⟩
  | .hbm, ⟨29, _⟩ => ⟨S8x1024, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S8x128x128, .bf16⟩
  | .hbm, ⟨34, _⟩ => ⟨S8x128x128, .bf16⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S8x1024, .bf16⟩
  | .hbm, ⟨39, _⟩ => ⟨S8x1024, .f32⟩
  | .hbm, ⟨40, _⟩ => ⟨S8x1024, .bf16⟩
  | .hbm, ⟨41, _⟩ => ⟨S8x1024, .f32⟩
  | .local _ .vmem, ⟨0, _⟩ => ⟨S8x1024, .f32⟩
  | .local _ .vmem, ⟨1, _⟩ => ⟨S8x1024, .f32⟩
  | .local _ .vmem, ⟨2, _⟩ => ⟨S8x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S8x1024, .f32⟩
  | .local _ .vmem, ⟨8, _⟩ => ⟨S8x1024, .f32⟩
  | .local _ .vmem, ⟨9, _⟩ => ⟨S3x8x1024, .f32⟩
  | .local _ .vmem, ⟨10, _⟩ => ⟨S8x1024, .f32⟩
  | .local _ .vmem, ⟨11, _⟩ => ⟨S4x1024, .f32⟩
  | .local _ .vmem, ⟨12, _⟩ => ⟨S1x1024, .f32⟩
  | .local _ .vmem, ⟨13, _⟩ => ⟨S8x128x128, .bf16⟩
  | .local _ .vmem, ⟨14, _⟩ => ⟨S8x128x128, .bf16⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S8x1024, .bf16⟩
  | .local _ .vmem, ⟨19, _⟩ => ⟨S8x1024, .f32⟩
  | .local _ .vmem, ⟨20, _⟩ => ⟨S8x1024, .bf16⟩
  | .local _ .vmem, ⟨21, _⟩ => ⟨S8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21_0 : Ref sig .tc := ⟨.hbm, 38, rfl⟩
abbrev main_v21_1 : Ref sig .tc := ⟨.hbm, 39, rfl⟩
abbrev main_v21_2 : Ref sig .tc := ⟨.hbm, 40, rfl⟩
abbrev main_v21_3 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8x128x128 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S8x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S8x1024 .bf16 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S8x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Reference10Ideal.lean ====
abbrev S8x2048 : Shape := ⟨2, ![8, 2048]⟩
abbrev S8x1024 : Shape := ⟨2, ![8, 1024]⟩
abbrev S8x3x1024 : Shape := ⟨3, ![8, 3, 1024]⟩
abbrev S1024 : Shape := ⟨1, ![1024]⟩
abbrev S8x128x128 : Shape := ⟨3, ![8, 128, 128]⟩
abbrev S8x128 : Shape := ⟨2, ![8, 128]⟩
abbrev S4x1024 : Shape := ⟨2, ![4, 1024]⟩
abbrev S_ : Shape := ⟨0, ![]⟩
abbrev S8 : Shape := ⟨1, ![8]⟩
abbrev S8x1 : Shape := ⟨2, ![8, 1]⟩
abbrev S1x1024 : Shape := ⟨2, ![1, 1024]⟩
abbrev S8x1x1x8x128 : Shape := ⟨5, ![8, 1, 1, 8, 128]⟩
abbrev S8x1x1 : Shape := ⟨3, ![8, 1, 1]⟩
abbrev S8x8x1x128x1 : Shape := ⟨5, ![8, 8, 1, 128, 1]⟩
abbrev S1x8 : Shape := ⟨2, ![1, 8]⟩
abbrev S1x1x1x8x1 : Shape := ⟨5, ![1, 1, 1, 8, 1]⟩
abbrev S8x1x1024 : Shape := ⟨3, ![8, 1, 1024]⟩
abbrev S8x4x1024 : Shape := ⟨3, ![8, 4, 1024]⟩
abbrev S8x8x128 : Shape := ⟨3, ![8, 8, 128]⟩
abbrev S8x128x8 : Shape := ⟨3, ![8, 128, 8]⟩

abbrev nBuf : Space → Nat
  | .hbm => 158
  | .vmem => 0
  | .smem => 0
  | _ => 0

abbrev hbmTy0_0 (i : Nat) : BufTy := match i % 128 with
  | 0 => ⟨S8x2048, .f32⟩
  | 1 => ⟨S8x1024, .f32⟩
  | 2 => ⟨S8x1024, .f32⟩
  | 3 => ⟨S8x1024, .f32⟩
  | 4 => ⟨S8x3x1024, .f32⟩
  | 5 => ⟨S8x1024, .f32⟩
  | 6 => ⟨S1024, .f32⟩
  | 7 => ⟨S1024, .f32⟩
  | 8 => ⟨S8x128x128, .f32⟩
  | 9 => ⟨S8x128, .f32⟩
  | 10 => ⟨S4x1024, .f32⟩
  | 11 => ⟨S1024, .f32⟩
  | 12 => ⟨S8x128x128, .f32⟩
  | 13 => ⟨S1024, .f32⟩
  | 14 => ⟨S8x128x128, .f32⟩
  | 15 => ⟨S1024, .f32⟩
  | 16 => ⟨S1024, .f32⟩
  | 17 => ⟨S8x1024, .f32⟩
  | 18 => ⟨S8x1024, .f32⟩
  | 19 => ⟨S_, .f32⟩
  | 20 => ⟨S8, .f32⟩
  | 21 => ⟨S8x1, .f32⟩
  | 22 => ⟨S_, .f32⟩
  | 23 => ⟨S8x1, .f32⟩
  | 24 => ⟨S8x1, .f32⟩
  | 25 => ⟨S8x1024, .f32⟩
  | 26 => ⟨S8x1024, .f32⟩
  | 27 => ⟨S8x1024, .f32⟩
  | 28 => ⟨S_, .f32⟩
  | 29 => ⟨S8, .f32⟩
  | 30 => ⟨S8x1, .f32⟩
  | 31 => ⟨S_, .f32⟩
  | 32 => ⟨S8x1, .f32⟩
  | 33 => ⟨S8x1, .f32⟩
  | 34 => ⟨S_, .f32⟩
  | 35 => ⟨S8x1, .f32⟩
  | 36 => ⟨S8x1, .f32⟩
  | 37 => ⟨S8x1, .f32⟩
  | 38 => ⟨S8x1024, .f32⟩
  | 39 => ⟨S8x1024, .f32⟩
  | 40 => ⟨S1x1024, .f32⟩
  | 41 => ⟨S8x1024, .f32⟩
  | 42 => ⟨S8x1024, .f32⟩
  | 43 => ⟨S1x1024, .f32⟩
  | 44 => ⟨S8x1024, .f32⟩
  | 45 => ⟨S8x1024, .f32⟩
  | 46 => ⟨S8x1x1x8x128, .f32⟩
  | 47 => ⟨S8x1x1, .f32⟩
  | 48 => ⟨S8x8x1x128x1, .f32⟩
  | 49 => ⟨S8x1x1x8x128, .f32⟩
  | 50 => ⟨S8x1, .f32⟩
  | 51 => ⟨S1x8, .f32⟩
  | 52 => ⟨S1x1x1x8x1, .f32⟩
  | 53 => ⟨S8x1x1x8x128, .f32⟩
  | 54 => ⟨S8x1x1x8x128, .f32⟩
  | 55 => ⟨S8x1024, .f32⟩
  | 56 => ⟨S8x1024, .f32⟩
  | 57 => ⟨S8x1024, .f32⟩
  | 58 => ⟨S8x1x1024, .f32⟩
  | 59 => ⟨S8x4x1024, .f32⟩
  | 60 => ⟨S8x1x1024, .f32⟩
  | 61 => ⟨S8x1024, .f32⟩
  | 62 => ⟨S1x1024, .f32⟩
  | 63 => ⟨S1024, .f32⟩
  | 64 => ⟨S1x1024, .f32⟩
  | 65 => ⟨S8x1024, .f32⟩
  | 66 => ⟨S8x1024, .f32⟩
  | 67 => ⟨S1x1024, .f32⟩
  | 68 => ⟨S8x1024, .f32⟩
  | 69 => ⟨S8x1024, .f32⟩
  | 70 => ⟨S8x1x1024, .f32⟩
  | 71 => ⟨S8x1024, .f32⟩
  | 72 => ⟨S1x1024, .f32⟩
  | 73 => ⟨S1024, .f32⟩
  | 74 => ⟨S1x1024, .f32⟩
  | 75 => ⟨S8x1024, .f32⟩
  | 76 => ⟨S8x1024, .f32⟩
  | 77 => ⟨S8x1024, .f32⟩
  | 78 => ⟨S8x1x1024, .f32⟩
  | 79 => ⟨S8x1024, .f32⟩
  | 80 => ⟨S1x1024, .f32⟩
  | 81 => ⟨S1024, .f32⟩
  | 82 => ⟨S1x1024, .f32⟩
  | 83 => ⟨S8x1024, .f32⟩
  | 84 => ⟨S8x1024, .f32⟩
  | 85 => ⟨S8x1024, .f32⟩
  | 86 => ⟨S8x1x1024, .f32⟩
  | 87 => ⟨S8x1024, .f32⟩
  | 88 => ⟨S1x1024, .f32⟩
  | 89 => ⟨S1024, .f32⟩
  | 90 => ⟨S1x1024, .f32⟩
  | 91 => ⟨S8x1024, .f32⟩
  | 92 => ⟨S8x1024, .f32⟩
  | 93 => ⟨S8x1024, .f32⟩
  | 94 => ⟨S8x8x128, .f32⟩
  | 95 => ⟨S8x128x8, .f32⟩
  | 96 => ⟨S8x8x128, .f32⟩
  | 97 => ⟨S8x1024, .f32⟩
  | 98 => ⟨S1x1024, .f32⟩
  | 99 => ⟨S8x1024, .f32⟩
  | 100 => ⟨S8x1024, .f32⟩
  | 101 => ⟨S8x1024, .f32⟩
  | 102 => ⟨S8x1024, .f32⟩
  | 103 => ⟨S_, .f32⟩
  | 104 => ⟨S8x1024, .f32⟩
  | 105 => ⟨S8x1024, .f32⟩
  | 106 => ⟨S_, .f32⟩
  | 107 => ⟨S8x1024, .f32⟩
  | 108 => ⟨S8x1024, .f32⟩
  | 109 => ⟨S8x128x8, .f32⟩
  | 110 => ⟨S8x8x128, .f32⟩
  | 111 => ⟨S8x1024, .f32⟩
  | 112 => ⟨S1x1024, .f32⟩
  | 113 => ⟨S8x1024, .f32⟩
  | 114 => ⟨S8x1024, .f32⟩
  | 115 => ⟨S8x1024, .f32⟩
  | 116 => ⟨S8x1024, .f32⟩
  | 117 => ⟨S_, .f32⟩
  | 118 => ⟨S8x1024, .f32⟩
  | 119 => ⟨S8x1024, .f32⟩
  | 120 => ⟨S_, .f32⟩
  | 121 => ⟨S8x1024, .f32⟩
  | 122 => ⟨S8x1024, .f32⟩
  | 123 => ⟨S_, .f32⟩
  | 124 => ⟨S8x1024, .f32⟩
  | 125 => ⟨S8x1024, .f32⟩
  | 126 => ⟨S1024, .f32⟩
  | 127 => ⟨S_, .f32⟩
  | _ => ⟨S8x2048, .f32⟩

abbrev hbmTy0_1 (i : Nat) : BufTy := match i % 128 with
  | 0 => ⟨S1024, .f32⟩
  | 1 => ⟨S1024, .f32⟩
  | 2 => ⟨S1024, .f32⟩
  | 3 => ⟨S1024, .f32⟩
  | 4 => ⟨S1024, .i1⟩
  | 5 => ⟨S1024, .f32⟩
  | 6 => ⟨S1024, .f32⟩
  | 7 => ⟨S1024, .f32⟩
  | 8 => ⟨S1024, .f32⟩
  | 9 => ⟨S1024, .f32⟩
  | 10 => ⟨S1024, .f32⟩
  | 11 => ⟨S1024, .f32⟩
  | 12 => ⟨S1024, .f32⟩
  | 13 => ⟨S1x1024, .f32⟩
  | 14 => ⟨S8x1024, .f32⟩
  | 15 => ⟨S8x1024, .f32⟩
  | 16 => ⟨S8x1024, .f32⟩
  | 17 => ⟨S8x1024, .f32⟩
  | 18 => ⟨S_, .f32⟩
  | 19 => ⟨S8x1024, .f32⟩
  | 20 => ⟨S8x1024, .f32⟩
  | 21 => ⟨S8x1024, .f32⟩
  | 22 => ⟨S8x1024, .f32⟩
  | 23 => ⟨S8x1024, .f32⟩
  | 24 => ⟨S8x1024, .f32⟩
  | 25 => ⟨S8x1024, .f32⟩
  | 26 => ⟨S8x1024, .f32⟩
  | 27 => ⟨S8x1024, .bf16⟩
  | 28 => ⟨S8x1024, .f32⟩
  | 29 => ⟨S8x1024, .bf16⟩
  | _ => ⟨S8x2048, .f32⟩

abbrev hbmTy (i : Nat) : BufTy := match i / 128 with
  | 0 => hbmTy0_0 i
  | 1 => hbmTy0_1 i
  | _ => ⟨S8x2048, .f32⟩

abbrev bufTy : (tb : Table) → Fin (tcTables nBuf tb) → BufTy
  | .hbm, ⟨i, _⟩ => hbmTy i
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_1 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_v11 : Ref sig .tc := ⟨.hbm, 32, rfl⟩
abbrev main_v12 : Ref sig .tc := ⟨.hbm, 33, rfl⟩
abbrev main_cst_3 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_cst_4 : Ref sig .tc := ⟨.hbm, 103, rfl⟩
abbrev main_v81 : Ref sig .tc := ⟨.hbm, 104, rfl⟩
abbrev main_v82 : Ref sig .tc := ⟨.hbm, 105, rfl⟩
abbrev main_cst_5 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_cst_6 : Ref sig .tc := ⟨.hbm, 117, rfl⟩
abbrev main_v93 : Ref sig .tc := ⟨.hbm, 118, rfl⟩
abbrev main_v94 : Ref sig .tc := ⟨.hbm, 119, rfl⟩
abbrev main_cst_7 : Ref sig .tc := ⟨.hbm, 120, rfl⟩
abbrev main_v95 : Ref sig .tc := ⟨.hbm, 121, rfl⟩
abbrev main_v96 : Ref sig .tc := ⟨.hbm, 122, rfl⟩
abbrev main_cst_8 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_call0_cst : Ref sig .tc := ⟨.hbm, 127, rfl⟩
abbrev main_call0_v0 : Ref sig .tc := ⟨.hbm, 128, rfl⟩
abbrev main_call0_v1 : Ref sig .tc := ⟨.hbm, 129, rfl⟩
abbrev main_call0_v2 : Ref sig .tc := ⟨.hbm, 130, rfl⟩
abbrev main_call0_v3 : Ref sig .tc := ⟨.hbm, 131, rfl⟩
abbrev main_call0_v4 : Ref sig .tc := ⟨.hbm, 132, rfl⟩
abbrev main_call0_v5 : Ref sig .tc := ⟨.hbm, 133, rfl⟩
abbrev main_call0_v6 : Ref sig .tc := ⟨.hbm, 134, rfl⟩
abbrev main_call0_v7 : Ref sig .tc := ⟨.hbm, 135, rfl⟩
abbrev main_call0_v8 : Ref sig .tc := ⟨.hbm, 136, rfl⟩
abbrev main_call0_v9 : Ref sig .tc := ⟨.hbm, 137, rfl⟩
abbrev main_call0_v10 : Ref sig .tc := ⟨.hbm, 138, rfl⟩
abbrev main_call0_v11 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_cst_9 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩

abbrev nD : Nat := 1
abbrev τ : Topo := Topo.v7x

variable {F : FTy → Type} [FloatOps F]
-- ==== Kernel11.lean ====
abbrev S8192x4096 : Shape := ⟨2, ![8192, 4096]⟩
abbrev S8x4096 : Shape := ⟨2, ![8, 4096]⟩
abbrev S4096x25088 : Shape := ⟨2, ![4096, 25088]⟩
abbrev S8192x128 : Shape := ⟨2, ![8192, 128]⟩
abbrev S8x128 : Shape := ⟨2, ![8, 128]⟩
abbrev S1024x4096 : Shape := ⟨2, ![1024, 4096]⟩
abbrev S4096x128 : Shape := ⟨2, ![4096, 128]⟩
abbrev S1024x128 : Shape := ⟨2, ![1024, 128]⟩

abbrev nBuf : Space → Nat
  | .hbm => 5
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S8x4096, .bf16⟩
  | .hbm, ⟨2, _⟩ => ⟨S4096x25088, .bf16⟩
  | .hbm, ⟨3, _⟩ => ⟨S8192x128, .f32⟩
  | .hbm, ⟨4, _⟩ => ⟨S8x128, .f32⟩
  | .local _ .vmem, ⟨0, _⟩ => ⟨S1024x4096, .bf16⟩
  | .local _ .vmem, ⟨1, _⟩ => ⟨S1024x4096, .bf16⟩
  | .local _ .vmem, ⟨2, _⟩ => ⟨S8x4096, .bf16⟩
  | .local _ .vmem, ⟨3, _⟩ => ⟨S4096x128, .bf16⟩
  | .local _ .vmem, ⟨4, _⟩ => ⟨S1024x128, .f32⟩
  | .local _ .vmem, ⟨5, _⟩ => ⟨S1024x128, .f32⟩
  | .local _ .vmem, ⟨6, _⟩ => ⟨S8x128, .f32⟩
  | .local _ .vmem, ⟨7, _⟩ => ⟨S8x128, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg0 : BitVec 32 := BitVec.ofNat 32 (i 0).val
  let c0_i32 : BitVec 32 := 0#32
  let v4 : BitVec 1 := Scalar.cmpi .eq arg0 c0_i32
  let v5 : BitVec 32 := Scalar.extui v4
  let c0_i32_5 : BitVec 32 := 0#32
  let v6 : BitVec 1 := Scalar.cmpi .ne v5 c0_i32_5
  v6

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![c0_i32_1.toNat, v1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S4096x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference11Ideal.lean ====
abbrev S8192x4096 : Shape := ⟨2, ![8192, 4096]⟩
abbrev S8x4096 : Shape := ⟨2, ![8, 4096]⟩
abbrev S4096x25088 : Shape := ⟨2, ![4096, 25088]⟩
abbrev S4096x128 : Shape := ⟨2, ![4096, 128]⟩
abbrev S8192x128 : Shape := ⟨2, ![8192, 128]⟩
abbrev S8x128 : Shape := ⟨2, ![8, 128]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8x4096, .bf16⟩
  | .hbm, ⟨2, _⟩ => ⟨S4096x25088, .bf16⟩
  | .hbm, ⟨3, _⟩ => ⟨S4096x128, .bf16⟩
  | .hbm, ⟨4, _⟩ => ⟨S4096x128, .f32⟩
  | .hbm, ⟨5, _⟩ => ⟨S8192x4096, .f32⟩
  | .hbm, ⟨6, _⟩ => ⟨S8192x128, .f32⟩
  | .hbm, ⟨7, _⟩ => ⟨S8x4096, .f32⟩
  | .hbm, ⟨8, _⟩ => ⟨S8x128, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8x4096 : Shape := ⟨2, ![8, 4096]⟩
abbrev S2x4096x4096 : Shape := ⟨3, ![2, 4096, 4096]⟩
abbrev S1x4096x512 : Shape := ⟨3, ![1, 4096, 512]⟩
abbrev S8x512 : Shape := ⟨2, ![8, 512]⟩
abbrev S4096x512 : Shape := ⟨2, ![4096, 512]⟩

abbrev nBuf : Space → Nat
  | .hbm => 5
  | .vmem => 7
  | .smem => 0
  | _ => 0

abbrev bufTy : (tb : Table) → Fin (tcTables nBuf tb) → BufTy
  | .hbm, ⟨0, _⟩ => ⟨S8x4096, .bf16⟩
  | .hbm, ⟨1, _⟩ => ⟨S2x4096x4096, .f32⟩
  | .hbm, ⟨2, _⟩ => ⟨S8x4096, .f32⟩
  | .hbm, ⟨3, _⟩ => ⟨S2x4096x4096, .bf16⟩
  | .hbm, ⟨4, _⟩ => ⟨S8x4096, .f32⟩
  | .local _ .vmem, ⟨0, _⟩ => ⟨S8x4096, .bf16⟩
  | .local _ .vmem, ⟨1, _⟩ => ⟨S1x4096x512, .bf16⟩
  | .local _ .vmem, ⟨2, _⟩ => ⟨S1x4096x512, .bf16⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | _, _ => ⟨S8x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S8x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference12Ideal.lean ====
abbrev S8x4096 : Shape := ⟨2, ![8, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8x4096, .bf16⟩
  | .hbm, ⟨1, _⟩ => ⟨S2x4096x4096, .f32⟩
  | .hbm, ⟨2, _⟩ => ⟨S8x4096, .f32⟩
  | .hbm, ⟨3, _⟩ => ⟨S8x4096, .f32⟩
  | .hbm, ⟨4, _⟩ => ⟨S1x4096x4096, .f32⟩
  | .hbm, ⟨5, _⟩ => ⟨S4096x4096, .f32⟩
  | .hbm, ⟨6, _⟩ => ⟨S8x4096, .f32⟩
  | .hbm, ⟨7, _⟩ => ⟨S8x4096, .f32⟩
  | _, _ => ⟨S8x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.QRun.lean ====
/- The query columns of the input projection: the run of the kernel, with the contents of both outputs. -/
module

public import proofs.«01_k».proof.Proof.Gen.Kernel7Ideal.Frame
public import Idealize.ShloMosaic.Lib.Pipeline.FrameBody
public import Idealize.ShloMosaic.Lib.Claim
public import proofs.«01_k».proof.Proof.Gen.Kernel7Ideal.Skeleton
public import Idealize.ShloMosaic.Lib.Tactic
public import Idealize.ShloMosaic.Lib.Ring
public import Idealize.ShloMosaic.Lib.WordCmp

@[expose] public section

set_option maxRecDepth 16384

noncomputable section

namespace Cert.Kernel7Ideal.Run

open Cert.Kernel7Ideal Cert.Kernel7Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rh : Rect S1024x4096 := Rect.unit (s := S1024x4096) ![0, 0] S1024x4096.size inb_S1024x4096_S1024x4096_0_0
abbrev rs : Rect S8x4096 := Rect.unit (s := S8x4096) ![0, 0] S8x4096.size inb_S8x4096_S8x4096_0_0
abbrev rw : Rect S4096x512 := Rect.unit (s := S4096x512) ![0, 0] S4096x512.size inb_S4096x512_S4096x512_0_0
abbrev ro : Rect S1024x512 := Rect.unit (s := S1024x512) ![0, 0] S1024x512.size inb_S1024x512_S1024x512_0_0
abbrev rt : Rect S8x512 := Rect.unit (s := S8x512) ![0, 0] S8x512.size inb_S8x512_S8x512_0_0
abbrev rg0 : Rect S1x512 := Rect.unit (s := S1x512) ![0, 0] S1x128.size inb_S1x512_S1x128_0_0
abbrev rg1 : Rect S1x512 := Rect.unit (s := S1x512) ![0, 128] S1x128.size inb_S1x512_S1x128_0_128
abbrev rg2 : Rect S1x512 := Rect.unit (s := S1x512) ![0, 256] S1x128.size inb_S1x512_S1x128_0_256
abbrev rg3 : Rect S1x512 := Rect.unit (s := S1x512) ![0, 384] S1x128.size inb_S1x512_S1x128_0_384

/-- The sample rows are handled in the first row of the grid. -/
theorem hcond : ∀ t : Fin cfg0.N, k0_cond1 (grid0.coords t) = 1#1 ↔ t.val < 4 :=
  (by decide +kernel : ∀ t : Fin grid0.N, k0_cond1 (grid0.coords t) = 1#1 ↔ t.val < 4)

/-- The prompt block the body stores. -/
def outP (x0 : Vec F S1024x4096 .bf16) (x1 : Vec F S8x4096 .bf16) (x2 : Vec F S4096x512 .bf16) (x3 : Vec F S1x512 .f32) (x4 : Vec F S1x512 .f32) : Vec F S1024x512 .bf16 := View.canon [⟨ro, k0_pay1 (k0_pay14 (View.ld x2 rw) (View.ld x0 rh) (View.ld x3 rg0) (View.ld x4 rg0)) (k0_pay17 (k0_pay15 (View.ld x2 rw) (View.ld x0 rh)) (k0_pay16 (View.ld x2 rw) (View.ld x0 rh) (View.ld x3 rg1)) (View.ld x4 rg1)) (k0_pay18 (k0_pay13 (View.ld x2 rw) (View.ld x0 rh)) (View.ld x3 rg2) (View.ld x4 rg2)) (k0_pay19 (k0_pay13 (View.ld x2 rw) (View.ld x0 rh))) (k0_pay20 (k0_pay13 (View.ld x2 rw) (View.ld x0 rh)) (View.ld x3 rg3)) (View.ld x4 rg3)⟩]

theorem coverP (p : Vec F S1024x512 .bf16) (y : S1024x512.Idx) :
    ∃ pc ∈ ([⟨ro, p⟩] : List (View.Piece (Elt F) S1024x512 .bf16)), y ∈ pc.1.set :=
  View.cover_of_tiled [⟨ro, p⟩] S1024x512.size (by rfl) y

/-- The sample block the body stores. -/
def outS (x0 : Vec F S1024x4096 .bf16) (x1 : Vec F S8x4096 .bf16) (x2 : Vec F S4096x512 .bf16) (x3 : Vec F S1x512 .f32) (x4 : Vec F S1x512 .f32) : Vec F S8x512 .f32 := View.canon [⟨rt, k0_pay2 (k0_pay4 (View.ld x2 rw) (View.ld x1 rs) (View.ld x3 rg0) (View.ld x4 rg0)) (k0_pay8 (k0_pay5 (View.ld x2 rw) (View.ld x1 rs)) (k0_pay6 (View.ld x2 rw) (View.ld x1 rs) (View.ld x3 rg1)) (k0_pay7 (View.ld x4 rg1)) (Scalar.ofBits .f32 0x3F000000#32)) (k0_pay9 (k0_pay3 (View.ld x2 rw) (View.ld x1 rs)) (View.ld x3 rg2) (View.ld x4 rg2)) (k0_pay10 (k0_pay3 (View.ld x2 rw) (View.ld x1 rs))) (k0_pay11 (k0_pay3 (View.ld x2 rw) (View.ld x1 rs)) (View.ld x3 rg3)) (k0_pay12 (View.ld x4 rg3)) (Scalar.ofBits .f32 0x3F000000#32)⟩]

theorem coverS (p : Vec F S8x512 .f32) (y : S8x512.Idx) :
    ∃ pc ∈ ([⟨rt, p⟩] : List (View.Piece (Elt F) S8x512 .f32)), y ∈ pc.1.set :=
  View.cover_of_tiled [⟨rt, p⟩] S8x512.size (by rfl) y

set_option maxHeartbeats 4000000 in
/-- The body in the first row of the grid: both outputs stored. -/
theorem triple_first (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x512 .f32) (harg8 : arg8.IsWhole) (hc0 : k0_cond1 i = 1#1)
    (x0 : Vec F S1024x4096 .bf16) (x1 : Vec F S8x4096 .bf16) (x2 : Vec F S4096x512 .bf16) (x3 : Vec F S1x512 .f32) (x4 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outP x0 x1 x2 x3 x4) ∗ owns (c : Thread nD τ) arg8 fullShare (outS x0 x1 x2 x3 x4)) -∗ K ⟨⟩))
      ⊢ wp frame (wpE (defs₀ (F := F)) Variants.none c none) E (cc0_proj_norm i arg2 harg2 arg3 harg3 arg4 harg4 arg5 harg5 arg6 harg6 arg7 harg7 arg8 harg8) K := by
  simp only [cc0_proj_norm_eq_skeleton, k0_part1_eq_skeleton, k0_part2_eq_skeleton, k0_part3_eq_skeleton, k0_part4_eq_skeleton]; unfold cc0_proj_norm_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP _)
  iexists _; isplitr
  swap; · iexact H6
  ipureintro
  exact View.read_writes_eq_canon _ _ _ (coverS _)

set_option maxHeartbeats 4000000 in
/-- The body past the first row: the prompt output stored, the sample output left as it was. -/
theorem triple_rest (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .bf16) (harg7 : arg7.IsWhole) (arg8 : Memref sig .tc .vmem S8x512 .f32) (harg8 : arg8.IsWhole) (hc0 : ¬ k0_cond1 i = 1#1)
    (x0 : Vec F S1024x4096 .bf16) (x1 : Vec F S8x4096 .bf16) (x2 : Vec F S4096x512 .bf16) (x3 : Vec F S1x512 .f32) (x4 : Vec F S1x512 .f32) (y : Vec F S8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outP x0 x1 x2 x3 x4) ∗ owns (c : Thread nD τ) arg8 fullShare y) -∗ K ⟨⟩))
      ⊢ wp frame (wpE (defs₀ (F := F)) Variants.none c none) E (cc0_proj_norm i arg2 harg2 arg3 harg3 arg4 harg4 arg5 harg5 arg6 harg6 arg7 harg7 arg8 harg8) K := by
  simp only [cc0_proj_norm_eq_skeleton, k0_part1_eq_skeleton, k0_part2_eq_skeleton, k0_part3_eq_skeleton, k0_part4_eq_skeleton]; unfold cc0_proj_norm_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf0 hf1 hf2 hf3 hf4 hf6
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP _)
  iexists f6; isplitr; · ipureintro; rfl
  iexact H6

/-- The point whose contents the sample window holds at point `t`: itself in the first row of the grid, the row's
    last one after it. -/
def held (t : Fin cfg0.N) : Fin cfg0.N := if t.val < 4 then t else ⟨3, by rw [show cfg0.N = 32 from N_0]; decide⟩

/-- Arrays as the region finds them; after point `t` an input's buffer at its block, the prompt outputs at the body's
    results on the blocks of `t`, the sample output at the body's result at the point it was last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outP  (iblk m c 0 t) (iblk m c 1 t) (iblk m c 2 t) (iblk m c 3 t) (iblk m c 4 t)
    | ⟨6, _⟩ => outS  (iblk m c 0 (held t)) (iblk m c 1 (held t)) (iblk m c 2 (held t)) (iblk m c 3 (held t)) (iblk m c 4 (held t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outP  (iblk m c 0 t) (iblk m c 1 t) (iblk m c 2 t) (iblk m c 3 t) (iblk m c 4 t) := by dsimp only [dats]
theorem after0_6 (c : Dev nD) (t : Fin cfg0.N) : (dats m 0 c).after 6 t = outS  (iblk m c 0 (held t)) (iblk m c 1 (held t)) (iblk m c 2 (held t)) (iblk m c 3 (held t)) (iblk m c 4 (held t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Where the sample window is written back: along the first row of the grid but for its last point, and at the end. -/
theorem flush_side : ∀ t : Fin cfg0.N, (cfg0.win 6).flush t = true ↔ (t.val < 3 ∨ t.val = 31) :=
  (by decide +kernel : ∀ t : Fin grid0.N, win0_6.flush t = true ↔ (t.val < 3 ∨ t.val = 31))

theorem idle_side : ∀ t : Fin cfg0.N, cfg0.idle 6 (grid0.coords t) = decide (4 ≤ t.val) :=
  (by decide +kernel : ∀ t : Fin grid0.N, idle0 6 (grid0.coords t) = decide (4 ≤ t.val))

theorem fetch_side (t : Fin cfg0.N) : (cfg0.win 6).fetch t = false := by
  unfold Pipeline.Window.fetch; rfl

/-- Past the first row the sample window's buffer holds what the row's last point stored. -/
theorem before_side (c : Dev nD) : ∀ (k : ℕ) (t : Fin cfg0.N), t.val = 4 + k → ∀ d, (dats m 0 c).before 6 t d = (dats m 0 c).after 6 t := by
  intro k
  induction k with
  | zero =>
    intro t ht d
    rw [(dats m 0 c).before_of_pos 6 t (by omega) (fetch_side t) d]
    have hf : (cfg0.win 6).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (4 ≤ t.val - 1) = false from by simp; omega]
    show (dats m 0 c).after 6 _ = _
    rw [after0_6, after0_6]
    have e : held (⟨t.val - 1, by have := t.isLt; omega⟩ : Fin cfg0.N) = held t := by
      unfold held; rw [if_pos (by simp only []; omega), if_neg (by omega)]; apply Fin.ext; simp only []; omega
    rw [e]
  | succ k ih =>
    intro t ht d
    have hN : t.val < 32 := lt_of_lt_of_eq t.isLt (show cfg0.N = 32 from N_0)
    rw [(dats m 0 c).before_of_pos 6 t (by omega) (fetch_side t) d]
    have hf : (cfg0.win 6).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (4 ≤ t.val - 1) = true from by simp; omega]
    show (dats m 0 c).before 6 _ d = _
    rw [ih _ (by simp only []; omega) d, after0_6, after0_6]
    have e : held (⟨t.val - 1, by have := t.isLt; omega⟩ : Fin cfg0.N) = held t := by
      unfold held; rw [if_neg (by simp only []; omega), if_neg (by omega)]
    rw [e]

theorem leaves_side_live (c : Dev nD) (t : Fin cfg0.N) (h : t.val < 4) :
    (dats m 0 c).leavesExact 6 t = owns (c : Thread nD τ) (st0_6 t) fullShare ((dats m 0 c).after 6 t) := by
  unfold Dat.leavesExact; rw [idle_side, show decide (4 ≤ t.val) = false from by simp; omega]

/-- What is to be handed back of the sample window past the first row: its buffer as found. -/
theorem leaves_side_idle (c : Dev nD) (t : Fin cfg0.N) (h : ¬ t.val < 4) :
    owns (c : Thread nD τ) (st0_6 t) fullShare ((dats m 0 c).after 6 t) ⊢ (dats m 0 c).leavesExact 6 t := by
  unfold Dat.leavesExact; rw [idle_side, show decide (4 ≤ t.val) = true from by simp; omega]
  cases hf : (cfg0.win 6).flush t
  · dsimp only
    rw [← before_side m c (t.val - 4) t (by omega) ((dats m 0 c).after 6 t)]
    iintro H; iexists _; iexact H
  · exact .rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point, by the cases of its conditions. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 32 := lt_of_lt_of_eq t.isLt (show cfg0.N = 32 from N_0)
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (outP  (iblk m c 0 t) (iblk m c 1 t) (iblk m c 2 t) (iblk m c 3 t) (iblk m c 4 t)) from rfl]
  by_cases h0 : t.val < 4
  · rw [leaves_side_live m c t h0, after0_6, show held t = t from if_pos h0]
    iintro ⟨HΦ, Ho, ⟨%d0, H0⟩, ⟨%d1, H1⟩, ⟨%d2, H2⟩, ⟨%d3, H3⟩, ⟨%d4, H4⟩, ⟨%d5, H5⟩, ⟨%d6, H6⟩⟩
    iapply (triple_first c Set.univ (grid0.coords t) _ _ _ _ _ _ _ _ _ _ _ _ _ _ ((hcond t).mpr h0) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · iintro ⟨HΦ, Ho, ⟨%d0, H0⟩, ⟨%d1, H1⟩, ⟨%d2, H2⟩, ⟨%d3, H3⟩, ⟨%d4, H4⟩, ⟨%d5, H5⟩, ⟨%d6, H6⟩⟩
    iapply (triple_rest c Set.univ (grid0.coords t) _ _ _ _ _ _ _ _ _ _ _ _ _ _ (fun h => h0 ((hcond t).mp h)) (iblk m c 0 t) (iblk m c 1 t) (iblk m c 2 t) (iblk m c 3 t) (iblk m c 4 t) ((dats m 0 c).before 6 t d6) _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    rw [before_side m c (t.val - 4) t (by omega)]
    iapply (leaves_side_idle m c t h0); iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every fair execution ends, with every array of the pipeline at what the proof data compute and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel7Ideal.Run

end
-- ==== Proof.GmRun.lean ====
/- The gating columns of the input projection: the run of the kernel, with the contents of both outputs. -/
module

public import proofs.«01_k».proof.Proof.Gen.Kernel4Ideal.Frame
public import Idealize.ShloMosaic.Lib.Pipeline.FrameBody
public import Idealize.ShloMosaic.Lib.Claim
public import proofs.«01_k».proof.Proof.Gen.Kernel4Ideal.Skeleton
public import Idealize.ShloMosaic.Lib.Tactic
public import Idealize.ShloMosaic.Lib.Ring
public import Idealize.ShloMosaic.Lib.WordCmp

@[expose] public section

set_option maxRecDepth 16384

noncomputable section

namespace Cert.Kernel4Ideal.Run

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rh : Rect S1024x4096 := Rect.unit (s := S1024x4096) ![0, 0] S1024x4096.size inb_S1024x4096_S1024x4096_0_0
abbrev rs : Rect S8x4096 := Rect.unit (s := S8x4096) ![0, 0] S8x4096.size inb_S8x4096_S8x4096_0_0
abbrev rw : Rect S4096x512 := Rect.unit (s := S4096x512) ![0, 0] S4096x512.size inb_S4096x512_S4096x512_0_0
abbrev ro : Rect S1024x512 := Rect.unit (s := S1024x512) ![0, 0] S1024x512.size inb_S1024x512_S1024x512_0_0
abbrev rt : Rect S8x512 := Rect.unit (s := S8x512) ![0, 0] S8x512.size inb_S8x512_S8x512_0_0

/-- The sample rows are handled in the first row of the grid. -/
theorem hcond : ∀ t : Fin cfg0.N, k0_cond1 (grid0.coords t) = 1#1 ↔ t.val < 24 :=
  (by decide +kernel : ∀ t : Fin grid0.N, k0_cond1 (grid0.coords t) = 1#1 ↔ t.val < 24)

/-- The prompt block the body stores. -/
def outP (x0 : Vec F S1024x4096 .bf16) (x1 : Vec F S8x4096 .bf16) (x2 : Vec F S4096x512 .bf16) : Vec F S1024x512 .bf16 := View.canon [⟨ro, k0_pay1 (View.ld x2 rw) (View.ld x0 rh)⟩]

theorem coverP (p : Vec F S1024x512 .bf16) (y : S1024x512.Idx) :
    ∃ pc ∈ ([⟨ro, p⟩] : List (View.Piece (Elt F) S1024x512 .bf16)), y ∈ pc.1.set :=
  View.cover_of_tiled [⟨ro, p⟩] S1024x512.size (by rfl) y

/-- The sample block the body stores. -/
def outS (x0 : Vec F S1024x4096 .bf16) (x1 : Vec F S8x4096 .bf16) (x2 : Vec F S4096x512 .bf16) : Vec F S8x512 .bf16 := View.canon [⟨rt, k0_pay2 (View.ld x2 rw) (View.ld x1 rs)⟩]

theorem coverS (p : Vec F S8x512 .bf16) (y : S8x512.Idx) :
    ∃ pc ∈ ([⟨rt, p⟩] : List (View.Piece (Elt F) S8x512 .bf16)), y ∈ pc.1.set :=
  View.cover_of_tiled [⟨rt, p⟩] S8x512.size (by rfl) y

set_option maxHeartbeats 4000000 in
/-- The body in the first row of the grid: both outputs stored. -/
theorem triple_first (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .bf16) (harg5 : arg5.IsWhole) (arg6 : Memref sig .tc .vmem S8x512 .bf16) (harg6 : arg6.IsWhole) (hc0 : k0_cond1 i = 1#1)
    (x0 : Vec F S1024x4096 .bf16) (x1 : Vec F S8x4096 .bf16) (x2 : Vec F S4096x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outP x0 x1 x2) ∗ owns (c : Thread nD τ) arg6 fullShare (outS x0 x1 x2)) -∗ K ⟨⟩))
      ⊢ wp frame (wpE (defs₀ (F := F)) Variants.none c none) E (cc0_proj_sigmoid i arg2 harg2 arg3 harg3 arg4 harg4 arg5 harg5 arg6 harg6) K := by
  simp only [cc0_proj_sigmoid_eq_skeleton]; unfold cc0_proj_sigmoid_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists _; isplitr
  swap; · iexact H4
  ipureintro
  exact View.read_writes_eq_canon _ _ _ (coverS _)

set_option maxHeartbeats 4000000 in
/-- The body past the first row: the prompt output stored, the sample output left as it was. -/
theorem triple_rest (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .bf16) (harg5 : arg5.IsWhole) (arg6 : Memref sig .tc .vmem S8x512 .bf16) (harg6 : arg6.IsWhole) (hc0 : ¬ k0_cond1 i = 1#1)
    (x0 : Vec F S1024x4096 .bf16) (x1 : Vec F S8x4096 .bf16) (x2 : Vec F S4096x512 .bf16) (y : Vec F S8x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (outP x0 x1 x2) ∗ owns (c : Thread nD τ) arg6 fullShare y) -∗ K ⟨⟩))
      ⊢ wp frame (wpE (defs₀ (F := F)) Variants.none c none) E (cc0_proj_sigmoid i arg2 harg2 arg3 harg3 arg4 harg4 arg5 harg5 arg6 harg6) K := by
  simp only [cc0_proj_sigmoid_eq_skeleton]; unfold cc0_proj_sigmoid_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists f4; isplitr; · ipureintro; rfl
  iexact H4

/-- The point whose contents the sample window holds at point `t`: itself in the first row of the grid, the row's
    last one after it. -/
def held (t : Fin cfg0.N) : Fin cfg0.N := if t.val < 24 then t else ⟨23, by rw [show cfg0.N = 192 from N_0]; decide⟩

/-- Arrays as the region finds them; after point `t` an input's buffer at its block, the prompt outputs at the body's
    results on the blocks of `t`, the sample output at the body's result at the point it was last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP  (iblk m c 0 t) (iblk m c 1 t) (iblk m c 2 t)
    | ⟨4, _⟩ => outS  (iblk m c 0 (held t)) (iblk m c 1 (held t)) (iblk m c 2 (held t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outP  (iblk m c 0 t) (iblk m c 1 t) (iblk m c 2 t) := by dsimp only [dats]
theorem after0_4 (c : Dev nD) (t : Fin cfg0.N) : (dats m 0 c).after 4 t = outS  (iblk m c 0 (held t)) (iblk m c 1 (held t)) (iblk m c 2 (held t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the sample window is written back: along the first row of the grid but for its last point, and at the end. -/
theorem flush_side : ∀ t : Fin cfg0.N, (cfg0.win 4).flush t = true ↔ (t.val < 23 ∨ t.val = 191) :=
  (by decide +kernel : ∀ t : Fin grid0.N, win0_4.flush t = true ↔ (t.val < 23 ∨ t.val = 191))

theorem idle_side : ∀ t : Fin cfg0.N, cfg0.idle 4 (grid0.coords t) = decide (24 ≤ t.val) :=
  (by decide +kernel : ∀ t : Fin grid0.N, idle0 4 (grid0.coords t) = decide (24 ≤ t.val))

theorem fetch_side (t : Fin cfg0.N) : (cfg0.win 4).fetch t = false := by
  unfold Pipeline.Window.fetch; rfl

/-- Past the first row the sample window's buffer holds what the row's last point stored. -/
theorem before_side (c : Dev nD) : ∀ (k : ℕ) (t : Fin cfg0.N), t.val = 24 + k → ∀ d, (dats m 0 c).before 4 t d = (dats m 0 c).after 4 t := by
  intro k
  induction k with
  | zero =>
    intro t ht d
    rw [(dats m 0 c).before_of_pos 4 t (by omega) (fetch_side t) d]
    have hf : (cfg0.win 4).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (24 ≤ t.val - 1) = false from by simp; omega]
    show (dats m 0 c).after 4 _ = _
    rw [after0_4, after0_4]
    have e : held (⟨t.val - 1, by have := t.isLt; omega⟩ : Fin cfg0.N) = held t := by
      unfold held; rw [if_pos (by simp only []; omega), if_neg (by omega)]; apply Fin.ext; simp only []; omega
    rw [e]
  | succ k ih =>
    intro t ht d
    have hN : t.val < 192 := lt_of_lt_of_eq t.isLt (show cfg0.N = 192 from N_0)
    rw [(dats m 0 c).before_of_pos 4 t (by omega) (fetch_side t) d]
    have hf : (cfg0.win 4).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (24 ≤ t.val - 1) = true from by simp; omega]
    show (dats m 0 c).before 4 _ d = _
    rw [ih _ (by simp only []; omega) d, after0_4, after0_4]
    have e : held (⟨t.val - 1, by have := t.isLt; omega⟩ : Fin cfg0.N) = held t := by
      unfold held; rw [if_neg (by simp only []; omega), if_neg (by omega)]
    rw [e]

theorem leaves_side_live (c : Dev nD) (t : Fin cfg0.N) (h : t.val < 24) :
    (dats m 0 c).leavesExact 4 t = owns (c : Thread nD τ) (st0_4 t) fullShare ((dats m 0 c).after 4 t) := by
  unfold Dat.leavesExact; rw [idle_side, show decide (24 ≤ t.val) = false from by simp; omega]

/-- What is to be handed back of the sample window past the first row: its buffer as found. -/
theorem leaves_side_idle (c : Dev nD) (t : Fin cfg0.N) (h : ¬ t.val < 24) :
    owns (c : Thread nD τ) (st0_4 t) fullShare ((dats m 0 c).after 4 t) ⊢ (dats m 0 c).leavesExact 4 t := by
  unfold Dat.leavesExact; rw [idle_side, show decide (24 ≤ t.val) = true from by simp; omega]
  cases hf : (cfg0.win 4).flush t
  · dsimp only
    rw [← before_side m c (t.val - 24) t (by omega) ((dats m 0 c).after 4 t)]
    iintro H; iexists _; iexact H
  · exact .rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at any point, by the cases of its conditions. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 192 := lt_of_lt_of_eq t.isLt (show cfg0.N = 192 from N_0)
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (outP  (iblk m c 0 t) (iblk m c 1 t) (iblk m c 2 t)) from rfl]
  by_cases h0 : t.val < 24
  · rw [leaves_side_live m c t h0, after0_4, show held t = t from if_pos h0]
    iintro ⟨HΦ, Ho, ⟨%d0, H0⟩, ⟨%d1, H1⟩, ⟨%d2, H2⟩, ⟨%d3, H3⟩, ⟨%d4, H4⟩⟩
    iapply (triple_first c Set.univ (grid0.coords t) _ _ _ _ _ _ _ _ _ _ ((hcond t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · iintro ⟨HΦ, Ho, ⟨%d0, H0⟩, ⟨%d1, H1⟩, ⟨%d2, H2⟩, ⟨%d3, H3⟩, ⟨%d4, H4⟩⟩
    iapply (triple_rest c Set.univ (grid0.coords t) _ _ _ _ _ _ _ _ _ _ (fun h => h0 ((hcond t).mp h)) (iblk m c 0 t) (iblk m c 1 t) (iblk m c 2 t) ((dats m 0 c).before 4 t d4) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    rw [before_side m c (t.val - 24) t (by omega)]
    iapply (leaves_side_idle m c t h0); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every fair execution ends, with every array of the pipeline at what the proof data compute and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel4Ideal.Run

end
-- ==== Proof.GmValue.lean ====
/- The gating columns of the input projection: the stored blocks are the blocks of the sigmoid of the product with those columns. -/
module

public import proofs.«01_k».proof.Proof.Gen.Kernel4Ideal.Frame
public import proofs.«01_k».proof.Proof.Gen.Reference4Ideal
public import Idealize.ShloMosaic.Lib.Pipeline.ValueKit
public import Idealize.ShloMosaic.Lib.StableHlo.Run
public import proofs.«01_k».proof.Proof.GmRun

@[expose] public section

set_option maxRecDepth 16384

noncomputable section

open Idealize.ShloMosaic Idealize.ShloMosaic.TcCoe Idealize.SL.Sem
open Idealize.ShloMosaic.Pipeline (Dat)
open scoped BigOperators

namespace Cert.Kernel4Ideal.Value

open Cert.Kernel4Ideal Cert.Kernel4Ideal.Gen Cert.Kernel4Ideal.Run

variable (m : (ℓ : Loc nD τ sig) → Buf (Elt Ideal) ℓ)

/-- The prompt rows' sigmoid of the product with the gating columns, as the reference writes it. -/
abbrev target (h : FVec Ideal Cert.Reference4Ideal.S8192x4096 .bf16) (hs : FVec Ideal Cert.Reference4Ideal.S8x4096 .bf16) (w : FVec Ideal Cert.Reference4Ideal.S4096x25088 .bf16) : FVec Ideal Cert.Reference4Ideal.S8192x12288 .bf16 :=
    (truncf .bf16 (Host.divf (broadcastInDim Cert.Reference4Ideal.S8192x12288 ![] Cert.Reference4Ideal.Gen.bcast_S_S8192x12288 (constant
    Cert.Reference4Ideal.S_ .f32 0x3F800000#32)) (addf (broadcastInDim Cert.Reference4Ideal.S8192x12288 ![]
    Cert.Reference4Ideal.Gen.bcast_S_S8192x12288 (constant Cert.Reference4Ideal.S_ .f32 0x3F800000#32)) (Host.exp (Host.negf (Host.dotGeneral
    Cert.Reference4Ideal.dot_S8192x4096_S4096x12288_S8192x12288_1_0_0_1_n_n none (extf .f32 h Cert.Reference4Ideal.Gen.bitsLt_bf16_f32) (extf .f32
    (extractStridedSlice Cert.Reference4Ideal.S4096x12288 ![0, 12800] w Cert.Reference4Ideal.Gen.slices_S4096x25088_S4096x12288_0_12800)
    Cert.Reference4Ideal.Gen.bitsLt_bf16_f32)))))) Cert.Reference4Ideal.Gen.bitsLt_bf16_f32)

/-- The same of the sample rows. -/
abbrev targetS (h : FVec Ideal Cert.Reference4Ideal.S8192x4096 .bf16) (hs : FVec Ideal Cert.Reference4Ideal.S8x4096 .bf16) (w : FVec Ideal Cert.Reference4Ideal.S4096x25088 .bf16) : FVec Ideal Cert.Reference4Ideal.S8x12288 .bf16 :=
    (truncf .bf16 (Host.divf (broadcastInDim Cert.Reference4Ideal.S8x12288 ![] Cert.Reference4Ideal.Gen.bcast_S_S8x12288 (constant
    Cert.Reference4Ideal.S_ .f32 0x3F800000#32)) (addf (broadcastInDim Cert.Reference4Ideal.S8x12288 ![] Cert.Reference4Ideal.Gen.bcast_S_S8x12288
    (constant Cert.Reference4Ideal.S_ .f32 0x3F800000#32)) (Host.exp (Host.negf (Host.dotGeneral
    Cert.Reference4Ideal.dot_S8x4096_S4096x12288_S8x12288_1_0_0_1_n_n none (extf .f32 hs Cert.Reference4Ideal.Gen.bitsLt_bf16_f32) (extf .f32
    (extractStridedSlice Cert.Reference4Ideal.S4096x12288 ![0, 12800] w Cert.Reference4Ideal.Gen.slices_S4096x25088_S4096x12288_0_12800)
    Cert.Reference4Ideal.Gen.bitsLt_bf16_f32)))))) Cert.Reference4Ideal.Gen.bitsLt_bf16_f32)

/-- Where each window's block lies at a point: row block `t / 24`, column block `t % 24`, the weight's columns from
    block 25 on; the sample output stays at its last column block past the first row of the grid. -/
theorem tiles : ∀ t : Fin cfg0.N, win0_0.index t = ![t.val / 24, 0] ∧ win0_1.index t = ![0, 0]
    ∧ win0_2.index t = ![0, 25 + t.val % 24] ∧ win0_3.index t = ![t.val / 24, t.val % 24]
    ∧ win0_4.index t = ![0, (held t).val] ∧ (held t).val < 24 :=
  (by decide +kernel : ∀ t : Fin grid0.N, _)

theorem held_mod (t : Fin cfg0.N) : (held t).val % 24 = (held t).val := Nat.mod_eq_of_lt (tiles t).2.2.2.2.2

/-- One stored prompt element is the target's at the place its block puts it. -/
theorem at_prompt (c : Dev nD) (t : Fin cfg0.N) (y) : k0_pay1 (iblk m c 2 t) (iblk m c 0 t) y
    = target (m ((c : Thread nD τ).loc main_arg0)) (m ((c : Thread nD τ).loc main_arg1)) (m ((c : Thread nD τ).loc main_arg2)) (((cfg0.win 3).blk t).view.emb y) := by
  pointwise [k0_pay1, target, zero_sub]
  blk_point [iblk, V, tiles t]

/-- One stored sample element likewise. -/
theorem at_sample (c : Dev nD) (t : Fin cfg0.N) (y) : k0_pay2 (iblk m c 2 (held t)) (iblk m c 1 (held t)) y
    = targetS (m ((c : Thread nD τ).loc main_arg0)) (m ((c : Thread nD τ).loc main_arg1)) (m ((c : Thread nD τ).loc main_arg2)) (((cfg0.win 4).blk t).view.emb y) := by
  pointwise [k0_pay2, targetS, zero_sub]
  blk_point [iblk, V, tiles t, tiles (held t), held_mod t]

/-- The prompt output is the target: the blocks cover it. -/
theorem result (c : Dev nD) : (Run.dats m 0 c).arrAt 3 (cfgs 0).N = target (m ((c : Thread nD τ).loc main_arg0)) (m ((c : Thread nD τ).loc main_arg1)) (m ((c : Thread nD τ).loc main_arg2)) := by
  refine (Run.dats m 0 c).arrAt_eq_of_covers 3 _ (by decide +kernel) fun t _ y => ?_
  blk_simp
  rw [after0_3]; unfold outP
  rw [View.canon_unit_zero (by decide), View.ld_unit_zero (by decide), View.ld_unit_zero (by decide)]
  exact at_prompt m c t y

/-- The sample output is the target: the blocks of the first row of the grid cover it. -/
theorem resultS (c : Dev nD) : (Run.dats m 0 c).arrAt 4 (cfgs 0).N = targetS (m ((c : Thread nD τ).loc main_arg0)) (m ((c : Thread nD τ).loc main_arg1)) (m ((c : Thread nD τ).loc main_arg2)) := by
  refine (Run.dats m 0 c).arrAt_eq_of_covers 4 _ (by decide +kernel) fun t _ y => ?_
  blk_simp
  rw [after0_4]; unfold outS
  rw [View.canon_unit_zero (by decide), View.ld_unit_zero (by decide), View.ld_unit_zero (by decide)]
  exact at_sample m c t y

end Cert.Kernel4Ideal.Value

end
-- ==== Proof.GnRun.lean ====
/- The columns of the attention gates in the input projection: the run of the kernel, with the contents of both outputs. -/
module

public import proofs.«01_k».proof.Proof.Gen.Kernel11Ideal.Frame
public import Idealize.ShloMosaic.Lib.Pipeline.FrameBody
public import Idealize.ShloMosaic.Lib.Claim
public import proofs.«01_k».proof.Proof.Gen.Kernel11Ideal.Skeleton
public import Idealize.ShloMosaic.Lib.Tactic
public import Idealize.ShloMosaic.Lib.Ring
public import Idealize.ShloMosaic.Lib.WordCmp

@[expose] public section

set_option maxRecDepth 16384

noncomputable section

namespace Cert.Kernel11Ideal.Run

open Cert.Kernel11Ideal Cert.Kernel11Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rh : Rect S1024x4096 := Rect.unit (s := S1024x4096) ![0, 0] S1024x4096.size inb_S1024x4096_S1024x4096_0_0
abbrev rs : Rect S8x4096 := Rect.unit (s := S8x4096) ![0, 0] S8x4096.size inb_S8x4096_S8x4096_0_0
abbrev rw : Rect S4096x128 := Rect.unit (s := S4096x128) ![0, 0] S4096x128.size inb_S4096x128_S4096x128_0_0
abbrev ro : Rect S1024x128 := Rect.unit (s := S1024x128) ![0, 0] S1024x128.size inb_S1024x128_S1024x128_0_0
abbrev rt : Rect S8x128 := Rect.unit (s := S8x128) ![0, 0] S8x128.size inb_S8x128_S8x128_0_0

/-- The sample rows are handled in the first row of the grid. -/
theorem hcond : ∀ t : Fin cfg0.N, k0_cond1 (grid0.coords t) = 1#1 ↔ t.val < 1 :=
  (by decide +kernel : ∀ t : Fin grid0.N, k0_cond1 (grid0.coords t) = 1#1 ↔ t.val < 1)

/-- The prompt block the body stores. -/
def outP (x0 : Vec F S1024x4096 .bf16) (x1 : Vec F S8x4096 .bf16) (x2 : Vec F S4096x128 .bf16) : Vec F S1024x128 .f32 := View.canon [⟨ro, k0_pay1 (View.ld x2 rw) (View.ld x0 rh)⟩]

theorem coverP (p : Vec F S1024x128 .f32) (y : S1024x128.Idx) :
    ∃ pc ∈ ([⟨ro, p⟩] : List (View.Piece (Elt F) S1024x128 .f32)), y ∈ pc.1.set :=
  View.cover_of_tiled [⟨ro, p⟩] S1024x128.size (by rfl) y

/-- The sample block the body stores. -/
def outS (x0 : Vec F S1024x4096 .bf16) (x1 : Vec F S8x4096 .bf16) (x2 : Vec F S4096x128 .bf16) : Vec F S8x128 .f32 := View.canon [⟨rt, k0_pay2 (View.ld x2 rw) (View.ld x1 rs)⟩]

theorem coverS (p : Vec F S8x128 .f32) (y : S8x128.Idx) :
    ∃ pc ∈ ([⟨rt, p⟩] : List (View.Piece (Elt F) S8x128 .f32)), y ∈ pc.1.set :=
  View.cover_of_tiled [⟨rt, p⟩] S8x128.size (by rfl) y

set_option maxHeartbeats 4000000 in
/-- The body in the first row of the grid: both outputs stored. -/
theorem triple_first (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S8x128 .f32) (harg6 : arg6.IsWhole) (hc0 : k0_cond1 i = 1#1)
    (x0 : Vec F S1024x4096 .bf16) (x1 : Vec F S8x4096 .bf16) (x2 : Vec F S4096x128 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outP x0 x1 x2) ∗ owns (c : Thread nD τ) arg6 fullShare (outS x0 x1 x2)) -∗ K ⟨⟩))
      ⊢ wp frame (wpE (defs₀ (F := F)) Variants.none c none) E (cc0_proj_none i arg2 harg2 arg3 harg3 arg4 harg4 arg5 harg5 arg6 harg6) K := by
  simp only [cc0_proj_none_eq_skeleton]; unfold cc0_proj_none_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists _; isplitr
  swap; · iexact H4
  ipureintro
  exact View.read_writes_eq_canon _ _ _ (coverS _)

set_option maxHeartbeats 4000000 in
/-- The body past the first row: the prompt output stored, the sample output left as it was. -/
theorem triple_rest (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x128 .bf16) (harg4 : arg4.IsWhole) (arg5 : Memref sig .tc .vmem S1024x128 .f32) (harg5 : arg5.IsWhole) (arg6 : Memref sig .tc .vmem S8x128 .f32) (harg6 : arg6.IsWhole) (hc0 : ¬ k0_cond1 i = 1#1)
    (x0 : Vec F S1024x4096 .bf16) (x1 : Vec F S8x4096 .bf16) (x2 : Vec F S4096x128 .bf16) (y : Vec F S8x128 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (outP x0 x1 x2) ∗ owns (c : Thread nD τ) arg6 fullShare y) -∗ K ⟨⟩))
      ⊢ wp frame (wpE (defs₀ (F := F)) Variants.none c none) E (cc0_proj_none i arg2 harg2 arg3 harg3 arg4 harg4 arg5 harg5 arg6 harg6) K := by
  simp only [cc0_proj_none_eq_skeleton]; unfold cc0_proj_none_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists f4; isplitr; · ipureintro; rfl
  iexact H4

/-- The point whose contents the sample window holds at point `t`: itself in the first row of the grid, the row's
    last one after it. -/
def held (t : Fin cfg0.N) : Fin cfg0.N := if t.val < 1 then t else ⟨0, by rw [show cfg0.N = 8 from N_0]; decide⟩

/-- Arrays as the region finds them; after point `t` an input's buffer at its block, the prompt outputs at the body's
    results on the blocks of `t`, the sample output at the body's result at the point it was last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP  (iblk m c 0 t) (iblk m c 1 t) (iblk m c 2 t)
    | ⟨4, _⟩ => outS  (iblk m c 0 (held t)) (iblk m c 1 (held t)) (iblk m c 2 (held t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outP  (iblk m c 0 t) (iblk m c 1 t) (iblk m c 2 t) := by dsimp only [dats]
theorem after0_4 (c : Dev nD) (t : Fin cfg0.N) : (dats m 0 c).after 4 t = outS  (iblk m c 0 (held t)) (iblk m c 1 (held t)) (iblk m c 2 (held t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the sample window is written back: along the first row of the grid but for its last point, and at the end. -/
theorem flush_side : ∀ t : Fin cfg0.N, (cfg0.win 4).flush t = true ↔ (t.val < 0 ∨ t.val = 7) :=
  (by decide +kernel : ∀ t : Fin grid0.N, win0_4.flush t = true ↔ (t.val < 0 ∨ t.val = 7))

theorem idle_side : ∀ t : Fin cfg0.N, cfg0.idle 4 (grid0.coords t) = decide (1 ≤ t.val) :=
  (by decide +kernel : ∀ t : Fin grid0.N, idle0 4 (grid0.coords t) = decide (1 ≤ t.val))

theorem fetch_side (t : Fin cfg0.N) : (cfg0.win 4).fetch t = false := by
  unfold Pipeline.Window.fetch; rfl

/-- Past the first row the sample window's buffer holds what the row's last point stored. -/
theorem before_side (c : Dev nD) : ∀ (k : ℕ) (t : Fin cfg0.N), t.val = 1 + k → ∀ d, (dats m 0 c).before 4 t d = (dats m 0 c).after 4 t := by
  intro k
  induction k with
  | zero =>
    intro t ht d
    rw [(dats m 0 c).before_of_pos 4 t (by omega) (fetch_side t) d]
    have hf : (cfg0.win 4).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (1 ≤ t.val - 1) = false from by simp; omega]
    show (dats m 0 c).after 4 _ = _
    rw [after0_4, after0_4]
    have e : held (⟨t.val - 1, by have := t.isLt; omega⟩ : Fin cfg0.N) = held t := by
      unfold held; rw [if_pos (by simp only []; omega), if_neg (by omega)]; apply Fin.ext; simp only []; omega
    rw [e]
  | succ k ih =>
    intro t ht d
    have hN : t.val < 8 := lt_of_lt_of_eq t.isLt (show cfg0.N = 8 from N_0)
    rw [(dats m 0 c).before_of_pos 4 t (by omega) (fetch_side t) d]
    have hf : (cfg0.win 4).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (1 ≤ t.val - 1) = true from by simp; omega]
    show (dats m 0 c).before 4 _ d = _
    rw [ih _ (by simp only []; omega) d, after0_4, after0_4]
    have e : held (⟨t.val - 1, by have := t.isLt; omega⟩ : Fin cfg0.N) = held t := by
      unfold held; rw [if_neg (by simp only []; omega), if_neg (by omega)]
    rw [e]

theorem leaves_side_live (c : Dev nD) (t : Fin cfg0.N) (h : t.val < 1) :
    (dats m 0 c).leavesExact 4 t = owns (c : Thread nD τ) (st0_4 t) fullShare ((dats m 0 c).after 4 t) := by
  unfold Dat.leavesExact; rw [idle_side, show decide (1 ≤ t.val) = false from by simp; omega]

/-- What is to be handed back of the sample window past the first row: its buffer as found. -/
theorem leaves_side_idle (c : Dev nD) (t : Fin cfg0.N) (h : ¬ t.val < 1) :
    owns (c : Thread nD τ) (st0_4 t) fullShare ((dats m 0 c).after 4 t) ⊢ (dats m 0 c).leavesExact 4 t := by
  unfold Dat.leavesExact; rw [idle_side, show decide (1 ≤ t.val) = true from by simp; omega]
  cases hf : (cfg0.win 4).flush t
  · dsimp only
    rw [← before_side m c (t.val - 1) t (by omega) ((dats m 0 c).after 4 t)]
    iintro H; iexists _; iexact H
  · exact .rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

set_option maxHeartbeats 4000000 in
/-- The body at any point, by the cases of its conditions. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 8 := lt_of_lt_of_eq t.isLt (show cfg0.N = 8 from N_0)
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (outP  (iblk m c 0 t) (iblk m c 1 t) (iblk m c 2 t)) from rfl]
  by_cases h0 : t.val < 1
  · rw [leaves_side_live m c t h0, after0_4, show held t = t from if_pos h0]
    iintro ⟨HΦ, Ho, ⟨%d0, H0⟩, ⟨%d1, H1⟩, ⟨%d2, H2⟩, ⟨%d3, H3⟩, ⟨%d4, H4⟩⟩
    iapply (triple_first c Set.univ (grid0.coords t) _ _ _ _ _ _ _ _ _ _ ((hcond t).mpr h0) (iblk m c 0 t) (iblk m c 1 t) (iblk m c 2 t) _)
    isplitl [H0]; · iexact H0
    isplitl [H1]; · iexact H1
    isplitl [H2]; · iexact H2
    isplitl [H3]; · iexists _; iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · iintro ⟨HΦ, Ho, ⟨%d0, H0⟩, ⟨%d1, H1⟩, ⟨%d2, H2⟩, ⟨%d3, H3⟩, ⟨%d4, H4⟩⟩
    iapply (triple_rest c Set.univ (grid0.coords t) _ _ _ _ _ _ _ _ _ _ (fun h => h0 ((hcond t).mp h)) (iblk m c 0 t) (iblk m c 1 t) (iblk m c 2 t) ((dats m 0 c).before 4 t d4) _)
    isplitl [H0]; · iexact H0
    isplitl [H1]; · iexact H1
    isplitl [H2]; · iexact H2
    isplitl [H3]; · iexists _; iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    rw [before_side m c (t.val - 1) t (by omega)]
    iapply (leaves_side_idle m c t h0); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every fair execution ends, with every array of the pipeline at what the proof data compute and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel11Ideal.Run

end
-- ==== Proof.GnValue.lean ====
/- The columns of the attention gates: the stored blocks are the blocks of the product with those columns. -/
module

public import proofs.«01_k».proof.Proof.Gen.Kernel11Ideal.Frame
public import proofs.«01_k».proof.Proof.Gen.Reference11Ideal
public import Idealize.ShloMosaic.Lib.Pipeline.ValueKit
public import Idealize.ShloMosaic.Lib.StableHlo.Run
public import proofs.«01_k».proof.Proof.GnRun

@[expose] public section

set_option maxRecDepth 16384

noncomputable section

open Idealize.ShloMosaic Idealize.ShloMosaic.TcCoe Idealize.SL.Sem
open Idealize.ShloMosaic.Pipeline (Dat)
open scoped BigOperators

namespace Cert.Kernel11Ideal.Value

open Cert.Kernel11Ideal Cert.Kernel11Ideal.Gen Cert.Kernel11Ideal.Run

variable (m : (ℓ : Loc nD τ sig) → Buf (Elt Ideal) ℓ)

/-- The product of the prompt rows with the columns of the attention gates, as the reference writes it. -/
abbrev target (h : FVec Ideal Cert.Reference11Ideal.S8192x4096 .bf16) (hs : FVec Ideal Cert.Reference11Ideal.S8x4096 .bf16) (w : FVec Ideal Cert.Reference11Ideal.S4096x25088 .bf16) : FVec Ideal Cert.Reference11Ideal.S8192x128 .f32 :=
    Host.dotGeneral Cert.Reference11Ideal.dot_S8192x4096_S4096x128_S8192x128_1_0_0_1_n_n none (extf .f32 h Cert.Reference11Ideal.Gen.bitsLt_bf16_f32) (extf .f32
    (extractStridedSlice Cert.Reference11Ideal.S4096x128 ![0, 5120] w Cert.Reference11Ideal.Gen.slices_S4096x25088_S4096x128_0_5120) Cert.Reference11Ideal.Gen.bitsLt_bf16_f32)

/-- The same of the sample rows. -/
abbrev targetS (h : FVec Ideal Cert.Reference11Ideal.S8192x4096 .bf16) (hs : FVec Ideal Cert.Reference11Ideal.S8x4096 .bf16) (w : FVec Ideal Cert.Reference11Ideal.S4096x25088 .bf16) : FVec Ideal Cert.Reference11Ideal.S8x128 .f32 :=
    Host.dotGeneral Cert.Reference11Ideal.dot_S8x4096_S4096x128_S8x128_1_0_0_1_n_n none (extf .f32 hs Cert.Reference11Ideal.Gen.bitsLt_bf16_f32) (extf .f32
    (extractStridedSlice Cert.Reference11Ideal.S4096x128 ![0, 5120] w Cert.Reference11Ideal.Gen.slices_S4096x25088_S4096x128_0_5120) Cert.Reference11Ideal.Gen.bitsLt_bf16_f32)

/-- Where each window's block lies at a point: row block `t`, the weight's columns at block 40. -/
theorem tiles : ∀ t : Fin cfg0.N, win0_0.index t = ![t.val, 0] ∧ win0_1.index t = ![0, 0]
    ∧ win0_2.index t = ![0, 40] ∧ win0_3.index t = ![t.val, 0]
    ∧ win0_4.index t = ![0, 0] ∧ (held t).val < 1 :=
  (by decide +kernel : ∀ t : Fin grid0.N, _)

/-- One stored prompt element is the target's at the place its block puts it. -/
theorem at_prompt (c : Dev nD) (t : Fin cfg0.N) (y) : k0_pay1 (iblk m c 2 t) (iblk m c 0 t) y
    = target (m ((c : Thread nD τ).loc main_arg0)) (m ((c : Thread nD τ).loc main_arg1)) (m ((c : Thread nD τ).loc main_arg2)) (((cfg0.win 3).blk t).view.emb y) := by
  pointwise [k0_pay1, target]
  blk_point [iblk, V, tiles t]

/-- One stored sample element likewise. -/
theorem at_sample (c : Dev nD) (t : Fin cfg0.N) (y) : k0_pay2 (iblk m c 2 (held t)) (iblk m c 1 (held t)) y
    = targetS (m ((c : Thread nD τ).loc main_arg0)) (m ((c : Thread nD τ).loc main_arg1)) (m ((c : Thread nD τ).loc main_arg2)) (((cfg0.win 4).blk t).view.emb y) := by
  pointwise [k0_pay2, targetS]
  blk_point [iblk, V, tiles t, tiles (held t)]

/-- The prompt output is the target: the blocks cover it. -/
theorem result (c : Dev nD) : (Run.dats m 0 c).arrAt 3 (cfgs 0).N = target (m ((c : Thread nD τ).loc main_arg0)) (m ((c : Thread nD τ).loc main_arg1)) (m ((c : Thread nD τ).loc main_arg2)) := by
  refine (Run.dats m 0 c).arrAt_eq_of_covers 3 _ (by decide +kernel) fun t _ y => ?_
  blk_simp
  rw [after0_3]; unfold outP
  rw [View.canon_unit_zero (by decide), View.ld_unit_zero (by decide), View.ld_unit_zero (by decide)]
  exact at_prompt m c t y

/-- The sample output is the target: the blocks of the first row of the grid cover it. -/
theorem resultS (c : Dev nD) : (Run.dats m 0 c).arrAt 4 (cfgs 0).N = targetS (m ((c : Thread nD τ).loc main_arg0)) (m ((c : Thread nD τ).loc main_arg1)) (m ((c : Thread nD τ).loc main_arg2)) := by
  refine (Run.dats m 0 c).arrAt_eq_of_covers 4 _ (by decide +kernel) fun t _ y => ?_
  blk_simp
  rw [after0_4]; unfold outS
  rw [View.canon_unit_zero (by decide), View.ld_unit_zero (by decide), View.ld_unit_zero (by decide)]
  exact at_sample m c t y

end Cert.Kernel11Ideal.Value

end
-- ==== Proof.KvRun.lean ====
/- The key and value columns of the input projection: the run of the kernel, with the contents of every output. -/
module

public import proofs.«01_k».proof.Proof.Gen.Kernel8Ideal.Frame
public import Idealize.ShloMosaic.Lib.Pipeline.FrameBody
public import Idealize.ShloMosaic.Lib.Claim
public import proofs.«01_k».proof.Proof.Gen.Kernel8Ideal.Skeleton
public import Idealize.ShloMosaic.Lib.Tactic
public import Idealize.ShloMosaic.Lib.Ring
public import Idealize.ShloMosaic.Lib.WordCmp

@[expose] public section

set_option maxRecDepth 16384

noncomputable section

namespace Cert.Kernel8Ideal.Run

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rh : Rect S1024x4096 := Rect.unit (s := S1024x4096) ![0, 0] S1024x4096.size inb_S1024x4096_S1024x4096_0_0
abbrev rs : Rect S8x4096 := Rect.unit (s := S8x4096) ![0, 0] S8x4096.size inb_S8x4096_S8x4096_0_0
abbrev rw : Rect S4096x512 := Rect.unit (s := S4096x512) ![0, 0] S4096x512.size inb_S4096x512_S4096x512_0_0
abbrev ro : Rect S1024x512 := Rect.unit (s := S1024x512) ![0, 0] S1024x512.size inb_S1024x512_S1024x512_0_0
abbrev rt : Rect S8x512 := Rect.unit (s := S8x512) ![0, 0] S8x512.size inb_S8x512_S8x512_0_0
abbrev rg0 : Rect S1x512 := Rect.unit (s := S1x512) ![0, 0] S1x128.size inb_S1x512_S1x128_0_0
abbrev rg1 : Rect S1x512 := Rect.unit (s := S1x512) ![0, 128] S1x128.size inb_S1x512_S1x128_0_128
abbrev rg2 : Rect S1x512 := Rect.unit (s := S1x512) ![0, 256] S1x128.size inb_S1x512_S1x128_0_256
abbrev rg3 : Rect S1x512 := Rect.unit (s := S1x512) ![0, 384] S1x128.size inb_S1x512_S1x128_0_384
abbrev rk0 : Rect S1x4096x128 := ⟨(⟨![0, 0, 0], S1x1024x128.size, ![1, 4, 1], inb_S1x4096x128_S1x1024x128_0_0_0_s_1_4_1⟩ : LoadRect S1x4096x128), spos_1_4_1⟩
abbrev rk1 : Rect S1x4096x128 := ⟨(⟨![0, 1, 0], S1x1024x128.size, ![1, 4, 1], inb_S1x4096x128_S1x1024x128_0_1_0_s_1_4_1⟩ : LoadRect S1x4096x128), spos_1_4_1⟩
abbrev rk2 : Rect S1x4096x128 := ⟨(⟨![0, 2, 0], S1x1024x128.size, ![1, 4, 1], inb_S1x4096x128_S1x1024x128_0_2_0_s_1_4_1⟩ : LoadRect S1x4096x128), spos_1_4_1⟩
abbrev rk3 : Rect S1x4096x128 := ⟨(⟨![0, 3, 0], S1x1024x128.size, ![1, 4, 1], inb_S1x4096x128_S1x1024x128_0_3_0_s_1_4_1⟩ : LoadRect S1x4096x128), spos_1_4_1⟩

/-- The sample rows are handled in the first row of the grid. -/
theorem hcond : ∀ t : Fin cfg0.N, k0_cond1 (grid0.coords t) = 1#1 ↔ t.val < 6 :=
  (by decide +kernel : ∀ t : Fin grid0.N, k0_cond1 (grid0.coords t) = 1#1 ↔ t.val < 6)

/-- The prompt block the body stores, -/
def outP (x0 : Vec F S1024x4096 .bf16) (x1 : Vec F S8x4096 .bf16) (x2 : Vec F S4096x512 .bf16) (x3 : Vec F S1x512 .f32) (x4 : Vec F S1x512 .f32) : Vec F S1024x512 .f32 := View.canon [⟨ro, k0_pay19 (k0_pay12 (View.ld x2 rw) (View.ld x0 rh) (View.ld x3 rg0) (View.ld x4 rg0)) (k0_pay15 (k0_pay13 (View.ld x2 rw) (View.ld x0 rh)) (k0_pay14 (View.ld x2 rw) (View.ld x0 rh) (View.ld x3 rg1)) (View.ld x4 rg1)) (k0_pay16 (k0_pay11 (View.ld x2 rw) (View.ld x0 rh)) (View.ld x3 rg2) (View.ld x4 rg2)) (k0_pay17 (k0_pay11 (View.ld x2 rw) (View.ld x0 rh))) (k0_pay18 (k0_pay11 (View.ld x2 rw) (View.ld x0 rh)) (View.ld x3 rg3)) (View.ld x4 rg3)⟩]

theorem coverP (p : Vec F S1024x512 .f32) (y : S1024x512.Idx) :
    ∃ pc ∈ ([⟨ro, p⟩] : List (View.Piece (Elt F) S1024x512 .f32)), y ∈ pc.1.set :=
  View.cover_of_tiled [⟨ro, p⟩] S1024x512.size (by rfl) y

/-- the same in the narrow format, -/
def outB (x0 : Vec F S1024x4096 .bf16) (x1 : Vec F S8x4096 .bf16) (x2 : Vec F S4096x512 .bf16) (x3 : Vec F S1x512 .f32) (x4 : Vec F S1x512 .f32) : Vec F S1024x512 .bf16 := View.canon [⟨ro, k0_pay20 (k0_pay12 (View.ld x2 rw) (View.ld x0 rh) (View.ld x3 rg0) (View.ld x4 rg0)) (k0_pay15 (k0_pay13 (View.ld x2 rw) (View.ld x0 rh)) (k0_pay14 (View.ld x2 rw) (View.ld x0 rh) (View.ld x3 rg1)) (View.ld x4 rg1)) (k0_pay16 (k0_pay11 (View.ld x2 rw) (View.ld x0 rh)) (View.ld x3 rg2) (View.ld x4 rg2)) (k0_pay17 (k0_pay11 (View.ld x2 rw) (View.ld x0 rh))) (k0_pay18 (k0_pay11 (View.ld x2 rw) (View.ld x0 rh)) (View.ld x3 rg3)) (View.ld x4 rg3)⟩]

theorem coverB (p : Vec F S1024x512 .bf16) (y : S1024x512.Idx) :
    ∃ pc ∈ ([⟨ro, p⟩] : List (View.Piece (Elt F) S1024x512 .bf16)), y ∈ pc.1.set :=
  View.cover_of_tiled [⟨ro, p⟩] S1024x512.size (by rfl) y

/-- and its heads, a row of each in turn. -/
def outH (x0 : Vec F S1024x4096 .bf16) (x1 : Vec F S8x4096 .bf16) (x2 : Vec F S4096x512 .bf16) (x3 : Vec F S1x512 .f32) (x4 : Vec F S1x512 .f32) : Vec F S1x4096x128 .f32 := View.canon [⟨rk3, k0_pay24 (k0_pay12 (View.ld x2 rw) (View.ld x0 rh) (View.ld x3 rg0) (View.ld x4 rg0)) (k0_pay15 (k0_pay13 (View.ld x2 rw) (View.ld x0 rh)) (k0_pay14 (View.ld x2 rw) (View.ld x0 rh) (View.ld x3 rg1)) (View.ld x4 rg1)) (k0_pay16 (k0_pay11 (View.ld x2 rw) (View.ld x0 rh)) (View.ld x3 rg2) (View.ld x4 rg2)) (k0_pay17 (k0_pay11 (View.ld x2 rw) (View.ld x0 rh))) (k0_pay18 (k0_pay11 (View.ld x2 rw) (View.ld x0 rh)) (View.ld x3 rg3)) (View.ld x4 rg3)⟩, ⟨rk2, k0_pay23 (k0_pay12 (View.ld x2 rw) (View.ld x0 rh) (View.ld x3 rg0) (View.ld x4 rg0)) (k0_pay15 (k0_pay13 (View.ld x2 rw) (View.ld x0 rh)) (k0_pay14 (View.ld x2 rw) (View.ld x0 rh) (View.ld x3 rg1)) (View.ld x4 rg1)) (k0_pay16 (k0_pay11 (View.ld x2 rw) (View.ld x0 rh)) (View.ld x3 rg2) (View.ld x4 rg2)) (k0_pay17 (k0_pay11 (View.ld x2 rw) (View.ld x0 rh))) (k0_pay18 (k0_pay11 (View.ld x2 rw) (View.ld x0 rh)) (View.ld x3 rg3)) (View.ld x4 rg3)⟩, ⟨rk1, k0_pay22 (k0_pay12 (View.ld x2 rw) (View.ld x0 rh) (View.ld x3 rg0) (View.ld x4 rg0)) (k0_pay15 (k0_pay13 (View.ld x2 rw) (View.ld x0 rh)) (k0_pay14 (View.ld x2 rw) (View.ld x0 rh) (View.ld x3 rg1)) (View.ld x4 rg1)) (k0_pay16 (k0_pay11 (View.ld x2 rw) (View.ld x0 rh)) (View.ld x3 rg2) (View.ld x4 rg2)) (k0_pay17 (k0_pay11 (View.ld x2 rw) (View.ld x0 rh))) (k0_pay18 (k0_pay11 (View.ld x2 rw) (View.ld x0 rh)) (View.ld x3 rg3)) (View.ld x4 rg3)⟩, ⟨rk0, k0_pay21 (k0_pay12 (View.ld x2 rw) (View.ld x0 rh) (View.ld x3 rg0) (View.ld x4 rg0)) (k0_pay15 (k0_pay13 (View.ld x2 rw) (View.ld x0 rh)) (k0_pay14 (View.ld x2 rw) (View.ld x0 rh) (View.ld x3 rg1)) (View.ld x4 rg1)) (k0_pay16 (k0_pay11 (View.ld x2 rw) (View.ld x0 rh)) (View.ld x3 rg2) (View.ld x4 rg2)) (k0_pay17 (k0_pay11 (View.ld x2 rw) (View.ld x0 rh))) (k0_pay18 (k0_pay11 (View.ld x2 rw) (View.ld x0 rh)) (View.ld x3 rg3)) (View.ld x4 rg3)⟩]

theorem in_head (k : Fin 4) (r : Rect S1x4096x128) (hz : r.size = S1x1024x128.size) (ho : r.off = ![0, k.val, 0]) (hs : r.stride = ![1, 4, 1])
    (y : S1x4096x128.Idx) (h : (y 1).val % 4 = k.val) : y ∈ r.set := by
  refine r.toLoadRect.mem_set.mpr ?_
  have h0 : (y 0).val < 1 := (y 0).isLt
  have h1 : (y 1).val < 4096 := (y 1).isLt
  have h2 : (y 2).val < 128 := (y 2).isLt
  intro a
  rw [hz, ho, hs]
  match a with
  | 0 => exact ⟨0, by decide, by show (y 0).val = 0 + 1 * 0; omega⟩
  | 1 => exact ⟨(y 1).val / 4, by show (y 1).val / 4 < 1024; omega, by show (y 1).val = k.val + 4 * ((y 1).val / 4); omega⟩
  | 2 => exact ⟨(y 2).val, h2, by show (y 2).val = 0 + 1 * (y 2).val; omega⟩

/-- The four stores of the heads cover the block: every fourth row each. -/
theorem coverH (p0 p1 p2 p3 : Vec F S1x1024x128 .f32) (y : S1x4096x128.Idx) :
    ∃ pc ∈ ([⟨rk3, p3⟩, ⟨rk2, p2⟩, ⟨rk1, p1⟩, ⟨rk0, p0⟩] : List (View.Piece (Elt F) S1x4096x128 .f32)), y ∈ pc.1.set := by
  have h : (y 1).val % 4 = 0 ∨ (y 1).val % 4 = 1 ∨ (y 1).val % 4 = 2 ∨ (y 1).val % 4 = 3 := by omega
  rcases h with h | h | h | h
  · exact ⟨⟨rk0, p0⟩, by simp, in_head 0 rk0 rfl rfl rfl y h⟩
  · exact ⟨⟨rk1, p1⟩, by simp, in_head 1 rk1 rfl rfl rfl y h⟩
  · exact ⟨⟨rk2, p2⟩, by simp, in_head 2 rk2 rfl rfl rfl y h⟩
  · exact ⟨⟨rk3, p3⟩, by simp, in_head 3 rk3 rfl rfl rfl y h⟩

/-- The sample block the body stores. -/
def outS (x0 : Vec F S1024x4096 .bf16) (x1 : Vec F S8x4096 .bf16) (x2 : Vec F S4096x512 .bf16) (x3 : Vec F S1x512 .f32) (x4 : Vec F S1x512 .f32) : Vec F S8x512 .f32 := View.canon [⟨rt, k0_pay25 (k0_pay2 (View.ld x2 rw) (View.ld x1 rs) (View.ld x3 rg0) (View.ld x4 rg0)) (k0_pay6 (k0_pay3 (View.ld x2 rw) (View.ld x1 rs)) (k0_pay4 (View.ld x2 rw) (View.ld x1 rs) (View.ld x3 rg1)) (k0_pay5 (View.ld x4 rg1)) (Scalar.ofBits .f32 0x3F000000#32)) (k0_pay7 (k0_pay1 (View.ld x2 rw) (View.ld x1 rs)) (View.ld x3 rg2) (View.ld x4 rg2)) (k0_pay8 (k0_pay1 (View.ld x2 rw) (View.ld x1 rs))) (k0_pay9 (k0_pay1 (View.ld x2 rw) (View.ld x1 rs)) (View.ld x3 rg3)) (k0_pay10 (View.ld x4 rg3)) (Scalar.ofBits .f32 0x3F000000#32)⟩]

theorem coverS (p : Vec F S8x512 .f32) (y : S8x512.Idx) :
    ∃ pc ∈ ([⟨rt, p⟩] : List (View.Piece (Elt F) S8x512 .f32)), y ∈ pc.1.set :=
  View.cover_of_tiled [⟨rt, p⟩] S8x512.size (by rfl) y

set_option maxHeartbeats 4000000 in
/-- The body in the first row of the grid: all outputs stored. -/
theorem triple_first (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1x4096x128 .f32) (harg9 : arg9.IsWhole) (arg10 : Memref sig .tc .vmem S8x512 .f32) (harg10 : arg10.IsWhole) (hc0 : k0_cond1 i = 1#1)
    (x0 : Vec F S1024x4096 .bf16) (x1 : Vec F S8x4096 .bf16) (x2 : Vec F S4096x512 .bf16) (x3 : Vec F S1x512 .f32) (x4 : Vec F S1x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outP x0 x1 x2 x3 x4) ∗ owns (c : Thread nD τ) arg8 fullShare (outB x0 x1 x2 x3 x4) ∗ owns (c : Thread nD τ) arg9 fullShare (outH x0 x1 x2 x3 x4) ∗ owns (c : Thread nD τ) arg10 fullShare (outS x0 x1 x2 x3 x4)) -∗ K ⟨⟩))
      ⊢ wp frame (wpE (defs₀ (F := F)) Variants.none c none) E (cc0_proj_norm i arg2 harg2 arg3 harg3 arg4 harg4 arg5 harg5 arg6 harg6 arg7 harg7 arg8 harg8 arg9 harg9 arg10 harg10) K := by
  simp only [cc0_proj_norm_eq_skeleton, k0_part1_eq_skeleton, k0_part2_eq_skeleton, k0_part3_eq_skeleton, k0_part4_eq_skeleton, k0_part5_eq_skeleton]; unfold cc0_proj_norm_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, Hk⟩
  subst hf0 hf1 hf2 hf3 hf4
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP _)
  isplitl [H6]
  · iexists _; isplitr
    swap; · iexact H6
    ipureintro
    exact View.read_writes_eq_canon _ _ _ (coverB _)
  isplitl [H7]
  · iexists _; isplitr
    swap; · iexact H7
    ipureintro
    exact View.read_writes_eq_canon _ _ _ (coverH _ _ _ _)
  iexists _; isplitr
  swap; · iexact H8
  ipureintro
  exact View.read_writes_eq_canon _ _ _ (coverS _)

set_option maxHeartbeats 4000000 in
/-- The body past the first row: the prompt outputs stored, the sample output left as it was. -/
theorem triple_rest (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1x512 .f32) (harg5 : arg5.IsWhole) (arg6 : Memref sig .tc .vmem S1x512 .f32) (harg6 : arg6.IsWhole) (arg7 : Memref sig .tc .vmem S1024x512 .f32) (harg7 : arg7.IsWhole) (arg8 : Memref sig .tc .vmem S1024x512 .bf16) (harg8 : arg8.IsWhole) (arg9 : Memref sig .tc .vmem S1x4096x128 .f32) (harg9 : arg9.IsWhole) (arg10 : Memref sig .tc .vmem S8x512 .f32) (harg10 : arg10.IsWhole) (hc0 : ¬ k0_cond1 i = 1#1)
    (x0 : Vec F S1024x4096 .bf16) (x1 : Vec F S8x4096 .bf16) (x2 : Vec F S4096x512 .bf16) (x3 : Vec F S1x512 .f32) (x4 : Vec F S1x512 .f32) (y : Vec F S8x512 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare y
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (outP x0 x1 x2 x3 x4) ∗ owns (c : Thread nD τ) arg8 fullShare (outB x0 x1 x2 x3 x4) ∗ owns (c : Thread nD τ) arg9 fullShare (outH x0 x1 x2 x3 x4) ∗ owns (c : Thread nD τ) arg10 fullShare y) -∗ K ⟨⟩))
      ⊢ wp frame (wpE (defs₀ (F := F)) Variants.none c none) E (cc0_proj_norm i arg2 harg2 arg3 harg3 arg4 harg4 arg5 harg5 arg6 harg6 arg7 harg7 arg8 harg8 arg9 harg9 arg10 harg10) K := by
  simp only [cc0_proj_norm_eq_skeleton, k0_part1_eq_skeleton, k0_part2_eq_skeleton, k0_part3_eq_skeleton, k0_part4_eq_skeleton, k0_part5_eq_skeleton]; unfold cc0_proj_norm_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%f8, %hf8, H8⟩, Hk⟩
  subst hf0 hf1 hf2 hf3 hf4 hf8
  sl_exec (disch := first | sl_exact hc0)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (coverP _)
  isplitl [H6]
  · iexists _; isplitr
    swap; · iexact H6
    ipureintro
    exact View.read_writes_eq_canon _ _ _ (coverB _)
  isplitl [H7]
  · iexists _; isplitr
    swap; · iexact H7
    ipureintro
    exact View.read_writes_eq_canon _ _ _ (coverH _ _ _ _)
  iexists f8; isplitr; · ipureintro; rfl
  iexact H8

/-- The point whose contents the sample window holds at point `t`: itself in the first row of the grid, the row's
    last one after it. -/
def held (t : Fin cfg0.N) : Fin cfg0.N := if t.val < 6 then t else ⟨5, by rw [show cfg0.N = 48 from N_0]; decide⟩

/-- Arrays as the region finds them; after point `t` an input's buffer at its block, the prompt outputs at the body's
    results on the blocks of `t`, the sample output at the body's result at the point it was last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outP  (iblk m c 0 t) (iblk m c 1 t) (iblk m c 2 t) (iblk m c 3 t) (iblk m c 4 t)
    | ⟨6, _⟩ => outB  (iblk m c 0 t) (iblk m c 1 t) (iblk m c 2 t) (iblk m c 3 t) (iblk m c 4 t)
    | ⟨7, _⟩ => outH  (iblk m c 0 t) (iblk m c 1 t) (iblk m c 2 t) (iblk m c 3 t) (iblk m c 4 t)
    | ⟨8, _⟩ => outS  (iblk m c 0 (held t)) (iblk m c 1 (held t)) (iblk m c 2 (held t)) (iblk m c 3 (held t)) (iblk m c 4 (held t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = outP  (iblk m c 0 t) (iblk m c 1 t) (iblk m c 2 t) (iblk m c 3 t) (iblk m c 4 t) := by dsimp only [dats]
theorem after0_6 (c : Dev nD) (t : Fin cfg0.N) : (dats m 0 c).after 6 t = outB  (iblk m c 0 t) (iblk m c 1 t) (iblk m c 2 t) (iblk m c 3 t) (iblk m c 4 t) := by dsimp only [dats]
theorem after0_7 (c : Dev nD) (t : Fin cfg0.N) : (dats m 0 c).after 7 t = outH  (iblk m c 0 t) (iblk m c 1 t) (iblk m c 2 t) (iblk m c 3 t) (iblk m c 4 t) := by dsimp only [dats]
theorem after0_8 (c : Dev nD) (t : Fin cfg0.N) : (dats m 0 c).after 8 t = outS  (iblk m c 0 (held t)) (iblk m c 1 (held t)) (iblk m c 2 (held t)) (iblk m c 3 (held t)) (iblk m c 4 (held t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- Where the sample window is written back: along the first row of the grid but for its last point, and at the end. -/
theorem flush_side : ∀ t : Fin cfg0.N, (cfg0.win 8).flush t = true ↔ (t.val < 5 ∨ t.val = 47) :=
  (by decide +kernel : ∀ t : Fin grid0.N, win0_8.flush t = true ↔ (t.val < 5 ∨ t.val = 47))

theorem idle_side : ∀ t : Fin cfg0.N, cfg0.idle 8 (grid0.coords t) = decide (6 ≤ t.val) :=
  (by decide +kernel : ∀ t : Fin grid0.N, idle0 8 (grid0.coords t) = decide (6 ≤ t.val))

theorem fetch_side (t : Fin cfg0.N) : (cfg0.win 8).fetch t = false := by
  unfold Pipeline.Window.fetch; rfl

/-- Past the first row the sample window's buffer holds what the row's last point stored. -/
theorem before_side (c : Dev nD) : ∀ (k : ℕ) (t : Fin cfg0.N), t.val = 6 + k → ∀ d, (dats m 0 c).before 8 t d = (dats m 0 c).after 8 t := by
  intro k
  induction k with
  | zero =>
    intro t ht d
    rw [(dats m 0 c).before_of_pos 8 t (by omega) (fetch_side t) d]
    have hf : (cfg0.win 8).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (6 ≤ t.val - 1) = false from by simp; omega]
    show (dats m 0 c).after 8 _ = _
    rw [after0_8, after0_8]
    have e : held (⟨t.val - 1, by have := t.isLt; omega⟩ : Fin cfg0.N) = held t := by
      unfold held; rw [if_pos (by simp only []; omega), if_neg (by omega)]; apply Fin.ext; simp only []; omega
    rw [e]
  | succ k ih =>
    intro t ht d
    have hN : t.val < 48 := lt_of_lt_of_eq t.isLt (show cfg0.N = 48 from N_0)
    rw [(dats m 0 c).before_of_pos 8 t (by omega) (fetch_side t) d]
    have hf : (cfg0.win 8).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (6 ≤ t.val - 1) = true from by simp; omega]
    show (dats m 0 c).before 8 _ d = _
    rw [ih _ (by simp only []; omega) d, after0_8, after0_8]
    have e : held (⟨t.val - 1, by have := t.isLt; omega⟩ : Fin cfg0.N) = held t := by
      unfold held; rw [if_neg (by simp only []; omega), if_neg (by omega)]
    rw [e]

theorem leaves_side_live (c : Dev nD) (t : Fin cfg0.N) (h : t.val < 6) :
    (dats m 0 c).leavesExact 8 t = owns (c : Thread nD τ) (st0_8 t) fullShare ((dats m 0 c).after 8 t) := by
  unfold Dat.leavesExact; rw [idle_side, show decide (6 ≤ t.val) = false from by simp; omega]

/-- What is to be handed back of the sample window past the first row: its buffer as found. -/
theorem leaves_side_idle (c : Dev nD) (t : Fin cfg0.N) (h : ¬ t.val < 6) :
    owns (c : Thread nD τ) (st0_8 t) fullShare ((dats m 0 c).after 8 t) ⊢ (dats m 0 c).leavesExact 8 t := by
  unfold Dat.leavesExact; rw [idle_side, show decide (6 ≤ t.val) = true from by simp; omega]
  cases hf : (cfg0.win 8).flush t
  · dsimp only
    rw [← before_side m c (t.val - 6) t (by omega) ((dats m 0 c).after 8 t)]
    iintro H; iexists _; iexact H
  · exact .rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4000000 in
/-- The body at any point, by the cases of its conditions. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = (dats m 0 c).Φ t.castSucc from rfl,
    show (dats m 0 c).owesAt () t.succ = (dats m 0 c).owesAt () t.castSucc from rfl]
  have hN : t.val < 48 := lt_of_lt_of_eq t.isLt (show cfg0.N = 48 from N_0)
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [show (dats m 0 c).leavesExact 3 t = owns (c : Thread nD τ) (st0_3 t) fullShare (iblk m c 3 t) from rfl]
  rw [show (dats m 0 c).leavesExact 4 t = owns (c : Thread nD τ) (st0_4 t) fullShare (iblk m c 4 t) from rfl]
  rw [show (dats m 0 c).leavesExact 5 t = owns (c : Thread nD τ) (st0_5 t) fullShare (outP  (iblk m c 0 t) (iblk m c 1 t) (iblk m c 2 t) (iblk m c 3 t) (iblk m c 4 t)) from rfl]
  rw [show (dats m 0 c).leavesExact 6 t = owns (c : Thread nD τ) (st0_6 t) fullShare (outB  (iblk m c 0 t) (iblk m c 1 t) (iblk m c 2 t) (iblk m c 3 t) (iblk m c 4 t)) from rfl]
  rw [show (dats m 0 c).leavesExact 7 t = owns (c : Thread nD τ) (st0_7 t) fullShare (outH  (iblk m c 0 t) (iblk m c 1 t) (iblk m c 2 t) (iblk m c 3 t) (iblk m c 4 t)) from rfl]
  by_cases h0 : t.val < 6
  · rw [leaves_side_live m c t h0, after0_8, show held t = t from if_pos h0]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (triple_first c Set.univ (grid0.coords t) _ _ _ _ _ _ _ _ _ _ _ _ _ _ _ _ _ _ ((hcond t).mpr h0) (iblk m c 0 t) (iblk m c 1 t) (iblk m c 2 t) (iblk m c 3 t) (iblk m c 4 t) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexists _; iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (triple_rest c Set.univ (grid0.coords t) _ _ _ _ _ _ _ _ _ _ _ _ _ _ _ _ _ _ (fun h => h0 ((hcond t).mp h)) (iblk m c 0 t) (iblk m c 1 t) (iblk m c 2 t) (iblk m c 3 t) (iblk m c 4 t) ((dats m 0 c).before 8 t d8) _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [H8]; · iexact H8
    iintro ⟨H0, H1, H2, H3, H4, H5, H6, H7, H8⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    rw [before_side m c (t.val - 6) t (by omega)]
    iapply (leaves_side_idle m c t h0); iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every fair execution ends, with every array of the pipeline at what the proof data compute and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.Kernel8Ideal.Run

end
-- ==== Proof.HeadMath.lean ====
/- One head of a projection: its 128 values over the root of their mean square. -/
module

public import Idealize.ShloMosaic.PureOps.Ideal
public import Idealize.ShloMosaic.Lib.Pipeline.ValueKit

@[expose] public section

noncomputable section

open Idealize.ShloMosaic
open scoped BigOperators

namespace Cert.Head

/-- The values `z` of a head over the root of their mean square (plus a small constant). -/
def rms (z : Fin 128 → EReal) (i : Fin 128) : EReal :=
  z i * Ideal.rsqrt (Ideal.div (∑ a : Fin 128, z a * z a) (Ideal.ofBits .f32 0x43000000#32) + Ideal.ofBits .f32 0x358637BD#32)

/-- A value that is normalised and scaled where its flag is above a half, and left as it is elsewhere. -/
def flagged (z : Fin 128 → EReal) (g f : EReal) (i : Fin 128) : EReal :=
  if Ideal.ofBits .f32 0x3F000000#32 < f then rms z i * g else z i

theorem half_lt_one : Ideal.ofBits .f32 0x3F000000#32 < Ideal.ofBits .f32 0x3F800000#32 := by
  simp [Ideal.ofBits, Ideal.ieee, -EReal.coe_mul]
  norm_num

theorem half_not_lt_zero : ¬ Ideal.ofBits .f32 0x3F000000#32 < Ideal.ofBits .f32 0x00000000#32 := by
  simp [Ideal.ofBits, Ideal.ieee, -EReal.coe_mul]

end Cert.Head

end
-- ==== Proof.KvMath.lean ====
/- The keys and values: the stored blocks are the blocks of the product with their columns, the heads of the normalised parts over the root of their mean square, times the gain. -/
module

public import proofs.«01_k».proof.Proof.Gen.Kernel8Ideal.Frame
public import proofs.«01_k».proof.Proof.Gen.Reference8Ideal
public import Idealize.ShloMosaic.Lib.Pipeline.ValueKit
public import Idealize.ShloMosaic.Lib.StableHlo.Run
public import proofs.«01_k».proof.Proof.HeadMath

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Value

open Cert.Kernel8Ideal Cert.Kernel8Ideal.Gen Cert.Head

/-! ## The gain and the flag of a column -/

/-- The gain of every column of the attention part: the query gain over the sixteen query heads, then one, one, the
    selection gain, one, the window gain, one. -/
def gains (g : FVec Ideal S128 .f32) (k : FVec Ideal S3x128 .f32) : FVec Ideal S5120 .f32 :=
  concatenate S5120 0 [⟨S2048, shapeCast _ (broadcastInDim S16x128 ![0, 1] bcast_S1x128_S16x128_0_1 (shapeCast S1x128 g shapeCasts_S128_S1x128)) shapeCasts_S16x128_S2048⟩,
    ⟨S512, broadcastInDim S512 ![] bcast_S_S512 (constant (F := Ideal) S_ .f32 0x3F800000#32)⟩,
    ⟨S512, broadcastInDim S512 ![] bcast_S_S512 (constant (F := Ideal) S_ .f32 0x3F800000#32)⟩,
    ⟨S512, shapeCast _ (broadcastInDim S4x128 ![0, 1] bcast_S1x128_S4x128_0_1 (shapeCast S1x128 (shapeCast S128 (extractStridedSlice S1x128 ![1, 0] k slices_S3x128_S1x128_1_0) shapeCasts_S1x128_S128) shapeCasts_S128_S1x128)) shapeCasts_S4x128_S512⟩,
    ⟨S512, broadcastInDim S512 ![] bcast_S_S512 (constant (F := Ideal) S_ .f32 0x3F800000#32)⟩,
    ⟨S512, shapeCast _ (broadcastInDim S4x128 ![0, 1] bcast_S1x128_S4x128_0_1 (shapeCast S1x128 (shapeCast S128 (extractStridedSlice S1x128 ![2, 0] k slices_S3x128_S1x128_2_0) shapeCasts_S1x128_S128) shapeCasts_S128_S1x128)) shapeCasts_S4x128_S512⟩,
    ⟨S512, broadcastInDim S512 ![] bcast_S_S512 (constant (F := Ideal) S_ .f32 0x3F800000#32)⟩] concatenates_S2048_S512_S512_S512_S512_S512_S512_S5120_d0

/-- Which columns are normalised. -/
def flags : FVec Ideal S5120 .f32 :=
  concatenate S5120 0 [⟨S2048, broadcastInDim S2048 ![] bcast_S_S2048 (constant (F := Ideal) S_ .f32 0x3F800000#32)⟩,
    ⟨S512, broadcastInDim S512 ![] bcast_S_S512 (constant (F := Ideal) S_ .f32 0x00000000#32)⟩,
    ⟨S512, broadcastInDim S512 ![] bcast_S_S512 (constant (F := Ideal) S_ .f32 0x00000000#32)⟩,
    ⟨S512, broadcastInDim S512 ![] bcast_S_S512 (constant (F := Ideal) S_ .f32 0x3F800000#32)⟩,
    ⟨S512, broadcastInDim S512 ![] bcast_S_S512 (constant (F := Ideal) S_ .f32 0x00000000#32)⟩,
    ⟨S512, broadcastInDim S512 ![] bcast_S_S512 (constant (F := Ideal) S_ .f32 0x3F800000#32)⟩,
    ⟨S512, broadcastInDim S512 ![] bcast_S_S512 (constant (F := Ideal) S_ .f32 0x00000000#32)⟩] concatenates_S2048_S512_S512_S512_S512_S512_S512_S5120_d0

def gainK (g : FVec Ideal S128 .f32) (k : FVec Ideal S3x128 .f32) : FVec Ideal S1x3072 .f32 :=
  extractStridedSlice S1x3072 ![0, 2048] (shapeCast S1x5120 (gains g k) shapeCasts_S5120_S1x5120) slices_S1x5120_S1x3072_0_2048
def flagK : FVec Ideal S1x3072 .f32 :=
  extractStridedSlice S1x3072 ![0, 2048] (shapeCast S1x5120 flags shapeCasts_S5120_S1x5120) slices_S1x5120_S1x3072_0_2048

/-- What part `j` of the columns holds of a head's products: parts 2 and 4 are normalised and scaled. -/
def spec (z : Fin 128 → EReal) (kg : FVec Ideal S3x128 .f32) (j : Fin 6) (i : Fin 128) : EReal :=
  if j.val = 2 then rms z i * kg (ix2 1 i) else if j.val = 4 then rms z i * kg (ix2 2 i) else z i

theorem flag0 (k : Fin 4) (i : Fin 128) : flagK (ix2 0 ⟨128 * k.val + i.val, by omega⟩) = Ideal.ofBits .f32 0x00000000#32 := by
  pointwise [flagK, flags]
  have n0 : (128 * k.val + i.val < 512) = True := eq_true (by omega)
  simp only [n0, dite_true, dite_false]

theorem flag1 (k : Fin 4) (i : Fin 128) : flagK (ix2 0 ⟨512 + (128 * k.val + i.val), by omega⟩) = Ideal.ofBits .f32 0x00000000#32 := by
  pointwise [flagK, flags]
  have n0 : (128 * k.val + i.val < 512) = True := eq_true (by omega)
  simp only [n0, dite_true, dite_false]

theorem gain2 (g : FVec Ideal S128 .f32) (kg : FVec Ideal S3x128 .f32) (k : Fin 4) (i : Fin 128) : gainK g kg (ix2 0 ⟨1024 + (128 * k.val + i.val), by omega⟩) = kg (ix2 1 i) := by
  pointwise [gainK, gains]
  have n0 : (1024 + (128 * k.val + i.val) < 512) = False := eq_false (by omega)
  have n1 : (1024 + (128 * k.val + i.val) - 512 < 512) = False := eq_false (by omega)
  have n2 : (1024 + (128 * k.val + i.val) - 512 - 512 < 512) = True := eq_true (by omega)
  simp only [n0, n1, n2, dite_true, dite_false]
  exact congrArg kg ((ix2_inj ..).2 ⟨rfl, Fin.ext (by show (1024 + (128 * k.val + i.val) - 512 - 512) % 128 = i.val; omega)⟩)

theorem flag2 (k : Fin 4) (i : Fin 128) : flagK (ix2 0 ⟨1024 + (128 * k.val + i.val), by omega⟩) = Ideal.ofBits .f32 0x3F800000#32 := by
  pointwise [flagK, flags]
  have n0 : (1024 + (128 * k.val + i.val) < 512) = False := eq_false (by omega)
  have n1 : (1024 + (128 * k.val + i.val) - 512 < 512) = False := eq_false (by omega)
  have n2 : (1024 + (128 * k.val + i.val) - 512 - 512 < 512) = True := eq_true (by omega)
  simp only [n0, n1, n2, dite_true, dite_false]

theorem flag3 (k : Fin 4) (i : Fin 128) : flagK (ix2 0 ⟨1536 + (128 * k.val + i.val), by omega⟩) = Ideal.ofBits .f32 0x00000000#32 := by
  pointwise [flagK, flags]
  have n0 : (1536 + (128 * k.val + i.val) < 512) = False := eq_false (by omega)
  have n1 : (1536 + (128 * k.val + i.val) - 512 < 512) = False := eq_false (by omega)
  have n2 : (1536 + (128 * k.val + i.val) - 512 - 512 < 512) = False := eq_false (by omega)
  have n3 : (1536 + (128 * k.val + i.val) - 512 - 512 - 512 < 512) = True := eq_true (by omega)
  simp only [n0, n1, n2, n3, dite_true, dite_false]

theorem gain4 (g : FVec Ideal S128 .f32) (kg : FVec Ideal S3x128 .f32) (k : Fin 4) (i : Fin 128) : gainK g kg (ix2 0 ⟨2048 + (128 * k.val + i.val), by omega⟩) = kg (ix2 2 i) := by
  pointwise [gainK, gains]
  have n0 : (2048 + (128 * k.val + i.val) < 512) = False := eq_false (by omega)
  have n1 : (2048 + (128 * k.val + i.val) - 512 < 512) = False := eq_false (by omega)
  have n2 : (2048 + (128 * k.val + i.val) - 512 - 512 < 512) = False := eq_false (by omega)
  have n3 : (2048 + (128 * k.val + i.val) - 512 - 512 - 512 < 512) = False := eq_false (by omega)
  have n4 : (2048 + (128 * k.val + i.val) - 512 - 512 - 512 - 512 < 512) = True := eq_true (by omega)
  simp only [n0, n1, n2, n3, n4, dite_true, dite_false]
  exact congrArg kg ((ix2_inj ..).2 ⟨rfl, Fin.ext (by show (2048 + (128 * k.val + i.val) - 512 - 512 - 512 - 512) % 128 = i.val; omega)⟩)

theorem flag4 (k : Fin 4) (i : Fin 128) : flagK (ix2 0 ⟨2048 + (128 * k.val + i.val), by omega⟩) = Ideal.ofBits .f32 0x3F800000#32 := by
  pointwise [flagK, flags]
  have n0 : (2048 + (128 * k.val + i.val) < 512) = False := eq_false (by omega)
  have n1 : (2048 + (128 * k.val + i.val) - 512 < 512) = False := eq_false (by omega)
  have n2 : (2048 + (128 * k.val + i.val) - 512 - 512 < 512) = False := eq_false (by omega)
  have n3 : (2048 + (128 * k.val + i.val) - 512 - 512 - 512 < 512) = False := eq_false (by omega)
  have n4 : (2048 + (128 * k.val + i.val) - 512 - 512 - 512 - 512 < 512) = True := eq_true (by omega)
  simp only [n0, n1, n2, n3, n4, dite_true, dite_false]

theorem flag5 (k : Fin 4) (i : Fin 128) : flagK (ix2 0 ⟨2560 + (128 * k.val + i.val), by omega⟩) = Ideal.ofBits .f32 0x00000000#32 := by
  pointwise [flagK, flags]
  have n0 : (2560 + (128 * k.val + i.val) < 512) = False := eq_false (by omega)
  have n1 : (2560 + (128 * k.val + i.val) - 512 < 512) = False := eq_false (by omega)
  have n2 : (2560 + (128 * k.val + i.val) - 512 - 512 < 512) = False := eq_false (by omega)
  have n3 : (2560 + (128 * k.val + i.val) - 512 - 512 - 512 < 512) = False := eq_false (by omega)
  have n4 : (2560 + (128 * k.val + i.val) - 512 - 512 - 512 - 512 < 512) = False := eq_false (by omega)
  simp only [n0, n1, n2, n3, n4, dite_true, dite_false]

/-- The flagged normalisation of a column is the one of its part. -/
theorem flagged_spec (z : Fin 128 → EReal) (g : FVec Ideal S128 .f32) (kg : FVec Ideal S3x128 .f32) (k : Fin 4) (i : Fin 128) : ∀ j : Fin 6,
    flagged z (gainK g kg (ix2 0 ⟨512 * j.val + (128 * k.val + i.val), by omega⟩)) (flagK (ix2 0 ⟨512 * j.val + (128 * k.val + i.val), by omega⟩)) i = spec z kg j i
  | 0 => by
    have e : flagK (ix2 0 ⟨512 * (0 : Fin 6).val + (128 * k.val + i.val), by omega⟩) = _ := (congrArg flagK (congrArg (ix2 0) (Fin.ext (by show 512 * 0 + (128 * k.val + i.val) = (128 * k.val + i.val); omega)))).trans (flag0 k i)
    rw [flagged, e, if_neg half_not_lt_zero]
    rfl
  | 1 => by
    have e : flagK (ix2 0 ⟨512 * (1 : Fin 6).val + (128 * k.val + i.val), by omega⟩) = _ := (congrArg flagK (congrArg (ix2 0) (Fin.ext (by show 512 * 1 + (128 * k.val + i.val) = 512 + (128 * k.val + i.val); omega)))).trans (flag1 k i)
    rw [flagged, e, if_neg half_not_lt_zero]
    rfl
  | 2 => by
    have e : flagK (ix2 0 ⟨512 * (2 : Fin 6).val + (128 * k.val + i.val), by omega⟩) = _ := (congrArg flagK (congrArg (ix2 0) (Fin.ext (by show 512 * 2 + (128 * k.val + i.val) = 1024 + (128 * k.val + i.val); omega)))).trans (flag2 k i)
    have e' : gainK g kg (ix2 0 ⟨512 * (2 : Fin 6).val + (128 * k.val + i.val), by omega⟩) = _ := (congrArg (gainK g kg) (congrArg (ix2 0) (Fin.ext (by show 512 * 2 + (128 * k.val + i.val) = 1024 + (128 * k.val + i.val); omega)))).trans (gain2 g kg k i)
    rw [flagged, e, if_pos half_lt_one, e']
    rfl
  | 3 => by
    have e : flagK (ix2 0 ⟨512 * (3 : Fin 6).val + (128 * k.val + i.val), by omega⟩) = _ := (congrArg flagK (congrArg (ix2 0) (Fin.ext (by show 512 * 3 + (128 * k.val + i.val) = 1536 + (128 * k.val + i.val); omega)))).trans (flag3 k i)
    rw [flagged, e, if_neg half_not_lt_zero]
    rfl
  | 4 => by
    have e : flagK (ix2 0 ⟨512 * (4 : Fin 6).val + (128 * k.val + i.val), by omega⟩) = _ := (congrArg flagK (congrArg (ix2 0) (Fin.ext (by show 512 * 4 + (128 * k.val + i.val) = 2048 + (128 * k.val + i.val); omega)))).trans (flag4 k i)
    have e' : gainK g kg (ix2 0 ⟨512 * (4 : Fin 6).val + (128 * k.val + i.val), by omega⟩) = _ := (congrArg (gainK g kg) (congrArg (ix2 0) (Fin.ext (by show 512 * 4 + (128 * k.val + i.val) = 2048 + (128 * k.val + i.val); omega)))).trans (gain4 g kg k i)
    rw [flagged, e, if_pos half_lt_one, e']
    rfl
  | 5 => by
    have e : flagK (ix2 0 ⟨512 * (5 : Fin 6).val + (128 * k.val + i.val), by omega⟩) = _ := (congrArg flagK (congrArg (ix2 0) (Fin.ext (by show 512 * 5 + (128 * k.val + i.val) = 2560 + (128 * k.val + i.val); omega)))).trans (flag5 k i)
    rw [flagged, e, if_neg half_not_lt_zero]
    rfl

/-! ## The reference -/

/-- The prompt product, by part and head. -/
def zP (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x6x4x128 .f32 :=
    (shapeCast Cert.Reference8Ideal.S8192x6x4x128 (Host.dotGeneral Cert.Reference8Ideal.dot_S8192x4096_S4096x3072_S8192x3072_1_0_0_1_n_n none (extf
    .f32 h Cert.Reference8Ideal.Gen.bitsLt_bf16_f32) (extf .f32 (extractStridedSlice Cert.Reference8Ideal.S4096x3072 ![0, 2048] w
    Cert.Reference8Ideal.Gen.slices_S4096x25088_S4096x3072_0_2048) Cert.Reference8Ideal.Gen.bitsLt_bf16_f32))
    Cert.Reference8Ideal.Gen.shapeCasts_S8192x3072_S8192x6x4x128)

/-- Part 0 of the prompt. -/
def partP0 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x4x128 .f32 :=
    (shapeCast Cert.Reference8Ideal.S8192x4x128 (extractStridedSlice Cert.Reference8Ideal.S8192x1x4x128 ![0, 0, 0, 0] (zP h hs w g kg)
    Cert.Reference8Ideal.Gen.slices_S8192x6x4x128_S8192x1x4x128_0_0_0_0) Cert.Reference8Ideal.Gen.shapeCasts_S8192x1x4x128_S8192x4x128)

/-- Part 1 of the prompt. -/
def partP1 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x4x128 .f32 :=
    (shapeCast Cert.Reference8Ideal.S8192x4x128 (extractStridedSlice Cert.Reference8Ideal.S8192x1x4x128 ![0, 1, 0, 0] (zP h hs w g kg)
    Cert.Reference8Ideal.Gen.slices_S8192x6x4x128_S8192x1x4x128_0_1_0_0) Cert.Reference8Ideal.Gen.shapeCasts_S8192x1x4x128_S8192x4x128)

/-- Part 2 of the prompt. -/
def partP2 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x4x128 .f32 :=
    (mulf (mulf (shapeCast Cert.Reference8Ideal.S8192x4x128 (extractStridedSlice Cert.Reference8Ideal.S8192x1x4x128 ![0, 2, 0, 0] (zP h hs w g kg)
    Cert.Reference8Ideal.Gen.slices_S8192x6x4x128_S8192x1x4x128_0_2_0_0) Cert.Reference8Ideal.Gen.shapeCasts_S8192x1x4x128_S8192x4x128)
    (broadcastInDim Cert.Reference8Ideal.S8192x4x128 ![0, 1, 2] Cert.Reference8Ideal.Gen.bcast_S8192x4x1_S8192x4x128_0_1_2 (Host.rsqrt (addf
    (Host.divf (broadcastInDim Cert.Reference8Ideal.S8192x4x1 ![0, 1] Cert.Reference8Ideal.Gen.bcast_S8192x4_S8192x4x1_0_1 (Host.reduceAdd (mulf
    (shapeCast Cert.Reference8Ideal.S8192x4x128 (extractStridedSlice Cert.Reference8Ideal.S8192x1x4x128 ![0, 2, 0, 0] (zP h hs w g kg)
    Cert.Reference8Ideal.Gen.slices_S8192x6x4x128_S8192x1x4x128_0_2_0_0) Cert.Reference8Ideal.Gen.shapeCasts_S8192x1x4x128_S8192x4x128) (shapeCast
    Cert.Reference8Ideal.S8192x4x128 (extractStridedSlice Cert.Reference8Ideal.S8192x1x4x128 ![0, 2, 0, 0] (zP h hs w g kg)
    Cert.Reference8Ideal.Gen.slices_S8192x6x4x128_S8192x1x4x128_0_2_0_0) Cert.Reference8Ideal.Gen.shapeCasts_S8192x1x4x128_S8192x4x128)) (constant
    Cert.Reference8Ideal.S_ .f32 0x00000000#32) Cert.Reference8Ideal.Gen.reducesTo_S8192x4x128_S8192x4_d2 Cert.Reference8Ideal.Gen.h_S_))
    (broadcastInDim Cert.Reference8Ideal.S8192x4x1 ![] Cert.Reference8Ideal.Gen.bcast_S_S8192x4x1 (constant Cert.Reference8Ideal.S_ .f32
    0x43000000#32))) (broadcastInDim Cert.Reference8Ideal.S8192x4x1 ![] Cert.Reference8Ideal.Gen.bcast_S_S8192x4x1 (constant Cert.Reference8Ideal.S_
    .f32 0x358637BD#32)))))) (broadcastInDim Cert.Reference8Ideal.S8192x4x128 ![0, 1, 2] Cert.Reference8Ideal.Gen.bcast_S1x1x128_S8192x4x128_0_1_2
    (broadcastInDim Cert.Reference8Ideal.S1x1x128 ![2] Cert.Reference8Ideal.Gen.bcast_S128_S1x1x128_2 (shapeCast Cert.Reference8Ideal.S128
    (extractStridedSlice Cert.Reference8Ideal.S1x128 ![1, 0] kg Cert.Reference8Ideal.Gen.slices_S3x128_S1x128_1_0)
    Cert.Reference8Ideal.Gen.shapeCasts_S1x128_S128))))

/-- Part 3 of the prompt. -/
def partP3 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x4x128 .f32 :=
    (shapeCast Cert.Reference8Ideal.S8192x4x128 (extractStridedSlice Cert.Reference8Ideal.S8192x1x4x128 ![0, 3, 0, 0] (zP h hs w g kg)
    Cert.Reference8Ideal.Gen.slices_S8192x6x4x128_S8192x1x4x128_0_3_0_0) Cert.Reference8Ideal.Gen.shapeCasts_S8192x1x4x128_S8192x4x128)

/-- Part 4 of the prompt. -/
def partP4 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x4x128 .f32 :=
    (mulf (mulf (shapeCast Cert.Reference8Ideal.S8192x4x128 (extractStridedSlice Cert.Reference8Ideal.S8192x1x4x128 ![0, 4, 0, 0] (zP h hs w g kg)
    Cert.Reference8Ideal.Gen.slices_S8192x6x4x128_S8192x1x4x128_0_4_0_0) Cert.Reference8Ideal.Gen.shapeCasts_S8192x1x4x128_S8192x4x128)
    (broadcastInDim Cert.Reference8Ideal.S8192x4x128 ![0, 1, 2] Cert.Reference8Ideal.Gen.bcast_S8192x4x1_S8192x4x128_0_1_2 (Host.rsqrt (addf
    (Host.divf (broadcastInDim Cert.Reference8Ideal.S8192x4x1 ![0, 1] Cert.Reference8Ideal.Gen.bcast_S8192x4_S8192x4x1_0_1 (Host.reduceAdd (mulf
    (shapeCast Cert.Reference8Ideal.S8192x4x128 (extractStridedSlice Cert.Reference8Ideal.S8192x1x4x128 ![0, 4, 0, 0] (zP h hs w g kg)
    Cert.Reference8Ideal.Gen.slices_S8192x6x4x128_S8192x1x4x128_0_4_0_0) Cert.Reference8Ideal.Gen.shapeCasts_S8192x1x4x128_S8192x4x128) (shapeCast
    Cert.Reference8Ideal.S8192x4x128 (extractStridedSlice Cert.Reference8Ideal.S8192x1x4x128 ![0, 4, 0, 0] (zP h hs w g kg)
    Cert.Reference8Ideal.Gen.slices_S8192x6x4x128_S8192x1x4x128_0_4_0_0) Cert.Reference8Ideal.Gen.shapeCasts_S8192x1x4x128_S8192x4x128)) (constant
    Cert.Reference8Ideal.S_ .f32 0x00000000#32) Cert.Reference8Ideal.Gen.reducesTo_S8192x4x128_S8192x4_d2 Cert.Reference8Ideal.Gen.h_S_))
    (broadcastInDim Cert.Reference8Ideal.S8192x4x1 ![] Cert.Reference8Ideal.Gen.bcast_S_S8192x4x1 (constant Cert.Reference8Ideal.S_ .f32
    0x43000000#32))) (broadcastInDim Cert.Reference8Ideal.S8192x4x1 ![] Cert.Reference8Ideal.Gen.bcast_S_S8192x4x1 (constant Cert.Reference8Ideal.S_
    .f32 0x358637BD#32)))))) (broadcastInDim Cert.Reference8Ideal.S8192x4x128 ![0, 1, 2] Cert.Reference8Ideal.Gen.bcast_S1x1x128_S8192x4x128_0_1_2
    (broadcastInDim Cert.Reference8Ideal.S1x1x128 ![2] Cert.Reference8Ideal.Gen.bcast_S128_S1x1x128_2 (shapeCast Cert.Reference8Ideal.S128
    (extractStridedSlice Cert.Reference8Ideal.S1x128 ![2, 0] kg Cert.Reference8Ideal.Gen.slices_S3x128_S1x128_2_0)
    Cert.Reference8Ideal.Gen.shapeCasts_S1x128_S128))))

/-- Part 5 of the prompt. -/
def partP5 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x4x128 .f32 :=
    (shapeCast Cert.Reference8Ideal.S8192x4x128 (extractStridedSlice Cert.Reference8Ideal.S8192x1x4x128 ![0, 5, 0, 0] (zP h hs w g kg)
    Cert.Reference8Ideal.Gen.slices_S8192x6x4x128_S8192x1x4x128_0_5_0_0) Cert.Reference8Ideal.Gen.shapeCasts_S8192x1x4x128_S8192x4x128)

/-- The prompt rows. -/
abbrev targetP (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x3072 .f32 :=
    (shapeCast Cert.Reference8Ideal.S8192x3072 ((concatenate Cert.Reference8Ideal.S8192x6x4x128 1 [⟨Cert.Reference8Ideal.S8192x1x4x128,
    (broadcastInDim Cert.Reference8Ideal.S8192x1x4x128 ![0, 2, 3] Cert.Reference8Ideal.Gen.bcast_S8192x4x128_S8192x1x4x128_0_2_3 (partP0 h hs w g
    kg))⟩, ⟨Cert.Reference8Ideal.S8192x1x4x128, (broadcastInDim Cert.Reference8Ideal.S8192x1x4x128 ![0, 2, 3]
    Cert.Reference8Ideal.Gen.bcast_S8192x4x128_S8192x1x4x128_0_2_3 (partP1 h hs w g kg))⟩, ⟨Cert.Reference8Ideal.S8192x1x4x128, (broadcastInDim
    Cert.Reference8Ideal.S8192x1x4x128 ![0, 2, 3] Cert.Reference8Ideal.Gen.bcast_S8192x4x128_S8192x1x4x128_0_2_3 (partP2 h hs w g kg))⟩,
    ⟨Cert.Reference8Ideal.S8192x1x4x128, (broadcastInDim Cert.Reference8Ideal.S8192x1x4x128 ![0, 2, 3]
    Cert.Reference8Ideal.Gen.bcast_S8192x4x128_S8192x1x4x128_0_2_3 (partP3 h hs w g kg))⟩, ⟨Cert.Reference8Ideal.S8192x1x4x128, (broadcastInDim
    Cert.Reference8Ideal.S8192x1x4x128 ![0, 2, 3] Cert.Reference8Ideal.Gen.bcast_S8192x4x128_S8192x1x4x128_0_2_3 (partP4 h hs w g kg))⟩,
    ⟨Cert.Reference8Ideal.S8192x1x4x128, (broadcastInDim Cert.Reference8Ideal.S8192x1x4x128 ![0, 2, 3]
    Cert.Reference8Ideal.Gen.bcast_S8192x4x128_S8192x1x4x128_0_2_3 (partP5 h hs w g kg))⟩]
    Cert.Reference8Ideal.Gen.concatenates_S8192x1x4x128_S8192x1x4x128_S8192x1x4x128_S8192x1x4x128_S8192x1x4x128_S8192x1x4x128_S8192x6x4x128_d1))
    Cert.Reference8Ideal.Gen.shapeCasts_S8192x6x4x128_S8192x3072)

/-- The prompt rows in the narrow format. -/
abbrev targetB (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8192x3072 .bf16 :=
    (truncf .bf16 (shapeCast Cert.Reference8Ideal.S8192x3072 ((concatenate Cert.Reference8Ideal.S8192x6x4x128 1 [⟨Cert.Reference8Ideal.S8192x1x4x128,
    (broadcastInDim Cert.Reference8Ideal.S8192x1x4x128 ![0, 2, 3] Cert.Reference8Ideal.Gen.bcast_S8192x4x128_S8192x1x4x128_0_2_3 (partP0 h hs w g
    kg))⟩, ⟨Cert.Reference8Ideal.S8192x1x4x128, (broadcastInDim Cert.Reference8Ideal.S8192x1x4x128 ![0, 2, 3]
    Cert.Reference8Ideal.Gen.bcast_S8192x4x128_S8192x1x4x128_0_2_3 (partP1 h hs w g kg))⟩, ⟨Cert.Reference8Ideal.S8192x1x4x128, (broadcastInDim
    Cert.Reference8Ideal.S8192x1x4x128 ![0, 2, 3] Cert.Reference8Ideal.Gen.bcast_S8192x4x128_S8192x1x4x128_0_2_3 (partP2 h hs w g kg))⟩,
    ⟨Cert.Reference8Ideal.S8192x1x4x128, (broadcastInDim Cert.Reference8Ideal.S8192x1x4x128 ![0, 2, 3]
    Cert.Reference8Ideal.Gen.bcast_S8192x4x128_S8192x1x4x128_0_2_3 (partP3 h hs w g kg))⟩, ⟨Cert.Reference8Ideal.S8192x1x4x128, (broadcastInDim
    Cert.Reference8Ideal.S8192x1x4x128 ![0, 2, 3] Cert.Reference8Ideal.Gen.bcast_S8192x4x128_S8192x1x4x128_0_2_3 (partP4 h hs w g kg))⟩,
    ⟨Cert.Reference8Ideal.S8192x1x4x128, (broadcastInDim Cert.Reference8Ideal.S8192x1x4x128 ![0, 2, 3]
    Cert.Reference8Ideal.Gen.bcast_S8192x4x128_S8192x1x4x128_0_2_3 (partP5 h hs w g kg))⟩]
    Cert.Reference8Ideal.Gen.concatenates_S8192x1x4x128_S8192x1x4x128_S8192x1x4x128_S8192x1x4x128_S8192x1x4x128_S8192x1x4x128_S8192x6x4x128_d1))
    Cert.Reference8Ideal.Gen.shapeCasts_S8192x6x4x128_S8192x3072) Cert.Reference8Ideal.Gen.bitsLt_bf16_f32)

/-- The rows of the heads, by part. -/
abbrev targetH (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S6x32768x128 .f32 :=
    ((concatenate Cert.Reference8Ideal.S6x32768x128 0 [⟨Cert.Reference8Ideal.S1x32768x128, (broadcastInDim Cert.Reference8Ideal.S1x32768x128 ![1, 2]
    Cert.Reference8Ideal.Gen.bcast_S32768x128_S1x32768x128_1_2 (shapeCast Cert.Reference8Ideal.S32768x128 (partP0 h hs w g kg)
    Cert.Reference8Ideal.Gen.shapeCasts_S8192x4x128_S32768x128))⟩, ⟨Cert.Reference8Ideal.S1x32768x128, (broadcastInDim
    Cert.Reference8Ideal.S1x32768x128 ![1, 2] Cert.Reference8Ideal.Gen.bcast_S32768x128_S1x32768x128_1_2 (shapeCast Cert.Reference8Ideal.S32768x128
    (partP1 h hs w g kg) Cert.Reference8Ideal.Gen.shapeCasts_S8192x4x128_S32768x128))⟩, ⟨Cert.Reference8Ideal.S1x32768x128, (broadcastInDim
    Cert.Reference8Ideal.S1x32768x128 ![1, 2] Cert.Reference8Ideal.Gen.bcast_S32768x128_S1x32768x128_1_2 (shapeCast Cert.Reference8Ideal.S32768x128
    (partP2 h hs w g kg) Cert.Reference8Ideal.Gen.shapeCasts_S8192x4x128_S32768x128))⟩, ⟨Cert.Reference8Ideal.S1x32768x128, (broadcastInDim
    Cert.Reference8Ideal.S1x32768x128 ![1, 2] Cert.Reference8Ideal.Gen.bcast_S32768x128_S1x32768x128_1_2 (shapeCast Cert.Reference8Ideal.S32768x128
    (partP3 h hs w g kg) Cert.Reference8Ideal.Gen.shapeCasts_S8192x4x128_S32768x128))⟩, ⟨Cert.Reference8Ideal.S1x32768x128, (broadcastInDim
    Cert.Reference8Ideal.S1x32768x128 ![1, 2] Cert.Reference8Ideal.Gen.bcast_S32768x128_S1x32768x128_1_2 (shapeCast Cert.Reference8Ideal.S32768x128
    (partP4 h hs w g kg) Cert.Reference8Ideal.Gen.shapeCasts_S8192x4x128_S32768x128))⟩, ⟨Cert.Reference8Ideal.S1x32768x128, (broadcastInDim
    Cert.Reference8Ideal.S1x32768x128 ![1, 2] Cert.Reference8Ideal.Gen.bcast_S32768x128_S1x32768x128_1_2 (shapeCast Cert.Reference8Ideal.S32768x128
    (partP5 h hs w g kg) Cert.Reference8Ideal.Gen.shapeCasts_S8192x4x128_S32768x128))⟩]
    Cert.Reference8Ideal.Gen.concatenates_S1x32768x128_S1x32768x128_S1x32768x128_S1x32768x128_S1x32768x128_S1x32768x128_S6x32768x128_d0))

/-- The sample product, by part and head. -/
def zS (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8x6x4x128 .f32 :=
    (shapeCast Cert.Reference8Ideal.S8x6x4x128 (Host.dotGeneral Cert.Reference8Ideal.dot_S8x4096_S4096x3072_S8x3072_1_0_0_1_n_n none (extf .f32 hs
    Cert.Reference8Ideal.Gen.bitsLt_bf16_f32) (extf .f32 (extractStridedSlice Cert.Reference8Ideal.S4096x3072 ![0, 2048] w
    Cert.Reference8Ideal.Gen.slices_S4096x25088_S4096x3072_0_2048) Cert.Reference8Ideal.Gen.bitsLt_bf16_f32))
    Cert.Reference8Ideal.Gen.shapeCasts_S8x3072_S8x6x4x128)

/-- Part 0 of the sample. -/
def partS0 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8x4x128 .f32 :=
    (shapeCast Cert.Reference8Ideal.S8x4x128 (extractStridedSlice Cert.Reference8Ideal.S8x1x4x128 ![0, 0, 0, 0] (zS h hs w g kg)
    Cert.Reference8Ideal.Gen.slices_S8x6x4x128_S8x1x4x128_0_0_0_0) Cert.Reference8Ideal.Gen.shapeCasts_S8x1x4x128_S8x4x128)

/-- Part 1 of the sample. -/
def partS1 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8x4x128 .f32 :=
    (shapeCast Cert.Reference8Ideal.S8x4x128 (extractStridedSlice Cert.Reference8Ideal.S8x1x4x128 ![0, 1, 0, 0] (zS h hs w g kg)
    Cert.Reference8Ideal.Gen.slices_S8x6x4x128_S8x1x4x128_0_1_0_0) Cert.Reference8Ideal.Gen.shapeCasts_S8x1x4x128_S8x4x128)

/-- Part 2 of the sample. -/
def partS2 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8x4x128 .f32 :=
    (mulf (mulf (shapeCast Cert.Reference8Ideal.S8x4x128 (extractStridedSlice Cert.Reference8Ideal.S8x1x4x128 ![0, 2, 0, 0] (zS h hs w g kg)
    Cert.Reference8Ideal.Gen.slices_S8x6x4x128_S8x1x4x128_0_2_0_0) Cert.Reference8Ideal.Gen.shapeCasts_S8x1x4x128_S8x4x128) (broadcastInDim
    Cert.Reference8Ideal.S8x4x128 ![0, 1, 2] Cert.Reference8Ideal.Gen.bcast_S8x4x1_S8x4x128_0_1_2 (Host.rsqrt (addf (Host.divf (broadcastInDim
    Cert.Reference8Ideal.S8x4x1 ![0, 1] Cert.Reference8Ideal.Gen.bcast_S8x4_S8x4x1_0_1 (Host.reduceAdd (mulf (shapeCast Cert.Reference8Ideal.S8x4x128
    (extractStridedSlice Cert.Reference8Ideal.S8x1x4x128 ![0, 2, 0, 0] (zS h hs w g kg) Cert.Reference8Ideal.Gen.slices_S8x6x4x128_S8x1x4x128_0_2_0_0)
    Cert.Reference8Ideal.Gen.shapeCasts_S8x1x4x128_S8x4x128) (shapeCast Cert.Reference8Ideal.S8x4x128 (extractStridedSlice
    Cert.Reference8Ideal.S8x1x4x128 ![0, 2, 0, 0] (zS h hs w g kg) Cert.Reference8Ideal.Gen.slices_S8x6x4x128_S8x1x4x128_0_2_0_0)
    Cert.Reference8Ideal.Gen.shapeCasts_S8x1x4x128_S8x4x128)) (constant Cert.Reference8Ideal.S_ .f32 0x00000000#32)
    Cert.Reference8Ideal.Gen.reducesTo_S8x4x128_S8x4_d2 Cert.Reference8Ideal.Gen.h_S_)) (broadcastInDim Cert.Reference8Ideal.S8x4x1 ![]
    Cert.Reference8Ideal.Gen.bcast_S_S8x4x1 (constant Cert.Reference8Ideal.S_ .f32 0x43000000#32))) (broadcastInDim Cert.Reference8Ideal.S8x4x1 ![]
    Cert.Reference8Ideal.Gen.bcast_S_S8x4x1 (constant Cert.Reference8Ideal.S_ .f32 0x358637BD#32)))))) (broadcastInDim Cert.Reference8Ideal.S8x4x128
    ![0, 1, 2] Cert.Reference8Ideal.Gen.bcast_S1x1x128_S8x4x128_0_1_2 (broadcastInDim Cert.Reference8Ideal.S1x1x128 ![2]
    Cert.Reference8Ideal.Gen.bcast_S128_S1x1x128_2 (shapeCast Cert.Reference8Ideal.S128 (extractStridedSlice Cert.Reference8Ideal.S1x128 ![1, 0] kg
    Cert.Reference8Ideal.Gen.slices_S3x128_S1x128_1_0) Cert.Reference8Ideal.Gen.shapeCasts_S1x128_S128))))

/-- Part 3 of the sample. -/
def partS3 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8x4x128 .f32 :=
    (shapeCast Cert.Reference8Ideal.S8x4x128 (extractStridedSlice Cert.Reference8Ideal.S8x1x4x128 ![0, 3, 0, 0] (zS h hs w g kg)
    Cert.Reference8Ideal.Gen.slices_S8x6x4x128_S8x1x4x128_0_3_0_0) Cert.Reference8Ideal.Gen.shapeCasts_S8x1x4x128_S8x4x128)

/-- Part 4 of the sample. -/
def partS4 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8x4x128 .f32 :=
    (mulf (mulf (shapeCast Cert.Reference8Ideal.S8x4x128 (extractStridedSlice Cert.Reference8Ideal.S8x1x4x128 ![0, 4, 0, 0] (zS h hs w g kg)
    Cert.Reference8Ideal.Gen.slices_S8x6x4x128_S8x1x4x128_0_4_0_0) Cert.Reference8Ideal.Gen.shapeCasts_S8x1x4x128_S8x4x128) (broadcastInDim
    Cert.Reference8Ideal.S8x4x128 ![0, 1, 2] Cert.Reference8Ideal.Gen.bcast_S8x4x1_S8x4x128_0_1_2 (Host.rsqrt (addf (Host.divf (broadcastInDim
    Cert.Reference8Ideal.S8x4x1 ![0, 1] Cert.Reference8Ideal.Gen.bcast_S8x4_S8x4x1_0_1 (Host.reduceAdd (mulf (shapeCast Cert.Reference8Ideal.S8x4x128
    (extractStridedSlice Cert.Reference8Ideal.S8x1x4x128 ![0, 4, 0, 0] (zS h hs w g kg) Cert.Reference8Ideal.Gen.slices_S8x6x4x128_S8x1x4x128_0_4_0_0)
    Cert.Reference8Ideal.Gen.shapeCasts_S8x1x4x128_S8x4x128) (shapeCast Cert.Reference8Ideal.S8x4x128 (extractStridedSlice
    Cert.Reference8Ideal.S8x1x4x128 ![0, 4, 0, 0] (zS h hs w g kg) Cert.Reference8Ideal.Gen.slices_S8x6x4x128_S8x1x4x128_0_4_0_0)
    Cert.Reference8Ideal.Gen.shapeCasts_S8x1x4x128_S8x4x128)) (constant Cert.Reference8Ideal.S_ .f32 0x00000000#32)
    Cert.Reference8Ideal.Gen.reducesTo_S8x4x128_S8x4_d2 Cert.Reference8Ideal.Gen.h_S_)) (broadcastInDim Cert.Reference8Ideal.S8x4x1 ![]
    Cert.Reference8Ideal.Gen.bcast_S_S8x4x1 (constant Cert.Reference8Ideal.S_ .f32 0x43000000#32))) (broadcastInDim Cert.Reference8Ideal.S8x4x1 ![]
    Cert.Reference8Ideal.Gen.bcast_S_S8x4x1 (constant Cert.Reference8Ideal.S_ .f32 0x358637BD#32)))))) (broadcastInDim Cert.Reference8Ideal.S8x4x128
    ![0, 1, 2] Cert.Reference8Ideal.Gen.bcast_S1x1x128_S8x4x128_0_1_2 (broadcastInDim Cert.Reference8Ideal.S1x1x128 ![2]
    Cert.Reference8Ideal.Gen.bcast_S128_S1x1x128_2 (shapeCast Cert.Reference8Ideal.S128 (extractStridedSlice Cert.Reference8Ideal.S1x128 ![2, 0] kg
    Cert.Reference8Ideal.Gen.slices_S3x128_S1x128_2_0) Cert.Reference8Ideal.Gen.shapeCasts_S1x128_S128))))

/-- Part 5 of the sample. -/
def partS5 (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8x4x128 .f32 :=
    (shapeCast Cert.Reference8Ideal.S8x4x128 (extractStridedSlice Cert.Reference8Ideal.S8x1x4x128 ![0, 5, 0, 0] (zS h hs w g kg)
    Cert.Reference8Ideal.Gen.slices_S8x6x4x128_S8x1x4x128_0_5_0_0) Cert.Reference8Ideal.Gen.shapeCasts_S8x1x4x128_S8x4x128)

/-- The sample rows. -/
abbrev targetS (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) : FVec Ideal Cert.Reference8Ideal.S8x3072 .f32 :=
    (shapeCast Cert.Reference8Ideal.S8x3072 ((concatenate Cert.Reference8Ideal.S8x6x4x128 1 [⟨Cert.Reference8Ideal.S8x1x4x128, (broadcastInDim
    Cert.Reference8Ideal.S8x1x4x128 ![0, 2, 3] Cert.Reference8Ideal.Gen.bcast_S8x4x128_S8x1x4x128_0_2_3 (partS0 h hs w g kg))⟩,
    ⟨Cert.Reference8Ideal.S8x1x4x128, (broadcastInDim Cert.Reference8Ideal.S8x1x4x128 ![0, 2, 3]
    Cert.Reference8Ideal.Gen.bcast_S8x4x128_S8x1x4x128_0_2_3 (partS1 h hs w g kg))⟩, ⟨Cert.Reference8Ideal.S8x1x4x128, (broadcastInDim
    Cert.Reference8Ideal.S8x1x4x128 ![0, 2, 3] Cert.Reference8Ideal.Gen.bcast_S8x4x128_S8x1x4x128_0_2_3 (partS2 h hs w g kg))⟩,
    ⟨Cert.Reference8Ideal.S8x1x4x128, (broadcastInDim Cert.Reference8Ideal.S8x1x4x128 ![0, 2, 3]
    Cert.Reference8Ideal.Gen.bcast_S8x4x128_S8x1x4x128_0_2_3 (partS3 h hs w g kg))⟩, ⟨Cert.Reference8Ideal.S8x1x4x128, (broadcastInDim
    Cert.Reference8Ideal.S8x1x4x128 ![0, 2, 3] Cert.Reference8Ideal.Gen.bcast_S8x4x128_S8x1x4x128_0_2_3 (partS4 h hs w g kg))⟩,
    ⟨Cert.Reference8Ideal.S8x1x4x128, (broadcastInDim Cert.Reference8Ideal.S8x1x4x128 ![0, 2, 3]
    Cert.Reference8Ideal.Gen.bcast_S8x4x128_S8x1x4x128_0_2_3 (partS5 h hs w g kg))⟩]
    Cert.Reference8Ideal.Gen.concatenates_S8x1x4x128_S8x1x4x128_S8x1x4x128_S8x1x4x128_S8x1x4x128_S8x1x4x128_S8x6x4x128_d1))
    Cert.Reference8Ideal.Gen.shapeCasts_S8x6x4x128_S8x3072)

/-- A row times a key or value column. -/
def refP (h : FVec Ideal Cert.Reference8Ideal.S8192x4096 .bf16) (w : FVec Ideal Cert.Reference8Ideal.S4096x25088 .bf16) (r : Fin 8192) (l : Fin 3072) : EReal :=
  ∑ k : Fin 4096, h (ix2 r k) * w (ix2 k ⟨2048 + l.val, by omega⟩)

theorem zP_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (j : Fin 6) (k : Fin 4) (i : Fin 128) : zP h hs w g kg (ix4 r j k i)
    = refP h w r ⟨512 * j.val + (128 * k.val + i.val), by omega⟩ := by
  pointwise [zP, refP]
  simp only [show j.val * 512 + k.val * 128 + i.val = 512 * j.val + (128 * k.val + i.val) by omega]

theorem partP0_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : partP0 h hs w g kg (ix3 r k i)
    = spec (fun a => refP h w r ⟨512 * (0 : Fin 6).val + (128 * k.val + a.val), by omega⟩) kg 0 i := by
  simp only [← zP_at h hs w g kg]
  pointwise [partP0, spec, rms]

theorem partP1_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : partP1 h hs w g kg (ix3 r k i)
    = spec (fun a => refP h w r ⟨512 * (1 : Fin 6).val + (128 * k.val + a.val), by omega⟩) kg 1 i := by
  simp only [← zP_at h hs w g kg]
  pointwise [partP1, spec, rms]

theorem partP2_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : partP2 h hs w g kg (ix3 r k i)
    = spec (fun a => refP h w r ⟨512 * (2 : Fin 6).val + (128 * k.val + a.val), by omega⟩) kg 2 i := by
  simp only [← zP_at h hs w g kg]
  pointwise [partP2, spec, rms]

theorem partP3_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : partP3 h hs w g kg (ix3 r k i)
    = spec (fun a => refP h w r ⟨512 * (3 : Fin 6).val + (128 * k.val + a.val), by omega⟩) kg 3 i := by
  simp only [← zP_at h hs w g kg]
  pointwise [partP3, spec, rms]

theorem partP4_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : partP4 h hs w g kg (ix3 r k i)
    = spec (fun a => refP h w r ⟨512 * (4 : Fin 6).val + (128 * k.val + a.val), by omega⟩) kg 4 i := by
  simp only [← zP_at h hs w g kg]
  pointwise [partP4, spec, rms]

theorem partP5_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : partP5 h hs w g kg (ix3 r k i)
    = spec (fun a => refP h w r ⟨512 * (5 : Fin 6).val + (128 * k.val + a.val), by omega⟩) kg 5 i := by
  simp only [← zP_at h hs w g kg]
  pointwise [partP5, spec, rms]

theorem targetP0_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetP h hs w g kg (ix2 r ⟨128 * k.val + i.val, by omega⟩) = partP0 h hs w g kg (ix3 r k i) := by
  pointwise [targetP]
  have n0 : ((128 * k.val + i.val) / 512 < 1) = True := eq_true (by omega)
  simp only [n0, dite_true, dite_false]

theorem targetP1_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetP h hs w g kg (ix2 r ⟨512 + (128 * k.val + i.val), by omega⟩) = partP1 h hs w g kg (ix3 r k i) := by
  pointwise [targetP]
  have n0 : ((512 + (128 * k.val + i.val)) / 512 < 1) = False := eq_false (by omega)
  have n1 : ((512 + (128 * k.val + i.val)) / 512 - 1 < 1) = True := eq_true (by omega)
  simp only [n0, n1, dite_true, dite_false]

theorem targetP2_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetP h hs w g kg (ix2 r ⟨1024 + (128 * k.val + i.val), by omega⟩) = partP2 h hs w g kg (ix3 r k i) := by
  pointwise [targetP]
  have n0 : ((1024 + (128 * k.val + i.val)) / 512 < 1) = False := eq_false (by omega)
  have n1 : ((1024 + (128 * k.val + i.val)) / 512 - 1 < 1) = False := eq_false (by omega)
  have n2 : ((1024 + (128 * k.val + i.val)) / 512 - 1 - 1 < 1) = True := eq_true (by omega)
  simp only [n0, n1, n2, dite_true, dite_false]

theorem targetP3_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetP h hs w g kg (ix2 r ⟨1536 + (128 * k.val + i.val), by omega⟩) = partP3 h hs w g kg (ix3 r k i) := by
  pointwise [targetP]
  have n0 : ((1536 + (128 * k.val + i.val)) / 512 < 1) = False := eq_false (by omega)
  have n1 : ((1536 + (128 * k.val + i.val)) / 512 - 1 < 1) = False := eq_false (by omega)
  have n2 : ((1536 + (128 * k.val + i.val)) / 512 - 1 - 1 < 1) = False := eq_false (by omega)
  have n3 : ((1536 + (128 * k.val + i.val)) / 512 - 1 - 1 - 1 < 1) = True := eq_true (by omega)
  simp only [n0, n1, n2, n3, dite_true, dite_false]

theorem targetP4_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetP h hs w g kg (ix2 r ⟨2048 + (128 * k.val + i.val), by omega⟩) = partP4 h hs w g kg (ix3 r k i) := by
  pointwise [targetP]
  have n0 : ((2048 + (128 * k.val + i.val)) / 512 < 1) = False := eq_false (by omega)
  have n1 : ((2048 + (128 * k.val + i.val)) / 512 - 1 < 1) = False := eq_false (by omega)
  have n2 : ((2048 + (128 * k.val + i.val)) / 512 - 1 - 1 < 1) = False := eq_false (by omega)
  have n3 : ((2048 + (128 * k.val + i.val)) / 512 - 1 - 1 - 1 < 1) = False := eq_false (by omega)
  have n4 : ((2048 + (128 * k.val + i.val)) / 512 - 1 - 1 - 1 - 1 < 1) = True := eq_true (by omega)
  simp only [n0, n1, n2, n3, n4, dite_true, dite_false]

theorem targetP5_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetP h hs w g kg (ix2 r ⟨2560 + (128 * k.val + i.val), by omega⟩) = partP5 h hs w g kg (ix3 r k i) := by
  pointwise [targetP]
  have n0 : ((2560 + (128 * k.val + i.val)) / 512 < 1) = False := eq_false (by omega)
  have n1 : ((2560 + (128 * k.val + i.val)) / 512 - 1 < 1) = False := eq_false (by omega)
  have n2 : ((2560 + (128 * k.val + i.val)) / 512 - 1 - 1 < 1) = False := eq_false (by omega)
  have n3 : ((2560 + (128 * k.val + i.val)) / 512 - 1 - 1 - 1 < 1) = False := eq_false (by omega)
  have n4 : ((2560 + (128 * k.val + i.val)) / 512 - 1 - 1 - 1 - 1 < 1) = False := eq_false (by omega)
  simp only [n0, n1, n2, n3, n4, dite_true, dite_false]

theorem targetP_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : ∀ j : Fin 6, targetP h hs w g kg (ix2 r ⟨512 * j.val + (128 * k.val + i.val), by omega⟩)
    = spec (fun a => refP h w r ⟨512 * j.val + (128 * k.val + a.val), by omega⟩) kg j i
  | 0 => (congrArg (targetP h hs w g kg) (congrArg (ix2 r) (Fin.ext (by show 512 * 0 + (128 * k.val + i.val) = (128 * k.val + i.val); omega)))).trans ((targetP0_at h hs w g kg r k i).trans (partP0_at h hs w g kg r k i))
  | 1 => (congrArg (targetP h hs w g kg) (congrArg (ix2 r) (Fin.ext (by show 512 * 1 + (128 * k.val + i.val) = 512 + (128 * k.val + i.val); omega)))).trans ((targetP1_at h hs w g kg r k i).trans (partP1_at h hs w g kg r k i))
  | 2 => (congrArg (targetP h hs w g kg) (congrArg (ix2 r) (Fin.ext (by show 512 * 2 + (128 * k.val + i.val) = 1024 + (128 * k.val + i.val); omega)))).trans ((targetP2_at h hs w g kg r k i).trans (partP2_at h hs w g kg r k i))
  | 3 => (congrArg (targetP h hs w g kg) (congrArg (ix2 r) (Fin.ext (by show 512 * 3 + (128 * k.val + i.val) = 1536 + (128 * k.val + i.val); omega)))).trans ((targetP3_at h hs w g kg r k i).trans (partP3_at h hs w g kg r k i))
  | 4 => (congrArg (targetP h hs w g kg) (congrArg (ix2 r) (Fin.ext (by show 512 * 4 + (128 * k.val + i.val) = 2048 + (128 * k.val + i.val); omega)))).trans ((targetP4_at h hs w g kg r k i).trans (partP4_at h hs w g kg r k i))
  | 5 => (congrArg (targetP h hs w g kg) (congrArg (ix2 r) (Fin.ext (by show 512 * 5 + (128 * k.val + i.val) = 2560 + (128 * k.val + i.val); omega)))).trans ((targetP5_at h hs w g kg r k i).trans (partP5_at h hs w g kg r k i))

theorem targetB0_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetB h hs w g kg (ix2 r ⟨128 * k.val + i.val, by omega⟩) = partP0 h hs w g kg (ix3 r k i) := by
  pointwise [targetB]
  have n0 : ((128 * k.val + i.val) / 512 < 1) = True := eq_true (by omega)
  simp only [n0, dite_true, dite_false]

theorem targetB1_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetB h hs w g kg (ix2 r ⟨512 + (128 * k.val + i.val), by omega⟩) = partP1 h hs w g kg (ix3 r k i) := by
  pointwise [targetB]
  have n0 : ((512 + (128 * k.val + i.val)) / 512 < 1) = False := eq_false (by omega)
  have n1 : ((512 + (128 * k.val + i.val)) / 512 - 1 < 1) = True := eq_true (by omega)
  simp only [n0, n1, dite_true, dite_false]

theorem targetB2_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetB h hs w g kg (ix2 r ⟨1024 + (128 * k.val + i.val), by omega⟩) = partP2 h hs w g kg (ix3 r k i) := by
  pointwise [targetB]
  have n0 : ((1024 + (128 * k.val + i.val)) / 512 < 1) = False := eq_false (by omega)
  have n1 : ((1024 + (128 * k.val + i.val)) / 512 - 1 < 1) = False := eq_false (by omega)
  have n2 : ((1024 + (128 * k.val + i.val)) / 512 - 1 - 1 < 1) = True := eq_true (by omega)
  simp only [n0, n1, n2, dite_true, dite_false]

theorem targetB3_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetB h hs w g kg (ix2 r ⟨1536 + (128 * k.val + i.val), by omega⟩) = partP3 h hs w g kg (ix3 r k i) := by
  pointwise [targetB]
  have n0 : ((1536 + (128 * k.val + i.val)) / 512 < 1) = False := eq_false (by omega)
  have n1 : ((1536 + (128 * k.val + i.val)) / 512 - 1 < 1) = False := eq_false (by omega)
  have n2 : ((1536 + (128 * k.val + i.val)) / 512 - 1 - 1 < 1) = False := eq_false (by omega)
  have n3 : ((1536 + (128 * k.val + i.val)) / 512 - 1 - 1 - 1 < 1) = True := eq_true (by omega)
  simp only [n0, n1, n2, n3, dite_true, dite_false]

theorem targetB4_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetB h hs w g kg (ix2 r ⟨2048 + (128 * k.val + i.val), by omega⟩) = partP4 h hs w g kg (ix3 r k i) := by
  pointwise [targetB]
  have n0 : ((2048 + (128 * k.val + i.val)) / 512 < 1) = False := eq_false (by omega)
  have n1 : ((2048 + (128 * k.val + i.val)) / 512 - 1 < 1) = False := eq_false (by omega)
  have n2 : ((2048 + (128 * k.val + i.val)) / 512 - 1 - 1 < 1) = False := eq_false (by omega)
  have n3 : ((2048 + (128 * k.val + i.val)) / 512 - 1 - 1 - 1 < 1) = False := eq_false (by omega)
  have n4 : ((2048 + (128 * k.val + i.val)) / 512 - 1 - 1 - 1 - 1 < 1) = True := eq_true (by omega)
  simp only [n0, n1, n2, n3, n4, dite_true, dite_false]

theorem targetB5_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetB h hs w g kg (ix2 r ⟨2560 + (128 * k.val + i.val), by omega⟩) = partP5 h hs w g kg (ix3 r k i) := by
  pointwise [targetB]
  have n0 : ((2560 + (128 * k.val + i.val)) / 512 < 1) = False := eq_false (by omega)
  have n1 : ((2560 + (128 * k.val + i.val)) / 512 - 1 < 1) = False := eq_false (by omega)
  have n2 : ((2560 + (128 * k.val + i.val)) / 512 - 1 - 1 < 1) = False := eq_false (by omega)
  have n3 : ((2560 + (128 * k.val + i.val)) / 512 - 1 - 1 - 1 < 1) = False := eq_false (by omega)
  have n4 : ((2560 + (128 * k.val + i.val)) / 512 - 1 - 1 - 1 - 1 < 1) = False := eq_false (by omega)
  simp only [n0, n1, n2, n3, n4, dite_true, dite_false]

theorem targetB_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : ∀ j : Fin 6, targetB h hs w g kg (ix2 r ⟨512 * j.val + (128 * k.val + i.val), by omega⟩)
    = spec (fun a => refP h w r ⟨512 * j.val + (128 * k.val + a.val), by omega⟩) kg j i
  | 0 => (congrArg (targetB h hs w g kg) (congrArg (ix2 r) (Fin.ext (by show 512 * 0 + (128 * k.val + i.val) = (128 * k.val + i.val); omega)))).trans ((targetB0_at h hs w g kg r k i).trans (partP0_at h hs w g kg r k i))
  | 1 => (congrArg (targetB h hs w g kg) (congrArg (ix2 r) (Fin.ext (by show 512 * 1 + (128 * k.val + i.val) = 512 + (128 * k.val + i.val); omega)))).trans ((targetB1_at h hs w g kg r k i).trans (partP1_at h hs w g kg r k i))
  | 2 => (congrArg (targetB h hs w g kg) (congrArg (ix2 r) (Fin.ext (by show 512 * 2 + (128 * k.val + i.val) = 1024 + (128 * k.val + i.val); omega)))).trans ((targetB2_at h hs w g kg r k i).trans (partP2_at h hs w g kg r k i))
  | 3 => (congrArg (targetB h hs w g kg) (congrArg (ix2 r) (Fin.ext (by show 512 * 3 + (128 * k.val + i.val) = 1536 + (128 * k.val + i.val); omega)))).trans ((targetB3_at h hs w g kg r k i).trans (partP3_at h hs w g kg r k i))
  | 4 => (congrArg (targetB h hs w g kg) (congrArg (ix2 r) (Fin.ext (by show 512 * 4 + (128 * k.val + i.val) = 2048 + (128 * k.val + i.val); omega)))).trans ((targetB4_at h hs w g kg r k i).trans (partP4_at h hs w g kg r k i))
  | 5 => (congrArg (targetB h hs w g kg) (congrArg (ix2 r) (Fin.ext (by show 512 * 5 + (128 * k.val + i.val) = 2560 + (128 * k.val + i.val); omega)))).trans ((targetB5_at h hs w g kg r k i).trans (partP5_at h hs w g kg r k i))

theorem targetH0_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetH h hs w g kg (ix3 0 ⟨4 * r.val + k.val, by omega⟩ i) = partP0 h hs w g kg (ix3 r k i) := by
  pointwise [targetH]

theorem targetH1_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetH h hs w g kg (ix3 1 ⟨4 * r.val + k.val, by omega⟩ i) = partP1 h hs w g kg (ix3 r k i) := by
  pointwise [targetH]

theorem targetH2_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetH h hs w g kg (ix3 2 ⟨4 * r.val + k.val, by omega⟩ i) = partP2 h hs w g kg (ix3 r k i) := by
  pointwise [targetH]

theorem targetH3_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetH h hs w g kg (ix3 3 ⟨4 * r.val + k.val, by omega⟩ i) = partP3 h hs w g kg (ix3 r k i) := by
  pointwise [targetH]

theorem targetH4_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetH h hs w g kg (ix3 4 ⟨4 * r.val + k.val, by omega⟩ i) = partP4 h hs w g kg (ix3 r k i) := by
  pointwise [targetH]

theorem targetH5_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : targetH h hs w g kg (ix3 5 ⟨4 * r.val + k.val, by omega⟩ i) = partP5 h hs w g kg (ix3 r k i) := by
  pointwise [targetH]

theorem targetH_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8192) (k : Fin 4) (i : Fin 128) : ∀ j : Fin 6, targetH h hs w g kg (ix3 j ⟨4 * r.val + k.val, by omega⟩ i)
    = spec (fun a => refP h w r ⟨512 * j.val + (128 * k.val + a.val), by omega⟩) kg j i
  | 0 => ((targetH0_at h hs w g kg r k i).trans (partP0_at h hs w g kg r k i))
  | 1 => ((targetH1_at h hs w g kg r k i).trans (partP1_at h hs w g kg r k i))
  | 2 => ((targetH2_at h hs w g kg r k i).trans (partP2_at h hs w g kg r k i))
  | 3 => ((targetH3_at h hs w g kg r k i).trans (partP3_at h hs w g kg r k i))
  | 4 => ((targetH4_at h hs w g kg r k i).trans (partP4_at h hs w g kg r k i))
  | 5 => ((targetH5_at h hs w g kg r k i).trans (partP5_at h hs w g kg r k i))

/-- A row times a key or value column. -/
def refS (hs : FVec Ideal Cert.Reference8Ideal.S8x4096 .bf16) (w : FVec Ideal Cert.Reference8Ideal.S4096x25088 .bf16) (r : Fin 8) (l : Fin 3072) : EReal :=
  ∑ k : Fin 4096, hs (ix2 r k) * w (ix2 k ⟨2048 + l.val, by omega⟩)

theorem zS_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (j : Fin 6) (k : Fin 4) (i : Fin 128) : zS h hs w g kg (ix4 r j k i)
    = refS hs w r ⟨512 * j.val + (128 * k.val + i.val), by omega⟩ := by
  pointwise [zS, refS]
  simp only [show j.val * 512 + k.val * 128 + i.val = 512 * j.val + (128 * k.val + i.val) by omega]

theorem partS0_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : partS0 h hs w g kg (ix3 r k i)
    = spec (fun a => refS hs w r ⟨512 * (0 : Fin 6).val + (128 * k.val + a.val), by omega⟩) kg 0 i := by
  simp only [← zS_at h hs w g kg]
  pointwise [partS0, spec, rms]

theorem partS1_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : partS1 h hs w g kg (ix3 r k i)
    = spec (fun a => refS hs w r ⟨512 * (1 : Fin 6).val + (128 * k.val + a.val), by omega⟩) kg 1 i := by
  simp only [← zS_at h hs w g kg]
  pointwise [partS1, spec, rms]

theorem partS2_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : partS2 h hs w g kg (ix3 r k i)
    = spec (fun a => refS hs w r ⟨512 * (2 : Fin 6).val + (128 * k.val + a.val), by omega⟩) kg 2 i := by
  simp only [← zS_at h hs w g kg]
  pointwise [partS2, spec, rms]

theorem partS3_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : partS3 h hs w g kg (ix3 r k i)
    = spec (fun a => refS hs w r ⟨512 * (3 : Fin 6).val + (128 * k.val + a.val), by omega⟩) kg 3 i := by
  simp only [← zS_at h hs w g kg]
  pointwise [partS3, spec, rms]

theorem partS4_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : partS4 h hs w g kg (ix3 r k i)
    = spec (fun a => refS hs w r ⟨512 * (4 : Fin 6).val + (128 * k.val + a.val), by omega⟩) kg 4 i := by
  simp only [← zS_at h hs w g kg]
  pointwise [partS4, spec, rms]

theorem partS5_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : partS5 h hs w g kg (ix3 r k i)
    = spec (fun a => refS hs w r ⟨512 * (5 : Fin 6).val + (128 * k.val + a.val), by omega⟩) kg 5 i := by
  simp only [← zS_at h hs w g kg]
  pointwise [partS5, spec, rms]

theorem targetS0_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : targetS h hs w g kg (ix2 r ⟨128 * k.val + i.val, by omega⟩) = partS0 h hs w g kg (ix3 r k i) := by
  pointwise [targetS]
  have n0 : ((128 * k.val + i.val) / 512 < 1) = True := eq_true (by omega)
  simp only [n0, dite_true, dite_false]

theorem targetS1_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : targetS h hs w g kg (ix2 r ⟨512 + (128 * k.val + i.val), by omega⟩) = partS1 h hs w g kg (ix3 r k i) := by
  pointwise [targetS]
  have n0 : ((512 + (128 * k.val + i.val)) / 512 < 1) = False := eq_false (by omega)
  have n1 : ((512 + (128 * k.val + i.val)) / 512 - 1 < 1) = True := eq_true (by omega)
  simp only [n0, n1, dite_true, dite_false]

theorem targetS2_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : targetS h hs w g kg (ix2 r ⟨1024 + (128 * k.val + i.val), by omega⟩) = partS2 h hs w g kg (ix3 r k i) := by
  pointwise [targetS]
  have n0 : ((1024 + (128 * k.val + i.val)) / 512 < 1) = False := eq_false (by omega)
  have n1 : ((1024 + (128 * k.val + i.val)) / 512 - 1 < 1) = False := eq_false (by omega)
  have n2 : ((1024 + (128 * k.val + i.val)) / 512 - 1 - 1 < 1) = True := eq_true (by omega)
  simp only [n0, n1, n2, dite_true, dite_false]

theorem targetS3_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : targetS h hs w g kg (ix2 r ⟨1536 + (128 * k.val + i.val), by omega⟩) = partS3 h hs w g kg (ix3 r k i) := by
  pointwise [targetS]
  have n0 : ((1536 + (128 * k.val + i.val)) / 512 < 1) = False := eq_false (by omega)
  have n1 : ((1536 + (128 * k.val + i.val)) / 512 - 1 < 1) = False := eq_false (by omega)
  have n2 : ((1536 + (128 * k.val + i.val)) / 512 - 1 - 1 < 1) = False := eq_false (by omega)
  have n3 : ((1536 + (128 * k.val + i.val)) / 512 - 1 - 1 - 1 < 1) = True := eq_true (by omega)
  simp only [n0, n1, n2, n3, dite_true, dite_false]

theorem targetS4_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : targetS h hs w g kg (ix2 r ⟨2048 + (128 * k.val + i.val), by omega⟩) = partS4 h hs w g kg (ix3 r k i) := by
  pointwise [targetS]
  have n0 : ((2048 + (128 * k.val + i.val)) / 512 < 1) = False := eq_false (by omega)
  have n1 : ((2048 + (128 * k.val + i.val)) / 512 - 1 < 1) = False := eq_false (by omega)
  have n2 : ((2048 + (128 * k.val + i.val)) / 512 - 1 - 1 < 1) = False := eq_false (by omega)
  have n3 : ((2048 + (128 * k.val + i.val)) / 512 - 1 - 1 - 1 < 1) = False := eq_false (by omega)
  have n4 : ((2048 + (128 * k.val + i.val)) / 512 - 1 - 1 - 1 - 1 < 1) = True := eq_true (by omega)
  simp only [n0, n1, n2, n3, n4, dite_true, dite_false]

theorem targetS5_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : targetS h hs w g kg (ix2 r ⟨2560 + (128 * k.val + i.val), by omega⟩) = partS5 h hs w g kg (ix3 r k i) := by
  pointwise [targetS]
  have n0 : ((2560 + (128 * k.val + i.val)) / 512 < 1) = False := eq_false (by omega)
  have n1 : ((2560 + (128 * k.val + i.val)) / 512 - 1 < 1) = False := eq_false (by omega)
  have n2 : ((2560 + (128 * k.val + i.val)) / 512 - 1 - 1 < 1) = False := eq_false (by omega)
  have n3 : ((2560 + (128 * k.val + i.val)) / 512 - 1 - 1 - 1 < 1) = False := eq_false (by omega)
  have n4 : ((2560 + (128 * k.val + i.val)) / 512 - 1 - 1 - 1 - 1 < 1) = False := eq_false (by omega)
  simp only [n0, n1, n2, n3, n4, dite_true, dite_false]

theorem targetS_at (h : FVec Ideal Cert.Reference8Ideal.S8192x4096 .bf16) (hs : FVec Ideal Cert.Reference8Ideal.S8x4096 .bf16) (w : FVec Ideal Cert.Reference8Ideal.S4096x25088 .bf16) (g : FVec Ideal Cert.Reference8Ideal.S128 .f32) (kg : FVec Ideal Cert.Reference8Ideal.S3x128 .f32) (r : Fin 8) (k : Fin 4) (i : Fin 128) : ∀ j : Fin 6, targetS h hs w g kg (ix2 r ⟨512 * j.val + (128 * k.val + i.val), by omega⟩)
    = spec (fun a => refS hs w r ⟨512 * j.val + (128 * k.val + a.val), by omega⟩) kg j i
  | 0 => (congrArg (targetS h hs w g kg) (congrArg (ix2 r) (Fin.ext (by show 512 * 0 + (128 * k.val + i.val) = (128 * k.val + i.val); omega)))).trans ((targetS0_at h hs w g kg r k i).trans (partS0_at h hs w g kg r k i))
  | 1 => (congrArg (targetS h hs w g kg) (congrArg (ix2 r) (Fin.ext (by show 512 * 1 + (128 * k.val + i.val) = 512 + (128 * k.val + i.val); omega)))).trans ((targetS1_at h hs w g kg r k i).trans (partS1_at h hs w g kg r k i))
  | 2 => (congrArg (targetS h hs w g kg) (congrArg (ix2 r) (Fin.ext (by show 512 * 2 + (128 * k.val + i.val) = 1024 + (128 * k.val + i.val); omega)))).trans ((targetS2_at h hs w g kg r k i).trans (partS2_at h hs w g kg r k i))
  | 3 => (congrArg (targetS h hs w g kg) (congrArg (ix2 r) (Fin.ext (by show 512 * 3 + (128 * k.val + i.val) = 1536 + (128 * k.val + i.val); omega)))).trans ((targetS3_at h hs w g kg r k i).trans (partS3_at h hs w g kg r k i))
  | 4 => (congrArg (targetS h hs w g kg) (congrArg (ix2 r) (Fin.ext (by show 512 * 4 + (128 * k.val + i.val) = 2048 + (128 * k.val + i.val); omega)))).trans ((targetS4_at h hs w g kg r k i).trans (partS4_at h hs w g kg r k i))
  | 5 => (congrArg (targetS h hs w g kg) (congrArg (ix2 r) (Fin.ext (by show 512 * 5 + (128 * k.val + i.val) = 2560 + (128 * k.val + i.val); omega)))).trans ((targetS5_at h hs w g kg r k i).trans (partS5_at h hs w g kg r k i))

end Cert.Kernel8Ideal.Value

end
-- ==== Proof.KvPoint.lean ====
/- What the projection of the keys and values stores, element by element. -/
module

public import proofs.«01_k».proof.Proof.Gen.Kernel8Ideal.Frame
public import proofs.«01_k».proof.Proof.Gen.Reference8Ideal
public import Idealize.ShloMosaic.Lib.Pipeline.ValueKit
public import Idealize.ShloMosaic.Lib.StableHlo.Run
public import proofs.«01_k».proof.Proof.KvRun
public import proofs.«01_k».proof.Proof.KvMath

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Value

open Cert.Kernel8Ideal Cert.Kernel8Ideal.Gen Cert.Kernel8Ideal.Run Cert.Head

/-- A row times a column of the weight block. -/
def dotP (x : FVec Ideal S1024x4096 .bf16) (x2 : FVec Ideal S4096x512 .bf16) (r : Fin 1024) (l : Fin 512) : EReal :=
  ∑ k : Fin 4096, x (ix2 r k) * x2 (ix2 k l)

/-- A row times a column of the weight block. -/
def dotS (x : FVec Ideal S8x4096 .bf16) (x2 : FVec Ideal S4096x512 .bf16) (r : Fin 8) (l : Fin 512) : EReal :=
  ∑ k : Fin 4096, x (ix2 r k) * x2 (ix2 k l)

def payP (x0 : FVec Ideal S1024x4096 .bf16) (x1 : FVec Ideal S8x4096 .bf16) (x2 : FVec Ideal S4096x512 .bf16) (x3 x4 : FVec Ideal S1x512 .f32) : FVec Ideal S1024x512 .f32 :=
  k0_pay19 (k0_pay12 (F := Ideal) x2 x0 (View.ld x3 rg0) (View.ld x4 rg0)) (k0_pay15 (k0_pay13 x2 x0) (k0_pay14 x2 x0 (View.ld x3 rg1)) (View.ld x4 rg1)) (k0_pay16 (k0_pay11 x2 x0) (View.ld x3 rg2) (View.ld x4 rg2)) (k0_pay17 (k0_pay11 x2 x0)) (k0_pay18 (k0_pay11 x2 x0) (View.ld x3 rg3)) (View.ld x4 rg3)

theorem payP_0 (x0 : FVec Ideal S1024x4096 .bf16) (x1 : FVec Ideal S8x4096 .bf16) (x2 : FVec Ideal S4096x512 .bf16) (x3 x4 : FVec Ideal S1x512 .f32) (r : Fin 1024) (i : Fin 128) : payP x0 x1 x2 x3 x4 (ix2 r ⟨0 + i.val, by omega⟩)
    = flagged (fun a => dotP x0 x2 r ⟨0 + a.val, by omega⟩) (x3 (ix2 0 ⟨0 + i.val, by omega⟩)) (x4 (ix2 0 ⟨0 + i.val, by omega⟩)) i := by
  pointwise [payP, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]

theorem payP_1 (x0 : FVec Ideal S1024x4096 .bf16) (x1 : FVec Ideal S8x4096 .bf16) (x2 : FVec Ideal S4096x512 .bf16) (x3 x4 : FVec Ideal S1x512 .f32) (r : Fin 1024) (i : Fin 128) : payP x0 x1 x2 x3 x4 (ix2 r ⟨128 + i.val, by omega⟩)
    = flagged (fun a => dotP x0 x2 r ⟨128 + a.val, by omega⟩) (x3 (ix2 0 ⟨128 + i.val, by omega⟩)) (x4 (ix2 0 ⟨128 + i.val, by omega⟩)) i := by
  pointwise [payP, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]

theorem payP_2 (x0 : FVec Ideal S1024x4096 .bf16) (x1 : FVec Ideal S8x4096 .bf16) (x2 : FVec Ideal S4096x512 .bf16) (x3 x4 : FVec Ideal S1x512 .f32) (r : Fin 1024) (i : Fin 128) : payP x0 x1 x2 x3 x4 (ix2 r ⟨256 + i.val, by omega⟩)
    = flagged (fun a => dotP x0 x2 r ⟨256 + a.val, by omega⟩) (x3 (ix2 0 ⟨256 + i.val, by omega⟩)) (x4 (ix2 0 ⟨256 + i.val, by omega⟩)) i := by
  pointwise [payP, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]
  have n0 : (256 + i.val < 128) = False := eq_false (by omega)
  have e0 : 256 + i.val - 128 = 128 + i.val := by omega
  have n1 : (128 + i.val < 128) = False := eq_false (by omega)
  have e1 : 128 + i.val - 128 = i.val := by omega
  have b : (i.val < 128) = True := eq_true i.isLt
  simp only [n0, e0, n1, e1, b, Nat.add_sub_cancel_left, dite_true, dite_false, ← Nat.add_assoc, Nat.reduceAdd]

theorem payP_3 (x0 : FVec Ideal S1024x4096 .bf16) (x1 : FVec Ideal S8x4096 .bf16) (x2 : FVec Ideal S4096x512 .bf16) (x3 x4 : FVec Ideal S1x512 .f32) (r : Fin 1024) (i : Fin 128) : payP x0 x1 x2 x3 x4 (ix2 r ⟨384 + i.val, by omega⟩)
    = flagged (fun a => dotP x0 x2 r ⟨384 + a.val, by omega⟩) (x3 (ix2 0 ⟨384 + i.val, by omega⟩)) (x4 (ix2 0 ⟨384 + i.val, by omega⟩)) i := by
  pointwise [payP, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]
  have n0 : (384 + i.val < 128) = False := eq_false (by omega)
  have e0 : 384 + i.val - 128 = 256 + i.val := by omega
  have n1 : (256 + i.val < 128) = False := eq_false (by omega)
  have e1 : 256 + i.val - 128 = 128 + i.val := by omega
  have n2 : (128 + i.val < 128) = False := eq_false (by omega)
  have e2 : 128 + i.val - 128 = i.val := by omega
  have b : (i.val < 128) = True := eq_true i.isLt
  simp only [n0, e0, n1, e1, n2, e2, b, Nat.add_sub_cancel_left, dite_true, dite_false, ← Nat.add_assoc, Nat.reduceAdd]

theorem payP_at (x0 : FVec Ideal S1024x4096 .bf16) (x1 : FVec Ideal S8x4096 .bf16) (x2 : FVec Ideal S4096x512 .bf16) (x3 x4 : FVec Ideal S1x512 .f32) (r : Fin 1024) (i : Fin 128) : ∀ k : Fin 4, payP x0 x1 x2 x3 x4 (ix2 r ⟨128 * k.val + i.val, by omega⟩)
    = flagged (fun a => dotP x0 x2 r ⟨128 * k.val + a.val, by omega⟩) (x3 (ix2 0 ⟨128 * k.val + i.val, by omega⟩)) (x4 (ix2 0 ⟨128 * k.val + i.val, by omega⟩)) i
  | 0 => payP_0 x0 x1 x2 x3 x4 r i
  | 1 => payP_1 x0 x1 x2 x3 x4 r i
  | 2 => payP_2 x0 x1 x2 x3 x4 r i
  | 3 => payP_3 x0 x1 x2 x3 x4 r i

def payB (x0 : FVec Ideal S1024x4096 .bf16) (x1 : FVec Ideal S8x4096 .bf16) (x2 : FVec Ideal S4096x512 .bf16) (x3 x4 : FVec Ideal S1x512 .f32) : FVec Ideal S1024x512 .bf16 :=
  k0_pay20 (k0_pay12 (F := Ideal) x2 x0 (View.ld x3 rg0) (View.ld x4 rg0)) (k0_pay15 (k0_pay13 x2 x0) (k0_pay14 x2 x0 (View.ld x3 rg1)) (View.ld x4 rg1)) (k0_pay16 (k0_pay11 x2 x0) (View.ld x3 rg2) (View.ld x4 rg2)) (k0_pay17 (k0_pay11 x2 x0)) (k0_pay18 (k0_pay11 x2 x0) (View.ld x3 rg3)) (View.ld x4 rg3)

theorem payB_0 (x0 : FVec Ideal S1024x4096 .bf16) (x1 : FVec Ideal S8x4096 .bf16) (x2 : FVec Ideal S4096x512 .bf16) (x3 x4 : FVec Ideal S1x512 .f32) (r : Fin 1024) (i : Fin 128) : payB x0 x1 x2 x3 x4 (ix2 r ⟨0 + i.val, by omega⟩)
    = flagged (fun a => dotP x0 x2 r ⟨0 + a.val, by omega⟩) (x3 (ix2 0 ⟨0 + i.val, by omega⟩)) (x4 (ix2 0 ⟨0 + i.val, by omega⟩)) i := by
  pointwise [payB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]

theorem payB_1 (x0 : FVec Ideal S1024x4096 .bf16) (x1 : FVec Ideal S8x4096 .bf16) (x2 : FVec Ideal S4096x512 .bf16) (x3 x4 : FVec Ideal S1x512 .f32) (r : Fin 1024) (i : Fin 128) : payB x0 x1 x2 x3 x4 (ix2 r ⟨128 + i.val, by omega⟩)
    = flagged (fun a => dotP x0 x2 r ⟨128 + a.val, by omega⟩) (x3 (ix2 0 ⟨128 + i.val, by omega⟩)) (x4 (ix2 0 ⟨128 + i.val, by omega⟩)) i := by
  pointwise [payB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]

theorem payB_2 (x0 : FVec Ideal S1024x4096 .bf16) (x1 : FVec Ideal S8x4096 .bf16) (x2 : FVec Ideal S4096x512 .bf16) (x3 x4 : FVec Ideal S1x512 .f32) (r : Fin 1024) (i : Fin 128) : payB x0 x1 x2 x3 x4 (ix2 r ⟨256 + i.val, by omega⟩)
    = flagged (fun a => dotP x0 x2 r ⟨256 + a.val, by omega⟩) (x3 (ix2 0 ⟨256 + i.val, by omega⟩)) (x4 (ix2 0 ⟨256 + i.val, by omega⟩)) i := by
  pointwise [payB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]
  have n0 : (256 + i.val < 128) = False := eq_false (by omega)
  have e0 : 256 + i.val - 128 = 128 + i.val := by omega
  have n1 : (128 + i.val < 128) = False := eq_false (by omega)
  have e1 : 128 + i.val - 128 = i.val := by omega
  have b : (i.val < 128) = True := eq_true i.isLt
  simp only [n0, e0, n1, e1, b, Nat.add_sub_cancel_left, dite_true, dite_false, ← Nat.add_assoc, Nat.reduceAdd]

theorem payB_3 (x0 : FVec Ideal S1024x4096 .bf16) (x1 : FVec Ideal S8x4096 .bf16) (x2 : FVec Ideal S4096x512 .bf16) (x3 x4 : FVec Ideal S1x512 .f32) (r : Fin 1024) (i : Fin 128) : payB x0 x1 x2 x3 x4 (ix2 r ⟨384 + i.val, by omega⟩)
    = flagged (fun a => dotP x0 x2 r ⟨384 + a.val, by omega⟩) (x3 (ix2 0 ⟨384 + i.val, by omega⟩)) (x4 (ix2 0 ⟨384 + i.val, by omega⟩)) i := by
  pointwise [payB, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]
  have n0 : (384 + i.val < 128) = False := eq_false (by omega)
  have e0 : 384 + i.val - 128 = 256 + i.val := by omega
  have n1 : (256 + i.val < 128) = False := eq_false (by omega)
  have e1 : 256 + i.val - 128 = 128 + i.val := by omega
  have n2 : (128 + i.val < 128) = False := eq_false (by omega)
  have e2 : 128 + i.val - 128 = i.val := by omega
  have b : (i.val < 128) = True := eq_true i.isLt
  simp only [n0, e0, n1, e1, n2, e2, b, Nat.add_sub_cancel_left, dite_true, dite_false, ← Nat.add_assoc, Nat.reduceAdd]

theorem payB_at (x0 : FVec Ideal S1024x4096 .bf16) (x1 : FVec Ideal S8x4096 .bf16) (x2 : FVec Ideal S4096x512 .bf16) (x3 x4 : FVec Ideal S1x512 .f32) (r : Fin 1024) (i : Fin 128) : ∀ k : Fin 4, payB x0 x1 x2 x3 x4 (ix2 r ⟨128 * k.val + i.val, by omega⟩)
    = flagged (fun a => dotP x0 x2 r ⟨128 * k.val + a.val, by omega⟩) (x3 (ix2 0 ⟨128 * k.val + i.val, by omega⟩)) (x4 (ix2 0 ⟨128 * k.val + i.val, by omega⟩)) i
  | 0 => payB_0 x0 x1 x2 x3 x4 r i
  | 1 => payB_1 x0 x1 x2 x3 x4 r i
  | 2 => payB_2 x0 x1 x2 x3 x4 r i
  | 3 => payB_3 x0 x1 x2 x3 x4 r i

def payS (x0 : FVec Ideal S1024x4096 .bf16) (x1 : FVec Ideal S8x4096 .bf16) (x2 : FVec Ideal S4096x512 .bf16) (x3 x4 : FVec Ideal S1x512 .f32) : FVec Ideal S8x512 .f32 :=
  k0_pay25 (k0_pay2 (F := Ideal) x2 x1 (View.ld x3 rg0) (View.ld x4 rg0)) (k0_pay6 (k0_pay3 x2 x1) (k0_pay4 x2 x1 (View.ld x3 rg1)) (k0_pay5 (View.ld x4 rg1)) (Scalar.ofBits .f32 0x3F000000#32)) (k0_pay7 (k0_pay1 x2 x1) (View.ld x3 rg2) (View.ld x4 rg2)) (k0_pay8 (k0_pay1 x2 x1)) (k0_pay9 (k0_pay1 x2 x1) (View.ld x3 rg3)) (k0_pay10 (View.ld x4 rg3)) (Scalar.ofBits .f32 0x3F000000#32)

theorem payS_0 (x0 : FVec Ideal S1024x4096 .bf16) (x1 : FVec Ideal S8x4096 .bf16) (x2 : FVec Ideal S4096x512 .bf16) (x3 x4 : FVec Ideal S1x512 .f32) (r : Fin 8) (i : Fin 128) : payS x0 x1 x2 x3 x4 (ix2 r ⟨0 + i.val, by omega⟩)
    = flagged (fun a => dotS x1 x2 r ⟨0 + a.val, by omega⟩) (x3 (ix2 0 ⟨0 + i.val, by omega⟩)) (x4 (ix2 0 ⟨0 + i.val, by omega⟩)) i := by
  pointwise [payS, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotS, rg0, rg1, rg2, rg3]

theorem payS_1 (x0 : FVec Ideal S1024x4096 .bf16) (x1 : FVec Ideal S8x4096 .bf16) (x2 : FVec Ideal S4096x512 .bf16) (x3 x4 : FVec Ideal S1x512 .f32) (r : Fin 8) (i : Fin 128) : payS x0 x1 x2 x3 x4 (ix2 r ⟨128 + i.val, by omega⟩)
    = flagged (fun a => dotS x1 x2 r ⟨128 + a.val, by omega⟩) (x3 (ix2 0 ⟨128 + i.val, by omega⟩)) (x4 (ix2 0 ⟨128 + i.val, by omega⟩)) i := by
  pointwise [payS, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotS, rg0, rg1, rg2, rg3]

theorem payS_2 (x0 : FVec Ideal S1024x4096 .bf16) (x1 : FVec Ideal S8x4096 .bf16) (x2 : FVec Ideal S4096x512 .bf16) (x3 x4 : FVec Ideal S1x512 .f32) (r : Fin 8) (i : Fin 128) : payS x0 x1 x2 x3 x4 (ix2 r ⟨256 + i.val, by omega⟩)
    = flagged (fun a => dotS x1 x2 r ⟨256 + a.val, by omega⟩) (x3 (ix2 0 ⟨256 + i.val, by omega⟩)) (x4 (ix2 0 ⟨256 + i.val, by omega⟩)) i := by
  pointwise [payS, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotS, rg0, rg1, rg2, rg3]
  have n0 : (256 + i.val < 128) = False := eq_false (by omega)
  have e0 : 256 + i.val - 128 = 128 + i.val := by omega
  have n1 : (128 + i.val < 128) = False := eq_false (by omega)
  have e1 : 128 + i.val - 128 = i.val := by omega
  have b : (i.val < 128) = True := eq_true i.isLt
  simp only [n0, e0, n1, e1, b, Nat.add_sub_cancel_left, dite_true, dite_false, ← Nat.add_assoc, Nat.reduceAdd]

theorem payS_3 (x0 : FVec Ideal S1024x4096 .bf16) (x1 : FVec Ideal S8x4096 .bf16) (x2 : FVec Ideal S4096x512 .bf16) (x3 x4 : FVec Ideal S1x512 .f32) (r : Fin 8) (i : Fin 128) : payS x0 x1 x2 x3 x4 (ix2 r ⟨384 + i.val, by omega⟩)
    = flagged (fun a => dotS x1 x2 r ⟨384 + a.val, by omega⟩) (x3 (ix2 0 ⟨384 + i.val, by omega⟩)) (x4 (ix2 0 ⟨384 + i.val, by omega⟩)) i := by
  pointwise [payS, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotS, rg0, rg1, rg2, rg3]
  have n0 : (384 + i.val < 128) = False := eq_false (by omega)
  have e0 : 384 + i.val - 128 = 256 + i.val := by omega
  have n1 : (256 + i.val < 128) = False := eq_false (by omega)
  have e1 : 256 + i.val - 128 = 128 + i.val := by omega
  have n2 : (128 + i.val < 128) = False := eq_false (by omega)
  have e2 : 128 + i.val - 128 = i.val := by omega
  have b : (i.val < 128) = True := eq_true i.isLt
  simp only [n0, e0, n1, e1, n2, e2, b, Nat.add_sub_cancel_left, dite_true, dite_false, ← Nat.add_assoc, Nat.reduceAdd]

theorem payS_at (x0 : FVec Ideal S1024x4096 .bf16) (x1 : FVec Ideal S8x4096 .bf16) (x2 : FVec Ideal S4096x512 .bf16) (x3 x4 : FVec Ideal S1x512 .f32) (r : Fin 8) (i : Fin 128) : ∀ k : Fin 4, payS x0 x1 x2 x3 x4 (ix2 r ⟨128 * k.val + i.val, by omega⟩)
    = flagged (fun a => dotS x1 x2 r ⟨128 * k.val + a.val, by omega⟩) (x3 (ix2 0 ⟨128 * k.val + i.val, by omega⟩)) (x4 (ix2 0 ⟨128 * k.val + i.val, by omega⟩)) i
  | 0 => payS_0 x0 x1 x2 x3 x4 r i
  | 1 => payS_1 x0 x1 x2 x3 x4 r i
  | 2 => payS_2 x0 x1 x2 x3 x4 r i
  | 3 => payS_3 x0 x1 x2 x3 x4 r i

def head0 (x0 : FVec Ideal S1024x4096 .bf16) (x1 : FVec Ideal S8x4096 .bf16) (x2 : FVec Ideal S4096x512 .bf16) (x3 x4 : FVec Ideal S1x512 .f32) : FVec Ideal S1x1024x128 .f32 :=
  k0_pay21 (k0_pay12 (F := Ideal) x2 x0 (View.ld x3 rg0) (View.ld x4 rg0)) (k0_pay15 (k0_pay13 x2 x0) (k0_pay14 x2 x0 (View.ld x3 rg1)) (View.ld x4 rg1)) (k0_pay16 (k0_pay11 x2 x0) (View.ld x3 rg2) (View.ld x4 rg2)) (k0_pay17 (k0_pay11 x2 x0)) (k0_pay18 (k0_pay11 x2 x0) (View.ld x3 rg3)) (View.ld x4 rg3)

theorem head0_at (x0 : FVec Ideal S1024x4096 .bf16) (x1 : FVec Ideal S8x4096 .bf16) (x2 : FVec Ideal S4096x512 .bf16) (x3 x4 : FVec Ideal S1x512 .f32) (r : Fin 1024) (i : Fin 128) : head0 x0 x1 x2 x3 x4 (ix3 0 r i)
    = flagged (fun a => dotP x0 x2 r ⟨0 + a.val, by omega⟩) (x3 (ix2 0 ⟨0 + i.val, by omega⟩)) (x4 (ix2 0 ⟨0 + i.val, by omega⟩)) i := by
  pointwise [head0, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]

def head1 (x0 : FVec Ideal S1024x4096 .bf16) (x1 : FVec Ideal S8x4096 .bf16) (x2 : FVec Ideal S4096x512 .bf16) (x3 x4 : FVec Ideal S1x512 .f32) : FVec Ideal S1x1024x128 .f32 :=
  k0_pay22 (k0_pay12 (F := Ideal) x2 x0 (View.ld x3 rg0) (View.ld x4 rg0)) (k0_pay15 (k0_pay13 x2 x0) (k0_pay14 x2 x0 (View.ld x3 rg1)) (View.ld x4 rg1)) (k0_pay16 (k0_pay11 x2 x0) (View.ld x3 rg2) (View.ld x4 rg2)) (k0_pay17 (k0_pay11 x2 x0)) (k0_pay18 (k0_pay11 x2 x0) (View.ld x3 rg3)) (View.ld x4 rg3)

theorem head1_at (x0 : FVec Ideal S1024x4096 .bf16) (x1 : FVec Ideal S8x4096 .bf16) (x2 : FVec Ideal S4096x512 .bf16) (x3 x4 : FVec Ideal S1x512 .f32) (r : Fin 1024) (i : Fin 128) : head1 x0 x1 x2 x3 x4 (ix3 0 r i)
    = flagged (fun a => dotP x0 x2 r ⟨128 + a.val, by omega⟩) (x3 (ix2 0 ⟨128 + i.val, by omega⟩)) (x4 (ix2 0 ⟨128 + i.val, by omega⟩)) i := by
  pointwise [head1, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]

def head2 (x0 : FVec Ideal S1024x4096 .bf16) (x1 : FVec Ideal S8x4096 .bf16) (x2 : FVec Ideal S4096x512 .bf16) (x3 x4 : FVec Ideal S1x512 .f32) : FVec Ideal S1x1024x128 .f32 :=
  k0_pay23 (k0_pay12 (F := Ideal) x2 x0 (View.ld x3 rg0) (View.ld x4 rg0)) (k0_pay15 (k0_pay13 x2 x0) (k0_pay14 x2 x0 (View.ld x3 rg1)) (View.ld x4 rg1)) (k0_pay16 (k0_pay11 x2 x0) (View.ld x3 rg2) (View.ld x4 rg2)) (k0_pay17 (k0_pay11 x2 x0)) (k0_pay18 (k0_pay11 x2 x0) (View.ld x3 rg3)) (View.ld x4 rg3)

theorem head2_at (x0 : FVec Ideal S1024x4096 .bf16) (x1 : FVec Ideal S8x4096 .bf16) (x2 : FVec Ideal S4096x512 .bf16) (x3 x4 : FVec Ideal S1x512 .f32) (r : Fin 1024) (i : Fin 128) : head2 x0 x1 x2 x3 x4 (ix3 0 r i)
    = flagged (fun a => dotP x0 x2 r ⟨256 + a.val, by omega⟩) (x3 (ix2 0 ⟨256 + i.val, by omega⟩)) (x4 (ix2 0 ⟨256 + i.val, by omega⟩)) i := by
  pointwise [head2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]
  have n0 : (256 + i.val < 128) = False := eq_false (by omega)
  have e0 : 256 + i.val - 128 = 128 + i.val := by omega
  have n1 : (128 + i.val < 128) = False := eq_false (by omega)
  have e1 : 128 + i.val - 128 = i.val := by omega
  have b : (i.val < 128) = True := eq_true i.isLt
  simp only [n0, e0, n1, e1, b, Nat.add_sub_cancel_left, dite_true, dite_false, ← Nat.add_assoc, Nat.reduceAdd]

def head3 (x0 : FVec Ideal S1024x4096 .bf16) (x1 : FVec Ideal S8x4096 .bf16) (x2 : FVec Ideal S4096x512 .bf16) (x3 x4 : FVec Ideal S1x512 .f32) : FVec Ideal S1x1024x128 .f32 :=
  k0_pay24 (k0_pay12 (F := Ideal) x2 x0 (View.ld x3 rg0) (View.ld x4 rg0)) (k0_pay15 (k0_pay13 x2 x0) (k0_pay14 x2 x0 (View.ld x3 rg1)) (View.ld x4 rg1)) (k0_pay16 (k0_pay11 x2 x0) (View.ld x3 rg2) (View.ld x4 rg2)) (k0_pay17 (k0_pay11 x2 x0)) (k0_pay18 (k0_pay11 x2 x0) (View.ld x3 rg3)) (View.ld x4 rg3)

theorem head3_at (x0 : FVec Ideal S1024x4096 .bf16) (x1 : FVec Ideal S8x4096 .bf16) (x2 : FVec Ideal S4096x512 .bf16) (x3 x4 : FVec Ideal S1x512 .f32) (r : Fin 1024) (i : Fin 128) : head3 x0 x1 x2 x3 x4 (ix3 0 r i)
    = flagged (fun a => dotP x0 x2 r ⟨384 + a.val, by omega⟩) (x3 (ix2 0 ⟨384 + i.val, by omega⟩)) (x4 (ix2 0 ⟨384 + i.val, by omega⟩)) i := by
  pointwise [head3, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, flagged, rms, dotP, rg0, rg1, rg2, rg3]
  have n0 : (384 + i.val < 128) = False := eq_false (by omega)
  have e0 : 384 + i.val - 128 = 256 + i.val := by omega
  have n1 : (256 + i.val < 128) = False := eq_false (by omega)
  have e1 : 256 + i.val - 128 = 128 + i.val := by omega
  have n2 : (128 + i.val < 128) = False := eq_false (by omega)
  have e2 : 128 + i.val - 128 = i.val := by omega
  have b : (i.val < 128) = True := eq_true i.isLt
  simp only [n0, e0, n1, e1, n2, e2, b, Nat.add_sub_cancel_left, dite_true, dite_false, ← Nat.add_assoc, Nat.reduceAdd]

theorem outP_eq (x0 : FVec Ideal S1024x4096 .bf16) (x1 : FVec Ideal S8x4096 .bf16) (x2 : FVec Ideal S4096x512 .bf16) (x3 x4 : FVec Ideal S1x512 .f32) :
    outP (F := Ideal) x0 x1 x2 x3 x4 = payP x0 x1 x2 x3 x4 := by
  unfold outP
  rw [View.canon_unit_zero (by decide), View.ld_unit_zero (by decide), View.ld_unit_zero (by decide)]
  rfl

theorem outB_eq (x0 : FVec Ideal S1024x4096 .bf16) (x1 : FVec Ideal S8x4096 .bf16) (x2 : FVec Ideal S4096x512 .bf16) (x3 x4 : FVec Ideal S1x512 .f32) :
    outB (F := Ideal) x0 x1 x2 x3 x4 = payB x0 x1 x2 x3 x4 := by
  unfold outB
  rw [View.canon_unit_zero (by decide), View.ld_unit_zero (by decide), View.ld_unit_zero (by decide)]
  rfl

theorem outS_eq (x0 : FVec Ideal S1024x4096 .bf16) (x1 : FVec Ideal S8x4096 .bf16) (x2 : FVec Ideal S4096x512 .bf16) (x3 x4 : FVec Ideal S1x512 .f32) :
    outS (F := Ideal) x0 x1 x2 x3 x4 = payS x0 x1 x2 x3 x4 := by
  unfold outS
  rw [View.canon_unit_zero (by decide), View.ld_unit_zero (by decide), View.ld_unit_zero (by decide)]
  rfl

theorem outH_eq (x0 : FVec Ideal S1024x4096 .bf16) (x1 : FVec Ideal S8x4096 .bf16) (x2 : FVec Ideal S4096x512 .bf16) (x3 x4 : FVec Ideal S1x512 .f32) :
    outH (F := Ideal) x0 x1 x2 x3 x4 = View.canon [⟨rk3, head3 x0 x1 x2 x3 x4⟩, ⟨rk2, head2 x0 x1 x2 x3 x4⟩, ⟨rk1, head1 x0 x1 x2 x3 x4⟩, ⟨rk0, head0 x0 x1 x2 x3 x4⟩] := by
  unfold outH
  rw [View.ld_unit_zero (by decide), View.ld_unit_zero (by decide)]
  rfl

end Cert.Kernel8Ideal.Value

end
-- ==== Proof.KvValue.lean ====
/- The keys and values: the stored blocks are the blocks of the reference's results. -/
module

public import proofs.«01_k».proof.Proof.Gen.Kernel8Ideal.Frame
public import proofs.«01_k».proof.Proof.Gen.Reference8Ideal
public import Idealize.ShloMosaic.Lib.Pipeline.ValueKit
public import Idealize.ShloMosaic.Lib.StableHlo.Run
public import proofs.«01_k».proof.Proof.KvPoint

@[expose] public section

set_option maxRecDepth 16384

noncomputable section

open Idealize.ShloMosaic Idealize.ShloMosaic.TcCoe Idealize.SL.Sem
open Idealize.ShloMosaic.Pipeline (Dat)
open scoped BigOperators

namespace Cert.Kernel8Ideal.Value

open Cert.Kernel8Ideal Cert.Kernel8Ideal.Gen Cert.Kernel8Ideal.Run Cert.Head

variable (m : (ℓ : Loc nD τ sig) → Buf (Elt Ideal) ℓ)

set_option maxHeartbeats 4000000 in
theorem gainV (c : Dev nD) : V m c main_v20 = gainK (m ((c : Thread nD τ).loc main_arg3)) (m ((c : Thread nD τ).loc main_arg4)) := by
  unfold V
  after_results
  rfl

set_option maxHeartbeats 4000000 in
theorem flagV (c : Dev nD) : V m c main_v21 = flagK := by
  unfold V
  after_results
  rfl

theorem tiles : ∀ t : Fin cfg0.N, win0_0.index t = ![t.val / 6, 0] ∧ win0_1.index t = ![0, 0]
    ∧ win0_2.index t = ![0, 4 + t.val % 6] ∧ win0_3.index t = ![0, t.val % 6] ∧ win0_4.index t = ![0, t.val % 6]
    ∧ win0_5.index t = ![t.val / 6, t.val % 6] ∧ win0_6.index t = ![t.val / 6, t.val % 6] ∧ win0_7.index t = ![t.val % 6, t.val / 6, 0]
    ∧ win0_8.index t = ![0, (held t).val] ∧ (held t).val < 6 ∧ t.val / 6 < 8 :=
  (by decide +kernel : ∀ t : Fin grid0.N, _)

theorem held_lt (t : Fin cfg0.N) : (held t).val < 6 := (tiles t).2.2.2.2.2.2.2.2.2.1

theorem held_mod (t : Fin cfg0.N) : (held t).val % 6 = (held t).val := Nat.mod_eq_of_lt (held_lt t)

theorem row_lt (t : Fin cfg0.N) : t.val / 6 < 8 := (tiles t).2.2.2.2.2.2.2.2.2.2

/-- The part a grid point computes. -/
def part (t : Fin cfg0.N) : Fin 6 := ⟨t.val % 6, by omega⟩

theorem blk0 (c : Dev nD) (t : Fin cfg0.N) (r : Fin 1024) (k : Fin 4096) : iblk m c 0 t (ix2 r k)
    = (m ((c : Thread nD τ).loc main_arg0)) (ix2 ⟨t.val / 6 * 1024 + r.val, by have := row_lt t; omega⟩ k) := by
  blk_point [iblk, V, tiles t]

theorem blk1 (c : Dev nD) (t : Fin cfg0.N) (r : Fin 8) (k : Fin 4096) : iblk m c 1 t (ix2 r k) = (m ((c : Thread nD τ).loc main_arg1)) (ix2 r k) := by
  blk_point [iblk, V, tiles t]

theorem blk2 (c : Dev nD) (t : Fin cfg0.N) (k : Fin 4096) (l : Fin 512) : iblk m c 2 t (ix2 k l)
    = (m ((c : Thread nD τ).loc main_arg2)) (ix2 k ⟨(4 + t.val % 6) * 512 + l.val, by omega⟩) := by
  blk_point [iblk, V, tiles t]

theorem blk3 (c : Dev nD) (t : Fin cfg0.N) (l : Fin 512) : iblk m c 3 t (ix2 0 l) = gainK (m ((c : Thread nD τ).loc main_arg3)) (m ((c : Thread nD τ).loc main_arg4)) (ix2 0 ⟨512 * (part t).val + l.val, by have := (part t).isLt; omega⟩) := by
  have h : iblk m c 3 t (ix2 0 l) = V m c main_v20 (ix2 0 ⟨t.val % 6 * 512 + l.val, by omega⟩) := by
    blk_point [iblk, tiles t]
  rw [h, gainV]
  exact congrArg _ (congrArg (ix2 0) (Fin.ext (show t.val % 6 * 512 + l.val = 512 * (t.val % 6) + l.val by omega)))

theorem blk4 (c : Dev nD) (t : Fin cfg0.N) (l : Fin 512) : iblk m c 4 t (ix2 0 l) = flagK (ix2 0 ⟨512 * (part t).val + l.val, by have := (part t).isLt; omega⟩) := by
  have h : iblk m c 4 t (ix2 0 l) = V m c main_v21 (ix2 0 ⟨t.val % 6 * 512 + l.val, by omega⟩) := by
    blk_point [iblk, tiles t]
  rw [h, flagV]
  exact congrArg flagK (congrArg (ix2 0) (Fin.ext (show t.val % 6 * 512 + l.val = 512 * (t.val % 6) + l.val by omega)))

theorem dotP_blk (c : Dev nD) (t : Fin cfg0.N) (r : Fin 1024) (l : Fin 512) : dotP (iblk m c 0 t) (iblk m c 2 t) r l
    = refP (m ((c : Thread nD τ).loc main_arg0)) (m ((c : Thread nD τ).loc main_arg2)) ⟨t.val / 6 * 1024 + r.val, by have := row_lt t; omega⟩ ⟨512 * (part t).val + l.val, by have := (part t).isLt; omega⟩ := by
  unfold dotP refP
  simp only [blk0, blk2]
  refine Finset.sum_congr rfl fun a _ => congrArg (fun z : EReal => _ * z) (congrArg (m ((c : Thread nD τ).loc main_arg2)) (congrArg (ix2 a) (Fin.ext ?_)))
  show (4 + t.val % 6) * 512 + l.val = 2048 + (512 * (t.val % 6) + l.val)
  omega

/-- A stored value is the value of its part. -/
theorem flagged_blkP (c : Dev nD) (t : Fin cfg0.N) (r : Fin 1024) (k : Fin 4) (i : Fin 128) :
    flagged (fun a => dotP (iblk m c 0 t) (iblk m c 2 t) r ⟨128 * k.val + a.val, by omega⟩) (iblk m c 3 t (ix2 0 ⟨128 * k.val + i.val, by omega⟩)) (iblk m c 4 t (ix2 0 ⟨128 * k.val + i.val, by omega⟩)) i
    = spec (fun a => refP (m ((c : Thread nD τ).loc main_arg0)) (m ((c : Thread nD τ).loc main_arg2)) ⟨t.val / 6 * 1024 + r.val, by have := row_lt t; omega⟩ ⟨512 * (part t).val + (128 * k.val + a.val), by have := (part t).isLt; omega⟩) (m ((c : Thread nD τ).loc main_arg4)) (part t) i := by
  simp only [dotP_blk]
  rw [blk3, blk4]
  exact flagged_spec _ _ _ k i (part t)

theorem dotS_blk (c : Dev nD) (t : Fin cfg0.N) (r : Fin 8) (l : Fin 512) : dotS (iblk m c 1 t) (iblk m c 2 t) r l
    = refS (m ((c : Thread nD τ).loc main_arg1)) (m ((c : Thread nD τ).loc main_arg2)) r ⟨512 * (part t).val + l.val, by have := (part t).isLt; omega⟩ := by
  unfold dotS refS
  simp only [blk1, blk2]
  refine Finset.sum_congr rfl fun a _ => congrArg (fun z : EReal => _ * z) (congrArg (m ((c : Thread nD τ).loc main_arg2)) (congrArg (ix2 a) (Fin.ext ?_)))
  show (4 + t.val % 6) * 512 + l.val = 2048 + (512 * (t.val % 6) + l.val)
  omega

/-- A stored value is the value of its part. -/
theorem flagged_blkS (c : Dev nD) (t : Fin cfg0.N) (r : Fin 8) (k : Fin 4) (i : Fin 128) :
    flagged (fun a => dotS (iblk m c 1 t) (iblk m c 2 t) r ⟨128 * k.val + a.val, by omega⟩) (iblk m c 3 t (ix2 0 ⟨128 * k.val + i.val, by omega⟩)) (iblk m c 4 t (ix2 0 ⟨128 * k.val + i.val, by omega⟩)) i
    = spec (fun a => refS (m ((c : Thread nD τ).loc main_arg1)) (m ((c : Thread nD τ).loc main_arg2)) r ⟨512 * (part t).val + (128 * k.val + a.val), by have := (part t).isLt; omega⟩) (m ((c : Thread nD τ).loc main_arg4)) (part t) i := by
  simp only [dotS_blk]
  rw [blk3, blk4]
  exact flagged_spec _ _ _ k i (part t)

/-- One stored element is the target's at the place its block puts it. -/
theorem at_targetP (c : Dev nD) (t : Fin cfg0.N) (y) : outP (iblk m c 0 t) (iblk m c 1 t) (iblk m c 2 t) (iblk m c 3 t) (iblk m c 4 t) y
    = targetP (m ((c : Thread nD τ).loc main_arg0)) (m ((c : Thread nD τ).loc main_arg1)) (m ((c : Thread nD τ).loc main_arg2)) (m ((c : Thread nD τ).loc main_arg3)) (m ((c : Thread nD τ).loc main_arg4)) (((cfg0.win 5).blk t).view.emb y) := by
  obtain ⟨r, l, rfl⟩ : ∃ (r : Fin 1024) (l : Fin 512), y = ix2 r l := ⟨y 0, y 1, eq_ix2 y⟩
  obtain ⟨k, i, rfl⟩ : ∃ (k : Fin 4) (i : Fin 128), l = ⟨128 * k.val + i.val, by omega⟩ :=
    ⟨⟨l.val / 128, by omega⟩, ⟨l.val % 128, by omega⟩, Fin.ext (by show l.val = 128 * (l.val / 128) + l.val % 128; omega)⟩
  have e : (win0_5.blk t).view.emb (ix2 r ⟨128 * k.val + i.val, by omega⟩)
      = ix2 (⟨t.val / 6 * 1024 + r.val, by have := row_lt t; omega⟩ : Fin 8192) (⟨512 * (part t).val + (128 * k.val + i.val), by have := (part t).isLt; omega⟩ : Fin 3072) := by
    blk_ext [tiles t, part]
  refine Eq.trans ?_ (congrArg (targetP (m ((c : Thread nD τ).loc main_arg0)) (m ((c : Thread nD τ).loc main_arg1)) (m ((c : Thread nD τ).loc main_arg2)) (m ((c : Thread nD τ).loc main_arg3)) (m ((c : Thread nD τ).loc main_arg4))) e).symm
  rw [outP_eq, payP_at, flagged_blkP]
  exact (targetP_at _ _ _ _ _ _ k i (part t)).symm

/-- The output is the target: the blocks cover it. -/
theorem resultP (c : Dev nD) : (Run.dats m 0 c).arrAt 5 (cfgs 0).N = targetP (m ((c : Thread nD τ).loc main_arg0)) (m ((c : Thread nD τ).loc main_arg1)) (m ((c : Thread nD τ).loc main_arg2)) (m ((c : Thread nD τ).loc main_arg3)) (m ((c : Thread nD τ).loc main_arg4)) := by
  refine (Run.dats m 0 c).arrAt_eq_of_covers 5 _ (by decide +kernel) fun t _ y => ?_
  blk_simp
  rw [after0_5]
  exact at_targetP m c t y

/-- One stored element is the target's at the place its block puts it. -/
theorem at_targetB (c : Dev nD) (t : Fin cfg0.N) (y) : outB (iblk m c 0 t) (iblk m c 1 t) (iblk m c 2 t) (iblk m c 3 t) (iblk m c 4 t) y
    = targetB (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y) := by
  obtain ⟨r, l, rfl⟩ : ∃ (r : Fin 1024) (l : Fin 512), y = ix2 r l := ⟨y 0, y 1, eq_ix2 y⟩
  obtain ⟨k, i, rfl⟩ : ∃ (k : Fin 4) (i : Fin 128), l = ⟨128 * k.val + i.val, by omega⟩ :=
    ⟨⟨l.val / 128, by omega⟩, ⟨l.val % 128, by omega⟩, Fin.ext (by show l.val = 128 * (l.val / 128) + l.val % 128; omega)⟩
  have e : (win0_6.blk t).view.emb (ix2 r ⟨128 * k.val + i.val, by omega⟩)
      = ix2 (⟨t.val / 6 * 1024 + r.val, by have := row_lt t; omega⟩ : Fin 8192) (⟨512 * (part t).val + (128 * k.val + i.val), by have := (part t).isLt; omega⟩ : Fin 3072) := by
    blk_ext [tiles t, part]
  refine Eq.trans ?_ (congrArg (targetB (m ((c : Thread nD τ).loc main_arg0)) (m ((c : Thread nD τ).loc main_arg1)) (m ((c : Thread nD τ).loc main_arg2)) (m ((c : Thread nD τ).loc main_arg3)) (m ((c : Thread nD τ).loc main_arg4))) e).symm
  rw [outB_eq, payB_at, flagged_blkP]
  exact (targetB_at _ _ _ _ _ _ k i (part t)).symm

/-- The output is the target: the blocks cover it. -/
theorem resultB (c : Dev nD) : (Run.dats m 0 c).arrAt 6 (cfgs 0).N = targetB (m ((c : Thread nD τ).loc main_arg0)) (m ((c : Thread nD τ).loc main_arg1)) (m ((c : Thread nD τ).loc main_arg2)) (m ((c : Thread nD τ).loc main_arg3)) (m ((c : Thread nD τ).loc main_arg4)) := by
  refine (Run.dats m 0 c).arrAt_eq_of_covers 6 _ (by decide +kernel) fun t _ y => ?_
  blk_simp
  rw [after0_6]
  exact at_targetB m c t y

/-- One stored element is the target's at the place its block puts it. -/
theorem at_targetS (c : Dev nD) (t : Fin cfg0.N) (y) : outS (iblk m c 0 (held t)) (iblk m c 1 (held t)) (iblk m c 2 (held t)) (iblk m c 3 (held t)) (iblk m c 4 (held t)) y
    = targetS (m ((c : Thread nD τ).loc main_arg0)) (m ((c : Thread nD τ).loc main_arg1)) (m ((c : Thread nD τ).loc main_arg2)) (m ((c : Thread nD τ).loc main_arg3)) (m ((c : Thread nD τ).loc main_arg4)) (((cfg0.win 8).blk t).view.emb y) := by
  obtain ⟨r, l, rfl⟩ : ∃ (r : Fin 8) (l : Fin 512), y = ix2 r l := ⟨y 0, y 1, eq_ix2 y⟩
  obtain ⟨k, i, rfl⟩ : ∃ (k : Fin 4) (i : Fin 128), l = ⟨128 * k.val + i.val, by omega⟩ :=
    ⟨⟨l.val / 128, by omega⟩, ⟨l.val % 128, by omega⟩, Fin.ext (by show l.val = 128 * (l.val / 128) + l.val % 128; omega)⟩
  have e : (win0_8.blk t).view.emb (ix2 r ⟨128 * k.val + i.val, by omega⟩)
      = ix2 (r : Fin 8) (⟨512 * (part (held t)).val + (128 * k.val + i.val), by have := (part (held t)).isLt; omega⟩ : Fin 3072) := by
    have := held_lt t
    blk_ext [tiles t, part, held_mod t]
  refine Eq.trans ?_ (congrArg (targetS (m ((c : Thread nD τ).loc main_arg0)) (m ((c : Thread nD τ).loc main_arg1)) (m ((c : Thread nD τ).loc main_arg2)) (m ((c : Thread nD τ).loc main_arg3)) (m ((c : Thread nD τ).loc main_arg4))) e).symm
  rw [outS_eq, payS_at, flagged_blkS]
  exact (targetS_at _ _ _ _ _ r k i (part (held t))).symm

/-- The output is the target: the blocks cover it. -/
theorem resultS (c : Dev nD) : (Run.dats m 0 c).arrAt 8 (cfgs 0).N = targetS (m ((c : Thread nD τ).loc main_arg0)) (m ((c : Thread nD τ).loc main_arg1)) (m ((c : Thread nD τ).loc main_arg2)) (m ((c : Thread nD τ).loc main_arg3)) (m ((c : Thread nD τ).loc main_arg4)) := by
  refine (Run.dats m 0 c).arrAt_eq_of_covers 8 _ (by decide +kernel) fun t _ y => ?_
  blk_simp
  rw [after0_8]
  exact at_targetS m c t y

theorem flagged_congr0 (x0 : FVec Ideal S1024x4096 .bf16) (x2 : FVec Ideal S4096x512 .bf16) (x3 x4 : FVec Ideal S1x512 .f32) (r : Fin 1024) (i : Fin 128) :
    flagged (fun a => dotP x0 x2 r ⟨0 + a.val, by omega⟩) (x3 (ix2 0 ⟨0 + i.val, by omega⟩)) (x4 (ix2 0 ⟨0 + i.val, by omega⟩)) i
      = flagged (fun a => dotP x0 x2 r ⟨128 * (0 : Fin 4).val + a.val, by show 128 * 0 + _ < _; omega⟩) (x3 (ix2 0 ⟨128 * (0 : Fin 4).val + i.val, by show 128 * 0 + _ < _; omega⟩)) (x4 (ix2 0 ⟨128 * (0 : Fin 4).val + i.val, by show 128 * 0 + _ < _; omega⟩)) i := rfl

theorem flagged_congr1 (x0 : FVec Ideal S1024x4096 .bf16) (x2 : FVec Ideal S4096x512 .bf16) (x3 x4 : FVec Ideal S1x512 .f32) (r : Fin 1024) (i : Fin 128) :
    flagged (fun a => dotP x0 x2 r ⟨128 + a.val, by omega⟩) (x3 (ix2 0 ⟨128 + i.val, by omega⟩)) (x4 (ix2 0 ⟨128 + i.val, by omega⟩)) i
      = flagged (fun a => dotP x0 x2 r ⟨128 * (1 : Fin 4).val + a.val, by show 128 * 1 + _ < _; omega⟩) (x3 (ix2 0 ⟨128 * (1 : Fin 4).val + i.val, by show 128 * 1 + _ < _; omega⟩)) (x4 (ix2 0 ⟨128 * (1 : Fin 4).val + i.val, by show 128 * 1 + _ < _; omega⟩)) i := rfl

theorem flagged_congr2 (x0 : FVec Ideal S1024x4096 .bf16) (x2 : FVec Ideal S4096x512 .bf16) (x3 x4 : FVec Ideal S1x512 .f32) (r : Fin 1024) (i : Fin 128) :
    flagged (fun a => dotP x0 x2 r ⟨256 + a.val, by omega⟩) (x3 (ix2 0 ⟨256 + i.val, by omega⟩)) (x4 (ix2 0 ⟨256 + i.val, by omega⟩)) i
      = flagged (fun a => dotP x0 x2 r ⟨128 * (2 : Fin 4).val + a.val, by show 128 * 2 + _ < _; omega⟩) (x3 (ix2 0 ⟨128 * (2 : Fin 4).val + i.val, by show 128 * 2 + _ < _; omega⟩)) (x4 (ix2 0 ⟨128 * (2 : Fin 4).val + i.val, by show 128 * 2 + _ < _; omega⟩)) i := rfl

theorem flagged_congr3 (x0 : FVec Ideal S1024x4096 .bf16) (x2 : FVec Ideal S4096x512 .bf16) (x3 x4 : FVec Ideal S1x512 .f32) (r : Fin 1024) (i : Fin 128) :
    flagged (fun a => dotP x0 x2 r ⟨384 + a.val, by omega⟩) (x3 (ix2 0 ⟨384 + i.val, by omega⟩)) (x4 (ix2 0 ⟨384 + i.val, by omega⟩)) i
      = flagged (fun a => dotP x0 x2 r ⟨128 * (3 : Fin 4).val + a.val, by show 128 * 3 + _ < _; omega⟩) (x3 (ix2 0 ⟨128 * (3 : Fin 4).val + i.val, by show 128 * 3 + _ < _; omega⟩)) (x4 (ix2 0 ⟨128 * (3 : Fin 4).val + i.val, by show 128 * 3 + _ < _; omega⟩)) i := rfl

theorem at_head0 (c : Dev nD) (t : Fin cfg0.N) (x : S1x1024x128.Idx) : head0 (iblk m c 0 t) (iblk m c 1 t) (iblk m c 2 t) (iblk m c 3 t) (iblk m c 4 t) x
    = targetH (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb (rk0.emb x)) := by
  obtain ⟨u, r, i, rfl⟩ : ∃ (u : Fin 1) (r : Fin 1024) (i : Fin 128), x = ix3 u r i := ⟨x 0, x 1, x 2, eq_ix3 x⟩
  obtain rfl : u = 0 := Subsingleton.elim _ _
  have e0 : rk0.emb (ix3 0 r i) = ix3 (0 : Fin 1) (⟨4 * r.val + 0, by omega⟩ : Fin 4096) i := by
    funext a
    refine Fin.ext ?_
    match a with
    | 0 => rfl
    | 1 => show 0 + 4 * r.val = 4 * r.val + 0; omega
    | 2 => show 0 + 1 * i.val = i.val; omega
  have e : (win0_7.blk t).view.emb (ix3 (0 : Fin 1) (⟨4 * r.val + 0, by omega⟩ : Fin 4096) i)
      = ix3 (part t) (⟨4 * (t.val / 6 * 1024 + r.val) + 0, by have := row_lt t; omega⟩ : Fin 32768) i := by
    blk_ext [tiles t, part]
  rw [e0]
  refine Eq.trans ?_ (congrArg (targetH (m ((c : Thread nD τ).loc main_arg0)) (m ((c : Thread nD τ).loc main_arg1)) (m ((c : Thread nD τ).loc main_arg2)) (m ((c : Thread nD τ).loc main_arg3)) (m ((c : Thread nD τ).loc main_arg4))) e).symm
  rw [head0_at]
  refine Eq.trans ?_ (targetH_at _ _ _ _ _ ⟨t.val / 6 * 1024 + r.val, by have := row_lt t; omega⟩ 0 i (part t)).symm
  exact (flagged_congr0 _ _ _ _ r i).trans (flagged_blkP m c t r 0 i)

theorem at_head1 (c : Dev nD) (t : Fin cfg0.N) (x : S1x1024x128.Idx) : head1 (iblk m c 0 t) (iblk m c 1 t) (iblk m c 2 t) (iblk m c 3 t) (iblk m c 4 t) x
    = targetH (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb (rk1.emb x)) := by
  obtain ⟨u, r, i, rfl⟩ : ∃ (u : Fin 1) (r : Fin 1024) (i : Fin 128), x = ix3 u r i := ⟨x 0, x 1, x 2, eq_ix3 x⟩
  obtain rfl : u = 0 := Subsingleton.elim _ _
  have e0 : rk1.emb (ix3 0 r i) = ix3 (0 : Fin 1) (⟨4 * r.val + 1, by omega⟩ : Fin 4096) i := by
    funext a
    refine Fin.ext ?_
    match a with
    | 0 => rfl
    | 1 => show 1 + 4 * r.val = 4 * r.val + 1; omega
    | 2 => show 0 + 1 * i.val = i.val; omega
  have e : (win0_7.blk t).view.emb (ix3 (0 : Fin 1) (⟨4 * r.val + 1, by omega⟩ : Fin 4096) i)
      = ix3 (part t) (⟨4 * (t.val / 6 * 1024 + r.val) + 1, by have := row_lt t; omega⟩ : Fin 32768) i := by
    blk_ext [tiles t, part]
  rw [e0]
  refine Eq.trans ?_ (congrArg (targetH (m ((c : Thread nD τ).loc main_arg0)) (m ((c : Thread nD τ).loc main_arg1)) (m ((c : Thread nD τ).loc main_arg2)) (m ((c : Thread nD τ).loc main_arg3)) (m ((c : Thread nD τ).loc main_arg4))) e).symm
  rw [head1_at]
  refine Eq.trans ?_ (targetH_at _ _ _ _ _ ⟨t.val / 6 * 1024 + r.val, by have := row_lt t; omega⟩ 1 i (part t)).symm
  exact (flagged_congr1 _ _ _ _ r i).trans (flagged_blkP m c t r 1 i)

theorem at_head2 (c : Dev nD) (t : Fin cfg0.N) (x : S1x1024x128.Idx) : head2 (iblk m c 0 t) (iblk m c 1 t) (iblk m c 2 t) (iblk m c 3 t) (iblk m c 4 t) x
    = targetH (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb (rk2.emb x)) := by
  obtain ⟨u, r, i, rfl⟩ : ∃ (u : Fin 1) (r : Fin 1024) (i : Fin 128), x = ix3 u r i := ⟨x 0, x 1, x 2, eq_ix3 x⟩
  obtain rfl : u = 0 := Subsingleton.elim _ _
  have e0 : rk2.emb (ix3 0 r i) = ix3 (0 : Fin 1) (⟨4 * r.val + 2, by omega⟩ : Fin 4096) i := by
    funext a
    refine Fin.ext ?_
    match a with
    | 0 => rfl
    | 1 => show 2 + 4 * r.val = 4 * r.val + 2; omega
    | 2 => show 0 + 1 * i.val = i.val; omega
  have e : (win0_7.blk t).view.emb (ix3 (0 : Fin 1) (⟨4 * r.val + 2, by omega⟩ : Fin 4096) i)
      = ix3 (part t) (⟨4 * (t.val / 6 * 1024 + r.val) + 2, by have := row_lt t; omega⟩ : Fin 32768) i := by
    blk_ext [tiles t, part]
  rw [e0]
  refine Eq.trans ?_ (congrArg (targetH (m ((c : Thread nD τ).loc main_arg0)) (m ((c : Thread nD τ).loc main_arg1)) (m ((c : Thread nD τ).loc main_arg2)) (m ((c : Thread nD τ).loc main_arg3)) (m ((c : Thread nD τ).loc main_arg4))) e).symm
  rw [head2_at]
  refine Eq.trans ?_ (targetH_at _ _ _ _ _ ⟨t.val / 6 * 1024 + r.val, by have := row_lt t; omega⟩ 2 i (part t)).symm
  exact (flagged_congr2 _ _ _ _ r i).trans (flagged_blkP m c t r 2 i)

theorem at_head3 (c : Dev nD) (t : Fin cfg0.N) (x : S1x1024x128.Idx) : head3 (iblk m c 0 t) (iblk m c 1 t) (iblk m c 2 t) (iblk m c 3 t) (iblk m c 4 t) x
    = targetH (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb (rk3.emb x)) := by
  obtain ⟨u, r, i, rfl⟩ : ∃ (u : Fin 1) (r : Fin 1024) (i : Fin 128), x = ix3 u r i := ⟨x 0, x 1, x 2, eq_ix3 x⟩
  obtain rfl : u = 0 := Subsingleton.elim _ _
  have e0 : rk3.emb (ix3 0 r i) = ix3 (0 : Fin 1) (⟨4 * r.val + 3, by omega⟩ : Fin 4096) i := by
    funext a
    refine Fin.ext ?_
    match a with
    | 0 => rfl
    | 1 => show 3 + 4 * r.val = 4 * r.val + 3; omega
    | 2 => show 0 + 1 * i.val = i.val; omega
  have e : (win0_7.blk t).view.emb (ix3 (0 : Fin 1) (⟨4 * r.val + 3, by omega⟩ : Fin 4096) i)
      = ix3 (part t) (⟨4 * (t.val / 6 * 1024 + r.val) + 3, by have := row_lt t; omega⟩ : Fin 32768) i := by
    blk_ext [tiles t, part]
  rw [e0]
  refine Eq.trans ?_ (congrArg (targetH (m ((c : Thread nD τ).loc main_arg0)) (m ((c : Thread nD τ).loc main_arg1)) (m ((c : Thread nD τ).loc main_arg2)) (m ((c : Thread nD τ).loc main_arg3)) (m ((c : Thread nD τ).loc main_arg4))) e).symm
  rw [head3_at]
  refine Eq.trans ?_ (targetH_at _ _ _ _ _ ⟨t.val / 6 * 1024 + r.val, by have := row_lt t; omega⟩ 3 i (part t)).symm
  exact (flagged_congr3 _ _ _ _ r i).trans (flagged_blkP m c t r 3 i)

/-- One stored element of the heads' block is the target's at its place. -/
theorem at_targetH (c : Dev nD) (t : Fin cfg0.N) (y) : outH (iblk m c 0 t) (iblk m c 1 t) (iblk m c 2 t) (iblk m c 3 t) (iblk m c 4 t) y
    = targetH (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb y) := by
  rw [outH_eq]
  refine View.canon_apply_of_pieces (Val := Elt Ideal) (fun z => targetH (m ((c : Thread nD τ).loc main_arg0)) (m ((c : Thread nD τ).loc main_arg1)) (m ((c : Thread nD τ).loc main_arg2)) (m ((c : Thread nD τ).loc main_arg3)) (m ((c : Thread nD τ).loc main_arg4)) (((cfg0.win 7).blk t).view.emb z)) _ ?_ y (coverH _ _ _ _ y)
  intro p hp x
  simp only [List.mem_cons, List.not_mem_nil, or_false] at hp
  rcases hp with rfl | rfl | rfl | rfl
  · exact at_head3 m c t x
  · exact at_head2 m c t x
  · exact at_head1 m c t x
  · exact at_head0 m c t x

theorem resultH (c : Dev nD) : (Run.dats m 0 c).arrAt 7 (cfgs 0).N = targetH (m ((c : Thread nD τ).loc main_arg0)) (m ((c : Thread nD τ).loc main_arg1)) (m ((c : Thread nD τ).loc main_arg2)) (m ((c : Thread nD τ).loc main_arg3)) (m ((c : Thread nD τ).loc main_arg4)) := by
  refine (Run.dats m 0 c).arrAt_eq_of_covers 7 _ (by decide +kernel) fun t _ y => ?_
  blk_simp
  rw [after0_7]
  exact at_targetH m c t y

end Cert.Kernel8Ideal.Value

end
-- ==== Proof.MergeValue.lean ====
/- The gated merge: every stored tile is the tile of the sum of the three gated branch products. -/
module

public import proofs.«01_k».proof.Proof.Gen.Kernel2Ideal.Frame
public import proofs.«01_k».proof.Proof.Gen.Reference2Ideal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel2Ideal.Value

open Cert.Kernel2Ideal Cert.Kernel2Ideal.Gen

variable (m : (ℓ : Loc nD τ sig) → Buf (Elt Ideal) ℓ)

/-- The merge written on whole arrays: three gates, each a third of the gate array, times three branch products. -/
abbrev target (a1 : FVec Ideal Cert.Reference2Ideal.S8192x2048 .bf16) (a2 : FVec Ideal Cert.Reference2Ideal.S8192x1024 .bf16) (a3 : FVec Ideal Cert.Reference2Ideal.S8192x1024 .bf16)
    (w1 : FVec Ideal Cert.Reference2Ideal.S2x2048x4096 .f32) (w2 : FVec Ideal Cert.Reference2Ideal.S2x1024x4096 .f32) (w3 : FVec Ideal Cert.Reference2Ideal.S2x1024x4096 .f32)
    (g : FVec Ideal Cert.Reference2Ideal.S8192x12288 .bf16) : FVec Ideal Cert.Reference2Ideal.S8192x4096 .bf16 :=
  truncf .bf16 (addf (addf
      (mulf (shapeCast Cert.Reference2Ideal.S8192x4096 (extractStridedSlice Cert.Reference2Ideal.S8192x1x4096 ![0, 0, 0]
          (shapeCast Cert.Reference2Ideal.S8192x3x4096 (extf .f32 g Cert.Reference2Ideal.Gen.bitsLt_bf16_f32) Cert.Reference2Ideal.Gen.shapeCasts_S8192x12288_S8192x3x4096)
          Cert.Reference2Ideal.Gen.slices_S8192x3x4096_S8192x1x4096_0_0_0) Cert.Reference2Ideal.Gen.shapeCasts_S8192x1x4096_S8192x4096)
        (Host.dotGeneral Cert.Reference2Ideal.dot_S8192x2048_S2048x4096_S8192x4096_1_0_0_1_n_n none (extf .f32 a1 Cert.Reference2Ideal.Gen.bitsLt_bf16_f32)
          (shapeCast Cert.Reference2Ideal.S2048x4096 (extractStridedSlice Cert.Reference2Ideal.S1x2048x4096 ![1, 0, 0] w1 Cert.Reference2Ideal.Gen.slices_S2x2048x4096_S1x2048x4096_1_0_0)
            Cert.Reference2Ideal.Gen.shapeCasts_S1x2048x4096_S2048x4096)))
      (mulf (shapeCast Cert.Reference2Ideal.S8192x4096 (extractStridedSlice Cert.Reference2Ideal.S8192x1x4096 ![0, 1, 0]
          (shapeCast Cert.Reference2Ideal.S8192x3x4096 (extf .f32 g Cert.Reference2Ideal.Gen.bitsLt_bf16_f32) Cert.Reference2Ideal.Gen.shapeCasts_S8192x12288_S8192x3x4096)
          Cert.Reference2Ideal.Gen.slices_S8192x3x4096_S8192x1x4096_0_1_0) Cert.Reference2Ideal.Gen.shapeCasts_S8192x1x4096_S8192x4096)
        (Host.dotGeneral Cert.Reference2Ideal.dot_S8192x1024_S1024x4096_S8192x4096_1_0_0_1_n_n none (extf .f32 a2 Cert.Reference2Ideal.Gen.bitsLt_bf16_f32)
          (shapeCast Cert.Reference2Ideal.S1024x4096 (extractStridedSlice Cert.Reference2Ideal.S1x1024x4096 ![1, 0, 0] w2 Cert.Reference2Ideal.Gen.slices_S2x1024x4096_S1x1024x4096_1_0_0)
            Cert.Reference2Ideal.Gen.shapeCasts_S1x1024x4096_S1024x4096))))
      (mulf (shapeCast Cert.Reference2Ideal.S8192x4096 (extractStridedSlice Cert.Reference2Ideal.S8192x1x4096 ![0, 2, 0]
          (shapeCast Cert.Reference2Ideal.S8192x3x4096 (extf .f32 g Cert.Reference2Ideal.Gen.bitsLt_bf16_f32) Cert.Reference2Ideal.Gen.shapeCasts_S8192x12288_S8192x3x4096)
          Cert.Reference2Ideal.Gen.slices_S8192x3x4096_S8192x1x4096_0_2_0) Cert.Reference2Ideal.Gen.shapeCasts_S8192x1x4096_S8192x4096)
        (Host.dotGeneral Cert.Reference2Ideal.dot_S8192x1024_S1024x4096_S8192x4096_1_0_0_1_n_n none (extf .f32 a3 Cert.Reference2Ideal.Gen.bitsLt_bf16_f32)
          (shapeCast Cert.Reference2Ideal.S1024x4096 (extractStridedSlice Cert.Reference2Ideal.S1x1024x4096 ![1, 0, 0] w3 Cert.Reference2Ideal.Gen.slices_S2x1024x4096_S1x1024x4096_1_0_0)
            Cert.Reference2Ideal.Gen.shapeCasts_S1x1024x4096_S1024x4096)))) Cert.Reference2Ideal.Gen.bitsLt_bf16_f32

/-- Where each window's block lies at a point; the gate's column tiles of branch `b` start at tile `8 b`. -/
theorem tiles : ∀ t : Fin cfg0.N, win0_0.index t = ![t.val / 8, 0]
    ∧ win0_1.index t = ![t.val / 8, 0]
    ∧ win0_2.index t = ![t.val / 8, 0]
    ∧ win0_3.index t = ![1, 0, t.val % 8]
    ∧ win0_4.index t = ![1, 0, t.val % 8]
    ∧ win0_5.index t = ![1, 0, t.val % 8]
    ∧ win0_6.index t = ![t.val / 8, t.val % 8]
    ∧ win0_7.index t = ![t.val / 8, 8 + (t.val % 8)]
    ∧ win0_8.index t = ![t.val / 8, 16 + (t.val % 8)]
    ∧ win0_9.index t = ![t.val / 8, t.val % 8] :=
  (by decide +kernel : ∀ t : Fin grid0.N, _)

/-- One stored element is the target's element at the place the tile puts it. -/
theorem at_tile (c : Dev nD) (t : Fin cfg0.N) (y) :
    k0_pay1 (iblk m c 6 t) (iblk m c 0 t) (iblk m c 3 t) (iblk m c 7 t) (iblk m c 1 t) (iblk m c 4 t) (iblk m c 8 t)
      (iblk m c 2 t) (iblk m c 5 t) y
    = target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
        (((cfg0.win 9).blk t).view.emb y) := by
  pointwise [k0_pay1, target]
  blk_point [iblk, V, tiles t]

/-- The whole result array is the target: the tiles cover it. -/
theorem result (c : Dev nD) : (dats m 0 c).arrAt 9 (cfgs 0).N
    = target (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]; frame_out
  exact at_tile m c t y

end Cert.Kernel2Ideal.Value

end
-- ==== Proof.MidRun.lean ====
/- The middle columns of the input projection: the run of the kernel, with the contents of both outputs. -/
module

public import proofs.«01_k».proof.Proof.Gen.Kernel5Ideal.Frame
public import Idealize.ShloMosaic.Lib.Pipeline.FrameBody
public import Idealize.ShloMosaic.Lib.Claim
public import proofs.«01_k».proof.Proof.Gen.Kernel5Ideal.Skeleton
public import Idealize.ShloMosaic.Lib.Tactic
public import Idealize.ShloMosaic.Lib.Ring
public import Idealize.ShloMosaic.Lib.WordCmp

@[expose] public section

set_option maxRecDepth 16384

noncomputable section

namespace Cert.Kernel5Ideal.Run

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev rh : Rect S1024x4096 := Rect.unit (s := S1024x4096) ![0, 0] S1024x4096.size inb_S1024x4096_S1024x4096_0_0
abbrev rs : Rect S8x4096 := Rect.unit (s := S8x4096) ![0, 0] S8x4096.size inb_S8x4096_S8x4096_0_0
abbrev rw : Rect S4096x512 := Rect.unit (s := S4096x512) ![0, 0] S4096x512.size inb_S4096x512_S4096x512_0_0
abbrev ro : Rect S1024x512 := Rect.unit (s := S1024x512) ![0, 0] S1024x512.size inb_S1024x512_S1024x512_0_0
abbrev rt : Rect S8x512 := Rect.unit (s := S8x512) ![0, 0] S8x512.size inb_S8x512_S8x512_0_0

/-- The sample rows are handled in the first row of the grid. -/
theorem hrow : ∀ t : Fin cfg0.N, k0_cond6 (grid0.coords t) = 1#1 ↔ t.val < 14 :=
  (by decide +kernel : ∀ t : Fin grid0.N, k0_cond6 (grid0.coords t) = 1#1 ↔ t.val < 14)

/-- Column blocks 0 to 3 take silu, for the prompt rows -/
theorem hcol0 : ∀ t : Fin cfg0.N, k0_cond1 (grid0.coords t) = 1#1 ↔ t.val % 14 ≤ 3 :=
  (by decide +kernel : ∀ t : Fin grid0.N, k0_cond1 (grid0.coords t) = 1#1 ↔ t.val % 14 ≤ 3)

/-- and for the sample rows. -/
theorem hsid0 : ∀ t : Fin cfg0.N, k0_cond7 (grid0.coords t) = 1#1 ↔ t.val % 14 ≤ 3 :=
  (by decide +kernel : ∀ t : Fin grid0.N, k0_cond7 (grid0.coords t) = 1#1 ↔ t.val % 14 ≤ 3)

/-- Column blocks 4 to 7 take gelu, for the prompt rows -/
theorem hcol1 : ∀ t : Fin cfg0.N, k0_cond2 (grid0.coords t) = 1#1 ↔ (4 ≤ t.val % 14 ∧ t.val % 14 ≤ 7) :=
  (by decide +kernel : ∀ t : Fin grid0.N, k0_cond2 (grid0.coords t) = 1#1 ↔ (4 ≤ t.val % 14 ∧ t.val % 14 ≤ 7))

/-- and for the sample rows. -/
theorem hsid1 : ∀ t : Fin cfg0.N, k0_cond8 (grid0.coords t) = 1#1 ↔ (4 ≤ t.val % 14 ∧ t.val % 14 ≤ 7) :=
  (by decide +kernel : ∀ t : Fin grid0.N, k0_cond8 (grid0.coords t) = 1#1 ↔ (4 ≤ t.val % 14 ∧ t.val % 14 ≤ 7))

/-- Column blocks 8 to 9 take silu, for the prompt rows -/
theorem hcol2 : ∀ t : Fin cfg0.N, k0_cond3 (grid0.coords t) = 1#1 ↔ (8 ≤ t.val % 14 ∧ t.val % 14 ≤ 9) :=
  (by decide +kernel : ∀ t : Fin grid0.N, k0_cond3 (grid0.coords t) = 1#1 ↔ (8 ≤ t.val % 14 ∧ t.val % 14 ≤ 9))

/-- and for the sample rows. -/
theorem hsid2 : ∀ t : Fin cfg0.N, k0_cond9 (grid0.coords t) = 1#1 ↔ (8 ≤ t.val % 14 ∧ t.val % 14 ≤ 9) :=
  (by decide +kernel : ∀ t : Fin grid0.N, k0_cond9 (grid0.coords t) = 1#1 ↔ (8 ≤ t.val % 14 ∧ t.val % 14 ≤ 9))

/-- Column blocks 10 to 11 take nothing, for the prompt rows -/
theorem hcol3 : ∀ t : Fin cfg0.N, k0_cond4 (grid0.coords t) = 1#1 ↔ (10 ≤ t.val % 14 ∧ t.val % 14 ≤ 11) :=
  (by decide +kernel : ∀ t : Fin grid0.N, k0_cond4 (grid0.coords t) = 1#1 ↔ (10 ≤ t.val % 14 ∧ t.val % 14 ≤ 11))

/-- and for the sample rows. -/
theorem hsid3 : ∀ t : Fin cfg0.N, k0_cond10 (grid0.coords t) = 1#1 ↔ (10 ≤ t.val % 14 ∧ t.val % 14 ≤ 11) :=
  (by decide +kernel : ∀ t : Fin grid0.N, k0_cond10 (grid0.coords t) = 1#1 ↔ (10 ≤ t.val % 14 ∧ t.val % 14 ≤ 11))

/-- Column blocks 12 to 13 take silu, for the prompt rows -/
theorem hcol4 : ∀ t : Fin cfg0.N, k0_cond5 (grid0.coords t) = 1#1 ↔ 12 ≤ t.val % 14 :=
  (by decide +kernel : ∀ t : Fin grid0.N, k0_cond5 (grid0.coords t) = 1#1 ↔ 12 ≤ t.val % 14)

/-- and for the sample rows. -/
theorem hsid4 : ∀ t : Fin cfg0.N, k0_cond11 (grid0.coords t) = 1#1 ↔ 12 ≤ t.val % 14 :=
  (by decide +kernel : ∀ t : Fin grid0.N, k0_cond11 (grid0.coords t) = 1#1 ↔ 12 ≤ t.val % 14)

/-- The prompt block stored in column blocks 0 to 3. -/
def outP0 (x0 : Vec F S1024x4096 .bf16) (x1 : Vec F S8x4096 .bf16) (x2 : Vec F S4096x512 .bf16) : Vec F S1024x512 .f32 := View.canon [⟨ro, k0_pay7 (View.ld x2 rw) (View.ld x0 rh)⟩]
/-- The prompt block stored in column blocks 4 to 7. -/
def outP1 (x0 : Vec F S1024x4096 .bf16) (x1 : Vec F S8x4096 .bf16) (x2 : Vec F S4096x512 .bf16) : Vec F S1024x512 .f32 := View.canon [⟨ro, k0_pay8 (View.ld x2 rw) (View.ld x0 rh)⟩]
/-- The prompt block stored in column blocks 8 to 9. -/
def outP2 (x0 : Vec F S1024x4096 .bf16) (x1 : Vec F S8x4096 .bf16) (x2 : Vec F S4096x512 .bf16) : Vec F S1024x512 .f32 := View.canon [⟨ro, k0_pay9 (View.ld x2 rw) (View.ld x0 rh)⟩]
/-- The prompt block stored in column blocks 10 to 11. -/
def outP3 (x0 : Vec F S1024x4096 .bf16) (x1 : Vec F S8x4096 .bf16) (x2 : Vec F S4096x512 .bf16) : Vec F S1024x512 .f32 := View.canon [⟨ro, k0_pay6 (View.ld x2 rw) (View.ld x0 rh)⟩]
/-- The prompt block stored in column blocks 12 to 13. -/
def outP4 (x0 : Vec F S1024x4096 .bf16) (x1 : Vec F S8x4096 .bf16) (x2 : Vec F S4096x512 .bf16) : Vec F S1024x512 .f32 := View.canon [⟨ro, k0_pay10 (View.ld x2 rw) (View.ld x0 rh)⟩]

theorem coverP (p : Vec F S1024x512 .f32) (y : S1024x512.Idx) :
    ∃ pc ∈ ([⟨ro, p⟩] : List (View.Piece (Elt F) S1024x512 .f32)), y ∈ pc.1.set :=
  View.cover_of_tiled [⟨ro, p⟩] S1024x512.size (by rfl) y

/-- The sample block stored in column blocks 0 to 3. -/
def outS0 (x0 : Vec F S1024x4096 .bf16) (x1 : Vec F S8x4096 .bf16) (x2 : Vec F S4096x512 .bf16) : Vec F S8x512 .f32 := View.canon [⟨rt, k0_pay2 (View.ld x2 rw) (View.ld x1 rs)⟩]
/-- The sample block stored in column blocks 4 to 7. -/
def outS1 (x0 : Vec F S1024x4096 .bf16) (x1 : Vec F S8x4096 .bf16) (x2 : Vec F S4096x512 .bf16) : Vec F S8x512 .f32 := View.canon [⟨rt, k0_pay3 (View.ld x2 rw) (View.ld x1 rs)⟩]
/-- The sample block stored in column blocks 8 to 9. -/
def outS2 (x0 : Vec F S1024x4096 .bf16) (x1 : Vec F S8x4096 .bf16) (x2 : Vec F S4096x512 .bf16) : Vec F S8x512 .f32 := View.canon [⟨rt, k0_pay4 (View.ld x2 rw) (View.ld x1 rs)⟩]
/-- The sample block stored in column blocks 10 to 11. -/
def outS3 (x0 : Vec F S1024x4096 .bf16) (x1 : Vec F S8x4096 .bf16) (x2 : Vec F S4096x512 .bf16) : Vec F S8x512 .f32 := View.canon [⟨rt, k0_pay1 (View.ld x2 rw) (View.ld x1 rs)⟩]
/-- The sample block stored in column blocks 12 to 13. -/
def outS4 (x0 : Vec F S1024x4096 .bf16) (x1 : Vec F S8x4096 .bf16) (x2 : Vec F S4096x512 .bf16) : Vec F S8x512 .f32 := View.canon [⟨rt, k0_pay5 (View.ld x2 rw) (View.ld x1 rs)⟩]

theorem coverS (p : Vec F S8x512 .f32) (y : S8x512.Idx) :
    ∃ pc ∈ ([⟨rt, p⟩] : List (View.Piece (Elt F) S8x512 .f32)), y ∈ pc.1.set :=
  View.cover_of_tiled [⟨rt, p⟩] S8x512.size (by rfl) y

/-- The block stored at point `t`, by its column block. -/
def outP (t : Fin cfg0.N) : Vec F S1024x4096 .bf16 → Vec F S8x4096 .bf16 → Vec F S4096x512 .bf16 → Vec F S1024x512 .f32 :=
  if t.val % 14 ≤ 3 then outP0 else if 4 ≤ t.val % 14 ∧ t.val % 14 ≤ 7 then outP1 else if 8 ≤ t.val % 14 ∧ t.val % 14 ≤ 9 then outP2
  else if 10 ≤ t.val % 14 ∧ t.val % 14 ≤ 11 then outP3 else outP4

theorem outP_0 (t : Fin cfg0.N) (h : t.val % 14 ≤ 3) : outP (F := F) t = outP0 :=
  if_pos h
theorem outP_1 (t : Fin cfg0.N) (h : (4 ≤ t.val % 14 ∧ t.val % 14 ≤ 7)) : outP (F := F) t = outP1 :=
  (if_neg (by omega)).trans (if_pos h)
theorem outP_2 (t : Fin cfg0.N) (h : (8 ≤ t.val % 14 ∧ t.val % 14 ≤ 9)) : outP (F := F) t = outP2 :=
  (if_neg (by omega)).trans ((if_neg (by omega)).trans (if_pos h))
theorem outP_3 (t : Fin cfg0.N) (h : (10 ≤ t.val % 14 ∧ t.val % 14 ≤ 11)) : outP (F := F) t = outP3 :=
  (if_neg (by omega)).trans ((if_neg (by omega)).trans ((if_neg (by omega)).trans (if_pos h)))
theorem outP_4 (t : Fin cfg0.N) (h : 12 ≤ t.val % 14) : outP (F := F) t = outP4 :=
  (if_neg (by omega)).trans ((if_neg (by omega)).trans ((if_neg (by omega)).trans ((if_neg (by omega)).trans (rfl))))

/-- The block stored at point `t`, by its column block. -/
def outS (t : Fin cfg0.N) : Vec F S1024x4096 .bf16 → Vec F S8x4096 .bf16 → Vec F S4096x512 .bf16 → Vec F S8x512 .f32 :=
  if t.val % 14 ≤ 3 then outS0 else if 4 ≤ t.val % 14 ∧ t.val % 14 ≤ 7 then outS1 else if 8 ≤ t.val % 14 ∧ t.val % 14 ≤ 9 then outS2
  else if 10 ≤ t.val % 14 ∧ t.val % 14 ≤ 11 then outS3 else outS4

theorem outS_0 (t : Fin cfg0.N) (h : t.val % 14 ≤ 3) : outS (F := F) t = outS0 :=
  if_pos h
theorem outS_1 (t : Fin cfg0.N) (h : (4 ≤ t.val % 14 ∧ t.val % 14 ≤ 7)) : outS (F := F) t = outS1 :=
  (if_neg (by omega)).trans (if_pos h)
theorem outS_2 (t : Fin cfg0.N) (h : (8 ≤ t.val % 14 ∧ t.val % 14 ≤ 9)) : outS (F := F) t = outS2 :=
  (if_neg (by omega)).trans ((if_neg (by omega)).trans (if_pos h))
theorem outS_3 (t : Fin cfg0.N) (h : (10 ≤ t.val % 14 ∧ t.val % 14 ≤ 11)) : outS (F := F) t = outS3 :=
  (if_neg (by omega)).trans ((if_neg (by omega)).trans ((if_neg (by omega)).trans (if_pos h)))
theorem outS_4 (t : Fin cfg0.N) (h : 12 ≤ t.val % 14) : outS (F := F) t = outS4 :=
  (if_neg (by omega)).trans ((if_neg (by omega)).trans ((if_neg (by omega)).trans ((if_neg (by omega)).trans (rfl))))

set_option maxHeartbeats 4000000 in
/-- The body in column blocks 0 to 3, in the first row of the grid. -/
theorem triple_first0 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : k0_cond1 i = 1#1) (hc1 : ¬ k0_cond2 i = 1#1) (hc2 : ¬ k0_cond3 i = 1#1) (hc3 : ¬ k0_cond4 i = 1#1) (hc4 : ¬ k0_cond5 i = 1#1) (hr : k0_cond6 i = 1#1) (hd0 : k0_cond7 i = 1#1) (hd1 : ¬ k0_cond8 i = 1#1) (hd2 : ¬ k0_cond9 i = 1#1) (hd3 : ¬ k0_cond10 i = 1#1) (hd4 : ¬ k0_cond11 i = 1#1)
    (x0 : Vec F S1024x4096 .bf16) (x1 : Vec F S8x4096 .bf16) (x2 : Vec F S4096x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outP0 x0 x1 x2) ∗ owns (c : Thread nD τ) arg6 fullShare (outS0 x0 x1 x2)) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1 | sl_exact hc2 | sl_exact hc3 | sl_exact hc4 | sl_exact hr | sl_exact hd0 | sl_exact hd1 | sl_exact hd2 | sl_exact hd3 | sl_exact hd4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists _; isplitr
  swap; · iexact H4
  ipureintro
  exact View.read_writes_eq_canon _ _ _ (coverS _)

set_option maxHeartbeats 4000000 in
/-- The body in column blocks 4 to 7, in the first row of the grid. -/
theorem triple_first1 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : ¬ k0_cond1 i = 1#1) (hc1 : k0_cond2 i = 1#1) (hc2 : ¬ k0_cond3 i = 1#1) (hc3 : ¬ k0_cond4 i = 1#1) (hc4 : ¬ k0_cond5 i = 1#1) (hr : k0_cond6 i = 1#1) (hd0 : ¬ k0_cond7 i = 1#1) (hd1 : k0_cond8 i = 1#1) (hd2 : ¬ k0_cond9 i = 1#1) (hd3 : ¬ k0_cond10 i = 1#1) (hd4 : ¬ k0_cond11 i = 1#1)
    (x0 : Vec F S1024x4096 .bf16) (x1 : Vec F S8x4096 .bf16) (x2 : Vec F S4096x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outP1 x0 x1 x2) ∗ owns (c : Thread nD τ) arg6 fullShare (outS1 x0 x1 x2)) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1 | sl_exact hc2 | sl_exact hc3 | sl_exact hc4 | sl_exact hr | sl_exact hd0 | sl_exact hd1 | sl_exact hd2 | sl_exact hd3 | sl_exact hd4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists _; isplitr
  swap; · iexact H4
  ipureintro
  exact View.read_writes_eq_canon _ _ _ (coverS _)

set_option maxHeartbeats 4000000 in
/-- The body in column blocks 8 to 9, in the first row of the grid. -/
theorem triple_first2 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : ¬ k0_cond1 i = 1#1) (hc1 : ¬ k0_cond2 i = 1#1) (hc2 : k0_cond3 i = 1#1) (hc3 : ¬ k0_cond4 i = 1#1) (hc4 : ¬ k0_cond5 i = 1#1) (hr : k0_cond6 i = 1#1) (hd0 : ¬ k0_cond7 i = 1#1) (hd1 : ¬ k0_cond8 i = 1#1) (hd2 : k0_cond9 i = 1#1) (hd3 : ¬ k0_cond10 i = 1#1) (hd4 : ¬ k0_cond11 i = 1#1)
    (x0 : Vec F S1024x4096 .bf16) (x1 : Vec F S8x4096 .bf16) (x2 : Vec F S4096x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outP2 x0 x1 x2) ∗ owns (c : Thread nD τ) arg6 fullShare (outS2 x0 x1 x2)) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1 | sl_exact hc2 | sl_exact hc3 | sl_exact hc4 | sl_exact hr | sl_exact hd0 | sl_exact hd1 | sl_exact hd2 | sl_exact hd3 | sl_exact hd4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists _; isplitr
  swap; · iexact H4
  ipureintro
  exact View.read_writes_eq_canon _ _ _ (coverS _)

set_option maxHeartbeats 4000000 in
/-- The body in column blocks 10 to 11, in the first row of the grid. -/
theorem triple_first3 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : ¬ k0_cond1 i = 1#1) (hc1 : ¬ k0_cond2 i = 1#1) (hc2 : ¬ k0_cond3 i = 1#1) (hc3 : k0_cond4 i = 1#1) (hc4 : ¬ k0_cond5 i = 1#1) (hr : k0_cond6 i = 1#1) (hd0 : ¬ k0_cond7 i = 1#1) (hd1 : ¬ k0_cond8 i = 1#1) (hd2 : ¬ k0_cond9 i = 1#1) (hd3 : k0_cond10 i = 1#1) (hd4 : ¬ k0_cond11 i = 1#1)
    (x0 : Vec F S1024x4096 .bf16) (x1 : Vec F S8x4096 .bf16) (x2 : Vec F S4096x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outP3 x0 x1 x2) ∗ owns (c : Thread nD τ) arg6 fullShare (outS3 x0 x1 x2)) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1 | sl_exact hc2 | sl_exact hc3 | sl_exact hc4 | sl_exact hr | sl_exact hd0 | sl_exact hd1 | sl_exact hd2 | sl_exact hd3 | sl_exact hd4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists _; isplitr
  swap; · iexact H4
  ipureintro
  exact View.read_writes_eq_canon _ _ _ (coverS _)

set_option maxHeartbeats 4000000 in
/-- The body in column blocks 12 to 13, in the first row of the grid. -/
theorem triple_first4 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : ¬ k0_cond1 i = 1#1) (hc1 : ¬ k0_cond2 i = 1#1) (hc2 : ¬ k0_cond3 i = 1#1) (hc3 : ¬ k0_cond4 i = 1#1) (hc4 : k0_cond5 i = 1#1) (hr : k0_cond6 i = 1#1) (hd0 : ¬ k0_cond7 i = 1#1) (hd1 : ¬ k0_cond8 i = 1#1) (hd2 : ¬ k0_cond9 i = 1#1) (hd3 : ¬ k0_cond10 i = 1#1) (hd4 : k0_cond11 i = 1#1)
    (x0 : Vec F S1024x4096 .bf16) (x1 : Vec F S8x4096 .bf16) (x2 : Vec F S4096x512 .bf16) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare (outP4 x0 x1 x2) ∗ owns (c : Thread nD τ) arg6 fullShare (outS4 x0 x1 x2)) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec (disch := first | sl_exact hc0 | sl_exact hc1 | sl_exact hc2 | sl_exact hc3 | sl_exact hc4 | sl_exact hr | sl_exact hd0 | sl_exact hd1 | sl_exact hd2 | sl_exact hd3 | sl_exact hd4)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists _; isplitr
  swap; · iexact H4
  ipureintro
  exact View.read_writes_eq_canon _ _ _ (coverS _)

set_option maxHeartbeats 4000000 in
/-- The body in column blocks 0 to 3, past the first row: the sample output left as it was. -/
theorem triple_rest0 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : k0_cond1 i = 1#1) (hc1 : ¬ k0_cond2 i = 1#1) (hc2 : ¬ k0_cond3 i = 1#1) (hc3 : ¬ k0_cond4 i = 1#1) (hc4 : ¬ k0_cond5 i = 1#1) (hr : ¬ k0_cond6 i = 1#1)
    (x0 : Vec F S1024x4096 .bf16) (x1 : Vec F S8x4096 .bf16) (x2 : Vec F S4096x512 .bf16) (y : Vec F S8x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (outP0 x0 x1 x2) ∗ owns (c : Thread nD τ) arg6 fullShare y) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1 | sl_exact hc2 | sl_exact hc3 | sl_exact hc4 | sl_exact hr)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists f4; isplitr; · ipureintro; rfl
  iexact H4

set_option maxHeartbeats 4000000 in
/-- The body in column blocks 4 to 7, past the first row: the sample output left as it was. -/
theorem triple_rest1 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : ¬ k0_cond1 i = 1#1) (hc1 : k0_cond2 i = 1#1) (hc2 : ¬ k0_cond3 i = 1#1) (hc3 : ¬ k0_cond4 i = 1#1) (hc4 : ¬ k0_cond5 i = 1#1) (hr : ¬ k0_cond6 i = 1#1)
    (x0 : Vec F S1024x4096 .bf16) (x1 : Vec F S8x4096 .bf16) (x2 : Vec F S4096x512 .bf16) (y : Vec F S8x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (outP1 x0 x1 x2) ∗ owns (c : Thread nD τ) arg6 fullShare y) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1 | sl_exact hc2 | sl_exact hc3 | sl_exact hc4 | sl_exact hr)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists f4; isplitr; · ipureintro; rfl
  iexact H4

set_option maxHeartbeats 4000000 in
/-- The body in column blocks 8 to 9, past the first row: the sample output left as it was. -/
theorem triple_rest2 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : ¬ k0_cond1 i = 1#1) (hc1 : ¬ k0_cond2 i = 1#1) (hc2 : k0_cond3 i = 1#1) (hc3 : ¬ k0_cond4 i = 1#1) (hc4 : ¬ k0_cond5 i = 1#1) (hr : ¬ k0_cond6 i = 1#1)
    (x0 : Vec F S1024x4096 .bf16) (x1 : Vec F S8x4096 .bf16) (x2 : Vec F S4096x512 .bf16) (y : Vec F S8x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (outP2 x0 x1 x2) ∗ owns (c : Thread nD τ) arg6 fullShare y) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1 | sl_exact hc2 | sl_exact hc3 | sl_exact hc4 | sl_exact hr)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists f4; isplitr; · ipureintro; rfl
  iexact H4

set_option maxHeartbeats 4000000 in
/-- The body in column blocks 10 to 11, past the first row: the sample output left as it was. -/
theorem triple_rest3 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : ¬ k0_cond1 i = 1#1) (hc1 : ¬ k0_cond2 i = 1#1) (hc2 : ¬ k0_cond3 i = 1#1) (hc3 : k0_cond4 i = 1#1) (hc4 : ¬ k0_cond5 i = 1#1) (hr : ¬ k0_cond6 i = 1#1)
    (x0 : Vec F S1024x4096 .bf16) (x1 : Vec F S8x4096 .bf16) (x2 : Vec F S4096x512 .bf16) (y : Vec F S8x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (outP3 x0 x1 x2) ∗ owns (c : Thread nD τ) arg6 fullShare y) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1 | sl_exact hc2 | sl_exact hc3 | sl_exact hc4 | sl_exact hr)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists f4; isplitr; · ipureintro; rfl
  iexact H4

set_option maxHeartbeats 4000000 in
/-- The body in column blocks 12 to 13, past the first row: the sample output left as it was. -/
theorem triple_rest4 (c : Dev nD) (E : Set ℕ) (i : grid0.Coords) (arg2 : Memref sig .tc .vmem S1024x4096 .bf16) (harg2 : arg2.IsWhole) (arg3 : Memref sig .tc .vmem S8x4096 .bf16) (harg3 : arg3.IsWhole) (arg4 : Memref sig .tc .vmem S4096x512 .bf16) (harg4 : arg4.IsWhole) (arg5 : Memref sig .tc .vmem S1024x512 .f32) (harg5 : arg5.IsWhole) (arg6 : Memref sig .tc .vmem S8x512 .f32) (harg6 : arg6.IsWhole) (hc0 : ¬ k0_cond1 i = 1#1) (hc1 : ¬ k0_cond2 i = 1#1) (hc2 : ¬ k0_cond3 i = 1#1) (hc3 : ¬ k0_cond4 i = 1#1) (hc4 : k0_cond5 i = 1#1) (hr : ¬ k0_cond6 i = 1#1)
    (x0 : Vec F S1024x4096 .bf16) (x1 : Vec F S8x4096 .bf16) (x2 : Vec F S4096x512 .bf16) (y : Vec F S8x512 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare y
        ∗ (iprop(owns (c : Thread nD τ) arg2 fullShare x0 ∗ owns (c : Thread nD τ) arg3 fullShare x1 ∗ owns (c : Thread nD τ) arg4 fullShare x2 ∗ owns (c : Thread nD τ) arg5 fullShare (outP4 x0 x1 x2) ∗ owns (c : Thread nD τ) arg6 fullShare y) -∗ K ⟨⟩))
      ⊢ wp frame (wpE (defs₀ (F := F)) Variants.none c none) E (cc0_proj_mixed i arg2 harg2 arg3 harg3 arg4 harg4 arg5 harg5 arg6 harg6) K := by
  simp only [cc0_proj_mixed_eq_skeleton, k0_part1_eq_skeleton]; unfold cc0_proj_mixed_skel
  unfold owns
  iintro ⟨⟨%f0, %hf0, H0⟩, ⟨%f1, %hf1, H1⟩, ⟨%f2, %hf2, H2⟩, ⟨%d3, %f3, -, H3⟩, ⟨%f4, %hf4, H4⟩, Hk⟩
  subst hf0 hf1 hf2 hf4
  sl_exec (disch := first | sl_exact hc0 | sl_exact hc1 | sl_exact hc2 | sl_exact hc3 | sl_exact hc4 | sl_exact hr)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (coverP _)
  iexists f4; isplitr; · ipureintro; rfl
  iexact H4

/-- The point whose contents the sample window holds at point `t`: itself in the first row of the grid, the row's
    last one after it. -/
def held (t : Fin cfg0.N) : Fin cfg0.N := if t.val < 14 then t else ⟨13, by rw [show cfg0.N = 112 from N_0]; decide⟩

/-- Arrays as the region finds them; after point `t` an input's buffer at its block, the prompt outputs at the body's
    results on the blocks of `t`, the sample output at the body's result at the point it was last stored. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outP t (iblk m c 0 t) (iblk m c 1 t) (iblk m c 2 t)
    | ⟨4, _⟩ => outS (held t) (iblk m c 0 (held t)) (iblk m c 1 (held t)) (iblk m c 2 (held t))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outP t (iblk m c 0 t) (iblk m c 1 t) (iblk m c 2 t) := by dsimp only [dats]
theorem after0_4 (c : Dev nD) (t : Fin cfg0.N) : (dats m 0 c).after 4 t = outS (held t) (iblk m c 0 (held t)) (iblk m c 1 (held t)) (iblk m c 2 (held t)) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Where the sample window is written back: along the first row of the grid but for its last point, and at the end. -/
theorem flush_side : ∀ t : Fin cfg0.N, (cfg0.win 4).flush t = true ↔ (t.val < 13 ∨ t.val = 111) :=
  (by decide +kernel : ∀ t : Fin grid0.N, win0_4.flush t = true ↔ (t.val < 13 ∨ t.val = 111))

theorem idle_side : ∀ t : Fin cfg0.N, cfg0.idle 4 (grid0.coords t) = decide (14 ≤ t.val) :=
  (by decide +kernel : ∀ t : Fin grid0.N, idle0 4 (grid0.coords t) = decide (14 ≤ t.val))

theorem fetch_side (t : Fin cfg0.N) : (cfg0.win 4).fetch t = false := by
  unfold Pipeline.Window.fetch; rfl

/-- Past the first row the sample window's buffer holds what the row's last point stored. -/
theorem before_side (c : Dev nD) : ∀ (k : ℕ) (t : Fin cfg0.N), t.val = 14 + k → ∀ d, (dats m 0 c).before 4 t d = (dats m 0 c).after 4 t := by
  intro k
  induction k with
  | zero =>
    intro t ht d
    rw [(dats m 0 c).before_of_pos 4 t (by omega) (fetch_side t) d]
    have hf : (cfg0.win 4).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (14 ≤ t.val - 1) = false from by simp; omega]
    show (dats m 0 c).after 4 _ = _
    rw [after0_4, after0_4]
    have e : held (⟨t.val - 1, by have := t.isLt; omega⟩ : Fin cfg0.N) = held t := by
      unfold held; rw [if_pos (by simp only []; omega), if_neg (by omega)]; apply Fin.ext; simp only []; omega
    rw [e]
  | succ k ih =>
    intro t ht d
    have hN : t.val < 112 := lt_of_lt_of_eq t.isLt (show cfg0.N = 112 from N_0)
    rw [(dats m 0 c).before_of_pos 4 t (by omega) (fetch_side t) d]
    have hf : (cfg0.win 4).flush (⟨t.val - 1, by have := t.isLt; omega⟩ : Fin cfg0.N) = false := by
      rw [Bool.eq_false_iff]; intro h; have := (flush_side _).mp h; simp only [] at this; omega
    rw [if_neg (by rw [hf]; decide)]
    unfold Dat.left
    rw [idle_side]
    rw [show decide (14 ≤ t.val - 1) = true from by simp; omega]
    show (dats m 0 c).before 4 _ d = _
    rw [ih _ (by simp only []; omega) d, after0_4, after0_4]
    have e : held (⟨t.val - 1, by have := t.isLt; omega⟩ : Fin cfg0.N) = held t := by
      unfold held; rw [if_neg (by simp only []; omega), if_neg (by omega)]
    rw [e]

theorem leaves_side_live (c : Dev nD) (t : Fin cfg0.N) (h : t.val < 14) :
    (dats m 0 c).leavesExact 4 t = owns (c : Thread nD τ) (st0_4 t) fullShare ((dats m 0 c).after 4 t) := by
  unfold Dat.leavesExact; rw [idle_side, show decide (14 ≤ t.val) = false from by simp; omega]

/-- What is to be handed back of the sample window past the first row: its buffer as found. -/
theorem leaves_side_idle (c : Dev nD) (t : Fin cfg0.N) (h : ¬ t.val < 14) :
    owns (c : Thread nD τ) (st0_4 t) fullShare ((dats m 0 c).after 4 t) ⊢ (dats m 0 c).leavesExact 4 t := by
  unfold Dat.leavesExact; rw [idle_side, show decide (14 ≤ t.val) = true from by simp; omega]
  cases hf : (cfg0.win 4).flush t
  · dsimp only
    rw [← before_side m c (t.val - 14) t (by omega) ((dats m 0 c).after 4 t)]
    iintro H; iexists _; iexact H
  · exact .rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem idle_main : ∀ t : Fin cfg0.N, cfg0.idle 3 (grid0.coords t) = false :=
  (by decide +kernel : ∀ t : Fin grid0.N, idle0 3 (grid0.coords t) = false)

/-- Every point stores its prompt block. -/
theorem leaves_main (c : Dev nD) (t : Fin cfg0.N) :
    (dats m 0 c).leavesExact 3 t = owns (c : Thread nD τ) (st0_3 t) fullShare ((dats m 0 c).after 3 t) := by
  unfold Dat.leavesExact; rw [idle_main]

set_option maxHeartbeats 4000000 in
/-- The body at any point, by the cases of its conditions. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl]
  have hN : t.val < 112 := lt_of_lt_of_eq t.isLt (show cfg0.N = 112 from N_0)
  rw [show (dats m 0 c).leavesExact 0 t = owns (c : Thread nD τ) (st0_0 t) fullShare (iblk m c 0 t) from rfl]
  rw [show (dats m 0 c).leavesExact 1 t = owns (c : Thread nD τ) (st0_1 t) fullShare (iblk m c 1 t) from rfl]
  rw [show (dats m 0 c).leavesExact 2 t = owns (c : Thread nD τ) (st0_2 t) fullShare (iblk m c 2 t) from rfl]
  rw [leaves_main m c t, after0_3]
  have hJ : t.val % 14 ≤ 3 ∨ (4 ≤ t.val % 14 ∧ t.val % 14 ≤ 7) ∨ (8 ≤ t.val % 14 ∧ t.val % 14 ≤ 9) ∨ (10 ≤ t.val % 14 ∧ t.val % 14 ≤ 11) ∨ 12 ≤ t.val % 14 := by omega
  by_cases h0 : t.val < 14
  · rcases hJ with hj | hj | hj | hj | hj
    · rw [leaves_side_live m c t h0, after0_4, show held t = t from if_pos h0]
      rw [outP_0 t hj, outS_0 t hj]
      iintro ⟨HΦ, Ho, ⟨%d0, H0⟩, ⟨%d1, H1⟩, ⟨%d2, H2⟩, ⟨%d3, H3⟩, ⟨%d4, H4⟩⟩
      iapply (triple_first0 c Set.univ (grid0.coords t) _ _ _ _ _ _ _ _ _ _ ((hcol0 t).mpr hj) (fun h => absurd ((hcol1 t).mp h) (by omega)) (fun h => absurd ((hcol2 t).mp h) (by omega)) (fun h => absurd ((hcol3 t).mp h) (by omega)) (fun h => absurd ((hcol4 t).mp h) (by omega)) ((hrow t).mpr h0) ((hsid0 t).mpr hj) (fun h => absurd ((hsid1 t).mp h) (by omega)) (fun h => absurd ((hsid2 t).mp h) (by omega)) (fun h => absurd ((hsid3 t).mp h) (by omega)) (fun h => absurd ((hsid4 t).mp h) (by omega)) (iblk m c 0 t) (iblk m c 1 t) (iblk m c 2 t) _)
      isplitl [H0]; · iexact H0
      isplitl [H1]; · iexact H1
      isplitl [H2]; · iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [leaves_side_live m c t h0, after0_4, show held t = t from if_pos h0]
      rw [outP_1 t hj, outS_1 t hj]
      iintro ⟨HΦ, Ho, ⟨%d0, H0⟩, ⟨%d1, H1⟩, ⟨%d2, H2⟩, ⟨%d3, H3⟩, ⟨%d4, H4⟩⟩
      iapply (triple_first1 c Set.univ (grid0.coords t) _ _ _ _ _ _ _ _ _ _ (fun h => absurd ((hcol0 t).mp h) (by omega)) ((hcol1 t).mpr hj) (fun h => absurd ((hcol2 t).mp h) (by omega)) (fun h => absurd ((hcol3 t).mp h) (by omega)) (fun h => absurd ((hcol4 t).mp h) (by omega)) ((hrow t).mpr h0) (fun h => absurd ((hsid0 t).mp h) (by omega)) ((hsid1 t).mpr hj) (fun h => absurd ((hsid2 t).mp h) (by omega)) (fun h => absurd ((hsid3 t).mp h) (by omega)) (fun h => absurd ((hsid4 t).mp h) (by omega)) (iblk m c 0 t) (iblk m c 1 t) (iblk m c 2 t) _)
      isplitl [H0]; · iexact H0
      isplitl [H1]; · iexact H1
      isplitl [H2]; · iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [leaves_side_live m c t h0, after0_4, show held t = t from if_pos h0]
      rw [outP_2 t hj, outS_2 t hj]
      iintro ⟨HΦ, Ho, ⟨%d0, H0⟩, ⟨%d1, H1⟩, ⟨%d2, H2⟩, ⟨%d3, H3⟩, ⟨%d4, H4⟩⟩
      iapply (triple_first2 c Set.univ (grid0.coords t) _ _ _ _ _ _ _ _ _ _ (fun h => absurd ((hcol0 t).mp h) (by omega)) (fun h => absurd ((hcol1 t).mp h) (by omega)) ((hcol2 t).mpr hj) (fun h => absurd ((hcol3 t).mp h) (by omega)) (fun h => absurd ((hcol4 t).mp h) (by omega)) ((hrow t).mpr h0) (fun h => absurd ((hsid0 t).mp h) (by omega)) (fun h => absurd ((hsid1 t).mp h) (by omega)) ((hsid2 t).mpr hj) (fun h => absurd ((hsid3 t).mp h) (by omega)) (fun h => absurd ((hsid4 t).mp h) (by omega)) (iblk m c 0 t) (iblk m c 1 t) (iblk m c 2 t) _)
      isplitl [H0]; · iexact H0
      isplitl [H1]; · iexact H1
      isplitl [H2]; · iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [leaves_side_live m c t h0, after0_4, show held t = t from if_pos h0]
      rw [outP_3 t hj, outS_3 t hj]
      iintro ⟨HΦ, Ho, ⟨%d0, H0⟩, ⟨%d1, H1⟩, ⟨%d2, H2⟩, ⟨%d3, H3⟩, ⟨%d4, H4⟩⟩
      iapply (triple_first3 c Set.univ (grid0.coords t) _ _ _ _ _ _ _ _ _ _ (fun h => absurd ((hcol0 t).mp h) (by omega)) (fun h => absurd ((hcol1 t).mp h) (by omega)) (fun h => absurd ((hcol2 t).mp h) (by omega)) ((hcol3 t).mpr hj) (fun h => absurd ((hcol4 t).mp h) (by omega)) ((hrow t).mpr h0) (fun h => absurd ((hsid0 t).mp h) (by omega)) (fun h => absurd ((hsid1 t).mp h) (by omega)) (fun h => absurd ((hsid2 t).mp h) (by omega)) ((hsid3 t).mpr hj) (fun h => absurd ((hsid4 t).mp h) (by omega)) (iblk m c 0 t) (iblk m c 1 t) (iblk m c 2 t) _)
      isplitl [H0]; · iexact H0
      isplitl [H1]; · iexact H1
      isplitl [H2]; · iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
    · rw [leaves_side_live m c t h0, after0_4, show held t = t from if_pos h0]
      rw [outP_4 t hj, outS_4 t hj]
      iintro ⟨HΦ, Ho, ⟨%d0, H0⟩, ⟨%d1, H1⟩, ⟨%d2, H2⟩, ⟨%d3, H3⟩, ⟨%d4, H4⟩⟩
      iapply (triple_first4 c Set.univ (grid0.coords t) _ _ _ _ _ _ _ _ _ _ (fun h => absurd ((hcol0 t).mp h) (by omega)) (fun h => absurd ((hcol1 t).mp h) (by omega)) (fun h => absurd ((hcol2 t).mp h) (by omega)) (fun h => absurd ((hcol3 t).mp h) (by omega)) ((hcol4 t).mpr hj) ((hrow t).mpr h0) (fun h => absurd ((hsid0 t).mp h) (by omega)) (fun h => absurd ((hsid1 t).mp h) (by omega)) (fun h => absurd ((hsid2 t).mp h) (by omega)) (fun h => absurd ((hsid3 t).mp h) (by omega)) ((hsid4 t).mpr hj) (iblk m c 0 t) (iblk m c 1 t) (iblk m c 2 t) _)
      isplitl [H0]; · iexact H0
      isplitl [H1]; · iexact H1
      isplitl [H2]; · iexact H2
      isplitl [H3]; · iexists _; iexact H3
      isplitl [H4]; · iexists _; iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      iexact H4
  · rcases hJ with hj | hj | hj | hj | hj
    · rw [outP_0 t hj]
      iintro ⟨HΦ, Ho, ⟨%d0, H0⟩, ⟨%d1, H1⟩, ⟨%d2, H2⟩, ⟨%d3, H3⟩, ⟨%d4, H4⟩⟩
      iapply (triple_rest0 c Set.univ (grid0.coords t) _ _ _ _ _ _ _ _ _ _ ((hcol0 t).mpr hj) (fun h => absurd ((hcol1 t).mp h) (by omega)) (fun h => absurd ((hcol2 t).mp h) (by omega)) (fun h => absurd ((hcol3 t).mp h) (by omega)) (fun h => absurd ((hcol4 t).mp h) (by omega)) (fun h => h0 ((hrow t).mp h)) (iblk m c 0 t) (iblk m c 1 t) (iblk m c 2 t) ((dats m 0 c).before 4 t d4) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      rw [before_side m c (t.val - 14) t (by omega)]
      iapply (leaves_side_idle m c t h0); iexact H4
    · rw [outP_1 t hj]
      iintro ⟨HΦ, Ho, ⟨%d0, H0⟩, ⟨%d1, H1⟩, ⟨%d2, H2⟩, ⟨%d3, H3⟩, ⟨%d4, H4⟩⟩
      iapply (triple_rest1 c Set.univ (grid0.coords t) _ _ _ _ _ _ _ _ _ _ (fun h => absurd ((hcol0 t).mp h) (by omega)) ((hcol1 t).mpr hj) (fun h => absurd ((hcol2 t).mp h) (by omega)) (fun h => absurd ((hcol3 t).mp h) (by omega)) (fun h => absurd ((hcol4 t).mp h) (by omega)) (fun h => h0 ((hrow t).mp h)) (iblk m c 0 t) (iblk m c 1 t) (iblk m c 2 t) ((dats m 0 c).before 4 t d4) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      rw [before_side m c (t.val - 14) t (by omega)]
      iapply (leaves_side_idle m c t h0); iexact H4
    · rw [outP_2 t hj]
      iintro ⟨HΦ, Ho, ⟨%d0, H0⟩, ⟨%d1, H1⟩, ⟨%d2, H2⟩, ⟨%d3, H3⟩, ⟨%d4, H4⟩⟩
      iapply (triple_rest2 c Set.univ (grid0.coords t) _ _ _ _ _ _ _ _ _ _ (fun h => absurd ((hcol0 t).mp h) (by omega)) (fun h => absurd ((hcol1 t).mp h) (by omega)) ((hcol2 t).mpr hj) (fun h => absurd ((hcol3 t).mp h) (by omega)) (fun h => absurd ((hcol4 t).mp h) (by omega)) (fun h => h0 ((hrow t).mp h)) (iblk m c 0 t) (iblk m c 1 t) (iblk m c 2 t) ((dats m 0 c).before 4 t d4) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      rw [before_side m c (t.val - 14) t (by omega)]
      iapply (leaves_side_idle m c t h0); iexact H4
    · rw [outP_3 t hj]
      iintro ⟨HΦ, Ho, ⟨%d0, H0⟩, ⟨%d1, H1⟩, ⟨%d2, H2⟩, ⟨%d3, H3⟩, ⟨%d4, H4⟩⟩
      iapply (triple_rest3 c Set.univ (grid0.coords t) _ _ _ _ _ _ _ _ _ _ (fun h => absurd ((hcol0 t).mp h) (by omega)) (fun h => absurd ((hcol1 t).mp h) (by omega)) (fun h => absurd ((hcol2 t).mp h) (by omega)) ((hcol3 t).mpr hj) (fun h => absurd ((hcol4 t).mp h) (by omega)) (fun h => h0 ((hrow t).mp h)) (iblk m c 0 t) (iblk m c 1 t) (iblk m c 2 t) ((dats m 0 c).before 4 t d4) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      rw [before_side m c (t.val - 14) t (by omega)]
      iapply (leaves_side_idle m c t h0); iexact H4
    · rw [outP_4 t hj]
      iintro ⟨HΦ, Ho, ⟨%d0, H0⟩, ⟨%d1, H1⟩, ⟨%d2, H2⟩, ⟨%d3, H3⟩, ⟨%d4, H4⟩⟩
      iapply (triple_rest4 c Set.univ (grid0.coords t) _ _ _ _ _ _ _ _ _ _ (fun h => absurd ((hcol0 t).mp h) (by omega)) (fun h => absurd ((hcol1 t).mp h) (by omega)) (fun h => absurd ((hcol2 t).mp h) (by omega)) (fun h => absurd ((hcol3 t).mp h) (by omega)) ((hcol4 t).mpr hj) (fun h => h0 ((hrow t).mp h)) (iblk m c 0 t) (iblk m c 1 t) (iblk m c 2 t) ((dats m 0 c).before 4 t d4) _)
      isplitl [H0]; · iexact H0
      isplitl [H1]; · iexact H1
      isplitl [H2]; · iexact H2
      isplitl [H3]; · iexists _; iexact H3
      isplitl [H4]; · iexact H4
      iintro ⟨H0, H1, H2, H3, H4⟩
      isplitl [HΦ]; · iexact HΦ
      isplitl [Ho]; · iexact Ho
      isplitl [H0]; · iexact H0
      isplitl [H1]; · iexact H1
      isplitl [H2]; · iexact H2
      isplitl [H3]; · iexact H3
      rw [before_side m c (t.val - 14) t (by omega)]
      iapply (leaves_side_idle m c t h0); iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- Every fair execution ends, with every array of the pipeline at what the proof data compute and all counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel5Ideal.Run

end
-- ==== Proof.MidValue.lean ====
/- The middle columns of the input projection: the stored blocks are the blocks of the product with those columns, each group of columns through its activation. -/
module

public import proofs.«01_k».proof.Proof.Gen.Kernel5Ideal.Frame
public import proofs.«01_k».proof.Proof.Gen.Reference5Ideal
public import Idealize.ShloMosaic.Lib.Pipeline.ValueKit
public import Idealize.ShloMosaic.Lib.StableHlo.Run
public import proofs.«01_k».proof.Proof.MidRun

@[expose] public section

set_option maxRecDepth 16384

noncomputable section

open Idealize.ShloMosaic Idealize.ShloMosaic.TcCoe Idealize.SL.Sem
open Idealize.ShloMosaic.Pipeline (Dat)
open scoped BigOperators

namespace Cert.Kernel5Ideal.Value

open Cert.Kernel5Ideal Cert.Kernel5Ideal.Gen Cert.Kernel5Ideal.Run

variable (m : (ℓ : Loc nD τ sig) → Buf (Elt Ideal) ℓ)

/-- The prompt rows times the middle columns. -/
def prod (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8192x7168 .f32 :=
    (Host.dotGeneral Cert.Reference5Ideal.dot_S8192x4096_S4096x7168_S8192x7168_1_0_0_1_n_n none (extf .f32 h Cert.Reference5Ideal.Gen.bitsLt_bf16_f32)
    (extf .f32 (extractStridedSlice Cert.Reference5Ideal.S4096x7168 ![0, 5632] w Cert.Reference5Ideal.Gen.slices_S4096x25088_S4096x7168_0_5632)
    Cert.Reference5Ideal.Gen.bitsLt_bf16_f32))

/-- The attention gate. -/
def gateA (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8192x2048 .f32 :=
    (mulf (extractStridedSlice Cert.Reference5Ideal.S8192x2048 ![0, 0] (prod h hs w) Cert.Reference5Ideal.Gen.slices_S8192x7168_S8192x2048_0_0)
    (Host.divf (broadcastInDim Cert.Reference5Ideal.S8192x2048 ![] Cert.Reference5Ideal.Gen.bcast_S_S8192x2048 (constant Cert.Reference5Ideal.S_ .f32
    0x3F800000#32)) (addf (broadcastInDim Cert.Reference5Ideal.S8192x2048 ![] Cert.Reference5Ideal.Gen.bcast_S_S8192x2048 (constant
    Cert.Reference5Ideal.S_ .f32 0x3F800000#32)) (Host.exp (Host.negf (extractStridedSlice Cert.Reference5Ideal.S8192x2048 ![0, 0] (prod h hs w)
    Cert.Reference5Ideal.Gen.slices_S8192x7168_S8192x2048_0_0))))))

/-- The first gelu group. -/
def actU (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8192x1024 .f32 :=
    (mulf (extractStridedSlice Cert.Reference5Ideal.S8192x1024 ![0, 2048] (prod h hs w) Cert.Reference5Ideal.Gen.slices_S8192x7168_S8192x1024_0_2048)
    (mulf (broadcastInDim Cert.Reference5Ideal.S8192x1024 ![] Cert.Reference5Ideal.Gen.bcast_S_S8192x1024 (constant Cert.Reference5Ideal.S_ .f32
    0x3F000000#32)) (addf (broadcastInDim Cert.Reference5Ideal.S8192x1024 ![] Cert.Reference5Ideal.Gen.bcast_S_S8192x1024 (constant
    Cert.Reference5Ideal.S_ .f32 0x3F800000#32)) (Host.tanh (mulf (broadcastInDim Cert.Reference5Ideal.S8192x1024 ![]
    Cert.Reference5Ideal.Gen.bcast_S_S8192x1024 (constant Cert.Reference5Ideal.S_ .f32 0x3F4C422A#32)) (addf (extractStridedSlice
    Cert.Reference5Ideal.S8192x1024 ![0, 2048] (prod h hs w) Cert.Reference5Ideal.Gen.slices_S8192x7168_S8192x1024_0_2048) (mulf (broadcastInDim
    Cert.Reference5Ideal.S8192x1024 ![] Cert.Reference5Ideal.Gen.bcast_S_S8192x1024 (constant Cert.Reference5Ideal.S_ .f32 0x3D372713#32)) (mulf (mulf
    (extractStridedSlice Cert.Reference5Ideal.S8192x1024 ![0, 2048] (prod h hs w) Cert.Reference5Ideal.Gen.slices_S8192x7168_S8192x1024_0_2048)
    (extractStridedSlice Cert.Reference5Ideal.S8192x1024 ![0, 2048] (prod h hs w) Cert.Reference5Ideal.Gen.slices_S8192x7168_S8192x1024_0_2048))
    (extractStridedSlice Cert.Reference5Ideal.S8192x1024 ![0, 2048] (prod h hs w)
    Cert.Reference5Ideal.Gen.slices_S8192x7168_S8192x1024_0_2048)))))))))

/-- The second. -/
def actV (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8192x1024 .f32 :=
    (mulf (extractStridedSlice Cert.Reference5Ideal.S8192x1024 ![0, 3072] (prod h hs w) Cert.Reference5Ideal.Gen.slices_S8192x7168_S8192x1024_0_3072)
    (mulf (broadcastInDim Cert.Reference5Ideal.S8192x1024 ![] Cert.Reference5Ideal.Gen.bcast_S_S8192x1024 (constant Cert.Reference5Ideal.S_ .f32
    0x3F000000#32)) (addf (broadcastInDim Cert.Reference5Ideal.S8192x1024 ![] Cert.Reference5Ideal.Gen.bcast_S_S8192x1024 (constant
    Cert.Reference5Ideal.S_ .f32 0x3F800000#32)) (Host.tanh (mulf (broadcastInDim Cert.Reference5Ideal.S8192x1024 ![]
    Cert.Reference5Ideal.Gen.bcast_S_S8192x1024 (constant Cert.Reference5Ideal.S_ .f32 0x3F4C422A#32)) (addf (extractStridedSlice
    Cert.Reference5Ideal.S8192x1024 ![0, 3072] (prod h hs w) Cert.Reference5Ideal.Gen.slices_S8192x7168_S8192x1024_0_3072) (mulf (broadcastInDim
    Cert.Reference5Ideal.S8192x1024 ![] Cert.Reference5Ideal.Gen.bcast_S_S8192x1024 (constant Cert.Reference5Ideal.S_ .f32 0x3D372713#32)) (mulf (mulf
    (extractStridedSlice Cert.Reference5Ideal.S8192x1024 ![0, 3072] (prod h hs w) Cert.Reference5Ideal.Gen.slices_S8192x7168_S8192x1024_0_3072)
    (extractStridedSlice Cert.Reference5Ideal.S8192x1024 ![0, 3072] (prod h hs w) Cert.Reference5Ideal.Gen.slices_S8192x7168_S8192x1024_0_3072))
    (extractStridedSlice Cert.Reference5Ideal.S8192x1024 ![0, 3072] (prod h hs w)
    Cert.Reference5Ideal.Gen.slices_S8192x7168_S8192x1024_0_3072)))))))))

/-- The chunked branch's gate. -/
def gateM (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8192x1024 .f32 :=
    (mulf (extractStridedSlice Cert.Reference5Ideal.S8192x1024 ![0, 4096] (prod h hs w) Cert.Reference5Ideal.Gen.slices_S8192x7168_S8192x1024_0_4096)
    (Host.divf (broadcastInDim Cert.Reference5Ideal.S8192x1024 ![] Cert.Reference5Ideal.Gen.bcast_S_S8192x1024 (constant Cert.Reference5Ideal.S_ .f32
    0x3F800000#32)) (addf (broadcastInDim Cert.Reference5Ideal.S8192x1024 ![] Cert.Reference5Ideal.Gen.bcast_S_S8192x1024 (constant
    Cert.Reference5Ideal.S_ .f32 0x3F800000#32)) (Host.exp (Host.negf (extractStridedSlice Cert.Reference5Ideal.S8192x1024 ![0, 4096] (prod h hs w)
    Cert.Reference5Ideal.Gen.slices_S8192x7168_S8192x1024_0_4096))))))

/-- The recurrent branch's gate. -/
def gateR (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8192x1024 .f32 :=
    (mulf (extractStridedSlice Cert.Reference5Ideal.S8192x1024 ![0, 6144] (prod h hs w) Cert.Reference5Ideal.Gen.slices_S8192x7168_S8192x1024_0_6144)
    (Host.divf (broadcastInDim Cert.Reference5Ideal.S8192x1024 ![] Cert.Reference5Ideal.Gen.bcast_S_S8192x1024 (constant Cert.Reference5Ideal.S_ .f32
    0x3F800000#32)) (addf (broadcastInDim Cert.Reference5Ideal.S8192x1024 ![] Cert.Reference5Ideal.Gen.bcast_S_S8192x1024 (constant
    Cert.Reference5Ideal.S_ .f32 0x3F800000#32)) (Host.exp (Host.negf (extractStridedSlice Cert.Reference5Ideal.S8192x1024 ![0, 6144] (prod h hs w)
    Cert.Reference5Ideal.Gen.slices_S8192x7168_S8192x1024_0_6144))))))

/-- The prompt rows: the six groups of columns side by side. -/
abbrev target (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8192x7168 .f32 :=
    ((concatenate Cert.Reference5Ideal.S8192x7168 1 [⟨Cert.Reference5Ideal.S8192x2048, (gateA h hs w)⟩, ⟨Cert.Reference5Ideal.S8192x1024, (actU h hs
    w)⟩, ⟨Cert.Reference5Ideal.S8192x1024, (actV h hs w)⟩, ⟨Cert.Reference5Ideal.S8192x1024, (gateM h hs w)⟩, ⟨Cert.Reference5Ideal.S8192x1024,
    (extractStridedSlice Cert.Reference5Ideal.S8192x1024 ![0, 5120] (prod h hs w) Cert.Reference5Ideal.Gen.slices_S8192x7168_S8192x1024_0_5120)⟩,
    ⟨Cert.Reference5Ideal.S8192x1024, (gateR h hs w)⟩]
    Cert.Reference5Ideal.Gen.concatenates_S8192x2048_S8192x1024_S8192x1024_S8192x1024_S8192x1024_S8192x1024_S8192x7168_d1))

/-- The sample rows times the middle columns. -/
def prodS (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8x7168 .f32 :=
    (Host.dotGeneral Cert.Reference5Ideal.dot_S8x4096_S4096x7168_S8x7168_1_0_0_1_n_n none (extf .f32 hs Cert.Reference5Ideal.Gen.bitsLt_bf16_f32)
    (extf .f32 (extractStridedSlice Cert.Reference5Ideal.S4096x7168 ![0, 5632] w Cert.Reference5Ideal.Gen.slices_S4096x25088_S4096x7168_0_5632)
    Cert.Reference5Ideal.Gen.bitsLt_bf16_f32))

/-- The attention gate. -/
def gateAS (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8x2048 .f32 :=
    (mulf (extractStridedSlice Cert.Reference5Ideal.S8x2048 ![0, 0] (prodS h hs w) Cert.Reference5Ideal.Gen.slices_S8x7168_S8x2048_0_0) (Host.divf
    (broadcastInDim Cert.Reference5Ideal.S8x2048 ![] Cert.Reference5Ideal.Gen.bcast_S_S8x2048 (constant Cert.Reference5Ideal.S_ .f32 0x3F800000#32))
    (addf (broadcastInDim Cert.Reference5Ideal.S8x2048 ![] Cert.Reference5Ideal.Gen.bcast_S_S8x2048 (constant Cert.Reference5Ideal.S_ .f32
    0x3F800000#32)) (Host.exp (Host.negf (extractStridedSlice Cert.Reference5Ideal.S8x2048 ![0, 0] (prodS h hs w)
    Cert.Reference5Ideal.Gen.slices_S8x7168_S8x2048_0_0))))))

/-- The first gelu group. -/
def actUS (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8x1024 .f32 :=
    (mulf (extractStridedSlice Cert.Reference5Ideal.S8x1024 ![0, 2048] (prodS h hs w) Cert.Reference5Ideal.Gen.slices_S8x7168_S8x1024_0_2048) (mulf
    (broadcastInDim Cert.Reference5Ideal.S8x1024 ![] Cert.Reference5Ideal.Gen.bcast_S_S8x1024 (constant Cert.Reference5Ideal.S_ .f32 0x3F000000#32))
    (addf (broadcastInDim Cert.Reference5Ideal.S8x1024 ![] Cert.Reference5Ideal.Gen.bcast_S_S8x1024 (constant Cert.Reference5Ideal.S_ .f32
    0x3F800000#32)) (Host.tanh (mulf (broadcastInDim Cert.Reference5Ideal.S8x1024 ![] Cert.Reference5Ideal.Gen.bcast_S_S8x1024 (constant
    Cert.Reference5Ideal.S_ .f32 0x3F4C422A#32)) (addf (extractStridedSlice Cert.Reference5Ideal.S8x1024 ![0, 2048] (prodS h hs w)
    Cert.Reference5Ideal.Gen.slices_S8x7168_S8x1024_0_2048) (mulf (broadcastInDim Cert.Reference5Ideal.S8x1024 ![]
    Cert.Reference5Ideal.Gen.bcast_S_S8x1024 (constant Cert.Reference5Ideal.S_ .f32 0x3D372713#32)) (mulf (mulf (extractStridedSlice
    Cert.Reference5Ideal.S8x1024 ![0, 2048] (prodS h hs w) Cert.Reference5Ideal.Gen.slices_S8x7168_S8x1024_0_2048) (extractStridedSlice
    Cert.Reference5Ideal.S8x1024 ![0, 2048] (prodS h hs w) Cert.Reference5Ideal.Gen.slices_S8x7168_S8x1024_0_2048)) (extractStridedSlice
    Cert.Reference5Ideal.S8x1024 ![0, 2048] (prodS h hs w) Cert.Reference5Ideal.Gen.slices_S8x7168_S8x1024_0_2048)))))))))

/-- The second. -/
def actVS (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8x1024 .f32 :=
    (mulf (extractStridedSlice Cert.Reference5Ideal.S8x1024 ![0, 3072] (prodS h hs w) Cert.Reference5Ideal.Gen.slices_S8x7168_S8x1024_0_3072) (mulf
    (broadcastInDim Cert.Reference5Ideal.S8x1024 ![] Cert.Reference5Ideal.Gen.bcast_S_S8x1024 (constant Cert.Reference5Ideal.S_ .f32 0x3F000000#32))
    (addf (broadcastInDim Cert.Reference5Ideal.S8x1024 ![] Cert.Reference5Ideal.Gen.bcast_S_S8x1024 (constant Cert.Reference5Ideal.S_ .f32
    0x3F800000#32)) (Host.tanh (mulf (broadcastInDim Cert.Reference5Ideal.S8x1024 ![] Cert.Reference5Ideal.Gen.bcast_S_S8x1024 (constant
    Cert.Reference5Ideal.S_ .f32 0x3F4C422A#32)) (addf (extractStridedSlice Cert.Reference5Ideal.S8x1024 ![0, 3072] (prodS h hs w)
    Cert.Reference5Ideal.Gen.slices_S8x7168_S8x1024_0_3072) (mulf (broadcastInDim Cert.Reference5Ideal.S8x1024 ![]
    Cert.Reference5Ideal.Gen.bcast_S_S8x1024 (constant Cert.Reference5Ideal.S_ .f32 0x3D372713#32)) (mulf (mulf (extractStridedSlice
    Cert.Reference5Ideal.S8x1024 ![0, 3072] (prodS h hs w) Cert.Reference5Ideal.Gen.slices_S8x7168_S8x1024_0_3072) (extractStridedSlice
    Cert.Reference5Ideal.S8x1024 ![0, 3072] (prodS h hs w) Cert.Reference5Ideal.Gen.slices_S8x7168_S8x1024_0_3072)) (extractStridedSlice
    Cert.Reference5Ideal.S8x1024 ![0, 3072] (prodS h hs w) Cert.Reference5Ideal.Gen.slices_S8x7168_S8x1024_0_3072)))))))))

/-- The chunked branch's gate. -/
def gateMS (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8x1024 .f32 :=
    (mulf (extractStridedSlice Cert.Reference5Ideal.S8x1024 ![0, 4096] (prodS h hs w) Cert.Reference5Ideal.Gen.slices_S8x7168_S8x1024_0_4096)
    (Host.divf (broadcastInDim Cert.Reference5Ideal.S8x1024 ![] Cert.Reference5Ideal.Gen.bcast_S_S8x1024 (constant Cert.Reference5Ideal.S_ .f32
    0x3F800000#32)) (addf (broadcastInDim Cert.Reference5Ideal.S8x1024 ![] Cert.Reference5Ideal.Gen.bcast_S_S8x1024 (constant Cert.Reference5Ideal.S_
    .f32 0x3F800000#32)) (Host.exp (Host.negf (extractStridedSlice Cert.Reference5Ideal.S8x1024 ![0, 4096] (prodS h hs w)
    Cert.Reference5Ideal.Gen.slices_S8x7168_S8x1024_0_4096))))))

/-- The recurrent branch's gate. -/
def gateRS (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8x1024 .f32 :=
    (mulf (extractStridedSlice Cert.Reference5Ideal.S8x1024 ![0, 6144] (prodS h hs w) Cert.Reference5Ideal.Gen.slices_S8x7168_S8x1024_0_6144)
    (Host.divf (broadcastInDim Cert.Reference5Ideal.S8x1024 ![] Cert.Reference5Ideal.Gen.bcast_S_S8x1024 (constant Cert.Reference5Ideal.S_ .f32
    0x3F800000#32)) (addf (broadcastInDim Cert.Reference5Ideal.S8x1024 ![] Cert.Reference5Ideal.Gen.bcast_S_S8x1024 (constant Cert.Reference5Ideal.S_
    .f32 0x3F800000#32)) (Host.exp (Host.negf (extractStridedSlice Cert.Reference5Ideal.S8x1024 ![0, 6144] (prodS h hs w)
    Cert.Reference5Ideal.Gen.slices_S8x7168_S8x1024_0_6144))))))

/-- The sample rows: the six groups of columns side by side. -/
abbrev targetS (h : FVec Ideal Cert.Reference5Ideal.S8192x4096 .bf16) (hs : FVec Ideal Cert.Reference5Ideal.S8x4096 .bf16) (w : FVec Ideal Cert.Reference5Ideal.S4096x25088 .bf16) : FVec Ideal Cert.Reference5Ideal.S8x7168 .f32 :=
    ((concatenate Cert.Reference5Ideal.S8x7168 1 [⟨Cert.Reference5Ideal.S8x2048, (gateAS h hs w)⟩, ⟨Cert.Reference5Ideal.S8x1024, (actUS h hs w)⟩,
    ⟨Cert.Reference5Ideal.S8x1024, (actVS h hs w)⟩, ⟨Cert.Reference5Ideal.S8x1024, (gateMS h hs w)⟩, ⟨Cert.Reference5Ideal.S8x1024,
    (extractStridedSlice Cert.Reference5Ideal.S8x1024 ![0, 5120] (prodS h hs w) Cert.Reference5Ideal.Gen.slices_S8x7168_S8x1024_0_5120)⟩,
    ⟨Cert.Reference5Ideal.S8x1024, (gateRS h hs w)⟩]
    Cert.Reference5Ideal.Gen.concatenates_S8x2048_S8x1024_S8x1024_S8x1024_S8x1024_S8x1024_S8x7168_d1))

/-- Where each window's block lies at a point: row block `t / 14`, column block `t % 14`, the weight's columns from
    block 11 on; the sample output stays at its last column block past the first row of the grid. -/
theorem tiles : ∀ t : Fin cfg0.N, win0_0.index t = ![t.val / 14, 0] ∧ win0_1.index t = ![0, 0]
    ∧ win0_2.index t = ![0, 11 + t.val % 14] ∧ win0_3.index t = ![t.val / 14, t.val % 14]
    ∧ win0_4.index t = ![0, (held t).val % 14] ∧ (held t).val < 14 :=
  (by decide +kernel : ∀ t : Fin grid0.N, _)

theorem target_0 (h : FVec Ideal Cert.Reference5Ideal.S8192x4096 .bf16) (hs : FVec Ideal Cert.Reference5Ideal.S8x4096 .bf16) (w : FVec Ideal Cert.Reference5Ideal.S4096x25088 .bf16) (i : Cert.Reference5Ideal.S8192x7168.Idx) (h0 : 0 ≤ (i 1).val) (h1 : (i 1).val < 2048) :
    target h hs w i = gateA h hs w (ix2 (i 0) ⟨(i 1).val - 0, by omega⟩) := by
  pointwise [target]
  split_ifs <;> first | omega | skip
  all_goals exact congrArg _ (funext fun a => Fin.ext (by
    fin_cases a
    · exact Eq.refl (i 0).val
    · show (i 1).val = (i 1).val - 0; omega))

theorem target_1 (h : FVec Ideal Cert.Reference5Ideal.S8192x4096 .bf16) (hs : FVec Ideal Cert.Reference5Ideal.S8x4096 .bf16) (w : FVec Ideal Cert.Reference5Ideal.S4096x25088 .bf16) (i : Cert.Reference5Ideal.S8192x7168.Idx) (h0 : 2048 ≤ (i 1).val) (h1 : (i 1).val < 3072) :
    target h hs w i = actU h hs w (ix2 (i 0) ⟨(i 1).val - 2048, by omega⟩) := by
  pointwise [target]
  split_ifs <;> first | omega | skip
  all_goals exact congrArg _ (funext fun a => Fin.ext (by
    fin_cases a
    · exact Eq.refl (i 0).val
    · show (i 1).val - 2048 = (i 1).val - 2048; omega))

theorem target_2 (h : FVec Ideal Cert.Reference5Ideal.S8192x4096 .bf16) (hs : FVec Ideal Cert.Reference5Ideal.S8x4096 .bf16) (w : FVec Ideal Cert.Reference5Ideal.S4096x25088 .bf16) (i : Cert.Reference5Ideal.S8192x7168.Idx) (h0 : 3072 ≤ (i 1).val) (h1 : (i 1).val < 4096) :
    target h hs w i = actV h hs w (ix2 (i 0) ⟨(i 1).val - 3072, by omega⟩) := by
  pointwise [target]
  split_ifs <;> first | omega | skip
  all_goals exact congrArg _ (funext fun a => Fin.ext (by
    fin_cases a
    · exact Eq.refl (i 0).val
    · show (i 1).val - 2048 - 1024 = (i 1).val - 3072; omega))

theorem target_3 (h : FVec Ideal Cert.Reference5Ideal.S8192x4096 .bf16) (hs : FVec Ideal Cert.Reference5Ideal.S8x4096 .bf16) (w : FVec Ideal Cert.Reference5Ideal.S4096x25088 .bf16) (i : Cert.Reference5Ideal.S8192x7168.Idx) (h0 : 4096 ≤ (i 1).val) (h1 : (i 1).val < 5120) :
    target h hs w i = gateM h hs w (ix2 (i 0) ⟨(i 1).val - 4096, by omega⟩) := by
  pointwise [target]
  split_ifs <;> first | omega | skip
  all_goals exact congrArg _ (funext fun a => Fin.ext (by
    fin_cases a
    · exact Eq.refl (i 0).val
    · show (i 1).val - 2048 - 1024 - 1024 = (i 1).val - 4096; omega))

theorem target_4 (h : FVec Ideal Cert.Reference5Ideal.S8192x4096 .bf16) (hs : FVec Ideal Cert.Reference5Ideal.S8x4096 .bf16) (w : FVec Ideal Cert.Reference5Ideal.S4096x25088 .bf16) (i : Cert.Reference5Ideal.S8192x7168.Idx) (h0 : 5120 ≤ (i 1).val) (h1 : (i 1).val < 6144) :
    target h hs w i = prod h hs w i := by
  pointwise [target]
  split_ifs <;> first | omega | skip
  all_goals exact congrArg _ (funext fun a => Fin.ext (by
    fin_cases a
    · exact Eq.refl (i 0).val
    · show 5120 + ((i 1).val - 2048 - 1024 - 1024 - 1024) = (i 1).val; omega))

theorem target_5 (h : FVec Ideal Cert.Reference5Ideal.S8192x4096 .bf16) (hs : FVec Ideal Cert.Reference5Ideal.S8x4096 .bf16) (w : FVec Ideal Cert.Reference5Ideal.S4096x25088 .bf16) (i : Cert.Reference5Ideal.S8192x7168.Idx) (h0 : 6144 ≤ (i 1).val) (h1 : (i 1).val < 7168) :
    target h hs w i = gateR h hs w (ix2 (i 0) ⟨(i 1).val - 6144, by omega⟩) := by
  pointwise [target]
  split_ifs <;> first | omega | skip
  all_goals exact congrArg _ (funext fun a => Fin.ext (by
    fin_cases a
    · exact Eq.refl (i 0).val
    · show (i 1).val - 2048 - 1024 - 1024 - 1024 - 1024 = (i 1).val - 6144; omega))

theorem targetS_0 (h : FVec Ideal Cert.Reference5Ideal.S8192x4096 .bf16) (hs : FVec Ideal Cert.Reference5Ideal.S8x4096 .bf16) (w : FVec Ideal Cert.Reference5Ideal.S4096x25088 .bf16) (i : Cert.Reference5Ideal.S8x7168.Idx) (h0 : 0 ≤ (i 1).val) (h1 : (i 1).val < 2048) :
    targetS h hs w i = gateAS h hs w (ix2 (i 0) ⟨(i 1).val - 0, by omega⟩) := by
  pointwise [targetS]
  split_ifs <;> first | omega | skip
  all_goals exact congrArg _ (funext fun a => Fin.ext (by
    fin_cases a
    · exact Eq.refl (i 0).val
    · show (i 1).val = (i 1).val - 0; omega))

theorem targetS_1 (h : FVec Ideal Cert.Reference5Ideal.S8192x4096 .bf16) (hs : FVec Ideal Cert.Reference5Ideal.S8x4096 .bf16) (w : FVec Ideal Cert.Reference5Ideal.S4096x25088 .bf16) (i : Cert.Reference5Ideal.S8x7168.Idx) (h0 : 2048 ≤ (i 1).val) (h1 : (i 1).val < 3072) :
    targetS h hs w i = actUS h hs w (ix2 (i 0) ⟨(i 1).val - 2048, by omega⟩) := by
  pointwise [targetS]
  split_ifs <;> first | omega | skip
  all_goals exact congrArg _ (funext fun a => Fin.ext (by
    fin_cases a
    · exact Eq.refl (i 0).val
    · show (i 1).val - 2048 = (i 1).val - 2048; omega))

theorem targetS_2 (h : FVec Ideal Cert.Reference5Ideal.S8192x4096 .bf16) (hs : FVec Ideal Cert.Reference5Ideal.S8x4096 .bf16) (w : FVec Ideal Cert.Reference5Ideal.S4096x25088 .bf16) (i : Cert.Reference5Ideal.S8x7168.Idx) (h0 : 3072 ≤ (i 1).val) (h1 : (i 1).val < 4096) :
    targetS h hs w i = actVS h hs w (ix2 (i 0) ⟨(i 1).val - 3072, by omega⟩) := by
  pointwise [targetS]
  split_ifs <;> first | omega | skip
  all_goals exact congrArg _ (funext fun a => Fin.ext (by
    fin_cases a
    · exact Eq.refl (i 0).val
    · show (i 1).val - 2048 - 1024 = (i 1).val - 3072; omega))

theorem targetS_3 (h : FVec Ideal Cert.Reference5Ideal.S8192x4096 .bf16) (hs : FVec Ideal Cert.Reference5Ideal.S8x4096 .bf16) (w : FVec Ideal Cert.Reference5Ideal.S4096x25088 .bf16) (i : Cert.Reference5Ideal.S8x7168.Idx) (h0 : 4096 ≤ (i 1).val) (h1 : (i 1).val < 5120) :
    targetS h hs w i = gateMS h hs w (ix2 (i 0) ⟨(i 1).val - 4096, by omega⟩) := by
  pointwise [targetS]
  split_ifs <;> first | omega | skip
  all_goals exact congrArg _ (funext fun a => Fin.ext (by
    fin_cases a
    · exact Eq.refl (i 0).val
    · show (i 1).val - 2048 - 1024 - 1024 = (i 1).val - 4096; omega))

theorem targetS_4 (h : FVec Ideal Cert.Reference5Ideal.S8192x4096 .bf16) (hs : FVec Ideal Cert.Reference5Ideal.S8x4096 .bf16) (w : FVec Ideal Cert.Reference5Ideal.S4096x25088 .bf16) (i : Cert.Reference5Ideal.S8x7168.Idx) (h0 : 5120 ≤ (i 1).val) (h1 : (i 1).val < 6144) :
    targetS h hs w i = prodS h hs w i := by
  pointwise [targetS]
  split_ifs <;> first | omega | skip
  all_goals exact congrArg _ (funext fun a => Fin.ext (by
    fin_cases a
    · exact Eq.refl (i 0).val
    · show 5120 + ((i 1).val - 2048 - 1024 - 1024 - 1024) = (i 1).val; omega))

theorem targetS_5 (h : FVec Ideal Cert.Reference5Ideal.S8192x4096 .bf16) (hs : FVec Ideal Cert.Reference5Ideal.S8x4096 .bf16) (w : FVec Ideal Cert.Reference5Ideal.S4096x25088 .bf16) (i : Cert.Reference5Ideal.S8x7168.Idx) (h0 : 6144 ≤ (i 1).val) (h1 : (i 1).val < 7168) :
    targetS h hs w i = gateRS h hs w (ix2 (i 0) ⟨(i 1).val - 6144, by omega⟩) := by
  pointwise [targetS]
  split_ifs <;> first | omega | skip
  all_goals exact congrArg _ (funext fun a => Fin.ext (by
    fin_cases a
    · exact Eq.refl (i 0).val
    · show (i 1).val - 2048 - 1024 - 1024 - 1024 - 1024 = (i 1).val - 6144; omega))

theorem swap (x y z : EReal) : x * y * z = y * (x * z) := by rw [mul_comm x y, mul_assoc]

/-- The column of a stored element. -/
theorem col (t : Fin cfg0.N) (y) : ((((cfg0.win 3).blk t).view.emb y) 1).val = t.val % 14 * 512 + (y 1).val := by
  blk_simp [tiles t]

theorem at_prompt0 (c : Dev nD) (t : Fin cfg0.N) (h0 : 0 ≤ t.val % 14) (h1 : t.val % 14 ≤ 3) (y) :
    k0_pay7 (iblk m c 2 t) (iblk m c 0 t) y = target (m ((c : Thread nD τ).loc main_arg0)) (m ((c : Thread nD τ).loc main_arg1)) (m ((c : Thread nD τ).loc main_arg2)) (((cfg0.win 3).blk t).view.emb y) := by
  have hy : (y 1).val < 512 := (y 1).isLt
  rw [target_0 _ _ _ _ (by rw [col t y]; omega) (by rw [col t y]; omega)]
  pointwise [k0_pay7, k0_pay6, gateA, prod, zero_sub]
  blk_point [iblk, V, tiles t, tiles t]

theorem at_prompt1 (c : Dev nD) (t : Fin cfg0.N) (h0 : 4 ≤ t.val % 14) (h1 : t.val % 14 ≤ 5) (y) :
    k0_pay8 (iblk m c 2 t) (iblk m c 0 t) y = target (m ((c : Thread nD τ).loc main_arg0)) (m ((c : Thread nD τ).loc main_arg1)) (m ((c : Thread nD τ).loc main_arg2)) (((cfg0.win 3).blk t).view.emb y) := by
  have hy : (y 1).val < 512 := (y 1).isLt
  rw [target_1 _ _ _ _ (by rw [col t y]; omega) (by rw [col t y]; omega)]
  pointwise [k0_pay8, k0_pay6, actU, prod, zero_sub]
  first | refine (swap _ _ _).trans ?_ | refine Eq.trans ?_ (swap _ _ _).symm
  blk_point [iblk, V, tiles t, tiles t]

theorem at_prompt2 (c : Dev nD) (t : Fin cfg0.N) (h0 : 6 ≤ t.val % 14) (h1 : t.val % 14 ≤ 7) (y) :
    k0_pay8 (iblk m c 2 t) (iblk m c 0 t) y = target (m ((c : Thread nD τ).loc main_arg0)) (m ((c : Thread nD τ).loc main_arg1)) (m ((c : Thread nD τ).loc main_arg2)) (((cfg0.win 3).blk t).view.emb y) := by
  have hy : (y 1).val < 512 := (y 1).isLt
  rw [target_2 _ _ _ _ (by rw [col t y]; omega) (by rw [col t y]; omega)]
  pointwise [k0_pay8, k0_pay6, actV, prod, zero_sub]
  first | refine (swap _ _ _).trans ?_ | refine Eq.trans ?_ (swap _ _ _).symm
  blk_point [iblk, V, tiles t, tiles t]

theorem at_prompt3 (c : Dev nD) (t : Fin cfg0.N) (h0 : 8 ≤ t.val % 14) (h1 : t.val % 14 ≤ 9) (y) :
    k0_pay9 (iblk m c 2 t) (iblk m c 0 t) y = target (m ((c : Thread nD τ).loc main_arg0)) (m ((c : Thread nD τ).loc main_arg1)) (m ((c : Thread nD τ).loc main_arg2)) (((cfg0.win 3).blk t).view.emb y) := by
  have hy : (y 1).val < 512 := (y 1).isLt
  rw [target_3 _ _ _ _ (by rw [col t y]; omega) (by rw [col t y]; omega)]
  pointwise [k0_pay9, k0_pay6, gateM, prod, zero_sub]
  blk_point [iblk, V, tiles t, tiles t]

theorem at_prompt4 (c : Dev nD) (t : Fin cfg0.N) (h0 : 10 ≤ t.val % 14) (h1 : t.val % 14 ≤ 11) (y) :
    k0_pay6 (iblk m c 2 t) (iblk m c 0 t) y = target (m ((c : Thread nD τ).loc main_arg0)) (m ((c : Thread nD τ).loc main_arg1)) (m ((c : Thread nD τ).loc main_arg2)) (((cfg0.win 3).blk t).view.emb y) := by
  have hy : (y 1).val < 512 := (y 1).isLt
  rw [target_4 _ _ _ _ (by rw [col t y]; omega) (by rw [col t y]; omega)]
  pointwise [k0_pay6, prod, zero_sub]
  blk_point [iblk, V, tiles t, tiles t]

theorem at_prompt5 (c : Dev nD) (t : Fin cfg0.N) (h0 : 12 ≤ t.val % 14) (h1 : t.val % 14 ≤ 13) (y) :
    k0_pay10 (iblk m c 2 t) (iblk m c 0 t) y = target (m ((c : Thread nD τ).loc main_arg0)) (m ((c : Thread nD τ).loc main_arg1)) (m ((c : Thread nD τ).loc main_arg2)) (((cfg0.win 3).blk t).view.emb y) := by
  have hy : (y 1).val < 512 := (y 1).isLt
  rw [target_5 _ _ _ _ (by rw [col t y]; omega) (by rw [col t y]; omega)]
  pointwise [k0_pay10, k0_pay6, gateR, prod, zero_sub]
  blk_point [iblk, V, tiles t, tiles t]

/-- The column of a stored element. -/
theorem colS (t : Fin cfg0.N) (y) : ((((cfg0.win 4).blk t).view.emb y) 1).val = (held t).val % 14 * 512 + (y 1).val := by
  blk_simp [tiles t]

theorem at_sample0 (c : Dev nD) (t : Fin cfg0.N) (h0 : 0 ≤ (held t).val % 14) (h1 : (held t).val % 14 ≤ 3) (y) :
    k0_pay2 (iblk m c 2 (held t)) (iblk m c 1 (held t)) y = targetS (m ((c : Thread nD τ).loc main_arg0)) (m ((c : Thread nD τ).loc main_arg1)) (m ((c : Thread nD τ).loc main_arg2)) (((cfg0.win 4).blk t).view.emb y) := by
  have hy : (y 1).val < 512 := (y 1).isLt
  rw [targetS_0 _ _ _ _ (by rw [colS t y]; omega) (by rw [colS t y]; omega)]
  pointwise [k0_pay2, k0_pay1, gateAS, prodS, zero_sub]
  blk_point [iblk, V, tiles t, tiles (held t)]

theorem at_sample1 (c : Dev nD) (t : Fin cfg0.N) (h0 : 4 ≤ (held t).val % 14) (h1 : (held t).val % 14 ≤ 5) (y) :
    k0_pay3 (iblk m c 2 (held t)) (iblk m c 1 (held t)) y = targetS (m ((c : Thread nD τ).loc main_arg0)) (m ((c : Thread nD τ).loc main_arg1)) (m ((c : Thread nD τ).loc main_arg2)) (((cfg0.win 4).blk t).view.emb y) := by
  have hy : (y 1).val < 512 := (y 1).isLt
  rw [targetS_1 _ _ _ _ (by rw [colS t y]; omega) (by rw [colS t y]; omega)]
  pointwise [k0_pay3, k0_pay1, actUS, prodS, zero_sub]
  first | refine (swap _ _ _).trans ?_ | refine Eq.trans ?_ (swap _ _ _).symm
  blk_point [iblk, V, tiles t, tiles (held t)]

theorem at_sample2 (c : Dev nD) (t : Fin cfg0.N) (h0 : 6 ≤ (held t).val % 14) (h1 : (held t).val % 14 ≤ 7) (y) :
    k0_pay3 (iblk m c 2 (held t)) (iblk m c 1 (held t)) y = targetS (m ((c : Thread nD τ).loc main_arg0)) (m ((c : Thread nD τ).loc main_arg1)) (m ((c : Thread nD τ).loc main_arg2)) (((cfg0.win 4).blk t).view.emb y) := by
  have hy : (y 1).val < 512 := (y 1).isLt
  rw [targetS_2 _ _ _ _ (by rw [colS t y]; omega) (by rw [colS t y]; omega)]
  pointwise [k0_pay3, k0_pay1, actVS, prodS, zero_sub]
  first | refine (swap _ _ _).trans ?_ | refine Eq.trans ?_ (swap _ _ _).symm
  blk_point [iblk, V, tiles t, tiles (held t)]

theorem at_sample3 (c : Dev nD) (t : Fin cfg0.N) (h0 : 8 ≤ (held t).val % 14) (h1 : (held t).val % 14 ≤ 9) (y) :
    k0_pay4 (iblk m c 2 (held t)) (iblk m c 1 (held t)) y = targetS (m ((c : Thread nD τ).loc main_arg0)) (m ((c : Thread nD τ).loc main_arg1)) (m ((c : Thread nD τ).loc main_arg2)) (((cfg0.win 4).blk t).view.emb y) := by
  have hy : (y 1).val < 512 := (y 1).isLt
  rw [targetS_3 _ _ _ _ (by rw [colS t y]; omega) (by rw [colS t y]; omega)]
  pointwise [k0_pay4, k0_pay1, gateMS, prodS, zero_sub]
  blk_point [iblk, V, tiles t, tiles (held t)]

theorem at_sample4 (c : Dev nD) (t : Fin cfg0.N) (h0 : 10 ≤ (held t).val % 14) (h1 : (held t).val % 14 ≤ 11) (y) :
    k0_pay1 (iblk m c 2 (held t)) (iblk m c 1 (held t)) y = targetS (m ((c : Thread nD τ).loc main_arg0)) (m ((c : Thread nD τ).loc main_arg1)) (m ((c : Thread nD τ).loc main_arg2)) (((cfg0.win 4).blk t).view.emb y) := by
  have hy : (y 1).val < 512 := (y 1).isLt
  rw [targetS_4 _ _ _ _ (by rw [colS t y]; omega) (by rw [colS t y]; omega)]
  pointwise [k0_pay1, prodS, zero_sub]
  blk_point [iblk, V, tiles t, tiles (held t)]

theorem at_sample5 (c : Dev nD) (t : Fin cfg0.N) (h0 : 12 ≤ (held t).val % 14) (h1 : (held t).val % 14 ≤ 13) (y) :
    k0_pay5 (iblk m c 2 (held t)) (iblk m c 1 (held t)) y = targetS (m ((c : Thread nD τ).loc main_arg0)) (m ((c : Thread nD τ).loc main_arg1)) (m ((c : Thread nD τ).loc main_arg2)) (((cfg0.win 4).blk t).view.emb y) := by
  have hy : (y 1).val < 512 := (y 1).isLt
  rw [targetS_5 _ _ _ _ (by rw [colS t y]; omega) (by rw [colS t y]; omega)]
  pointwise [k0_pay5, k0_pay1, gateRS, prodS, zero_sub]
  blk_point [iblk, V, tiles t, tiles (held t)]

/-- The prompt output is the target: the blocks cover it. -/
theorem result (c : Dev nD) : (Run.dats m 0 c).arrAt 3 (cfgs 0).N = target (m ((c : Thread nD τ).loc main_arg0)) (m ((c : Thread nD τ).loc main_arg1)) (m ((c : Thread nD τ).loc main_arg2)) := by
  refine (Run.dats m 0 c).arrAt_eq_of_covers 3 _ (by decide +kernel) fun t _ y => ?_
  blk_simp
  rw [after0_3]
  by_cases a3 : t.val % 14 ≤ 3
  · rw [outP_0 _ a3]; unfold outP0
    rw [View.canon_unit_zero (by decide), View.ld_unit_zero (by decide), View.ld_unit_zero (by decide)]
    exact at_prompt0 m c t (by omega) a3 y
  by_cases a7 : t.val % 14 ≤ 7
  · rw [outP_1 _ (by omega)]; unfold outP1
    rw [View.canon_unit_zero (by decide), View.ld_unit_zero (by decide), View.ld_unit_zero (by decide)]
    by_cases a5 : t.val % 14 ≤ 5
    · exact at_prompt1 m c t (by omega) a5 y
    · exact at_prompt2 m c t (by omega) a7 y
  by_cases a9 : t.val % 14 ≤ 9
  · rw [outP_2 _ (by omega)]; unfold outP2
    rw [View.canon_unit_zero (by decide), View.ld_unit_zero (by decide), View.ld_unit_zero (by decide)]
    exact at_prompt3 m c t (by omega) a9 y
  by_cases a11 : t.val % 14 ≤ 11
  · rw [outP_3 _ (by omega)]; unfold outP3
    rw [View.canon_unit_zero (by decide), View.ld_unit_zero (by decide), View.ld_unit_zero (by decide)]
    exact at_prompt4 m c t (by omega) a11 y
  · rw [outP_4 _ (by omega)]; unfold outP4
    rw [View.canon_unit_zero (by decide), View.ld_unit_zero (by decide), View.ld_unit_zero (by decide)]
    exact at_prompt5 m c t (by omega) (by omega) y

/-- The sample output is the target: the blocks of the first row of the grid cover it. -/
theorem resultS (c : Dev nD) : (Run.dats m 0 c).arrAt 4 (cfgs 0).N = targetS (m ((c : Thread nD τ).loc main_arg0)) (m ((c : Thread nD τ).loc main_arg1)) (m ((c : Thread nD τ).loc main_arg2)) := by
  refine (Run.dats m 0 c).arrAt_eq_of_covers 4 _ (by decide +kernel) fun t _ y => ?_
  blk_simp
  rw [after0_4]
  by_cases a3 : (held t).val % 14 ≤ 3
  · rw [outS_0 _ a3]; unfold outS0
    rw [View.canon_unit_zero (by decide), View.ld_unit_zero (by decide), View.ld_unit_zero (by decide)]
    exact at_sample0 m c t (by omega) a3 y
  by_cases a7 : (held t).val % 14 ≤ 7
  · rw [outS_1 _ (by omega)]; unfold outS1
    rw [View.canon_unit_zero (by decide), View.ld_unit_zero (by decide), View.ld_unit_zero (by decide)]
    by_cases a5 : (held t).val % 14 ≤ 5
    · exact at_sample1 m c t (by omega) a5 y
    · exact at_sample2 m c t (by omega) a7 y
  by_cases a9 : (held t).val % 14 ≤ 9
  · rw [outS_2 _ (by omega)]; unfold outS2
    rw [View.canon_unit_zero (by decide), View.ld_unit_zero (by decide), View.ld_unit_zero (by decide)]
    exact at_sample3 m c t (by omega) a9 y
  by_cases a11 : (held t).val % 14 ≤ 11
  · rw [outS_3 _ (by omega)]; unfold outS3
    rw [View.canon_unit_zero (by decide), View.ld_unit_zero (by decide), View.ld_unit_zero (by decide)]
    exact at_sample4 m c t (by omega) a11 y
  · rw [outS_4 _ (by omega)]; unfold outS4
    rw [View.canon_unit_zero (by decide), View.ld_unit_zero (by decide), View.ld_unit_zero (by decide)]
    exact at_sample5 m c t (by omega) (by omega) y

end Cert.Kernel5Ideal.Value
end
-- ==== Proof.OutSampleValue.lean ====
/- The output projection with its residual, for the sample rows: every stored tile is the tile of `x + m · w`. -/
module

public import proofs.«01_k».proof.Proof.Gen.Kernel12Ideal.Frame
public import proofs.«01_k».proof.Proof.Gen.Reference12Ideal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel12Ideal.Value

open Cert.Kernel12Ideal Cert.Kernel12Ideal.Gen

variable (m : (ℓ : Loc nD τ sig) → Buf (Elt Ideal) ℓ)

/-- The plain layer's last line over the three arrays: the residual plus the product with the second layer's weight. -/
abbrev target (a : FVec Ideal Cert.Reference12Ideal.S8x4096 .bf16) (w : FVec Ideal Cert.Reference12Ideal.S2x4096x4096 .f32)
    (x : FVec Ideal Cert.Reference12Ideal.S8x4096 .f32) : FVec Ideal Cert.Reference12Ideal.S8x4096 .f32 :=
  addf x (Host.dotGeneral Cert.Reference12Ideal.dot_S8x4096_S4096x4096_S8x4096_1_0_0_1_n_n none
    (extf .f32 a Cert.Reference12Ideal.Gen.bitsLt_bf16_f32)
    (shapeCast _ (extractStridedSlice Cert.Reference12Ideal.S1x4096x4096 ![1, 0, 0] w Cert.Reference12Ideal.Gen.slices_S2x4096x4096_S1x4096x4096_1_0_0)
      Cert.Reference12Ideal.Gen.shapeCasts_S1x4096x4096_S4096x4096))

/-- Where each window's block lies at a point: one row tile, column tile `t`. -/
theorem tiles : ∀ t : Fin cfg0.N, win0_0.index t = ![0, 0] ∧ win0_1.index t = ![1, 0, t.val]
    ∧ win0_2.index t = ![0, t.val] ∧ win0_3.index t = ![0, t.val] :=
  (by decide +kernel : ∀ t : Fin grid0.N, _)

/-- One stored element is the target's element at the place the tile puts it. -/
theorem at_tile (c : Dev nD) (t : Fin cfg0.N) (y) : k0_pay1 (iblk m c 2 t) (iblk m c 0 t) (iblk m c 1 t) y
    = target (m ((c : Thread nD τ).loc main_arg0)) (m ((c : Thread nD τ).loc main_arg1)) (m ((c : Thread nD τ).loc main_arg2))
        (((cfg0.win 3).blk t).view.emb y) := by
  pointwise [k0_pay1, target]
  blk_point [iblk, V, tiles t]

/-- The whole result array is the target: the tiles cover it. -/
theorem result (c : Dev nD) : (dats m 0 c).arrAt 3 (cfgs 0).N
    = target (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact at_tile m c t y

end Cert.Kernel12Ideal.Value

end
-- ==== Proof.OutValue.lean ====
/- The output projection with its residual: every stored tile is the tile of `x + m · w`. -/
module

public import proofs.«01_k».proof.Proof.Gen.Kernel3Ideal.Frame
public import proofs.«01_k».proof.Proof.Gen.Reference3Ideal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel3Ideal.Value

open Cert.Kernel3Ideal Cert.Kernel3Ideal.Gen

variable (m : (ℓ : Loc nD τ sig) → Buf (Elt Ideal) ℓ)

/-- The plain layer's last line over the three arrays: the residual plus the product with the second layer's weight. -/
abbrev target (a : FVec Ideal Cert.Reference3Ideal.S8192x4096 .bf16) (w : FVec Ideal Cert.Reference3Ideal.S2x4096x4096 .f32)
    (x : FVec Ideal Cert.Reference3Ideal.S8192x4096 .f32) : FVec Ideal Cert.Reference3Ideal.S8192x4096 .f32 :=
  addf x (Host.dotGeneral Cert.Reference3Ideal.dot_S8192x4096_S4096x4096_S8192x4096_1_0_0_1_n_n none
    (extf .f32 a Cert.Reference3Ideal.Gen.bitsLt_bf16_f32)
    (shapeCast _ (extractStridedSlice Cert.Reference3Ideal.S1x4096x4096 ![1, 0, 0] w Cert.Reference3Ideal.Gen.slices_S2x4096x4096_S1x4096x4096_1_0_0)
      Cert.Reference3Ideal.Gen.shapeCasts_S1x4096x4096_S4096x4096))

/-- Where each window's block lies at a point: row tile `t / 8`, column tile `t % 8`. -/
theorem tiles : ∀ t : Fin cfg0.N, win0_0.index t = ![t.val / 8, 0] ∧ win0_1.index t = ![1, 0, t.val % 8]
    ∧ win0_2.index t = ![t.val / 8, t.val % 8] ∧ win0_3.index t = ![t.val / 8, t.val % 8] :=
  (by decide +kernel : ∀ t : Fin grid0.N, _)

/-- One stored element is the target's element at the place the tile puts it. -/
theorem at_tile (c : Dev nD) (t : Fin cfg0.N) (y) : k0_pay1 (iblk m c 2 t) (iblk m c 0 t) (iblk m c 1 t) y
    = target (m ((c : Thread nD τ).loc main_arg0)) (m ((c : Thread nD τ).loc main_arg1)) (m ((c : Thread nD τ).loc main_arg2))
        (((cfg0.win 3).blk t).view.emb y) := by
  pointwise [k0_pay1, target]
  blk_point [iblk, V, tiles t]

/-- The whole result array is the target: the tiles cover it. -/
theorem result (c : Dev nD) : (dats m 0 c).arrAt 3 (cfgs 0).N
    = target (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact at_tile m c t y

end Cert.Kernel3Ideal.Value

end
-- ==== Proof.LruMath.lean ====
/- The mathematics of the gated linear recurrence `h ← a · h + u` over the extended reals: eight rows of it at once by
   doubling, and the scalar identities its coefficients go by. -/
module

public import Idealize.ShloMosaic.PureOps.Ideal
public import Idealize.ShloMosaic.Lib.Ring
public import Idealize.ShloMosaic.Lib.Claim
public import Idealize.ShloMosaic.Lib.Tactic

@[expose] public section

noncomputable section

namespace Cert.Lru

open Idealize.ShloMosaic

/-- A coefficient: a real that is not negative. -/
def Coef (a : EReal) : Prop := ∃ q : ℝ, 0 ≤ q ∧ a = (q : EReal)

theorem Coef.zero : Coef 0 := ⟨0, le_refl _, rfl⟩
theorem Coef.one : Coef 1 := ⟨1, zero_le_one, rfl⟩

theorem Coef.mul {a b : EReal} (ha : Coef a) (hb : Coef b) : Coef (a * b) := by
  obtain ⟨p, hp, rfl⟩ := ha
  obtain ⟨q, hq, rfl⟩ := hb
  exact ⟨p * q, mul_nonneg hp hq, (EReal.coe_mul p q).symm⟩

/-- A coefficient distributes over any sum. -/
theorem Coef.mul_add {a : EReal} (ha : Coef a) (x y : EReal) : a * (x + y) = a * x + a * y := by
  obtain ⟨p, hp, rfl⟩ := ha
  exact EReal.left_distrib_of_nonneg_of_ne_top (by exact_mod_cast hp) (EReal.coe_ne_top p) x y

/-- The recurrence from the state `h`. -/
def go (a u : ℕ → EReal) (h : EReal) : ℕ → EReal
  | 0 => h
  | r + 1 => a r * go a u h r + u r

theorem go_add (a u : ℕ → EReal) (h : EReal) (o : ℕ) : ∀ r,
    go a u h (o + r) = go (fun k => a (o + k)) (fun k => u (o + k)) (go a u h o) r
  | 0 => rfl
  | r + 1 => by
    show a (o + r) * go a u h (o + r) + u (o + r) = _
    rw [go_add a u h o r]
    rfl

theorem go_congr {a u b v : ℕ → EReal} (h : EReal) : ∀ n, (∀ r, r < n → a r = b r ∧ u r = v r) → go a u h n = go b v h n
  | 0, _ => rfl
  | n + 1, e => by
    show a n * go a u h n + u n = b n * go b v h n + v n
    rw [go_congr h n fun r hr => e r (Nat.lt_succ_of_lt hr), (e n (Nat.lt_succ_self n)).1, (e n (Nat.lt_succ_self n)).2]

/-- One doubling step of the coefficients: row `r` times the row `d` above it. -/
def dblA (d : ℕ) (a : ℕ → EReal) (r : ℕ) : EReal := a r * (if d ≤ r then a (r - d) else 1)

/-- One doubling step of the inputs. -/
def dblU (d : ℕ) (a u : ℕ → EReal) (r : ℕ) : EReal := a r * (if d ≤ r then u (r - d) else 0) + u r

theorem Coef.dblA {d : ℕ} {a : ℕ → EReal} (ha : ∀ r, Coef (a r)) (r : ℕ) : Coef (dblA d a r) := by
  unfold Cert.Lru.dblA
  split
  · exact (ha r).mul (ha _)
  · exact (ha r).mul Coef.one

/-- What a row does to a state. -/
def act (a u : ℕ → EReal) (r : ℕ) (x : EReal) : EReal := a r * x + u r

/-- After a doubling step row `r` does what it did before after what the row `d` above did. -/
theorem act_dbl {d : ℕ} {a u : ℕ → EReal} (ha : ∀ r, Coef (a r)) (r : ℕ) (x : EReal) :
    act (dblA d a) (dblU d a u) r x = if d ≤ r then act a u r (act a u (r - d) x) else act a u r x := by
  unfold act dblA dblU
  split
  · rw [(ha r).mul_add, mul_assoc, add_assoc]
  · rw [mul_one, mul_zero, zero_add]

/-- Three doubling steps make eight rows of the recurrence. -/
theorem act_eight {a u : ℕ → EReal} (ha : ∀ r, Coef (a r)) (h : EReal) (r : ℕ) (hr : r < 8) :
    act (dblA 4 (dblA 2 (dblA 1 a))) (dblU 4 (dblA 2 (dblA 1 a)) (dblU 2 (dblA 1 a) (dblU 1 a u))) r h
      = go a u h (r + 1) := by
  have h1 : ∀ r, Coef (dblA 1 a r) := fun r => Coef.dblA ha r
  have h2 : ∀ r, Coef (dblA 2 (dblA 1 a) r) := fun r => Coef.dblA h1 r
  rw [act_dbl h2]
  interval_cases r <;> simp [act_dbl h1, act_dbl ha] <;> rfl

/-! ### The scalars -/

open Idealize.ShloMosaic in
theorem exp_coef {x : EReal} (hx : x ≤ 0) : Coef (Ideal.exp x) := by
  induction x using EReal.rec with
  | bot => exact Coef.zero
  | top => exact absurd hx (by simp)
  | coe x => exact ⟨Real.exp x, (Real.exp_pos x).le, rfl⟩

/-! The scalar facts about the gates. -/

theorem exp_nonneg (x : EReal) : 0 ≤ Ideal.exp x := by
  induction x using EReal.rec with
  | bot => exact le_refl _
  | top => exact le_top
  | coe x => exact EReal.coe_nonneg.2 (Real.exp_pos x).le

theorem one_add_exp_pos (x : EReal) : 0 < 1 + Ideal.exp x :=
  lt_of_lt_of_le zero_lt_one (le_add_of_nonneg_right (exp_nonneg x))

/-- A sigmoid is not negative. -/
theorem sigmoid_nonneg (x : EReal) : 0 ≤ Ideal.div 1 (1 + Ideal.exp x) := by
  have h := one_add_exp_pos x
  unfold Ideal.div
  rw [if_neg h.ne', one_mul]
  exact EReal.inv_nonneg_of_nonneg h.le

theorem log1p_nonneg {x : EReal} (hx : 0 ≤ x) : 0 ≤ Ideal.log1p x := by
  induction x using EReal.rec with
  | bot => exact absurd hx (by simp)
  | top =>
    show 0 ≤ Ideal.log (1 + ⊤)
    rw [show (1 : EReal) + ⊤ = ⊤ from rfl]
    exact le_top
  | coe x =>
    have h0 : 0 ≤ x := EReal.coe_nonneg.1 hx
    show 0 ≤ Ideal.log (((1 + x : ℝ)) : EReal)
    show 0 ≤ (if 1 + x ≤ 0 then ⊥ else ((Real.log (1 + x) : ℝ) : EReal))
    rw [if_neg (by linarith)]
    exact EReal.coe_nonneg.2 (Real.log_nonneg (by linarith))

/-- A softplus is not negative. -/
theorem softplus_nonneg (n z : EReal) : 0 ≤ max n 0 + Ideal.log1p (Ideal.exp z) :=
  add_nonneg (le_max_right _ _) (log1p_nonneg (exp_nonneg z))

theorem neg_eight : Ideal.ofBits .f32 0xC1000000#32 = ((-8 : ℝ) : EReal) := by
  simp [Ideal.ofBits, Ideal.ieee, -EReal.coe_mul]; norm_num
theorem neg_two : Ideal.ofBits .f32 0xC0000000#32 = ((-2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

/-- The logarithm of a decay is not positive. -/
theorem log_decay_nonpos {r s : EReal} (hr : 0 ≤ r) (hs : 0 ≤ s) : Ideal.ofBits .f32 0xC1000000#32 * r * s ≤ 0 := by
  rw [neg_eight]
  have h8 : ((-8 : ℝ) : EReal) ≤ 0 := EReal.coe_nonpos.2 (by norm_num)
  have h1 : ((-8 : ℝ) : EReal) * r ≤ 0 := mul_nonpos_of_nonpos_of_nonneg h8 hr
  exact mul_nonpos_of_nonpos_of_nonneg h1 hs

/-- One minus a squared decay, written with the hyperbolic tangent. -/
theorem tanh_expm1 {l : EReal} (hl : l ≤ 0) :
    Ideal.div (Ideal.ofBits .f32 0xC0000000#32 * Ideal.tanh l) (1 - Ideal.tanh l)
      = -(Ideal.exp (Ideal.ofBits .f32 0x40000000#32 * l) - 1) := by
  rw [neg_two, two]
  induction l using EReal.rec with
  | bot =>
    have e1 : Ideal.tanh ⊥ = ((-1 : ℝ) : EReal) := rfl
    have e2 : ((2 : ℝ) : EReal) * ⊥ = ⊥ := EReal.coe_mul_bot_of_pos (by norm_num)
    have e3 : Ideal.exp ⊥ = ((0 : ℝ) : EReal) := rfl
    have e4 : (1 : EReal) = ((1 : ℝ) : EReal) := rfl
    rw [e1, e2, e3, e4, ← EReal.coe_mul, ← EReal.coe_sub, ← EReal.coe_sub, ← EReal.coe_neg]
    unfold Ideal.div
    rw [if_neg (by exact_mod_cast (by norm_num : (1 : ℝ) - -1 ≠ 0)), ← EReal.coe_inv, ← EReal.coe_mul]
    norm_num
  | top => exact absurd hl (by simp)
  | coe x =>
    have hx : x ≤ 0 := EReal.coe_nonpos.1 hl
    have e1 : Ideal.tanh (x : EReal) = ((Real.tanh x : ℝ) : EReal) := rfl
    have e3 : Ideal.exp ((2 * x : ℝ) : EReal) = ((Real.exp (2 * x) : ℝ) : EReal) := rfl
    have e4 : (1 : EReal) = ((1 : ℝ) : EReal) := rfl
    have hp := Real.exp_pos x
    have hn := Real.exp_pos (-x)
    have ht : 1 - Real.tanh x = 2 * Real.exp (-x) / (Real.exp x + Real.exp (-x)) := by
      rw [Real.tanh_eq_sinh_div_cosh, Real.sinh_eq, Real.cosh_eq]
      field_simp
      ring
    have hne : 1 - Real.tanh x ≠ 0 := by rw [ht]; positivity
    rw [e1, ← EReal.coe_mul (2 : ℝ) x, e3, e4, ← EReal.coe_mul, ← EReal.coe_sub, ← EReal.coe_sub, ← EReal.coe_neg]
    unfold Ideal.div
    rw [if_neg (by exact_mod_cast hne), ← EReal.coe_inv, ← EReal.coe_mul]
    refine congrArg _ ?_
    have hd : Real.exp (2 * x) = Real.exp x * Real.exp x := by rw [two_mul, Real.exp_add]
    rw [ht, Real.tanh_eq_sinh_div_cosh, Real.sinh_eq, Real.cosh_eq, hd]
    have he : Real.exp (-x) = (Real.exp x)⁻¹ := Real.exp_neg x
    rw [he]
    field_simp

end Cert.Lru

end
-- ==== Proof.PointMath.lean ====
/- The sample's pointwise part: the gated unit and one step of the recurrence, as the reference has them. -/
module

public import proofs.«01_k».proof.Proof.Gen.Kernel10Ideal.Frame
public import proofs.«01_k».proof.Proof.Gen.Reference10Ideal
public import Idealize.ShloMosaic.Lib.Pipeline.ValueKit
public import Idealize.ShloMosaic.Lib.StableHlo.Run
public import proofs.«01_k».proof.Proof.LruMath

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Value

open Cert.Kernel10Ideal Cert.Kernel10Ideal.Gen Cert.Lru

variable (m : (ℓ : Loc nD τ sig) → Buf (Elt Ideal) ℓ)

/-- The normalised rows. -/
def norm (a0 : FVec Ideal Cert.Reference10Ideal.S8x2048 .f32) (a1 : FVec Ideal Cert.Reference10Ideal.S8x1024 .f32) (a2 : FVec Ideal Cert.Reference10Ideal.S8x1024 .f32) (a3 : FVec Ideal Cert.Reference10Ideal.S8x1024 .f32) (a4 : FVec Ideal Cert.Reference10Ideal.S8x3x1024 .f32) (a5 : FVec Ideal Cert.Reference10Ideal.S8x1024 .f32) (a6 : FVec Ideal Cert.Reference10Ideal.S1024 .f32) (a7 : FVec Ideal Cert.Reference10Ideal.S1024 .f32) (a8 : FVec Ideal Cert.Reference10Ideal.S8x128x128 .f32) (a9 : FVec Ideal Cert.Reference10Ideal.S8x128 .f32) (a10 : FVec Ideal Cert.Reference10Ideal.S4x1024 .f32) (a11 : FVec Ideal Cert.Reference10Ideal.S1024 .f32) (a12 : FVec Ideal Cert.Reference10Ideal.S8x128x128 .f32) (a13 : FVec Ideal Cert.Reference10Ideal.S1024 .f32) (a14 : FVec Ideal Cert.Reference10Ideal.S8x128x128 .f32) (a15 : FVec Ideal Cert.Reference10Ideal.S1024 .f32) (a16 : FVec Ideal Cert.Reference10Ideal.S1024 .f32) : FVec Ideal Cert.Reference10Ideal.S8x1024 .f32 :=
    (addf (mulf (mulf (subf (extractStridedSlice Cert.Reference10Ideal.S8x1024 ![0, 1024] a0 Cert.Reference10Ideal.Gen.slices_S8x2048_S8x1024_0_1024)
    (broadcastInDim Cert.Reference10Ideal.S8x1024 ![0, 1] Cert.Reference10Ideal.Gen.bcast_S8x1_S8x1024_0_1 (Host.divf (broadcastInDim
    Cert.Reference10Ideal.S8x1 ![0] Cert.Reference10Ideal.Gen.bcast_S8_S8x1_0 (Host.reduceAdd (extractStridedSlice Cert.Reference10Ideal.S8x1024 ![0,
    1024] a0 Cert.Reference10Ideal.Gen.slices_S8x2048_S8x1024_0_1024) (constant Cert.Reference10Ideal.S_ .f32 0x00000000#32)
    Cert.Reference10Ideal.Gen.reducesTo_S8x1024_S8_d1 Cert.Reference10Ideal.Gen.h_S_)) (broadcastInDim Cert.Reference10Ideal.S8x1 ![]
    Cert.Reference10Ideal.Gen.bcast_S_S8x1 (constant Cert.Reference10Ideal.S_ .f32 0x44800000#32))))) (broadcastInDim Cert.Reference10Ideal.S8x1024
    ![0, 1] Cert.Reference10Ideal.Gen.bcast_S8x1_S8x1024_0_1 (Host.rsqrt (addf (Host.divf (broadcastInDim Cert.Reference10Ideal.S8x1 ![0]
    Cert.Reference10Ideal.Gen.bcast_S8_S8x1_0 (Host.reduceAdd (mulf (subf (extractStridedSlice Cert.Reference10Ideal.S8x1024 ![0, 1024] a0
    Cert.Reference10Ideal.Gen.slices_S8x2048_S8x1024_0_1024) (broadcastInDim Cert.Reference10Ideal.S8x1024 ![0, 1]
    Cert.Reference10Ideal.Gen.bcast_S8x1_S8x1024_0_1 (Host.divf (broadcastInDim Cert.Reference10Ideal.S8x1 ![0]
    Cert.Reference10Ideal.Gen.bcast_S8_S8x1_0 (Host.reduceAdd (extractStridedSlice Cert.Reference10Ideal.S8x1024 ![0, 1024] a0
    Cert.Reference10Ideal.Gen.slices_S8x2048_S8x1024_0_1024) (constant Cert.Reference10Ideal.S_ .f32 0x00000000#32)
    Cert.Reference10Ideal.Gen.reducesTo_S8x1024_S8_d1 Cert.Reference10Ideal.Gen.h_S_)) (broadcastInDim Cert.Reference10Ideal.S8x1 ![]
    Cert.Reference10Ideal.Gen.bcast_S_S8x1 (constant Cert.Reference10Ideal.S_ .f32 0x44800000#32))))) (subf (extractStridedSlice
    Cert.Reference10Ideal.S8x1024 ![0, 1024] a0 Cert.Reference10Ideal.Gen.slices_S8x2048_S8x1024_0_1024) (broadcastInDim Cert.Reference10Ideal.S8x1024
    ![0, 1] Cert.Reference10Ideal.Gen.bcast_S8x1_S8x1024_0_1 (Host.divf (broadcastInDim Cert.Reference10Ideal.S8x1 ![0]
    Cert.Reference10Ideal.Gen.bcast_S8_S8x1_0 (Host.reduceAdd (extractStridedSlice Cert.Reference10Ideal.S8x1024 ![0, 1024] a0
    Cert.Reference10Ideal.Gen.slices_S8x2048_S8x1024_0_1024) (constant Cert.Reference10Ideal.S_ .f32 0x00000000#32)
    Cert.Reference10Ideal.Gen.reducesTo_S8x1024_S8_d1 Cert.Reference10Ideal.Gen.h_S_)) (broadcastInDim Cert.Reference10Ideal.S8x1 ![]
    Cert.Reference10Ideal.Gen.bcast_S_S8x1 (constant Cert.Reference10Ideal.S_ .f32 0x44800000#32)))))) (constant Cert.Reference10Ideal.S_ .f32
    0x00000000#32) Cert.Reference10Ideal.Gen.reducesTo_S8x1024_S8_d1 Cert.Reference10Ideal.Gen.h_S_)) (broadcastInDim Cert.Reference10Ideal.S8x1 ![]
    Cert.Reference10Ideal.Gen.bcast_S_S8x1 (constant Cert.Reference10Ideal.S_ .f32 0x44800000#32))) (broadcastInDim Cert.Reference10Ideal.S8x1 ![]
    Cert.Reference10Ideal.Gen.bcast_S_S8x1 (constant Cert.Reference10Ideal.S_ .f32 0x358637BD#32)))))) (broadcastInDim Cert.Reference10Ideal.S8x1024
    ![0, 1] Cert.Reference10Ideal.Gen.bcast_S1x1024_S8x1024_0_1 (broadcastInDim Cert.Reference10Ideal.S1x1024 ![1]
    Cert.Reference10Ideal.Gen.bcast_S1024_S1x1024_1 a6))) (broadcastInDim Cert.Reference10Ideal.S8x1024 ![0, 1]
    Cert.Reference10Ideal.Gen.bcast_S1x1024_S8x1024_0_1 (broadcastInDim Cert.Reference10Ideal.S1x1024 ![1]
    Cert.Reference10Ideal.Gen.bcast_S1024_S1x1024_1 a7)))

/-- The convolution. -/
def conv (a0 : FVec Ideal Cert.Reference10Ideal.S8x2048 .f32) (a1 : FVec Ideal Cert.Reference10Ideal.S8x1024 .f32) (a2 : FVec Ideal Cert.Reference10Ideal.S8x1024 .f32) (a3 : FVec Ideal Cert.Reference10Ideal.S8x1024 .f32) (a4 : FVec Ideal Cert.Reference10Ideal.S8x3x1024 .f32) (a5 : FVec Ideal Cert.Reference10Ideal.S8x1024 .f32) (a6 : FVec Ideal Cert.Reference10Ideal.S1024 .f32) (a7 : FVec Ideal Cert.Reference10Ideal.S1024 .f32) (a8 : FVec Ideal Cert.Reference10Ideal.S8x128x128 .f32) (a9 : FVec Ideal Cert.Reference10Ideal.S8x128 .f32) (a10 : FVec Ideal Cert.Reference10Ideal.S4x1024 .f32) (a11 : FVec Ideal Cert.Reference10Ideal.S1024 .f32) (a12 : FVec Ideal Cert.Reference10Ideal.S8x128x128 .f32) (a13 : FVec Ideal Cert.Reference10Ideal.S1024 .f32) (a14 : FVec Ideal Cert.Reference10Ideal.S8x128x128 .f32) (a15 : FVec Ideal Cert.Reference10Ideal.S1024 .f32) (a16 : FVec Ideal Cert.Reference10Ideal.S1024 .f32) : FVec Ideal Cert.Reference10Ideal.S8x1024 .f32 :=
    (addf (addf (addf (addf (broadcastInDim Cert.Reference10Ideal.S8x1024 ![0, 1] Cert.Reference10Ideal.Gen.bcast_S1x1024_S8x1024_0_1 (broadcastInDim
    Cert.Reference10Ideal.S1x1024 ![1] Cert.Reference10Ideal.Gen.bcast_S1024_S1x1024_1 a11)) (mulf (shapeCast Cert.Reference10Ideal.S8x1024
    (extractStridedSlice Cert.Reference10Ideal.S8x1x1024 ![0, 0, 0] (concatenate Cert.Reference10Ideal.S8x4x1024 1 [⟨Cert.Reference10Ideal.S8x3x1024,
    a4⟩, ⟨Cert.Reference10Ideal.S8x1x1024, (broadcastInDim Cert.Reference10Ideal.S8x1x1024 ![0, 2]
    Cert.Reference10Ideal.Gen.bcast_S8x1024_S8x1x1024_0_2 a2)⟩] Cert.Reference10Ideal.Gen.concatenates_S8x3x1024_S8x1x1024_S8x4x1024_d1)
    Cert.Reference10Ideal.Gen.slices_S8x4x1024_S8x1x1024_0_0_0) Cert.Reference10Ideal.Gen.shapeCasts_S8x1x1024_S8x1024) (broadcastInDim
    Cert.Reference10Ideal.S8x1024 ![0, 1] Cert.Reference10Ideal.Gen.bcast_S1x1024_S8x1024_0_1 (broadcastInDim Cert.Reference10Ideal.S1x1024 ![1]
    Cert.Reference10Ideal.Gen.bcast_S1024_S1x1024_1 (shapeCast Cert.Reference10Ideal.S1024 (extractStridedSlice Cert.Reference10Ideal.S1x1024 ![0, 0]
    a10 Cert.Reference10Ideal.Gen.slices_S4x1024_S1x1024_0_0) Cert.Reference10Ideal.Gen.shapeCasts_S1x1024_S1024))))) (mulf (shapeCast
    Cert.Reference10Ideal.S8x1024 (extractStridedSlice Cert.Reference10Ideal.S8x1x1024 ![0, 1, 0] (concatenate Cert.Reference10Ideal.S8x4x1024 1
    [⟨Cert.Reference10Ideal.S8x3x1024, a4⟩, ⟨Cert.Reference10Ideal.S8x1x1024, (broadcastInDim Cert.Reference10Ideal.S8x1x1024 ![0, 2]
    Cert.Reference10Ideal.Gen.bcast_S8x1024_S8x1x1024_0_2 a2)⟩] Cert.Reference10Ideal.Gen.concatenates_S8x3x1024_S8x1x1024_S8x4x1024_d1)
    Cert.Reference10Ideal.Gen.slices_S8x4x1024_S8x1x1024_0_1_0) Cert.Reference10Ideal.Gen.shapeCasts_S8x1x1024_S8x1024) (broadcastInDim
    Cert.Reference10Ideal.S8x1024 ![0, 1] Cert.Reference10Ideal.Gen.bcast_S1x1024_S8x1024_0_1 (broadcastInDim Cert.Reference10Ideal.S1x1024 ![1]
    Cert.Reference10Ideal.Gen.bcast_S1024_S1x1024_1 (shapeCast Cert.Reference10Ideal.S1024 (extractStridedSlice Cert.Reference10Ideal.S1x1024 ![1, 0]
    a10 Cert.Reference10Ideal.Gen.slices_S4x1024_S1x1024_1_0) Cert.Reference10Ideal.Gen.shapeCasts_S1x1024_S1024))))) (mulf (shapeCast
    Cert.Reference10Ideal.S8x1024 (extractStridedSlice Cert.Reference10Ideal.S8x1x1024 ![0, 2, 0] (concatenate Cert.Reference10Ideal.S8x4x1024 1
    [⟨Cert.Reference10Ideal.S8x3x1024, a4⟩, ⟨Cert.Reference10Ideal.S8x1x1024, (broadcastInDim Cert.Reference10Ideal.S8x1x1024 ![0, 2]
    Cert.Reference10Ideal.Gen.bcast_S8x1024_S8x1x1024_0_2 a2)⟩] Cert.Reference10Ideal.Gen.concatenates_S8x3x1024_S8x1x1024_S8x4x1024_d1)
    Cert.Reference10Ideal.Gen.slices_S8x4x1024_S8x1x1024_0_2_0) Cert.Reference10Ideal.Gen.shapeCasts_S8x1x1024_S8x1024) (broadcastInDim
    Cert.Reference10Ideal.S8x1024 ![0, 1] Cert.Reference10Ideal.Gen.bcast_S1x1024_S8x1024_0_1 (broadcastInDim Cert.Reference10Ideal.S1x1024 ![1]
    Cert.Reference10Ideal.Gen.bcast_S1024_S1x1024_1 (shapeCast Cert.Reference10Ideal.S1024 (extractStridedSlice Cert.Reference10Ideal.S1x1024 ![2, 0]
    a10 Cert.Reference10Ideal.Gen.slices_S4x1024_S1x1024_2_0) Cert.Reference10Ideal.Gen.shapeCasts_S1x1024_S1024))))) (mulf (shapeCast
    Cert.Reference10Ideal.S8x1024 (extractStridedSlice Cert.Reference10Ideal.S8x1x1024 ![0, 3, 0] (concatenate Cert.Reference10Ideal.S8x4x1024 1
    [⟨Cert.Reference10Ideal.S8x3x1024, a4⟩, ⟨Cert.Reference10Ideal.S8x1x1024, (broadcastInDim Cert.Reference10Ideal.S8x1x1024 ![0, 2]
    Cert.Reference10Ideal.Gen.bcast_S8x1024_S8x1x1024_0_2 a2)⟩] Cert.Reference10Ideal.Gen.concatenates_S8x3x1024_S8x1x1024_S8x4x1024_d1)
    Cert.Reference10Ideal.Gen.slices_S8x4x1024_S8x1x1024_0_3_0) Cert.Reference10Ideal.Gen.shapeCasts_S8x1x1024_S8x1024) (broadcastInDim
    Cert.Reference10Ideal.S8x1024 ![0, 1] Cert.Reference10Ideal.Gen.bcast_S1x1024_S8x1024_0_1 (broadcastInDim Cert.Reference10Ideal.S1x1024 ![1]
    Cert.Reference10Ideal.Gen.bcast_S1024_S1x1024_1 (shapeCast Cert.Reference10Ideal.S1024 (extractStridedSlice Cert.Reference10Ideal.S1x1024 ![3, 0]
    a10 Cert.Reference10Ideal.Gen.slices_S4x1024_S1x1024_3_0) Cert.Reference10Ideal.Gen.shapeCasts_S1x1024_S1024)))))

/-- The gate of the input. -/
def gateI (a0 : FVec Ideal Cert.Reference10Ideal.S8x2048 .f32) (a1 : FVec Ideal Cert.Reference10Ideal.S8x1024 .f32) (a2 : FVec Ideal Cert.Reference10Ideal.S8x1024 .f32) (a3 : FVec Ideal Cert.Reference10Ideal.S8x1024 .f32) (a4 : FVec Ideal Cert.Reference10Ideal.S8x3x1024 .f32) (a5 : FVec Ideal Cert.Reference10Ideal.S8x1024 .f32) (a6 : FVec Ideal Cert.Reference10Ideal.S1024 .f32) (a7 : FVec Ideal Cert.Reference10Ideal.S1024 .f32) (a8 : FVec Ideal Cert.Reference10Ideal.S8x128x128 .f32) (a9 : FVec Ideal Cert.Reference10Ideal.S8x128 .f32) (a10 : FVec Ideal Cert.Reference10Ideal.S4x1024 .f32) (a11 : FVec Ideal Cert.Reference10Ideal.S1024 .f32) (a12 : FVec Ideal Cert.Reference10Ideal.S8x128x128 .f32) (a13 : FVec Ideal Cert.Reference10Ideal.S1024 .f32) (a14 : FVec Ideal Cert.Reference10Ideal.S8x128x128 .f32) (a15 : FVec Ideal Cert.Reference10Ideal.S1024 .f32) (a16 : FVec Ideal Cert.Reference10Ideal.S1024 .f32) : FVec Ideal Cert.Reference10Ideal.S8x1024 .f32 :=
    (Host.divf (broadcastInDim Cert.Reference10Ideal.S8x1024 ![] Cert.Reference10Ideal.Gen.bcast_S_S8x1024 (constant Cert.Reference10Ideal.S_ .f32
    0x3F800000#32)) (addf (broadcastInDim Cert.Reference10Ideal.S8x1024 ![] Cert.Reference10Ideal.Gen.bcast_S_S8x1024 (constant
    Cert.Reference10Ideal.S_ .f32 0x3F800000#32)) (Host.exp (Host.negf (addf (shapeCast Cert.Reference10Ideal.S8x1024 (transpose
    Cert.Reference10Ideal.S8x8x128 [2, 0, 1] (Host.dotGeneral Cert.Reference10Ideal.dot_S8x128x128_S8x8x128_S8x128x8_1_2_2_0_0_1 none a14 (shapeCast
    Cert.Reference10Ideal.S8x8x128 (conv a0 a1 a2 a3 a4 a5 a6 a7 a8 a9 a10 a11 a12 a13 a14 a15 a16)
    Cert.Reference10Ideal.Gen.shapeCasts_S8x1024_S8x8x128)) Cert.Reference10Ideal.Gen.transposes_S8x128x8_S8x8x128_2_0_1)
    Cert.Reference10Ideal.Gen.shapeCasts_S8x8x128_S8x1024) (broadcastInDim Cert.Reference10Ideal.S8x1024 ![0, 1]
    Cert.Reference10Ideal.Gen.bcast_S1x1024_S8x1024_0_1 (broadcastInDim Cert.Reference10Ideal.S1x1024 ![1]
    Cert.Reference10Ideal.Gen.bcast_S1024_S1x1024_1 a15)))))))

/-- The logarithm of the decay. -/
def logA (a0 : FVec Ideal Cert.Reference10Ideal.S8x2048 .f32) (a1 : FVec Ideal Cert.Reference10Ideal.S8x1024 .f32) (a2 : FVec Ideal Cert.Reference10Ideal.S8x1024 .f32) (a3 : FVec Ideal Cert.Reference10Ideal.S8x1024 .f32) (a4 : FVec Ideal Cert.Reference10Ideal.S8x3x1024 .f32) (a5 : FVec Ideal Cert.Reference10Ideal.S8x1024 .f32) (a6 : FVec Ideal Cert.Reference10Ideal.S1024 .f32) (a7 : FVec Ideal Cert.Reference10Ideal.S1024 .f32) (a8 : FVec Ideal Cert.Reference10Ideal.S8x128x128 .f32) (a9 : FVec Ideal Cert.Reference10Ideal.S8x128 .f32) (a10 : FVec Ideal Cert.Reference10Ideal.S4x1024 .f32) (a11 : FVec Ideal Cert.Reference10Ideal.S1024 .f32) (a12 : FVec Ideal Cert.Reference10Ideal.S8x128x128 .f32) (a13 : FVec Ideal Cert.Reference10Ideal.S1024 .f32) (a14 : FVec Ideal Cert.Reference10Ideal.S8x128x128 .f32) (a15 : FVec Ideal Cert.Reference10Ideal.S1024 .f32) (a16 : FVec Ideal Cert.Reference10Ideal.S1024 .f32) : FVec Ideal Cert.Reference10Ideal.S8x1024 .f32 :=
    (mulf (mulf (broadcastInDim Cert.Reference10Ideal.S8x1024 ![] Cert.Reference10Ideal.Gen.bcast_S_S8x1024 (constant Cert.Reference10Ideal.S_ .f32
    0xC1000000#32)) (Host.divf (broadcastInDim Cert.Reference10Ideal.S8x1024 ![] Cert.Reference10Ideal.Gen.bcast_S_S8x1024 (constant
    Cert.Reference10Ideal.S_ .f32 0x3F800000#32)) (addf (broadcastInDim Cert.Reference10Ideal.S8x1024 ![] Cert.Reference10Ideal.Gen.bcast_S_S8x1024
    (constant Cert.Reference10Ideal.S_ .f32 0x3F800000#32)) (Host.exp (Host.negf (addf (shapeCast Cert.Reference10Ideal.S8x1024 (transpose
    Cert.Reference10Ideal.S8x8x128 [2, 0, 1] (Host.dotGeneral Cert.Reference10Ideal.dot_S8x128x128_S8x8x128_S8x128x8_1_2_2_0_0_1 none a12 (shapeCast
    Cert.Reference10Ideal.S8x8x128 (conv a0 a1 a2 a3 a4 a5 a6 a7 a8 a9 a10 a11 a12 a13 a14 a15 a16)
    Cert.Reference10Ideal.Gen.shapeCasts_S8x1024_S8x8x128)) Cert.Reference10Ideal.Gen.transposes_S8x128x8_S8x8x128_2_0_1)
    Cert.Reference10Ideal.Gen.shapeCasts_S8x8x128_S8x1024) (broadcastInDim Cert.Reference10Ideal.S8x1024 ![0, 1]
    Cert.Reference10Ideal.Gen.bcast_S1x1024_S8x1024_0_1 (broadcastInDim Cert.Reference10Ideal.S1x1024 ![1]
    Cert.Reference10Ideal.Gen.bcast_S1024_S1x1024_1 a13)))))))) (broadcastInDim Cert.Reference10Ideal.S8x1024 ![0, 1]
    Cert.Reference10Ideal.Gen.bcast_S1x1024_S8x1024_0_1 (broadcastInDim Cert.Reference10Ideal.S1x1024 ![1]
    Cert.Reference10Ideal.Gen.bcast_S1024_S1x1024_1 (select (cmpf .une (subf (Host.negf a16) (broadcastInDim Cert.Reference10Ideal.S1024 ![]
    Cert.Reference10Ideal.Gen.bcast_S_S1024 (constant Cert.Reference10Ideal.S_ .f32 0x00000000#32))) (subf (Host.negf a16) (broadcastInDim
    Cert.Reference10Ideal.S1024 ![] Cert.Reference10Ideal.Gen.bcast_S_S1024 (constant Cert.Reference10Ideal.S_ .f32 0x00000000#32)))) (addf (Host.negf
    a16) (broadcastInDim Cert.Reference10Ideal.S1024 ![] Cert.Reference10Ideal.Gen.bcast_S_S1024 (constant Cert.Reference10Ideal.S_ .f32
    0x00000000#32))) (addf (maximumf (Host.negf a16) (broadcastInDim Cert.Reference10Ideal.S1024 ![] Cert.Reference10Ideal.Gen.bcast_S_S1024 (constant
    Cert.Reference10Ideal.S_ .f32 0x00000000#32))) (Host.log1p (Host.exp (Host.negf (Host.absf (subf (Host.negf a16) (broadcastInDim
    Cert.Reference10Ideal.S1024 ![] Cert.Reference10Ideal.Gen.bcast_S_S1024 (constant Cert.Reference10Ideal.S_ .f32 0x00000000#32))))))))))))

/-- The new states. -/
def state (a0 : FVec Ideal Cert.Reference10Ideal.S8x2048 .f32) (a1 : FVec Ideal Cert.Reference10Ideal.S8x1024 .f32) (a2 : FVec Ideal Cert.Reference10Ideal.S8x1024 .f32) (a3 : FVec Ideal Cert.Reference10Ideal.S8x1024 .f32) (a4 : FVec Ideal Cert.Reference10Ideal.S8x3x1024 .f32) (a5 : FVec Ideal Cert.Reference10Ideal.S8x1024 .f32) (a6 : FVec Ideal Cert.Reference10Ideal.S1024 .f32) (a7 : FVec Ideal Cert.Reference10Ideal.S1024 .f32) (a8 : FVec Ideal Cert.Reference10Ideal.S8x128x128 .f32) (a9 : FVec Ideal Cert.Reference10Ideal.S8x128 .f32) (a10 : FVec Ideal Cert.Reference10Ideal.S4x1024 .f32) (a11 : FVec Ideal Cert.Reference10Ideal.S1024 .f32) (a12 : FVec Ideal Cert.Reference10Ideal.S8x128x128 .f32) (a13 : FVec Ideal Cert.Reference10Ideal.S1024 .f32) (a14 : FVec Ideal Cert.Reference10Ideal.S8x128x128 .f32) (a15 : FVec Ideal Cert.Reference10Ideal.S1024 .f32) (a16 : FVec Ideal Cert.Reference10Ideal.S1024 .f32) : FVec Ideal Cert.Reference10Ideal.S8x1024 .f32 :=
    (addf (mulf (Host.exp (logA a0 a1 a2 a3 a4 a5 a6 a7 a8 a9 a10 a11 a12 a13 a14 a15 a16)) a5) (mulf (Host.sqrt (Host.negf (Host.expm1 (mulf
    (broadcastInDim Cert.Reference10Ideal.S8x1024 ![] Cert.Reference10Ideal.Gen.bcast_S_S8x1024 (constant Cert.Reference10Ideal.S_ .f32
    0x40000000#32)) (logA a0 a1 a2 a3 a4 a5 a6 a7 a8 a9 a10 a11 a12 a13 a14 a15 a16))))) (mulf (gateI a0 a1 a2 a3 a4 a5 a6 a7 a8 a9 a10 a11 a12 a13
    a14 a15 a16) (conv a0 a1 a2 a3 a4 a5 a6 a7 a8 a9 a10 a11 a12 a13 a14 a15 a16))))

/-- The gated unit, rounded. -/
abbrev omlp (a0 : FVec Ideal Cert.Reference10Ideal.S8x2048 .f32) (a1 : FVec Ideal Cert.Reference10Ideal.S8x1024 .f32) (a2 : FVec Ideal Cert.Reference10Ideal.S8x1024 .f32) (a3 : FVec Ideal Cert.Reference10Ideal.S8x1024 .f32) (a4 : FVec Ideal Cert.Reference10Ideal.S8x3x1024 .f32) (a5 : FVec Ideal Cert.Reference10Ideal.S8x1024 .f32) (a6 : FVec Ideal Cert.Reference10Ideal.S1024 .f32) (a7 : FVec Ideal Cert.Reference10Ideal.S1024 .f32) (a8 : FVec Ideal Cert.Reference10Ideal.S8x128x128 .f32) (a9 : FVec Ideal Cert.Reference10Ideal.S8x128 .f32) (a10 : FVec Ideal Cert.Reference10Ideal.S4x1024 .f32) (a11 : FVec Ideal Cert.Reference10Ideal.S1024 .f32) (a12 : FVec Ideal Cert.Reference10Ideal.S8x128x128 .f32) (a13 : FVec Ideal Cert.Reference10Ideal.S1024 .f32) (a14 : FVec Ideal Cert.Reference10Ideal.S8x128x128 .f32) (a15 : FVec Ideal Cert.Reference10Ideal.S1024 .f32) (a16 : FVec Ideal Cert.Reference10Ideal.S1024 .f32) : FVec Ideal Cert.Reference10Ideal.S8x1024 .bf16 :=
    (truncf .bf16 (mulf (mulf (extractStridedSlice Cert.Reference10Ideal.S8x1024 ![0, 0] a0 Cert.Reference10Ideal.Gen.slices_S8x2048_S8x1024_0_0)
    (shapeCast Cert.Reference10Ideal.S8x1024 (addf (transpose Cert.Reference10Ideal.S8x1x1x8x128 [1, 2, 4, 0, 3] (Host.dotGeneral
    Cert.Reference10Ideal.dot_S8x1x1x8x128_S8x1x1_S8x8x1x128x1_2_2_014_1_3_0 none (shapeCast Cert.Reference10Ideal.S8x1x1x8x128 (norm a0 a1 a2 a3 a4
    a5 a6 a7 a8 a9 a10 a11 a12 a13 a14 a15 a16) Cert.Reference10Ideal.Gen.shapeCasts_S8x1024_S8x1x1x8x128) (extractStridedSlice
    Cert.Reference10Ideal.S8x1x1 ![0, 0, 0] a8 Cert.Reference10Ideal.Gen.slices_S8x128x128_S8x1x1_0_0_0))
    Cert.Reference10Ideal.Gen.transposes_S8x8x1x128x1_S8x1x1x8x128_1_2_4_0_3) (broadcastInDim Cert.Reference10Ideal.S8x1x1x8x128 ![0, 1, 2, 3, 4]
    Cert.Reference10Ideal.Gen.bcast_S1x1x1x8x1_S8x1x1x8x128_0_1_2_3_4 (broadcastInDim Cert.Reference10Ideal.S1x1x1x8x1 ![2, 3]
    Cert.Reference10Ideal.Gen.bcast_S1x8_S1x1x1x8x1_2_3 (transpose Cert.Reference10Ideal.S1x8 [1, 0] (extractStridedSlice Cert.Reference10Ideal.S8x1
    ![0, 0] a9 Cert.Reference10Ideal.Gen.slices_S8x128_S8x1_0_0) Cert.Reference10Ideal.Gen.transposes_S8x1_S1x8_1_0))))
    Cert.Reference10Ideal.Gen.shapeCasts_S8x1x1x8x128_S8x1024)) a1) Cert.Reference10Ideal.Gen.bitsLt_bf16_f32)

/-- The gated state, rounded. -/
abbrev olru (a0 : FVec Ideal Cert.Reference10Ideal.S8x2048 .f32) (a1 : FVec Ideal Cert.Reference10Ideal.S8x1024 .f32) (a2 : FVec Ideal Cert.Reference10Ideal.S8x1024 .f32) (a3 : FVec Ideal Cert.Reference10Ideal.S8x1024 .f32) (a4 : FVec Ideal Cert.Reference10Ideal.S8x3x1024 .f32) (a5 : FVec Ideal Cert.Reference10Ideal.S8x1024 .f32) (a6 : FVec Ideal Cert.Reference10Ideal.S1024 .f32) (a7 : FVec Ideal Cert.Reference10Ideal.S1024 .f32) (a8 : FVec Ideal Cert.Reference10Ideal.S8x128x128 .f32) (a9 : FVec Ideal Cert.Reference10Ideal.S8x128 .f32) (a10 : FVec Ideal Cert.Reference10Ideal.S4x1024 .f32) (a11 : FVec Ideal Cert.Reference10Ideal.S1024 .f32) (a12 : FVec Ideal Cert.Reference10Ideal.S8x128x128 .f32) (a13 : FVec Ideal Cert.Reference10Ideal.S1024 .f32) (a14 : FVec Ideal Cert.Reference10Ideal.S8x128x128 .f32) (a15 : FVec Ideal Cert.Reference10Ideal.S1024 .f32) (a16 : FVec Ideal Cert.Reference10Ideal.S1024 .f32) : FVec Ideal Cert.Reference10Ideal.S8x1024 .bf16 :=
    (truncf .bf16 (mulf (state a0 a1 a2 a3 a4 a5 a6 a7 a8 a9 a10 a11 a12 a13 a14 a15 a16) a3) Cert.Reference10Ideal.Gen.bitsLt_bf16_f32)

section Blocks

variable (a0 : FVec Ideal Cert.Reference10Ideal.S8x2048 .f32) (a1 : FVec Ideal Cert.Reference10Ideal.S8x1024 .f32) (a2 : FVec Ideal Cert.Reference10Ideal.S8x1024 .f32) (a3 : FVec Ideal Cert.Reference10Ideal.S8x1024 .f32) (a4 : FVec Ideal Cert.Reference10Ideal.S8x3x1024 .f32) (a5 : FVec Ideal Cert.Reference10Ideal.S8x1024 .f32) (a6 : FVec Ideal Cert.Reference10Ideal.S1024 .f32) (a7 : FVec Ideal Cert.Reference10Ideal.S1024 .f32) (a8 : FVec Ideal Cert.Reference10Ideal.S8x128x128 .f32) (a9 : FVec Ideal Cert.Reference10Ideal.S8x128 .f32) (a10 : FVec Ideal Cert.Reference10Ideal.S4x1024 .f32) (a11 : FVec Ideal Cert.Reference10Ideal.S1024 .f32) (a12 : FVec Ideal Cert.Reference10Ideal.S8x128x128 .f32) (a13 : FVec Ideal Cert.Reference10Ideal.S1024 .f32) (a14 : FVec Ideal Cert.Reference10Ideal.S8x128x128 .f32) (a15 : FVec Ideal Cert.Reference10Ideal.S1024 .f32) (a16 : FVec Ideal Cert.Reference10Ideal.S1024 .f32)
  (x0 : FVec Ideal S8x1024 .f32) (x1 : FVec Ideal S8x1024 .f32) (x2 : FVec Ideal S8x1024 .f32) (x3 : FVec Ideal S1x1024 .f32) (x4 : FVec Ideal S1x1024 .f32) (x5 : FVec Ideal S1x1024 .f32) (x6 : FVec Ideal S1x1024 .f32) (x7 : FVec Ideal S8x1024 .f32) (x8 : FVec Ideal S8x1024 .f32) (x9 : FVec Ideal S3x8x1024 .f32) (x10 : FVec Ideal S8x1024 .f32) (x11 : FVec Ideal S4x1024 .f32) (x12 : FVec Ideal S1x1024 .f32) (x13 : FVec Ideal S8x128x128 .bf16) (x14 : FVec Ideal S8x128x128 .bf16) (x15 : FVec Ideal S1x1024 .f32) (x16 : FVec Ideal S1x1024 .f32) (x17 : FVec Ideal S1x1024 .f32)

/-- The taps summed from the last to the first, or from the first to the last. -/
theorem shuffle (c p q r s : EReal) : c + s + p + q + r = c + p + q + r + s := by ac_rfl

/-- The normalised rows. -/
theorem norm_at (h1 : ∀ (r : Fin 8) (l : Fin 1024), x1 (ix2 r l) = a0 (ix2 r ⟨1024 + l.val, by omega⟩)) (h3 : ∀ l : Fin 1024, x3 (ix2 0 l) = a6 (ix1 l)) (h4 : ∀ l : Fin 1024, x4 (ix2 0 l) = a7 (ix1 l)) (r : Fin 8) (l : Fin 1024) :
    k0_pay3 (F := Ideal) x1 x3 x4 (ix2 r l) = norm a0 a1 a2 a3 a4 a5 a6 a7 a8 a9 a10 a11 a12 a13 a14 a15 a16 (ix2 r l) := by
  pointwise [k0_pay3, norm]
  simp only [h1, h3, h4]

/-- The convolution. -/
theorem conv_at (h7 : ∀ (r : Fin 8) (l : Fin 1024), x7 (ix2 r l) = a2 (ix2 r l)) (h9 : ∀ (k : Fin 3) (r : Fin 8) (l : Fin 1024), x9 (ix3 k r l) = a4 (ix3 r k l)) (h11 : ∀ (k : Fin 4) (l : Fin 1024), x11 (ix2 k l) = a10 (ix2 k l)) (h12 : ∀ l : Fin 1024, x12 (ix2 0 l) = a11 (ix1 l)) (r : Fin 8) (l : Fin 1024) :
    k0_pay36 (F := Ideal) x0 x1 x2 x3 x4 x5 x6 x7 x8 x9 x10 x11 x12 x13 x14 x15 x16 x17 (ix2 r l) = conv a0 a1 a2 a3 a4 a5 a6 a7 a8 a9 a10 a11 a12 a13 a14 a15 a16 (ix2 r l) := by
  pointwise [k0_pay36, k0_pay6, conv, r0_0, r0_1, r0_2, r0_3, r0_4, r0_5, r0_6, r0_7, r0_8]
  simp only [h7, h9, h11, h12]
  exact shuffle _ _ _ _ _

/-- One column of the eight heads' products is the product of the column's head. -/
theorem heads (y Y : FVec Ideal S8x1024 .f32) (w : FVec Ideal S8x128x128 .bf16) (W : FVec Ideal Cert.Reference10Ideal.S8x128x128 .f32)
    (hy : ∀ (r : Fin 8) (l : Fin 1024), y (ix2 r l) = Y (ix2 r l)) (hw : ∀ k i j : Fin _, w (ix3 k i j) = W (ix3 k i j)) (r : Fin 8) (l : Fin 1024) :
    (if h : l.val < 128 then ∑ x : Fin 128, y (ix2 r ⟨x.val, by omega⟩) * w (ix3 0 x ⟨l.val, by omega⟩)
      else if h : l.val - 128 < 128 then ∑ x : Fin 128, y (ix2 r ⟨128 + x.val, by omega⟩) * w (ix3 1 x ⟨l.val - 128, by omega⟩)
      else if h : l.val - 128 - 128 < 128 then ∑ x : Fin 128, y (ix2 r ⟨256 + x.val, by omega⟩) * w (ix3 2 x ⟨l.val - 128 - 128, by omega⟩)
      else if h : l.val - 128 - 128 - 128 < 128 then ∑ x : Fin 128, y (ix2 r ⟨384 + x.val, by omega⟩) * w (ix3 3 x ⟨l.val - 128 - 128 - 128, by omega⟩)
      else if h : l.val - 128 - 128 - 128 - 128 < 128 then ∑ x : Fin 128, y (ix2 r ⟨512 + x.val, by omega⟩) * w (ix3 4 x ⟨l.val - 128 - 128 - 128 - 128, by omega⟩)
      else if h : l.val - 128 - 128 - 128 - 128 - 128 < 128 then ∑ x : Fin 128, y (ix2 r ⟨640 + x.val, by omega⟩) * w (ix3 5 x ⟨l.val - 128 - 128 - 128 - 128 - 128, by omega⟩)
      else if h : l.val - 128 - 128 - 128 - 128 - 128 - 128 < 128 then ∑ x : Fin 128, y (ix2 r ⟨768 + x.val, by omega⟩) * w (ix3 6 x ⟨l.val - 128 - 128 - 128 - 128 - 128 - 128, by omega⟩)
      else ∑ x : Fin 128, y (ix2 r ⟨896 + x.val, by omega⟩) * w (ix3 7 x ⟨l.val - 128 - 128 - 128 - 128 - 128 - 128 - 128, by omega⟩) : EReal)
      = ∑ x : Fin 128, W (ix3 ⟨l.val / 128, by omega⟩ x ⟨l.val % 128, by omega⟩) * Y (ix2 r ⟨l.val / 128 * 128 + x.val, by omega⟩) := by
  by_cases c0 : l.val < 128
  · rw [dif_pos c0]
    refine Finset.sum_congr rfl fun i _ => ?_
    rw [hy, hw, mul_comm]
    refine congrArg₂ (fun x y : EReal => x * y) (congrArg W ((ix3_inj ..).2 ⟨Fin.ext ?_, rfl, Fin.ext ?_⟩)) (congrArg Y ((ix2_inj ..).2 ⟨rfl, Fin.ext ?_⟩))
    · show 0 = l.val / 128
      omega
    · show l.val = l.val % 128
      omega
    · show i.val = l.val / 128 * 128 + i.val
      omega
  by_cases c1 : l.val - 128 < 128
  · rw [dif_neg c0, dif_pos c1]
    refine Finset.sum_congr rfl fun i _ => ?_
    rw [hy, hw, mul_comm]
    refine congrArg₂ (fun x y : EReal => x * y) (congrArg W ((ix3_inj ..).2 ⟨Fin.ext ?_, rfl, Fin.ext ?_⟩)) (congrArg Y ((ix2_inj ..).2 ⟨rfl, Fin.ext ?_⟩))
    · show 1 = l.val / 128
      omega
    · show l.val - 128 = l.val % 128
      omega
    · show 128 + i.val = l.val / 128 * 128 + i.val
      omega
  by_cases c2 : l.val - 128 - 128 < 128
  · rw [dif_neg c0, dif_neg c1, dif_pos c2]
    refine Finset.sum_congr rfl fun i _ => ?_
    rw [hy, hw, mul_comm]
    refine congrArg₂ (fun x y : EReal => x * y) (congrArg W ((ix3_inj ..).2 ⟨Fin.ext ?_, rfl, Fin.ext ?_⟩)) (congrArg Y ((ix2_inj ..).2 ⟨rfl, Fin.ext ?_⟩))
    · show 2 = l.val / 128
      omega
    · show l.val - 128 - 128 = l.val % 128
      omega
    · show 256 + i.val = l.val / 128 * 128 + i.val
      omega
  by_cases c3 : l.val - 128 - 128 - 128 < 128
  · rw [dif_neg c0, dif_neg c1, dif_neg c2, dif_pos c3]
    refine Finset.sum_congr rfl fun i _ => ?_
    rw [hy, hw, mul_comm]
    refine congrArg₂ (fun x y : EReal => x * y) (congrArg W ((ix3_inj ..).2 ⟨Fin.ext ?_, rfl, Fin.ext ?_⟩)) (congrArg Y ((ix2_inj ..).2 ⟨rfl, Fin.ext ?_⟩))
    · show 3 = l.val / 128
      omega
    · show l.val - 128 - 128 - 128 = l.val % 128
      omega
    · show 384 + i.val = l.val / 128 * 128 + i.val
      omega
  by_cases c4 : l.val - 128 - 128 - 128 - 128 < 128
  · rw [dif_neg c0, dif_neg c1, dif_neg c2, dif_neg c3, dif_pos c4]
    refine Finset.sum_congr rfl fun i _ => ?_
    rw [hy, hw, mul_comm]
    refine congrArg₂ (fun x y : EReal => x * y) (congrArg W ((ix3_inj ..).2 ⟨Fin.ext ?_, rfl, Fin.ext ?_⟩)) (congrArg Y ((ix2_inj ..).2 ⟨rfl, Fin.ext ?_⟩))
    · show 4 = l.val / 128
      omega
    · show l.val - 128 - 128 - 128 - 128 = l.val % 128
      omega
    · show 512 + i.val = l.val / 128 * 128 + i.val
      omega
  by_cases c5 : l.val - 128 - 128 - 128 - 128 - 128 < 128
  · rw [dif_neg c0, dif_neg c1, dif_neg c2, dif_neg c3, dif_neg c4, dif_pos c5]
    refine Finset.sum_congr rfl fun i _ => ?_
    rw [hy, hw, mul_comm]
    refine congrArg₂ (fun x y : EReal => x * y) (congrArg W ((ix3_inj ..).2 ⟨Fin.ext ?_, rfl, Fin.ext ?_⟩)) (congrArg Y ((ix2_inj ..).2 ⟨rfl, Fin.ext ?_⟩))
    · show 5 = l.val / 128
      omega
    · show l.val - 128 - 128 - 128 - 128 - 128 = l.val % 128
      omega
    · show 640 + i.val = l.val / 128 * 128 + i.val
      omega
  by_cases c6 : l.val - 128 - 128 - 128 - 128 - 128 - 128 < 128
  · rw [dif_neg c0, dif_neg c1, dif_neg c2, dif_neg c3, dif_neg c4, dif_neg c5, dif_pos c6]
    refine Finset.sum_congr rfl fun i _ => ?_
    rw [hy, hw, mul_comm]
    refine congrArg₂ (fun x y : EReal => x * y) (congrArg W ((ix3_inj ..).2 ⟨Fin.ext ?_, rfl, Fin.ext ?_⟩)) (congrArg Y ((ix2_inj ..).2 ⟨rfl, Fin.ext ?_⟩))
    · show 6 = l.val / 128
      omega
    · show l.val - 128 - 128 - 128 - 128 - 128 - 128 = l.val % 128
      omega
    · show 768 + i.val = l.val / 128 * 128 + i.val
      omega
  · rw [dif_neg c0, dif_neg c1, dif_neg c2, dif_neg c3, dif_neg c4, dif_neg c5, dif_neg c6]
    refine Finset.sum_congr rfl fun i _ => ?_
    rw [hy, hw, mul_comm]
    refine congrArg₂ (fun x y : EReal => x * y) (congrArg W ((ix3_inj ..).2 ⟨Fin.ext ?_, rfl, Fin.ext ?_⟩)) (congrArg Y ((ix2_inj ..).2 ⟨rfl, Fin.ext ?_⟩))
    · show 7 = l.val / 128
      omega
    · show l.val - 128 - 128 - 128 - 128 - 128 - 128 - 128 = l.val % 128
      omega
    · show 896 + i.val = l.val / 128 * 128 + i.val
      omega

/-- The gate of the input. -/
theorem gateI_at (hy : ∀ (r : Fin 8) (l : Fin 1024), k0_pay36 (F := Ideal) x0 x1 x2 x3 x4 x5 x6 x7 x8 x9 x10 x11 x12 x13 x14 x15 x16 x17 (ix2 r l) = conv a0 a1 a2 a3 a4 a5 a6 a7 a8 a9 a10 a11 a12 a13 a14 a15 a16 (ix2 r l)) (h14 : ∀ k i j : Fin _, x14 (ix3 k i j) = a14 (ix3 k i j)) (h16 : ∀ l : Fin 1024, x16 (ix2 0 l) = a15 (ix1 l)) (r : Fin 8) (l : Fin 1024) :
    k0_pay48 (F := Ideal) x0 x1 x2 x3 x4 x5 x6 x7 x8 x9 x10 x11 x12 x13 x14 x15 x16 x17 (ix2 r l) = gateI a0 a1 a2 a3 a4 a5 a6 a7 a8 a9 a10 a11 a12 a13 a14 a15 a16 (ix2 r l) := by
  pointwise [k0_pay48, k0_pay32, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay37, k0_pay38, k0_pay39, k0_pay40, k0_pay41, k0_pay42, k0_pay43, k0_pay44, k0_pay45, k0_pay46, k0_pay47, r0_0, r0_1, r0_9, r0_10, r0_11, r0_12, r0_13, r0_14, r0_15, r0_16, gateI]
  rw [h16, zero_sub]
  exact congrArg (fun z : EReal => Ideal.div 1 (1 + Ideal.exp (-(z + a15 (ix1 l)))))
    (heads (k0_pay36 (F := Ideal) x0 x1 x2 x3 x4 x5 x6 x7 x8 x9 x10 x11 x12 x13 x14 x15 x16 x17) (conv a0 a1 a2 a3 a4 a5 a6 a7 a8 a9 a10 a11 a12 a13 a14 a15 a16) x14 a14 hy h14 r l)

/-- The logarithm of the decay, as the body computes it. -/
def logK (x0 : FVec Ideal S8x1024 .f32) (x1 : FVec Ideal S8x1024 .f32) (x2 : FVec Ideal S8x1024 .f32) (x3 : FVec Ideal S1x1024 .f32) (x4 : FVec Ideal S1x1024 .f32) (x5 : FVec Ideal S1x1024 .f32) (x6 : FVec Ideal S1x1024 .f32) (x7 : FVec Ideal S8x1024 .f32) (x8 : FVec Ideal S8x1024 .f32) (x9 : FVec Ideal S3x8x1024 .f32) (x10 : FVec Ideal S8x1024 .f32) (x11 : FVec Ideal S4x1024 .f32) (x12 : FVec Ideal S1x1024 .f32) (x13 : FVec Ideal S8x128x128 .bf16) (x14 : FVec Ideal S8x128x128 .bf16) (x15 : FVec Ideal S1x1024 .f32) (x16 : FVec Ideal S1x1024 .f32) (x17 : FVec Ideal S1x1024 .f32) : FVec Ideal S8x1024 .f32 :=
  k0_pay33 (k0_pay37 x0 x1 x2 x3 x4 x5 x6 x7 x8 x9 x10 x11 x12 x13 x14 x15 x16 x17) (k0_pay38 x0 x1 x2 x3 x4 x5 x6 x7 x8 x9 x10 x11 x12 x13 x14 x15 x16 x17) (k0_pay39 x0 x1 x2 x3 x4 x5 x6 x7 x8 x9 x10 x11 x12 x13 x14 x15 x16 x17) (k0_pay40 x0 x1 x2 x3 x4 x5 x6 x7 x8 x9 x10 x11 x12 x13 x14 x15 x16 x17) (k0_pay41 x0 x1 x2 x3 x4 x5 x6 x7 x8 x9 x10 x11 x12 x13 x14 x15 x16 x17) (k0_pay43 x0 x1 x2 x3 x4 x5 x6 x7 x8 x9 x10 x11 x12 x13 x14 x15 x16 x17) (k0_pay44 x0 x1 x2 x3 x4 x5 x6 x7 x8 x9 x10 x11 x12 x13 x14 x15 x16 x17) (k0_pay45 x0 x1 x2 x3 x4 x5 x6 x7 x8 x9 x10 x11 x12 x13 x14 x15 x16 x17) (k0_pay46 x0 x1 x2 x3 x4 x5 x6 x7 x8 x9 x10 x11 x12 x13 x14 x15 x16 x17) (k0_pay47 x0 x1 x2 x3 x4 x5 x6 x7 x8 x9 x10 x11 x12 x13 x14 x15 x16 x17) (View.ld x13 r0_16)

theorem logA_at (hy : ∀ (r : Fin 8) (l : Fin 1024), k0_pay36 (F := Ideal) x0 x1 x2 x3 x4 x5 x6 x7 x8 x9 x10 x11 x12 x13 x14 x15 x16 x17 (ix2 r l) = conv a0 a1 a2 a3 a4 a5 a6 a7 a8 a9 a10 a11 a12 a13 a14 a15 a16 (ix2 r l)) (h13 : ∀ k i j : Fin _, x13 (ix3 k i j) = a12 (ix3 k i j)) (h15 : ∀ l : Fin 1024, x15 (ix2 0 l) = a13 (ix1 l)) (h17 : ∀ l : Fin 1024, x17 (ix2 0 l) = a16 (ix1 l)) (r : Fin 8) (l : Fin 1024) :
    logK x0 x1 x2 x3 x4 x5 x6 x7 x8 x9 x10 x11 x12 x13 x14 x15 x16 x17 (ix2 r l) = logA a0 a1 a2 a3 a4 a5 a6 a7 a8 a9 a10 a11 a12 a13 a14 a15 a16 (ix2 r l) := by
  pointwise [logK, k0_pay33, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay37, k0_pay38, k0_pay39, k0_pay40, k0_pay41, k0_pay42, k0_pay43, k0_pay44, k0_pay45, k0_pay46, k0_pay47, r0_0, r0_1, r0_9, r0_10, r0_11, r0_12, r0_13, r0_14, r0_15, r0_16, logA]
  rw [h15, h17, if_neg (not_not.2 rfl), zero_sub, zero_sub]
  have H := heads (k0_pay36 (F := Ideal) x0 x1 x2 x3 x4 x5 x6 x7 x8 x9 x10 x11 x12 x13 x14 x15 x16 x17) (conv a0 a1 a2 a3 a4 a5 a6 a7 a8 a9 a10 a11 a12 a13 a14 a15 a16) x13 a12 hy h13 r l
  have A := congrArg (fun z : EReal => Ideal.ofBits .f32 0xC1000000#32 * Ideal.div 1 (1 + Ideal.exp (-(z + a13 (ix1 l))))) H
  have B := congrArg (fun z : EReal => max (-a16 (ix1 l)) 0 + Ideal.log1p (Ideal.exp z)) (zero_sub (FloatOps.absf (F := Ideal) (φ := .f32) (-a16 (ix1 l))))
  exact congrArg₂ (fun x y : EReal => x * y) A B

/-- It is not positive. -/
theorem logK_nonpos (r : Fin 8) (l : Fin 1024) : logK x0 x1 x2 x3 x4 x5 x6 x7 x8 x9 x10 x11 x12 x13 x14 x15 x16 x17 (ix2 r l) ≤ 0 := by
  pointwise [logK, k0_pay33]
  exact log_decay_nonpos (sigmoid_nonneg _) (softplus_nonneg _ _)

theorem state_at (hy : ∀ (r : Fin 8) (l : Fin 1024), k0_pay36 (F := Ideal) x0 x1 x2 x3 x4 x5 x6 x7 x8 x9 x10 x11 x12 x13 x14 x15 x16 x17 (ix2 r l) = conv a0 a1 a2 a3 a4 a5 a6 a7 a8 a9 a10 a11 a12 a13 a14 a15 a16 (ix2 r l))
    (hi : ∀ (r : Fin 8) (l : Fin 1024), k0_pay48 (F := Ideal) x0 x1 x2 x3 x4 x5 x6 x7 x8 x9 x10 x11 x12 x13 x14 x15 x16 x17 (ix2 r l) = gateI a0 a1 a2 a3 a4 a5 a6 a7 a8 a9 a10 a11 a12 a13 a14 a15 a16 (ix2 r l))
    (hl : ∀ (r : Fin 8) (l : Fin 1024), logK x0 x1 x2 x3 x4 x5 x6 x7 x8 x9 x10 x11 x12 x13 x14 x15 x16 x17 (ix2 r l) = logA a0 a1 a2 a3 a4 a5 a6 a7 a8 a9 a10 a11 a12 a13 a14 a15 a16 (ix2 r l)) (h10 : ∀ (r : Fin 8) (l : Fin 1024), x10 (ix2 r l) = a5 (ix2 r l)) (r : Fin 8) (l : Fin 1024) :
    k0_pay1 (F := Ideal) (k0_pay36 x0 x1 x2 x3 x4 x5 x6 x7 x8 x9 x10 x11 x12 x13 x14 x15 x16 x17) (k0_pay48 x0 x1 x2 x3 x4 x5 x6 x7 x8 x9 x10 x11 x12 x13 x14 x15 x16 x17) (k0_pay49 x0 x1 x2 x3 x4 x5 x6 x7 x8 x9 x10 x11 x12 x13 x14 x15 x16 x17) (k0_pay50 x0 x1 x2 x3 x4 x5 x6 x7 x8 x9 x10 x11 x12 x13 x14 x15 x16 x17) x10 (ix2 r l) = state a0 a1 a2 a3 a4 a5 a6 a7 a8 a9 a10 a11 a12 a13 a14 a15 a16 (ix2 r l) := by
  have n := logK_nonpos x0 x1 x2 x3 x4 x5 x6 x7 x8 x9 x10 x11 x12 x13 x14 x15 x16 x17 r l
  have e49 : k0_pay49 (F := Ideal) x0 x1 x2 x3 x4 x5 x6 x7 x8 x9 x10 x11 x12 x13 x14 x15 x16 x17 (ix2 r l) = Ideal.tanh (logK x0 x1 x2 x3 x4 x5 x6 x7 x8 x9 x10 x11 x12 x13 x14 x15 x16 x17 (ix2 r l)) := rfl
  have e50 : k0_pay50 (F := Ideal) x0 x1 x2 x3 x4 x5 x6 x7 x8 x9 x10 x11 x12 x13 x14 x15 x16 x17 (ix2 r l) = Ideal.exp (logK x0 x1 x2 x3 x4 x5 x6 x7 x8 x9 x10 x11 x12 x13 x14 x15 x16 x17 (ix2 r l)) := rfl
  rw [hl] at e49 e50 n
  pointwise [k0_pay1, k0_pay34, k0_pay35, r0_0, state]
  rw [e49, e50, hi, hy, h10, tanh_expm1 n]

theorem out_at (hs : ∀ (r : Fin 8) (l : Fin 1024), k0_pay1 (F := Ideal) (k0_pay36 x0 x1 x2 x3 x4 x5 x6 x7 x8 x9 x10 x11 x12 x13 x14 x15 x16 x17) (k0_pay48 x0 x1 x2 x3 x4 x5 x6 x7 x8 x9 x10 x11 x12 x13 x14 x15 x16 x17) (k0_pay49 x0 x1 x2 x3 x4 x5 x6 x7 x8 x9 x10 x11 x12 x13 x14 x15 x16 x17) (k0_pay50 x0 x1 x2 x3 x4 x5 x6 x7 x8 x9 x10 x11 x12 x13 x14 x15 x16 x17) x10 (ix2 r l) = state a0 a1 a2 a3 a4 a5 a6 a7 a8 a9 a10 a11 a12 a13 a14 a15 a16 (ix2 r l)) (h8 : ∀ (r : Fin 8) (l : Fin 1024), x8 (ix2 r l) = a3 (ix2 r l)) (r : Fin 8) (l : Fin 1024) :
    k0_pay2 (F := Ideal) (k0_pay36 x0 x1 x2 x3 x4 x5 x6 x7 x8 x9 x10 x11 x12 x13 x14 x15 x16 x17) (k0_pay48 x0 x1 x2 x3 x4 x5 x6 x7 x8 x9 x10 x11 x12 x13 x14 x15 x16 x17) (k0_pay49 x0 x1 x2 x3 x4 x5 x6 x7 x8 x9 x10 x11 x12 x13 x14 x15 x16 x17) (k0_pay50 x0 x1 x2 x3 x4 x5 x6 x7 x8 x9 x10 x11 x12 x13 x14 x15 x16 x17) x10 x8 (ix2 r l) = olru a0 a1 a2 a3 a4 a5 a6 a7 a8 a9 a10 a11 a12 a13 a14 a15 a16 (ix2 r l) := by
  have h := hs r l
  pointwise [k0_pay2, r0_0, olru]
  rw [h, h8]

theorem mlp_at (h0 : ∀ (r : Fin 8) (l : Fin 1024), x0 (ix2 r l) = a0 (ix2 r ⟨l.val, by omega⟩)) (h1 : ∀ (r : Fin 8) (l : Fin 1024), x1 (ix2 r l) = a0 (ix2 r ⟨1024 + l.val, by omega⟩)) (h2 : ∀ (r : Fin 8) (l : Fin 1024), x2 (ix2 r l) = a1 (ix2 r l)) (h3 : ∀ l : Fin 1024, x3 (ix2 0 l) = a6 (ix1 l)) (h4 : ∀ l : Fin 1024, x4 (ix2 0 l) = a7 (ix1 l)) (h5 : ∀ l : Fin 1024, x5 (ix2 0 l) = a8 (ix3 ⟨l.val / 128, by omega⟩ 0 0)) (h6 : ∀ l : Fin 1024, x6 (ix2 0 l) = a9 (ix2 ⟨l.val / 128, by omega⟩ 0)) (r : Fin 8) (l : Fin 1024) :
    k0_pay5 (F := Ideal) (k0_pay4 x1 x3 x4 x5 x6 x0) x2 (ix2 r l) = omlp a0 a1 a2 a3 a4 a5 a6 a7 a8 a9 a10 a11 a12 a13 a14 a15 a16 (ix2 r l) := by
  have h := norm_at a0 a1 a2 a3 a4 a5 a6 a7 a8 a9 a10 a11 a12 a13 a14 a15 a16 x1 x3 x4 h1 h3 h4 r l
  pointwise [k0_pay5, k0_pay4, k0_pay6, r0_0, r0_1, omlp]
  rw [h0, h2, h5, h6, h, mul_comm (a8 _), Fin.sum_univ_one]

end Blocks

end Cert.Kernel10Ideal.Value

end
-- ==== Proof.PointValue.lean ====
/- The results of the sample's pointwise part. -/
module

public import proofs.«01_k».proof.Proof.Gen.Kernel10Ideal.Frame
public import proofs.«01_k».proof.Proof.Gen.Reference10Ideal
public import Idealize.ShloMosaic.Lib.Pipeline.ValueKit
public import Idealize.ShloMosaic.Lib.StableHlo.Run
public import proofs.«01_k».proof.Proof.PointMath

@[expose] public section

set_option maxRecDepth 16384

noncomputable section

open Idealize.ShloMosaic Idealize.ShloMosaic.TcCoe Idealize.SL.Sem
open Idealize.ShloMosaic.Pipeline (Dat)
open scoped BigOperators

namespace Cert.Kernel10Ideal.Value

open Cert.Kernel10Ideal Cert.Kernel10Ideal.Gen

variable (m : (ℓ : Loc nD τ sig) → Buf (Elt Ideal) ℓ)

/-- Every window is one block. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0, 0] ∧ win0_10.index t = ![0, 0] ∧ win0_11.index t = ![0, 0] ∧ win0_12.index t = ![0, 0] ∧ win0_13.index t = ![0, 0, 0] ∧ win0_14.index t = ![0, 0, 0] ∧ win0_15.index t = ![0, 0] ∧ win0_16.index t = ![0, 0] ∧ win0_17.index t = ![0, 0] ∧ win0_18.index t = ![0, 0] ∧ win0_19.index t = ![0, 0] ∧ win0_20.index t = ![0, 0] ∧ win0_21.index t = ![0, 0] :=
  (by decide +kernel : ∀ t : Fin grid0.N, _)

set_option maxHeartbeats 4000000 in
theorem V0 (c : Dev nD) : V m c main_v11 = extractStridedSlice S8x1024 ![0, 0] (m ((c : Thread nD τ).loc main_arg0)) slices_S8x2048_S8x1024_0_0 := by
  unfold V
  after_results
  all_goals rfl

theorem b0 (c : Dev nD) : ∀ (r : Fin 8) (l : Fin 1024), iblk m c 0 t0_0 (ix2 r l) = (m ((c : Thread nD τ).loc main_arg0)) (ix2 r ⟨l.val, by omega⟩) := by
  intro r l
  have h :  iblk m c 0 t0_0 (ix2 r l)  = V m c main_v11 (ix2 r l) := by
    blk_point [iblk, idx t0_0]
  rw [h, V0]
  first | rfl | pointwise

set_option maxHeartbeats 4000000 in
theorem V1 (c : Dev nD) : V m c main_v12 = extractStridedSlice S8x1024 ![0, 1024] (m ((c : Thread nD τ).loc main_arg0)) slices_S8x2048_S8x1024_0_1024 := by
  unfold V
  after_results
  all_goals rfl

theorem b1 (c : Dev nD) : ∀ (r : Fin 8) (l : Fin 1024), iblk m c 1 t0_0 (ix2 r l) = (m ((c : Thread nD τ).loc main_arg0)) (ix2 r ⟨1024 + l.val, by omega⟩) := by
  intro r l
  have h :  iblk m c 1 t0_0 (ix2 r l)  = V m c main_v12 (ix2 r l) := by
    blk_point [iblk, idx t0_0]
  rw [h, V1]
  first | rfl | pointwise

theorem b2 (c : Dev nD) : ∀ (r : Fin 8) (l : Fin 1024), iblk m c 2 t0_0 (ix2 r l) = (m ((c : Thread nD τ).loc main_arg1)) (ix2 r l) := by
  intros
  blk_point [iblk, V, idx t0_0]

set_option maxHeartbeats 4000000 in
theorem V3 (c : Dev nD) : V m c main_v13 = shapeCast S1x1024 (m ((c : Thread nD τ).loc main_arg6)) shapeCasts_S1024_S1x1024 := by
  unfold V
  after_results
  all_goals rfl

theorem b3 (c : Dev nD) : ∀ l : Fin 1024, iblk m c 3 t0_0 (ix2 0 l) = (m ((c : Thread nD τ).loc main_arg6)) (ix1 l) := by
  intro l
  have h :  iblk m c 3 t0_0 (ix2 0 l)  = V m c main_v13 (ix2 0 l) := by
    blk_point [iblk, idx t0_0]
  rw [h, V3]
  first | rfl | pointwise

set_option maxHeartbeats 4000000 in
theorem V4 (c : Dev nD) : V m c main_v14 = shapeCast S1x1024 (m ((c : Thread nD τ).loc main_arg7)) shapeCasts_S1024_S1x1024 := by
  unfold V
  after_results
  all_goals rfl

theorem b4 (c : Dev nD) : ∀ l : Fin 1024, iblk m c 4 t0_0 (ix2 0 l) = (m ((c : Thread nD τ).loc main_arg7)) (ix1 l) := by
  intro l
  have h :  iblk m c 4 t0_0 (ix2 0 l)  = V m c main_v14 (ix2 0 l) := by
    blk_point [iblk, idx t0_0]
  rw [h, V4]
  first | rfl | pointwise

set_option maxHeartbeats 4000000 in
theorem V5 (c : Dev nD) : V m c main_v5 = shapeCast S1x1024 (shapeCast S1024 (broadcastInDim S8x128 ![0] bcast_S8_S8x128_0 (shapeCast S8 (extractStridedSlice S8x1x1 ![0, 0, 0] (m ((c : Thread nD τ).loc main_arg8)) slices_S8x128x128_S8x1x1_0_0_0) shapeCasts_S8x1x1_S8)) shapeCasts_S8x128_S1024) shapeCasts_S1024_S1x1024 := by
  unfold V
  after_results
  all_goals rfl

theorem b5 (c : Dev nD) : ∀ l : Fin 1024, iblk m c 5 t0_0 (ix2 0 l) = (m ((c : Thread nD τ).loc main_arg8)) (ix3 ⟨l.val / 128, by omega⟩ 0 0) := by
  intro l
  have h :  iblk m c 5 t0_0 (ix2 0 l)  = V m c main_v5 (ix2 0 l) := by
    blk_point [iblk, idx t0_0]
  rw [h, V5]
  first | rfl | pointwise

set_option maxHeartbeats 4000000 in
theorem V6 (c : Dev nD) : V m c main_v10 = shapeCast S1x1024 (shapeCast S1024 (broadcastInDim S8x128 ![0] bcast_S8_S8x128_0 (shapeCast S8 (extractStridedSlice S8x1 ![0, 0] (m ((c : Thread nD τ).loc main_arg9)) slices_S8x128_S8x1_0_0) shapeCasts_S8x1_S8)) shapeCasts_S8x128_S1024) shapeCasts_S1024_S1x1024 := by
  unfold V
  after_results
  all_goals rfl

theorem b6 (c : Dev nD) : ∀ l : Fin 1024, iblk m c 6 t0_0 (ix2 0 l) = (m ((c : Thread nD τ).loc main_arg9)) (ix2 ⟨l.val / 128, by omega⟩ 0) := by
  intro l
  have h :  iblk m c 6 t0_0 (ix2 0 l)  = V m c main_v10 (ix2 0 l) := by
    blk_point [iblk, idx t0_0]
  rw [h, V6]
  first | rfl | pointwise

theorem b7 (c : Dev nD) : ∀ (r : Fin 8) (l : Fin 1024), iblk m c 7 t0_0 (ix2 r l) = (m ((c : Thread nD τ).loc main_arg2)) (ix2 r l) := by
  intros
  blk_point [iblk, V, idx t0_0]

theorem b8 (c : Dev nD) : ∀ (r : Fin 8) (l : Fin 1024), iblk m c 8 t0_0 (ix2 r l) = (m ((c : Thread nD τ).loc main_arg3)) (ix2 r l) := by
  intros
  blk_point [iblk, V, idx t0_0]

set_option maxHeartbeats 4000000 in
theorem V9 (c : Dev nD) : V m c main_v0 = transpose S3x8x1024 [1, 0, 2] (m ((c : Thread nD τ).loc main_arg4)) transposes_S8x3x1024_S3x8x1024_1_0_2 := by
  unfold V
  after_results
  all_goals rfl

theorem b9 (c : Dev nD) : ∀ (k : Fin 3) (r : Fin 8) (l : Fin 1024), iblk m c 9 t0_0 (ix3 k r l) = (m ((c : Thread nD τ).loc main_arg4)) (ix3 r k l) := by
  intro k r l
  have h :  iblk m c 9 t0_0 (ix3 k r l)  = V m c main_v0 (ix3 k r l) := by
    blk_point [iblk, idx t0_0]
  rw [h, V9]
  first | rfl | pointwise

theorem b10 (c : Dev nD) : ∀ (r : Fin 8) (l : Fin 1024), iblk m c 10 t0_0 (ix2 r l) = (m ((c : Thread nD τ).loc main_arg5)) (ix2 r l) := by
  intros
  blk_point [iblk, V, idx t0_0]

theorem b11 (c : Dev nD) : ∀ (k : Fin 4) (l : Fin 1024), iblk m c 11 t0_0 (ix2 k l) = (m ((c : Thread nD τ).loc main_arg10)) (ix2 k l) := by
  intros
  blk_point [iblk, V, idx t0_0]

set_option maxHeartbeats 4000000 in
theorem V12 (c : Dev nD) : V m c main_v15 = shapeCast S1x1024 (m ((c : Thread nD τ).loc main_arg11)) shapeCasts_S1024_S1x1024 := by
  unfold V
  after_results
  all_goals rfl

theorem b12 (c : Dev nD) : ∀ l : Fin 1024, iblk m c 12 t0_0 (ix2 0 l) = (m ((c : Thread nD τ).loc main_arg11)) (ix1 l) := by
  intro l
  have h :  iblk m c 12 t0_0 (ix2 0 l)  = V m c main_v15 (ix2 0 l) := by
    blk_point [iblk, idx t0_0]
  rw [h, V12]
  first | rfl | pointwise

set_option maxHeartbeats 4000000 in
theorem V13 (c : Dev nD) : V m c main_v16 = truncf .bf16 (F := Ideal) (φ := .f32) (s := S8x128x128) (m ((c : Thread nD τ).loc main_arg12)) bitsLt_bf16_f32 := by
  unfold V
  after_results
  all_goals rfl

theorem b13 (c : Dev nD) : ∀ k i j : Fin _, iblk m c 13 t0_0 (ix3 k i j) = (m ((c : Thread nD τ).loc main_arg12)) (ix3 k i j) := by
  intro k i j
  have h :  iblk m c 13 t0_0 (ix3 k i j)  = V m c main_v16 (ix3 k i j) := by
    blk_point [iblk, idx t0_0]
  rw [h, V13]
  first | rfl | pointwise

set_option maxHeartbeats 4000000 in
theorem V14 (c : Dev nD) : V m c main_v17 = truncf .bf16 (F := Ideal) (φ := .f32) (s := S8x128x128) (m ((c : Thread nD τ).loc main_arg14)) bitsLt_bf16_f32 := by
  unfold V
  after_results
  all_goals rfl

theorem b14 (c : Dev nD) : ∀ k i j : Fin _, iblk m c 14 t0_0 (ix3 k i j) = (m ((c : Thread nD τ).loc main_arg14)) (ix3 k i j) := by
  intro k i j
  have h :  iblk m c 14 t0_0 (ix3 k i j)  = V m c main_v17 (ix3 k i j) := by
    blk_point [iblk, idx t0_0]
  rw [h, V14]
  first | rfl | pointwise

set_option maxHeartbeats 4000000 in
theorem V15 (c : Dev nD) : V m c main_v18 = shapeCast S1x1024 (m ((c : Thread nD τ).loc main_arg13)) shapeCasts_S1024_S1x1024 := by
  unfold V
  after_results
  all_goals rfl

theorem b15 (c : Dev nD) : ∀ l : Fin 1024, iblk m c 15 t0_0 (ix2 0 l) = (m ((c : Thread nD τ).loc main_arg13)) (ix1 l) := by
  intro l
  have h :  iblk m c 15 t0_0 (ix2 0 l)  = V m c main_v18 (ix2 0 l) := by
    blk_point [iblk, idx t0_0]
  rw [h, V15]
  first | rfl | pointwise

set_option maxHeartbeats 4000000 in
theorem V16 (c : Dev nD) : V m c main_v19 = shapeCast S1x1024 (m ((c : Thread nD τ).loc main_arg15)) shapeCasts_S1024_S1x1024 := by
  unfold V
  after_results
  all_goals rfl

theorem b16 (c : Dev nD) : ∀ l : Fin 1024, iblk m c 16 t0_0 (ix2 0 l) = (m ((c : Thread nD τ).loc main_arg15)) (ix1 l) := by
  intro l
  have h :  iblk m c 16 t0_0 (ix2 0 l)  = V m c main_v19 (ix2 0 l) := by
    blk_point [iblk, idx t0_0]
  rw [h, V16]
  first | rfl | pointwise

set_option maxHeartbeats 4000000 in
theorem V17 (c : Dev nD) : V m c main_v20 = shapeCast S1x1024 (m ((c : Thread nD τ).loc main_arg16)) shapeCasts_S1024_S1x1024 := by
  unfold V
  after_results
  all_goals rfl

theorem b17 (c : Dev nD) : ∀ l : Fin 1024, iblk m c 17 t0_0 (ix2 0 l) = (m ((c : Thread nD τ).loc main_arg16)) (ix1 l) := by
  intro l
  have h :  iblk m c 17 t0_0 (ix2 0 l)  = V m c main_v20 (ix2 0 l) := by
    blk_point [iblk, idx t0_0]
  rw [h, V17]
  first | rfl | pointwise

theorem conv_blk (c : Dev nD) (r : Fin 8) (l : Fin 1024) : k0_pay36 (F := Ideal) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (ix2 r l) = conv (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r l) :=
  conv_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (b7 m c) (b9 m c) (b11 m c) (b12 m c) r l

theorem gate_blk (c : Dev nD) (r : Fin 8) (l : Fin 1024) : k0_pay48 (F := Ideal) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (ix2 r l) = gateI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r l) :=
  gateI_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (conv_blk m c) (b14 m c) (b16 m c) r l

theorem log_blk (c : Dev nD) (r : Fin 8) (l : Fin 1024) : logK (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (ix2 r l) = logA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r l) :=
  logA_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (conv_blk m c) (b13 m c) (b15 m c) (b17 m c) r l

theorem state_blk (c : Dev nD) (r : Fin 8) (l : Fin 1024) : k0_pay1 (F := Ideal) (k0_pay36 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)) (k0_pay48 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)) (k0_pay49 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)) (k0_pay50 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)) (iblk m c 10 t0_0) (ix2 r l) = state (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r l) :=
  state_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (conv_blk m c) (gate_blk m c) (log_blk m c) (b10 m c) r l

theorem out_blk (c : Dev nD) (r : Fin 8) (l : Fin 1024) : k0_pay2 (F := Ideal) (k0_pay36 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)) (k0_pay48 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)) (k0_pay49 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)) (k0_pay50 (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0)) (iblk m c 10 t0_0) (iblk m c 8 t0_0) (ix2 r l) = olru (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r l) :=
  out_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (iblk m c 0 t0_0) (iblk m c 1 t0_0) (iblk m c 2 t0_0) (iblk m c 3 t0_0) (iblk m c 4 t0_0) (iblk m c 5 t0_0) (iblk m c 6 t0_0) (iblk m c 7 t0_0) (iblk m c 8 t0_0) (iblk m c 9 t0_0) (iblk m c 10 t0_0) (iblk m c 11 t0_0) (iblk m c 12 t0_0) (iblk m c 13 t0_0) (iblk m c 14 t0_0) (iblk m c 15 t0_0) (iblk m c 16 t0_0) (iblk m c 17 t0_0) (state_blk m c) (b8 m c) r l

theorem norm_blk (c : Dev nD) (r : Fin 8) (l : Fin 1024) : k0_pay3 (F := Ideal) (iblk m c 1 t0_0) (iblk m c 3 t0_0) (iblk m c 4 t0_0) (ix2 r l) = norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r l) :=
  norm_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (iblk m c 1 t0_0) (iblk m c 3 t0_0) (iblk m c 4 t0_0) (b1 m c) (b3 m c) (b4 m c) r l

theorem mlp_blk (c : Dev nD) (r : Fin 8) (l : Fin 1024) : k0_pay5 (F := Ideal) (k0_pay4 (iblk m c 1 t0_0) (iblk m c 3 t0_0) (iblk m c 4 t0_0) (iblk m c 5 t0_0) (iblk m c 6 t0_0) (iblk m c 0 t0_0)) (iblk m c 2 t0_0) (ix2 r l) = omlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (ix2 r l) :=
  mlp_at (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (iblk m c 0 t0_0) (iblk m c 1 t0_0) (iblk m c 2 t0_0) (iblk m c 3 t0_0) (iblk m c 4 t0_0) (iblk m c 5 t0_0) (iblk m c 6 t0_0) (b0 m c) (b1 m c) (b2 m c) (b3 m c) (b4 m c) (b5 m c) (b6 m c) r l

theorem resultMlp (c : Dev nD) : (dats m 0 c).arrAt 18 (cfgs 0).N = omlp (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_after_last 18 t0_0 (by decide +kernel) _ fun j => ?_
  blk_simp
  rw [after0_18]; frame_out
  obtain ⟨r, l, rfl⟩ : ∃ (r : Fin 8) (l : Fin 1024), j = ix2 r l := ⟨j 0, j 1, eq_ix2 j⟩
  exact mlp_blk m c r l

theorem resultRows (c : Dev nD) : (dats m 0 c).arrAt 19 (cfgs 0).N = norm (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_after_last 19 t0_0 (by decide +kernel) _ fun j => ?_
  blk_simp
  rw [after0_19]; frame_out
  obtain ⟨r, l, rfl⟩ : ∃ (r : Fin 8) (l : Fin 1024), j = ix2 r l := ⟨j 0, j 1, eq_ix2 j⟩
  exact norm_blk m c r l

theorem resultLru (c : Dev nD) : (dats m 0 c).arrAt 20 (cfgs 0).N = olru (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_after_last 20 t0_0 (by decide +kernel) _ fun j => ?_
  blk_simp
  rw [after0_20]; frame_out
  obtain ⟨r, l, rfl⟩ : ∃ (r : Fin 8) (l : Fin 1024), j = ix2 r l := ⟨j 0, j 1, eq_ix2 j⟩
  exact out_blk m c r l

theorem resultState (c : Dev nD) : (dats m 0 c).arrAt 21 (cfgs 0).N = state (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_after_last 21 t0_0 (by decide +kernel) _ fun j => ?_
  blk_simp
  rw [after0_21]; frame_out
  obtain ⟨r, l, rfl⟩ : ∃ (r : Fin 8) (l : Fin 1024), j = ix2 r l := ⟨j 0, j 1, eq_ix2 j⟩
  exact state_blk m c r l

end Cert.Kernel10Ideal.Value

end
-- ==== Proof.QValue.lean ====
/- The queries: the stored blocks are the blocks of the product with the query columns, each head over the root of its mean square, times the gain. -/
module

public import proofs.«01_k».proof.Proof.Gen.Kernel7Ideal.Frame
public import proofs.«01_k».proof.Proof.Gen.Reference7Ideal
public import Idealize.ShloMosaic.Lib.Pipeline.ValueKit
public import Idealize.ShloMosaic.Lib.StableHlo.Run
public import proofs.«01_k».proof.Proof.QRun
public import proofs.«01_k».proof.Proof.HeadMath

@[expose] public section

set_option maxRecDepth 16384

noncomputable section

open Idealize.ShloMosaic Idealize.ShloMosaic.TcCoe Idealize.SL.Sem
open Idealize.ShloMosaic.Pipeline (Dat)
open scoped BigOperators

namespace Cert.Kernel7Ideal.Value

open Cert.Kernel7Ideal Cert.Kernel7Ideal.Gen Cert.Kernel7Ideal.Run Cert.Head

variable (m : (ℓ : Loc nD τ sig) → Buf (Elt Ideal) ℓ)

/-! ## The gain and the flag of a column -/

/-- The gain of every column of the attention part: the query gain over the sixteen query heads, then one, one, the
    selection gain, one, the window gain, one. -/
def gains (g : FVec Ideal S128 .f32) (k : FVec Ideal S3x128 .f32) : FVec Ideal S5120 .f32 :=
  concatenate S5120 0 [⟨S2048, shapeCast _ (broadcastInDim S16x128 ![0, 1] bcast_S1x128_S16x128_0_1 (shapeCast S1x128 g shapeCasts_S128_S1x128)) shapeCasts_S16x128_S2048⟩,
    ⟨S512, broadcastInDim S512 ![] bcast_S_S512 (constant (F := Ideal) S_ .f32 0x3F800000#32)⟩,
    ⟨S512, broadcastInDim S512 ![] bcast_S_S512 (constant (F := Ideal) S_ .f32 0x3F800000#32)⟩,
    ⟨S512, shapeCast _ (broadcastInDim S4x128 ![0, 1] bcast_S1x128_S4x128_0_1 (shapeCast S1x128 (shapeCast S128 (extractStridedSlice S1x128 ![1, 0] k slices_S3x128_S1x128_1_0) shapeCasts_S1x128_S128) shapeCasts_S128_S1x128)) shapeCasts_S4x128_S512⟩,
    ⟨S512, broadcastInDim S512 ![] bcast_S_S512 (constant (F := Ideal) S_ .f32 0x3F800000#32)⟩,
    ⟨S512, shapeCast _ (broadcastInDim S4x128 ![0, 1] bcast_S1x128_S4x128_0_1 (shapeCast S1x128 (shapeCast S128 (extractStridedSlice S1x128 ![2, 0] k slices_S3x128_S1x128_2_0) shapeCasts_S1x128_S128) shapeCasts_S128_S1x128)) shapeCasts_S4x128_S512⟩,
    ⟨S512, broadcastInDim S512 ![] bcast_S_S512 (constant (F := Ideal) S_ .f32 0x3F800000#32)⟩] concatenates_S2048_S512_S512_S512_S512_S512_S512_S5120_d0

/-- Which columns are normalised. -/
def flags : FVec Ideal S5120 .f32 :=
  concatenate S5120 0 [⟨S2048, broadcastInDim S2048 ![] bcast_S_S2048 (constant (F := Ideal) S_ .f32 0x3F800000#32)⟩,
    ⟨S512, broadcastInDim S512 ![] bcast_S_S512 (constant (F := Ideal) S_ .f32 0x00000000#32)⟩,
    ⟨S512, broadcastInDim S512 ![] bcast_S_S512 (constant (F := Ideal) S_ .f32 0x00000000#32)⟩,
    ⟨S512, broadcastInDim S512 ![] bcast_S_S512 (constant (F := Ideal) S_ .f32 0x3F800000#32)⟩,
    ⟨S512, broadcastInDim S512 ![] bcast_S_S512 (constant (F := Ideal) S_ .f32 0x00000000#32)⟩,
    ⟨S512, broadcastInDim S512 ![] bcast_S_S512 (constant (F := Ideal) S_ .f32 0x3F800000#32)⟩,
    ⟨S512, broadcastInDim S512 ![] bcast_S_S512 (constant (F := Ideal) S_ .f32 0x00000000#32)⟩] concatenates_S2048_S512_S512_S512_S512_S512_S512_S5120_d0

def gainQ (g : FVec Ideal S128 .f32) (k : FVec Ideal S3x128 .f32) : FVec Ideal S1x2048 .f32 :=
  extractStridedSlice S1x2048 ![0, 0] (shapeCast S1x5120 (gains g k) shapeCasts_S5120_S1x5120) slices_S1x5120_S1x2048_0_0
def flagQ : FVec Ideal S1x2048 .f32 :=
  extractStridedSlice S1x2048 ![0, 0] (shapeCast S1x5120 flags shapeCasts_S5120_S1x5120) slices_S1x5120_S1x2048_0_0

set_option maxHeartbeats 4000000 in
theorem gainV (c : Dev nD) : V m c main_v20 = gainQ (m ((c : Thread nD τ).loc main_arg3)) (m ((c : Thread nD τ).loc main_arg4)) := by
  unfold V
  after_results
  rfl

set_option maxHeartbeats 4000000 in
theorem flagV (c : Dev nD) : V m c main_v21 = flagQ := by
  unfold V
  after_results
  rfl

theorem gain_at (g : FVec Ideal S128 .f32) (k : FVec Ideal S3x128 .f32) (l : Fin 2048) : gainQ g k (ix2 0 l) = g (ix1 ⟨l.val % 128, by omega⟩) := by
  pointwise [gainQ, gains]
theorem flag_at (l : Fin 2048) : flagQ (ix2 0 l) = Ideal.ofBits .f32 0x3F800000#32 := by
  pointwise [flagQ, flags]

/-! ## What the body stores -/

/-- A row times a column of the weight block. -/
def dotP (x : FVec Ideal S1024x4096 .bf16) (x2 : FVec Ideal S4096x512 .bf16) (r : Fin 1024) (l : Fin 512) : EReal :=
  ∑ k : Fin 4096, x (ix2 r k) * x2 (ix2 k l)

def payP (x0 : FVec Ideal S1024x4096 .bf16) (x1 : FVec Ideal S8x4096 .bf16) (x2 : FVec Ideal S4096x512 .bf16) (x3 x4 : FVec Ideal S1x512 .f32) : FVec Ideal S1024x512 .bf16 :=
  k0_pay1 (k0_pay14 (F := Ideal) x2 x0 (View.ld x3 rg0) (View.ld x4 rg0)) (k0_pay17 (k0_pay15 x2 x0) (k0_pay16 x2 x0 (View.ld x3 rg1)) (View.ld x4 rg1)) (k0_pay18 (k0_pay13 x2 x0) (View.ld x3 rg2) (View.ld x4 rg2)) (k0_pay19 (k0_pay13 x2 x0)) (k0_pay20 (k0_pay13 x2 x0) (View.ld x3 rg3)) (View.ld x4 rg3)

theorem payP_0 (x0 : FVec Ideal S1024x4096 .bf16) (x1 : FVec Ideal S8x4096 .bf16) (x2 : FVec Ideal S4096x512 .bf16) (x3 x4 : FVec Ideal S1x512 .f32) (r : Fin 1024) (i : Fin 128) : payP x0 x1 x2 x3 x4 (ix2 r ⟨0 + i.val, by omega⟩)
    = flagged (fun a => dotP x0 x2 r ⟨0 + a.val, by omega⟩) (x3 (ix2 0 ⟨0 + i.val, by omega⟩)) (x4 (ix2 0 ⟨0 + i.val, by omega⟩)) i := by
  pointwise [payP, k0_pay1, k0_pay13, k0_pay14, k0_pay15, k0_pay16, k0_pay17, k0_pay18, k0_pay19, k0_pay20, flagged, rms, dotP, rg0, rg1, rg2, rg3]

theorem payP_1 (x0 : FVec Ideal S1024x4096 .bf16) (x1 : FVec Ideal S8x4096 .bf16) (x2 : FVec Ideal S4096x512 .bf16) (x3 x4 : FVec Ideal S1x512 .f32) (r : Fin 1024) (i : Fin 128) : payP x0 x1 x2 x3 x4 (ix2 r ⟨128 + i.val, by omega⟩)
    = flagged (fun a => dotP x0 x2 r ⟨128 + a.val, by omega⟩) (x3 (ix2 0 ⟨128 + i.val, by omega⟩)) (x4 (ix2 0 ⟨128 + i.val, by omega⟩)) i := by
  pointwise [payP, k0_pay1, k0_pay13, k0_pay14, k0_pay15, k0_pay16, k0_pay17, k0_pay18, k0_pay19, k0_pay20, flagged, rms, dotP, rg0, rg1, rg2, rg3]

theorem payP_2 (x0 : FVec Ideal S1024x4096 .bf16) (x1 : FVec Ideal S8x4096 .bf16) (x2 : FVec Ideal S4096x512 .bf16) (x3 x4 : FVec Ideal S1x512 .f32) (r : Fin 1024) (i : Fin 128) : payP x0 x1 x2 x3 x4 (ix2 r ⟨256 + i.val, by omega⟩)
    = flagged (fun a => dotP x0 x2 r ⟨256 + a.val, by omega⟩) (x3 (ix2 0 ⟨256 + i.val, by omega⟩)) (x4 (ix2 0 ⟨256 + i.val, by omega⟩)) i := by
  pointwise [payP, k0_pay1, k0_pay13, k0_pay14, k0_pay15, k0_pay16, k0_pay17, k0_pay18, k0_pay19, k0_pay20, flagged, rms, dotP, rg0, rg1, rg2, rg3]
  have n0 : (256 + i.val < 128) = False := eq_false (by omega)
  have e0 : 256 + i.val - 128 = 128 + i.val := by omega
  have n1 : (128 + i.val < 128) = False := eq_false (by omega)
  have e1 : 128 + i.val - 128 = i.val := by omega
  have b : (i.val < 128) = True := eq_true i.isLt
  simp only [n0, e0, n1, e1, b, Nat.add_sub_cancel_left, dite_true, dite_false, ← Nat.add_assoc, Nat.reduceAdd]

theorem payP_3 (x0 : FVec Ideal S1024x4096 .bf16) (x1 : FVec Ideal S8x4096 .bf16) (x2 : FVec Ideal S4096x512 .bf16) (x3 x4 : FVec Ideal S1x512 .f32) (r : Fin 1024) (i : Fin 128) : payP x0 x1 x2 x3 x4 (ix2 r ⟨384 + i.val, by omega⟩)
    = flagged (fun a => dotP x0 x2 r ⟨384 + a.val, by omega⟩) (x3 (ix2 0 ⟨384 + i.val, by omega⟩)) (x4 (ix2 0 ⟨384 + i.val, by omega⟩)) i := by
  pointwise [payP, k0_pay1, k0_pay13, k0_pay14, k0_pay15, k0_pay16, k0_pay17, k0_pay18, k0_pay19, k0_pay20, flagged, rms, dotP, rg0, rg1, rg2, rg3]
  have n0 : (384 + i.val < 128) = False := eq_false (by omega)
  have e0 : 384 + i.val - 128 = 256 + i.val := by omega
  have n1 : (256 + i.val < 128) = False := eq_false (by omega)
  have e1 : 256 + i.val - 128 = 128 + i.val := by omega
  have n2 : (128 + i.val < 128) = False := eq_false (by omega)
  have e2 : 128 + i.val - 128 = i.val := by omega
  have b : (i.val < 128) = True := eq_true i.isLt
  simp only [n0, e0, n1, e1, n2, e2, b, Nat.add_sub_cancel_left, dite_true, dite_false, ← Nat.add_assoc, Nat.reduceAdd]

theorem payP_at (x0 : FVec Ideal S1024x4096 .bf16) (x1 : FVec Ideal S8x4096 .bf16) (x2 : FVec Ideal S4096x512 .bf16) (x3 x4 : FVec Ideal S1x512 .f32) (r : Fin 1024) (i : Fin 128) : ∀ k : Fin 4, payP x0 x1 x2 x3 x4 (ix2 r ⟨128 * k.val + i.val, by omega⟩)
    = flagged (fun a => dotP x0 x2 r ⟨128 * k.val + a.val, by omega⟩) (x3 (ix2 0 ⟨128 * k.val + i.val, by omega⟩)) (x4 (ix2 0 ⟨128 * k.val + i.val, by omega⟩)) i
  | 0 => payP_0 x0 x1 x2 x3 x4 r i
  | 1 => payP_1 x0 x1 x2 x3 x4 r i
  | 2 => payP_2 x0 x1 x2 x3 x4 r i
  | 3 => payP_3 x0 x1 x2 x3 x4 r i

/-- A row times a column of the weight block. -/
def dotS (x : FVec Ideal S8x4096 .bf16) (x2 : FVec Ideal S4096x512 .bf16) (r : Fin 8) (l : Fin 512) : EReal :=
  ∑ k : Fin 4096, x (ix2 r k) * x2 (ix2 k l)

def payS (x0 : FVec Ideal S1024x4096 .bf16) (x1 : FVec Ideal S8x4096 .bf16) (x2 : FVec Ideal S4096x512 .bf16) (x3 x4 : FVec Ideal S1x512 .f32) : FVec Ideal S8x512 .f32 :=
  k0_pay2 (k0_pay4 (F := Ideal) x2 x1 (View.ld x3 rg0) (View.ld x4 rg0)) (k0_pay8 (k0_pay5 x2 x1) (k0_pay6 x2 x1 (View.ld x3 rg1)) (k0_pay7 (View.ld x4 rg1)) (Scalar.ofBits .f32 0x3F000000#32)) (k0_pay9 (k0_pay3 x2 x1) (View.ld x3 rg2) (View.ld x4 rg2)) (k0_pay10 (k0_pay3 x2 x1)) (k0_pay11 (k0_pay3 x2 x1) (View.ld x3 rg3)) (k0_pay12 (View.ld x4 rg3)) (Scalar.ofBits .f32 0x3F000000#32)

theorem payS_0 (x0 : FVec Ideal S1024x4096 .bf16) (x1 : FVec Ideal S8x4096 .bf16) (x2 : FVec Ideal S4096x512 .bf16) (x3 x4 : FVec Ideal S1x512 .f32) (r : Fin 8) (i : Fin 128) : payS x0 x1 x2 x3 x4 (ix2 r ⟨0 + i.val, by omega⟩)
    = flagged (fun a => dotS x1 x2 r ⟨0 + a.val, by omega⟩) (x3 (ix2 0 ⟨0 + i.val, by omega⟩)) (x4 (ix2 0 ⟨0 + i.val, by omega⟩)) i := by
  pointwise [payS, k0_pay2, k0_pay3, k0_pay4, k0_pay5, k0_pay6, k0_pay7, k0_pay8, k0_pay9, k0_pay10, k0_pay11, k0_pay12, flagged, rms, dotS, rg0, rg1, rg2, rg3]

theorem payS_1 (x0 : FVec Ideal S1024x4096 .bf16) (x1 : FVec Ideal S8x4096 .bf16) (x2 : FVec Ideal S4096x512 .bf16) (x3 x4 : FVec Ideal S1x512 .f32) (r : Fin 8) (i : Fin 128) : payS x0 x1 x2 x3 x4 (ix2 r ⟨128 + i.val, by omega⟩)
    = flagged (fun a => dotS x1 x2 r ⟨128 + a.val, by omega⟩) (x3 (ix2 0 ⟨128 + i.val, by omega⟩)) (x4 (ix2 0 ⟨128 + i.val, by omega⟩)) i := by
  pointwise [payS, k0_pay2, k0_pay3, k0_pay4, k0_pay5, k0_pay6, k0_pay7, k0_pay8, k0_pay9, k0_pay10, k0_pay11, k0_pay12, flagged, rms, dotS, rg0, rg1, rg2, rg3]

theorem payS_2 (x0 : FVec Ideal S1024x4096 .bf16) (x1 : FVec Ideal S8x4096 .bf16) (x2 : FVec Ideal S4096x512 .bf16) (x3 x4 : FVec Ideal S1x512 .f32) (r : Fin 8) (i : Fin 128) : payS x0 x1 x2 x3 x4 (ix2 r ⟨256 + i.val, by omega⟩)
    = flagged (fun a => dotS x1 x2 r ⟨256 + a.val, by omega⟩) (x3 (ix2 0 ⟨256 + i.val, by omega⟩)) (x4 (ix2 0 ⟨256 + i.val, by omega⟩)) i := by
  pointwise [payS, k0_pay2, k0_pay3, k0_pay4, k0_pay5, k0_pay6, k0_pay7, k0_pay8, k0_pay9, k0_pay10, k0_pay11, k0_pay12, flagged, rms, dotS, rg0, rg1, rg2, rg3]
  have n0 : (256 + i.val < 128) = False := eq_false (by omega)
  have e0 : 256 + i.val - 128 = 128 + i.val := by omega
  have n1 : (128 + i.val < 128) = False := eq_false (by omega)
  have e1 : 128 + i.val - 128 = i.val := by omega
  have b : (i.val < 128) = True := eq_true i.isLt
  simp only [n0, e0, n1, e1, b, Nat.add_sub_cancel_left, dite_true, dite_false, ← Nat.add_assoc, Nat.reduceAdd]

theorem payS_3 (x0 : FVec Ideal S1024x4096 .bf16) (x1 : FVec Ideal S8x4096 .bf16) (x2 : FVec Ideal S4096x512 .bf16) (x3 x4 : FVec Ideal S1x512 .f32) (r : Fin 8) (i : Fin 128) : payS x0 x1 x2 x3 x4 (ix2 r ⟨384 + i.val, by omega⟩)
    = flagged (fun a => dotS x1 x2 r ⟨384 + a.val, by omega⟩) (x3 (ix2 0 ⟨384 + i.val, by omega⟩)) (x4 (ix2 0 ⟨384 + i.val, by omega⟩)) i := by
  pointwise [payS, k0_pay2, k0_pay3, k0_pay4, k0_pay5, k0_pay6, k0_pay7, k0_pay8, k0_pay9, k0_pay10, k0_pay11, k0_pay12, flagged, rms, dotS, rg0, rg1, rg2, rg3]
  have n0 : (384 + i.val < 128) = False := eq_false (by omega)
  have e0 : 384 + i.val - 128 = 256 + i.val := by omega
  have n1 : (256 + i.val < 128) = False := eq_false (by omega)
  have e1 : 256 + i.val - 128 = 128 + i.val := by omega
  have n2 : (128 + i.val < 128) = False := eq_false (by omega)
  have e2 : 128 + i.val - 128 = i.val := by omega
  have b : (i.val < 128) = True := eq_true i.isLt
  simp only [n0, e0, n1, e1, n2, e2, b, Nat.add_sub_cancel_left, dite_true, dite_false, ← Nat.add_assoc, Nat.reduceAdd]

theorem payS_at (x0 : FVec Ideal S1024x4096 .bf16) (x1 : FVec Ideal S8x4096 .bf16) (x2 : FVec Ideal S4096x512 .bf16) (x3 x4 : FVec Ideal S1x512 .f32) (r : Fin 8) (i : Fin 128) : ∀ k : Fin 4, payS x0 x1 x2 x3 x4 (ix2 r ⟨128 * k.val + i.val, by omega⟩)
    = flagged (fun a => dotS x1 x2 r ⟨128 * k.val + a.val, by omega⟩) (x3 (ix2 0 ⟨128 * k.val + i.val, by omega⟩)) (x4 (ix2 0 ⟨128 * k.val + i.val, by omega⟩)) i
  | 0 => payS_0 x0 x1 x2 x3 x4 r i
  | 1 => payS_1 x0 x1 x2 x3 x4 r i
  | 2 => payS_2 x0 x1 x2 x3 x4 r i
  | 3 => payS_3 x0 x1 x2 x3 x4 r i

/-! ## The reference -/

/-- The prompt rows. -/
abbrev target (h : FVec Ideal Cert.Reference7Ideal.S8192x4096 .bf16) (hs : FVec Ideal Cert.Reference7Ideal.S8x4096 .bf16) (w : FVec Ideal Cert.Reference7Ideal.S4096x25088 .bf16) (g : FVec Ideal Cert.Reference7Ideal.S128 .f32) : FVec Ideal Cert.Reference7Ideal.S8192x2048 .bf16 :=
    (truncf .bf16 (shapeCast Cert.Reference7Ideal.S8192x2048 (mulf (mulf (shapeCast Cert.Reference7Ideal.S8192x4x4x128 (Host.dotGeneral
    Cert.Reference7Ideal.dot_S8192x4096_S4096x2048_S8192x2048_1_0_0_1_n_n none (extf .f32 h Cert.Reference7Ideal.Gen.bitsLt_bf16_f32) (extf .f32
    (extractStridedSlice Cert.Reference7Ideal.S4096x2048 ![0, 0] w Cert.Reference7Ideal.Gen.slices_S4096x25088_S4096x2048_0_0)
    Cert.Reference7Ideal.Gen.bitsLt_bf16_f32)) Cert.Reference7Ideal.Gen.shapeCasts_S8192x2048_S8192x4x4x128) (broadcastInDim
    Cert.Reference7Ideal.S8192x4x4x128 ![0, 1, 2, 3] Cert.Reference7Ideal.Gen.bcast_S8192x4x4x1_S8192x4x4x128_0_1_2_3 (Host.rsqrt (addf (Host.divf
    (broadcastInDim Cert.Reference7Ideal.S8192x4x4x1 ![0, 1, 2] Cert.Reference7Ideal.Gen.bcast_S8192x4x4_S8192x4x4x1_0_1_2 (Host.reduceAdd (mulf
    (shapeCast Cert.Reference7Ideal.S8192x4x4x128 (Host.dotGeneral Cert.Reference7Ideal.dot_S8192x4096_S4096x2048_S8192x2048_1_0_0_1_n_n none (extf
    .f32 h Cert.Reference7Ideal.Gen.bitsLt_bf16_f32) (extf .f32 (extractStridedSlice Cert.Reference7Ideal.S4096x2048 ![0, 0] w
    Cert.Reference7Ideal.Gen.slices_S4096x25088_S4096x2048_0_0) Cert.Reference7Ideal.Gen.bitsLt_bf16_f32))
    Cert.Reference7Ideal.Gen.shapeCasts_S8192x2048_S8192x4x4x128) (shapeCast Cert.Reference7Ideal.S8192x4x4x128 (Host.dotGeneral
    Cert.Reference7Ideal.dot_S8192x4096_S4096x2048_S8192x2048_1_0_0_1_n_n none (extf .f32 h Cert.Reference7Ideal.Gen.bitsLt_bf16_f32) (extf .f32
    (extractStridedSlice Cert.Reference7Ideal.S4096x2048 ![0, 0] w Cert.Reference7Ideal.Gen.slices_S4096x25088_S4096x2048_0_0)
    Cert.Reference7Ideal.Gen.bitsLt_bf16_f32)) Cert.Reference7Ideal.Gen.shapeCasts_S8192x2048_S8192x4x4x128)) (constant Cert.Reference7Ideal.S_ .f32
    0x00000000#32) Cert.Reference7Ideal.Gen.reducesTo_S8192x4x4x128_S8192x4x4_d3 Cert.Reference7Ideal.Gen.h_S_)) (broadcastInDim
    Cert.Reference7Ideal.S8192x4x4x1 ![] Cert.Reference7Ideal.Gen.bcast_S_S8192x4x4x1 (constant Cert.Reference7Ideal.S_ .f32 0x43000000#32)))
    (broadcastInDim Cert.Reference7Ideal.S8192x4x4x1 ![] Cert.Reference7Ideal.Gen.bcast_S_S8192x4x4x1 (constant Cert.Reference7Ideal.S_ .f32
    0x358637BD#32)))))) (broadcastInDim Cert.Reference7Ideal.S8192x4x4x128 ![0, 1, 2, 3]
    Cert.Reference7Ideal.Gen.bcast_S1x1x1x128_S8192x4x4x128_0_1_2_3 (broadcastInDim Cert.Reference7Ideal.S1x1x1x128 ![3]
    Cert.Reference7Ideal.Gen.bcast_S128_S1x1x1x128_3 g))) Cert.Reference7Ideal.Gen.shapeCasts_S8192x4x4x128_S8192x2048)
    Cert.Reference7Ideal.Gen.bitsLt_bf16_f32)

/-- The sample rows. -/
abbrev targetS (h : FVec Ideal Cert.Reference7Ideal.S8192x4096 .bf16) (hs : FVec Ideal Cert.Reference7Ideal.S8x4096 .bf16) (w : FVec Ideal Cert.Reference7Ideal.S4096x25088 .bf16) (g : FVec Ideal Cert.Reference7Ideal.S128 .f32) : FVec Ideal Cert.Reference7Ideal.S8x2048 .f32 :=
    (shapeCast Cert.Reference7Ideal.S8x2048 (mulf (mulf (shapeCast Cert.Reference7Ideal.S8x4x4x128 (Host.dotGeneral
    Cert.Reference7Ideal.dot_S8x4096_S4096x2048_S8x2048_1_0_0_1_n_n none (extf .f32 hs Cert.Reference7Ideal.Gen.bitsLt_bf16_f32) (extf .f32
    (extractStridedSlice Cert.Reference7Ideal.S4096x2048 ![0, 0] w Cert.Reference7Ideal.Gen.slices_S4096x25088_S4096x2048_0_0)
    Cert.Reference7Ideal.Gen.bitsLt_bf16_f32)) Cert.Reference7Ideal.Gen.shapeCasts_S8x2048_S8x4x4x128) (broadcastInDim Cert.Reference7Ideal.S8x4x4x128
    ![0, 1, 2, 3] Cert.Reference7Ideal.Gen.bcast_S8x4x4x1_S8x4x4x128_0_1_2_3 (Host.rsqrt (addf (Host.divf (broadcastInDim
    Cert.Reference7Ideal.S8x4x4x1 ![0, 1, 2] Cert.Reference7Ideal.Gen.bcast_S8x4x4_S8x4x4x1_0_1_2 (Host.reduceAdd (mulf (shapeCast
    Cert.Reference7Ideal.S8x4x4x128 (Host.dotGeneral Cert.Reference7Ideal.dot_S8x4096_S4096x2048_S8x2048_1_0_0_1_n_n none (extf .f32 hs
    Cert.Reference7Ideal.Gen.bitsLt_bf16_f32) (extf .f32 (extractStridedSlice Cert.Reference7Ideal.S4096x2048 ![0, 0] w
    Cert.Reference7Ideal.Gen.slices_S4096x25088_S4096x2048_0_0) Cert.Reference7Ideal.Gen.bitsLt_bf16_f32))
    Cert.Reference7Ideal.Gen.shapeCasts_S8x2048_S8x4x4x128) (shapeCast Cert.Reference7Ideal.S8x4x4x128 (Host.dotGeneral
    Cert.Reference7Ideal.dot_S8x4096_S4096x2048_S8x2048_1_0_0_1_n_n none (extf .f32 hs Cert.Reference7Ideal.Gen.bitsLt_bf16_f32) (extf .f32
    (extractStridedSlice Cert.Reference7Ideal.S4096x2048 ![0, 0] w Cert.Reference7Ideal.Gen.slices_S4096x25088_S4096x2048_0_0)
    Cert.Reference7Ideal.Gen.bitsLt_bf16_f32)) Cert.Reference7Ideal.Gen.shapeCasts_S8x2048_S8x4x4x128)) (constant Cert.Reference7Ideal.S_ .f32
    0x00000000#32) Cert.Reference7Ideal.Gen.reducesTo_S8x4x4x128_S8x4x4_d3 Cert.Reference7Ideal.Gen.h_S_)) (broadcastInDim
    Cert.Reference7Ideal.S8x4x4x1 ![] Cert.Reference7Ideal.Gen.bcast_S_S8x4x4x1 (constant Cert.Reference7Ideal.S_ .f32 0x43000000#32)))
    (broadcastInDim Cert.Reference7Ideal.S8x4x4x1 ![] Cert.Reference7Ideal.Gen.bcast_S_S8x4x4x1 (constant Cert.Reference7Ideal.S_ .f32
    0x358637BD#32)))))) (broadcastInDim Cert.Reference7Ideal.S8x4x4x128 ![0, 1, 2, 3] Cert.Reference7Ideal.Gen.bcast_S1x1x1x128_S8x4x4x128_0_1_2_3
    (broadcastInDim Cert.Reference7Ideal.S1x1x1x128 ![3] Cert.Reference7Ideal.Gen.bcast_S128_S1x1x1x128_3 g)))
    Cert.Reference7Ideal.Gen.shapeCasts_S8x4x4x128_S8x2048)

/-- A row times a query column. -/
def refP (h : FVec Ideal Cert.Reference7Ideal.S8192x4096 .bf16) (w : FVec Ideal Cert.Reference7Ideal.S4096x25088 .bf16) (r : Fin 8192) (l : Fin 2048) : EReal :=
  ∑ k : Fin 4096, h (ix2 r k) * w (ix2 k ⟨l.val, by omega⟩)

theorem target_at (h : FVec Ideal Cert.Reference7Ideal.S8192x4096 .bf16) (hs : FVec Ideal Cert.Reference7Ideal.S8x4096 .bf16) (w : FVec Ideal Cert.Reference7Ideal.S4096x25088 .bf16) (g : FVec Ideal Cert.Reference7Ideal.S128 .f32) (r : Fin 8192) (q : Fin 16) (i : Fin 128) : target h hs w g (ix2 r ⟨128 * q.val + i.val, by omega⟩)
    = rms (fun a => refP h w r ⟨128 * q.val + a.val, by omega⟩) i * g (ix1 i) := by
  pointwise [target, rms, refP]
  have e (a : Fin 128) : (128 * q.val + i.val) / 512 * 512 + (128 * q.val + i.val) / 128 % 4 * 128 + a.val = 128 * q.val + a.val := by omega
  simp only [e]

/-- A row times a query column. -/
def refS (hs : FVec Ideal Cert.Reference7Ideal.S8x4096 .bf16) (w : FVec Ideal Cert.Reference7Ideal.S4096x25088 .bf16) (r : Fin 8) (l : Fin 2048) : EReal :=
  ∑ k : Fin 4096, hs (ix2 r k) * w (ix2 k ⟨l.val, by omega⟩)

theorem targetS_at (h : FVec Ideal Cert.Reference7Ideal.S8192x4096 .bf16) (hs : FVec Ideal Cert.Reference7Ideal.S8x4096 .bf16) (w : FVec Ideal Cert.Reference7Ideal.S4096x25088 .bf16) (g : FVec Ideal Cert.Reference7Ideal.S128 .f32) (r : Fin 8) (q : Fin 16) (i : Fin 128) : targetS h hs w g (ix2 r ⟨128 * q.val + i.val, by omega⟩)
    = rms (fun a => refS hs w r ⟨128 * q.val + a.val, by omega⟩) i * g (ix1 i) := by
  pointwise [targetS, rms, refS]
  have e (a : Fin 128) : (128 * q.val + i.val) / 512 * 512 + (128 * q.val + i.val) / 128 % 4 * 128 + a.val = 128 * q.val + a.val := by omega
  simp only [e]

/-! ## The blocks -/

theorem tiles : ∀ t : Fin cfg0.N, win0_0.index t = ![t.val / 4, 0] ∧ win0_1.index t = ![0, 0]
    ∧ win0_2.index t = ![0, t.val % 4] ∧ win0_3.index t = ![0, t.val % 4] ∧ win0_4.index t = ![0, t.val % 4]
    ∧ win0_5.index t = ![t.val / 4, t.val % 4]
    ∧ win0_6.index t = ![0, (held t).val] ∧ (held t).val < 4 ∧ t.val / 4 < 8 :=
  (by decide +kernel : ∀ t : Fin grid0.N, _)

theorem held_mod (t : Fin cfg0.N) : (held t).val % 4 = (held t).val := Nat.mod_eq_of_lt (tiles t).2.2.2.2.2.2.2.1

theorem row_lt (t : Fin cfg0.N) : t.val / 4 < 8 := (tiles t).2.2.2.2.2.2.2.2

theorem blk0 (c : Dev nD) (t : Fin cfg0.N) (r : Fin 1024) (k : Fin 4096) : iblk m c 0 t (ix2 r k)
    = (m ((c : Thread nD τ).loc main_arg0)) (ix2 ⟨t.val / 4 * 1024 + r.val, by have := row_lt t; omega⟩ k) := by
  blk_point [iblk, V, tiles t]

theorem blk1 (c : Dev nD) (t : Fin cfg0.N) (r : Fin 8) (k : Fin 4096) : iblk m c 1 t (ix2 r k) = (m ((c : Thread nD τ).loc main_arg1)) (ix2 r k) := by
  blk_point [iblk, V, tiles t]

theorem blk2 (c : Dev nD) (t : Fin cfg0.N) (k : Fin 4096) (l : Fin 512) : iblk m c 2 t (ix2 k l)
    = (m ((c : Thread nD τ).loc main_arg2)) (ix2 k ⟨t.val % 4 * 512 + l.val, by omega⟩) := by
  blk_point [iblk, V, tiles t]

theorem blk3 (c : Dev nD) (t : Fin cfg0.N) (k : Fin 4) (i : Fin 128) : iblk m c 3 t (ix2 0 ⟨128 * k.val + i.val, by omega⟩) = (m ((c : Thread nD τ).loc main_arg3)) (ix1 i) := by
  have h : iblk m c 3 t (ix2 0 ⟨128 * k.val + i.val, by omega⟩) = V m c main_v20 (ix2 0 ⟨t.val % 4 * 512 + (128 * k.val + i.val), by omega⟩) := by
    blk_point [iblk, tiles t]
  rw [h, gainV, gain_at]
  exact congrArg _ (congrArg ix1 (Fin.ext (show (t.val % 4 * 512 + (128 * k.val + i.val)) % 128 = i.val by omega)))

theorem blk4 (c : Dev nD) (t : Fin cfg0.N) (l : Fin 512) : iblk m c 4 t (ix2 0 l) = Ideal.ofBits .f32 0x3F800000#32 := by
  have h : iblk m c 4 t (ix2 0 l) = V m c main_v21 (ix2 0 ⟨t.val % 4 * 512 + l.val, by omega⟩) := by
    blk_point [iblk, tiles t]
  rw [h, flagV, flag_at]

theorem dotP_blk (c : Dev nD) (t : Fin cfg0.N) (r : Fin 1024) (l : Fin 512) : dotP (iblk m c 0 t) (iblk m c 2 t) r l
    = refP (m ((c : Thread nD τ).loc main_arg0)) (m ((c : Thread nD τ).loc main_arg2)) ⟨t.val / 4 * 1024 + r.val, by have := row_lt t; omega⟩ ⟨t.val % 4 * 512 + l.val, by omega⟩ := by
  unfold dotP refP
  simp only [blk0, blk2]

theorem outP_eq (x0 : FVec Ideal S1024x4096 .bf16) (x1 : FVec Ideal S8x4096 .bf16) (x2 : FVec Ideal S4096x512 .bf16) (x3 x4 : FVec Ideal S1x512 .f32) :
    outP (F := Ideal) x0 x1 x2 x3 x4 = payP x0 x1 x2 x3 x4 := by
  unfold outP
  rw [View.canon_unit_zero (by decide), View.ld_unit_zero (by decide), View.ld_unit_zero (by decide)]
  rfl

/-- One stored element is the target's at the place its block puts it. -/
theorem at_target (c : Dev nD) (t : Fin cfg0.N) (y) : outP (iblk m c 0 t) (iblk m c 1 t) (iblk m c 2 t) (iblk m c 3 t) (iblk m c 4 t) y
    = target (m ((c : Thread nD τ).loc main_arg0)) (m ((c : Thread nD τ).loc main_arg1)) (m ((c : Thread nD τ).loc main_arg2)) (m ((c : Thread nD τ).loc main_arg3)) (((cfg0.win 5).blk t).view.emb y) := by
  obtain ⟨r, l, rfl⟩ : ∃ (r : Fin 1024) (l : Fin 512), y = ix2 r l := ⟨y 0, y 1, eq_ix2 y⟩
  obtain ⟨k, i, rfl⟩ : ∃ (k : Fin 4) (i : Fin 128), l = ⟨128 * k.val + i.val, by omega⟩ :=
    ⟨⟨l.val / 128, by omega⟩, ⟨l.val % 128, by omega⟩, Fin.ext (by show l.val = 128 * (l.val / 128) + l.val % 128; omega)⟩
  have hh := (tiles t).2.2.2.2.2.2.2.1
  have e : (win0_5.blk t).view.emb (ix2 r ⟨128 * k.val + i.val, by omega⟩)
      = ix2 (⟨t.val / 4 * 1024 + r.val, by have := row_lt t; omega⟩ : Fin 8192) (⟨128 * (t.val % 4 * 4 + k.val) + i.val, by omega⟩ : Fin 2048) := by
    blk_ext [tiles t]
  refine Eq.trans ?_ (congrArg (target (m ((c : Thread nD τ).loc main_arg0)) (m ((c : Thread nD τ).loc main_arg1)) (m ((c : Thread nD τ).loc main_arg2)) (m ((c : Thread nD τ).loc main_arg3))) e).symm
  rw [outP_eq, payP_at, blk3, blk4, flagged, if_pos half_lt_one]
  refine Eq.trans ?_ (target_at _ _ _ _ _ ⟨t.val % 4 * 4 + k.val, by omega⟩ i).symm
  refine congrArg (fun z => rms z i * _) (funext fun a => ?_)
  rw [dotP_blk]
  exact congrArg (refP _ _ _) (Fin.ext (by show t.val % 4 * 512 + (128 * k.val + a.val) = 128 * (t.val % 4 * 4 + k.val) + a.val; omega))

/-- The output is the target: the blocks cover it. -/
theorem result (c : Dev nD) : (Run.dats m 0 c).arrAt 5 (cfgs 0).N = target (m ((c : Thread nD τ).loc main_arg0)) (m ((c : Thread nD τ).loc main_arg1)) (m ((c : Thread nD τ).loc main_arg2)) (m ((c : Thread nD τ).loc main_arg3)) := by
  refine (Run.dats m 0 c).arrAt_eq_of_covers 5 _ (by decide +kernel) fun t _ y => ?_
  blk_simp
  rw [after0_5]
  exact at_target m c t y

theorem dotS_blk (c : Dev nD) (t : Fin cfg0.N) (r : Fin 8) (l : Fin 512) : dotS (iblk m c 1 t) (iblk m c 2 t) r l
    = refS (m ((c : Thread nD τ).loc main_arg1)) (m ((c : Thread nD τ).loc main_arg2)) r ⟨t.val % 4 * 512 + l.val, by omega⟩ := by
  unfold dotS refS
  simp only [blk1, blk2]

theorem outS_eq (x0 : FVec Ideal S1024x4096 .bf16) (x1 : FVec Ideal S8x4096 .bf16) (x2 : FVec Ideal S4096x512 .bf16) (x3 x4 : FVec Ideal S1x512 .f32) :
    outS (F := Ideal) x0 x1 x2 x3 x4 = payS x0 x1 x2 x3 x4 := by
  unfold outS
  rw [View.canon_unit_zero (by decide), View.ld_unit_zero (by decide), View.ld_unit_zero (by decide)]
  rfl

/-- One stored element is the target's at the place its block puts it. -/
theorem at_targetS (c : Dev nD) (t : Fin cfg0.N) (y) : outS (iblk m c 0 (held t)) (iblk m c 1 (held t)) (iblk m c 2 (held t)) (iblk m c 3 (held t)) (iblk m c 4 (held t)) y
    = targetS (m ((c : Thread nD τ).loc main_arg0)) (m ((c : Thread nD τ).loc main_arg1)) (m ((c : Thread nD τ).loc main_arg2)) (m ((c : Thread nD τ).loc main_arg3)) (((cfg0.win 6).blk t).view.emb y) := by
  obtain ⟨r, l, rfl⟩ : ∃ (r : Fin 8) (l : Fin 512), y = ix2 r l := ⟨y 0, y 1, eq_ix2 y⟩
  obtain ⟨k, i, rfl⟩ : ∃ (k : Fin 4) (i : Fin 128), l = ⟨128 * k.val + i.val, by omega⟩ :=
    ⟨⟨l.val / 128, by omega⟩, ⟨l.val % 128, by omega⟩, Fin.ext (by show l.val = 128 * (l.val / 128) + l.val % 128; omega)⟩
  have hh := (tiles t).2.2.2.2.2.2.2.1
  have e : (win0_6.blk t).view.emb (ix2 r ⟨128 * k.val + i.val, by omega⟩)
      = ix2 (r : Fin 8) (⟨128 * ((held t).val % 4 * 4 + k.val) + i.val, by omega⟩ : Fin 2048) := by
    blk_ext [tiles t, held_mod t]
  refine Eq.trans ?_ (congrArg (targetS (m ((c : Thread nD τ).loc main_arg0)) (m ((c : Thread nD τ).loc main_arg1)) (m ((c : Thread nD τ).loc main_arg2)) (m ((c : Thread nD τ).loc main_arg3))) e).symm
  rw [outS_eq, payS_at, blk3, blk4, flagged, if_pos half_lt_one]
  refine Eq.trans ?_ (targetS_at _ _ _ _ r ⟨(held t).val % 4 * 4 + k.val, by omega⟩ i).symm
  refine congrArg (fun z => rms z i * _) (funext fun a => ?_)
  rw [dotS_blk]
  exact congrArg (refS _ _ _) (Fin.ext (by show (held t).val % 4 * 512 + (128 * k.val + a.val) = 128 * ((held t).val % 4 * 4 + k.val) + a.val; omega))

/-- The output is the target: the blocks cover it. -/
theorem resultS (c : Dev nD) : (Run.dats m 0 c).arrAt 6 (cfgs 0).N = targetS (m ((c : Thread nD τ).loc main_arg0)) (m ((c : Thread nD τ).loc main_arg1)) (m ((c : Thread nD τ).loc main_arg2)) (m ((c : Thread nD τ).loc main_arg3)) := by
  refine (Run.dats m 0 c).arrAt_eq_of_covers 6 _ (by decide +kernel) fun t _ y => ?_
  blk_simp
  rw [after0_6]
  exact at_targetS m c t y

end Cert.Kernel7Ideal.Value

end
-- ==== Proof.RmsValue.lean ====
/- The row normalisation ahead of the input projection: every stored row block is the row block of the normalised array. -/
module

public import proofs.«01_k».proof.Proof.Gen.Kernel9Ideal.Frame
public import proofs.«01_k».proof.Proof.Gen.Reference9Ideal
public import Idealize.ShloMosaic.Lib.Pipeline.ValueKit
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)
open scoped BigOperators

namespace Cert.Kernel9Ideal.Value

open Cert.Kernel9Ideal Cert.Kernel9Ideal.Gen

variable (m : (ℓ : Loc nD τ sig) → Buf (Elt Ideal) ℓ)

/-- Each row over the root of its mean square, times the gain. -/
abbrev target (x : FVec Ideal Cert.Reference9Ideal.S8192x4096 .f32) (g : FVec Ideal Cert.Reference9Ideal.S4096 .f32) :
    FVec Ideal Cert.Reference9Ideal.S8192x4096 .bf16 :=
    (truncf .bf16 (mulf (mulf x (broadcastInDim Cert.Reference9Ideal.S8192x4096 ![0, 1] Cert.Reference9Ideal.Gen.bcast_S8192x1_S8192x4096_0_1
    (Host.rsqrt (addf (Host.divf (broadcastInDim Cert.Reference9Ideal.S8192x1 ![0] Cert.Reference9Ideal.Gen.bcast_S8192_S8192x1_0 (Host.reduceAdd
    (mulf x x) (constant Cert.Reference9Ideal.S_ .f32 0x00000000#32) Cert.Reference9Ideal.Gen.reducesTo_S8192x4096_S8192_d1
    Cert.Reference9Ideal.Gen.h_S_)) (broadcastInDim Cert.Reference9Ideal.S8192x1 ![] Cert.Reference9Ideal.Gen.bcast_S_S8192x1 (constant
    Cert.Reference9Ideal.S_ .f32 0x45800000#32))) (broadcastInDim Cert.Reference9Ideal.S8192x1 ![] Cert.Reference9Ideal.Gen.bcast_S_S8192x1 (constant
    Cert.Reference9Ideal.S_ .f32 0x358637BD#32)))))) (broadcastInDim Cert.Reference9Ideal.S8192x4096 ![0, 1]
    Cert.Reference9Ideal.Gen.bcast_S1x4096_S8192x4096_0_1 (broadcastInDim Cert.Reference9Ideal.S1x4096 ![1]
    Cert.Reference9Ideal.Gen.bcast_S4096_S1x4096_1 g))) Cert.Reference9Ideal.Gen.bitsLt_bf16_f32)

/-- Row block `t` of the input and of the output; the gain is one block. -/
theorem tiles : ∀ t : Fin cfg0.N, win0_0.index t = ![t.val, 0] ∧ win0_1.index t = ![0, 0] ∧ win0_2.index t = ![t.val, 0] :=
  (by decide +kernel : ∀ t : Fin grid0.N, _)

/-- One stored element is the target's element at the place the row block puts it. -/
theorem at_tile (c : Dev nD) (t : Fin cfg0.N) (y) : k0_pay1 (iblk m c 0 t) (iblk m c 1 t) y
    = target (m ((c : Thread nD τ).loc main_arg0)) (m ((c : Thread nD τ).loc main_arg1)) (((cfg0.win 2).blk t).view.emb y) := by
  pointwise [k0_pay1, target]
  blk_point [iblk, V, tiles t]

/-- The whole result array is the target: the row blocks cover it. -/
theorem result (c : Dev nD) : (dats m 0 c).arrAt 2 (cfgs 0).N
    = target (m ((c : Thread nD τ).loc main_arg0)) (m ((c : Thread nD τ).loc main_arg1)) := by
  refine (dats m 0 c).arrAt_eq_of_covers 2 _ (by decide +kernel) fun t _ y => ?_
  blk_simp
  rw [after0_2]; frame_out
  exact at_tile m c t y

end Cert.Kernel9Ideal.Value

end
-- ==== Proof.LruScan.lean ====
/- The kernel's recurrence: 64 trips of 32 rows, each trip four tiles of eight rows by doubling, leave the states of the
   recurrence in the scratch that held its inputs. -/
module

public import proofs.«01_k».proof.Proof.Gen.KernelIdeal.Loops
public import proofs.«01_k».proof.Proof.LruMath
public import Idealize.ShloMosaic.Lib.Pipeline.ValueKit
public import Idealize.ShloMosaic.Lib.WritesUnit
public import Idealize.ShloMosaic.Lib.KernelVsHost

@[expose] public section

set_option maxRecDepth 16384

noncomputable section

open Idealize.ShloMosaic Idealize.ShloMosaic.TcCoe Idealize.ShloMosaic.Tactic Idealize.SL.Sem

namespace Cert.KernelIdeal.Lru

open Cert.KernelIdeal Cert.KernelIdeal.Gen Cert.Lru

/-- The row numbers of a tile of eight rows. -/
abbrev rows : IVec S8x512 32 := iota .tc S8x512 32 [0] iota_S8x512_d0_w32

/-- One doubling step of the coefficients of a tile. -/
def stepA (d : BitVec 32) (a : FVec Ideal S8x512 .f32) : FVec Ideal S8x512 .f32 :=
  mulf a (select (cmpi .sge rows (broadcast S8x512 d)) (dynamicRotate 0 d none a rotates_S8x512_d0)
    (broadcast S8x512 (Scalar.ofBits .f32 0x3F800000#32)))

/-- One doubling step of the inputs of a tile. -/
def stepU (d : BitVec 32) (a u : FVec Ideal S8x512 .f32) : FVec Ideal S8x512 .f32 :=
  addf (mulf a (select (cmpi .sge rows (broadcast S8x512 d)) (dynamicRotate 0 d none u rotates_S8x512_d0)
    (broadcast S8x512 (Scalar.ofBits .f32 0x00000000#32)))) u

/-- A tile's coefficients and inputs after the three doubling steps. -/
def tileA (a : FVec Ideal S8x512 .f32) : FVec Ideal S8x512 .f32 := stepA 4#32 (stepA 2#32 (stepA 1#32 a))
def tileU (a u : FVec Ideal S8x512 .f32) : FVec Ideal S8x512 .f32 :=
  stepU 4#32 (stepA 2#32 (stepA 1#32 a)) (stepU 2#32 (stepA 1#32 a) (stepU 1#32 a u))

/-- A tile's states from the state above it. -/
def tileH (h : FVec Ideal S1x512 .f32) (a u : FVec Ideal S8x512 .f32) : FVec Ideal S8x512 .f32 :=
  addf (mulf (tileA a) (broadcastTo S8x512 h broadcasts_S1x512_S8x512)) (tileU a u)

/-- The last row of a tile. -/
def lastRow (x : FVec Ideal S8x512 .f32) : FVec Ideal S1x512 .f32 :=
  extractStridedSlice S1x512 ![7, 0] x slices_S8x512_o7_0_S1x512

/-- Column `l` of a tile, as a sequence (zero past the end). -/
def col8 (x : FVec Ideal S8x512 .f32) (l : Fin 512) (r : ℕ) : EReal := if h : r < 8 then x (ix2 ⟨r, h⟩ l) else 0

theorem col8_of_lt (x : FVec Ideal S8x512 .f32) (l : Fin 512) (r : Fin 8) : col8 x l r.val = x (ix2 r l) := dif_pos r.isLt

theorem rows_ge : ∀ r d : Fin 8, IntOp.cmpi .sge (BitVec.ofNat 32 r.val) (BitVec.ofNat 32 d.val) = BitVec.ofBool (decide (d.val ≤ r.val)) := by
  decide

/-- The rows from `d` on take the row `d` above, the others the filler. -/
theorem shifted (d : Fin 8) (x : FVec Ideal S8x512 .f32) (w : BitVec 32) (l : Fin 512) (r : Fin 8) :
    select (cmpi .sge rows (broadcast S8x512 (BitVec.ofNat 32 d.val))) (dynamicRotate 0 (BitVec.ofNat 32 d.val) none x rotates_S8x512_d0)
      (broadcast S8x512 (Scalar.ofBits (F := Ideal) .f32 w)) (ix2 r l)
      = if d.val ≤ r.val then col8 x l (r.val - d.val) else Scalar.ofBits (F := Ideal) .f32 w := by
  have hd := d.isLt
  have hr := r.isLt
  have hn : (BitVec.ofNat 32 d.val).toNat = d.val := by rw [BitVec.toNat_ofNat]; omega
  have hi : rows (ix2 r l) = BitVec.ofNat 32 r.val := by
    unfold rows
    pointwise []
  show Scalar.select (IntOp.cmpi .sge (rows (ix2 r l)) (BitVec.ofNat 32 d.val)) _ _ = _
  rw [hi, rows_ge]
  by_cases h : d.val ≤ r.val
  · rw [if_pos h, decide_eq_true h, show r.val - d.val = (⟨r.val - d.val, by omega⟩ : Fin 8).val from rfl, col8_of_lt]
    refine (if_pos rfl).trans ?_
    refine dynamicRotate_apply 0 _ x rotates_S8x512_d0 _ _ fun b => ?_
    rw [hn]
    fin_cases b
    · show r.val - d.val = (r.val + 8 - d.val % 8) % 8
      omega
    · rfl
  · rw [if_neg h, decide_eq_false h]
    exact if_neg (by decide)

theorem stepA_col (d : Fin 8) (a : FVec Ideal S8x512 .f32) (l : Fin 512) (r : ℕ) (hr : r < 8) :
    col8 (stepA (BitVec.ofNat 32 d.val) a) l r = dblA d.val (col8 a l) r := by
  rw [show r = (⟨r, hr⟩ : Fin 8).val from rfl, col8_of_lt]
  unfold stepA dblA
  refine (congrArg (fun z : EReal => a (ix2 ⟨r, hr⟩ l) * z) (shifted d a _ l ⟨r, hr⟩)).trans ?_
  rw [col8_of_lt]
  pointwise []

theorem stepU_col (d : Fin 8) (a u : FVec Ideal S8x512 .f32) (l : Fin 512) (r : ℕ) (hr : r < 8) :
    col8 (stepU (BitVec.ofNat 32 d.val) a u) l r = dblU d.val (col8 a l) (col8 u l) r := by
  rw [show r = (⟨r, hr⟩ : Fin 8).val from rfl, col8_of_lt]
  unfold stepU dblU
  refine (congrArg (fun z : EReal => a (ix2 ⟨r, hr⟩ l) * z + u (ix2 ⟨r, hr⟩ l)) (shifted d u _ l ⟨r, hr⟩)).trans ?_
  rw [col8_of_lt, col8_of_lt]
  pointwise []

/-- Past the last row both sides are not read: the doubling steps only look up. -/
theorem dblA_congr {d : ℕ} {a b : ℕ → EReal} (h : ∀ r, r < 8 → a r = b r) (r : ℕ) (hr : r < 8) : dblA d a r = dblA d b r := by
  unfold dblA
  rw [h r hr, h (r - d) (by omega)]

theorem dblU_congr {d : ℕ} {a b u v : ℕ → EReal} (h : ∀ r, r < 8 → a r = b r) (h' : ∀ r, r < 8 → u r = v r) (r : ℕ) (hr : r < 8) :
    dblU d a u r = dblU d b v r := by
  unfold dblU
  rw [h r hr, h' r hr, h' (r - d) (by omega)]

/-- A tile's states are the recurrence's states from the state above it. -/
theorem tileH_row (h : FVec Ideal S1x512 .f32) (a u : FVec Ideal S8x512 .f32) (l : Fin 512) (ha : ∀ r, Coef (col8 a l r)) (r : Fin 8) :
    tileH h a u (ix2 r l) = go (col8 a l) (col8 u l) (h (ix2 0 l)) (r.val + 1) := by
  have a1 := stepA_col 1 a l
  have u1 := stepU_col 1 a u l
  have a2 : ∀ r, r < 8 → col8 (stepA 2#32 (stepA 1#32 a)) l r = dblA 2 (dblA 1 (col8 a l)) r := fun r hr =>
    (stepA_col 2 (stepA 1#32 a) l r hr).trans (dblA_congr a1 r hr)
  have u2 : ∀ r, r < 8 → col8 (stepU 2#32 (stepA 1#32 a) (stepU 1#32 a u)) l r = dblU 2 (dblA 1 (col8 a l)) (dblU 1 (col8 a l) (col8 u l)) r := fun r hr =>
    (stepU_col 2 (stepA 1#32 a) (stepU 1#32 a u) l r hr).trans (dblU_congr a1 u1 r hr)
  have a3 : col8 (tileA a) l r.val = dblA 4 (dblA 2 (dblA 1 (col8 a l))) r.val :=
    (stepA_col 4 (stepA 2#32 (stepA 1#32 a)) l r.val r.isLt).trans (dblA_congr a2 r.val r.isLt)
  have u3 : col8 (tileU a u) l r.val = dblU 4 (dblA 2 (dblA 1 (col8 a l))) (dblU 2 (dblA 1 (col8 a l)) (dblU 1 (col8 a l) (col8 u l))) r.val :=
    (stepU_col 4 (stepA 2#32 (stepA 1#32 a)) (stepU 2#32 (stepA 1#32 a) (stepU 1#32 a u)) l r.val r.isLt).trans (dblU_congr a2 u2 r.val r.isLt)
  rw [col8_of_lt] at a3 u3
  rw [← act_eight ha (h (ix2 0 l)) r.val r.isLt]
  unfold act
  rw [← a3, ← u3]
  unfold tileH
  pointwise []

theorem lastRow_at (x : FVec Ideal S8x512 .f32) (l : Fin 512) : lastRow x (ix2 0 l) = x (ix2 7 l) := by
  unfold lastRow
  pointwise []

/-- A tile whose rows are rows `o, …, o + 7` of the sequences, from the state before row `o`. -/
theorem tile_go {a u : ℕ → EReal} (hc : ∀ r, Coef (a r)) (o : ℕ) (h : FVec Ideal S1x512 .f32) (a8 u8 : FVec Ideal S8x512 .f32) (l : Fin 512)
    (hh : h (ix2 0 l) = go a u 0 o) (ha : ∀ r, r < 8 → col8 a8 l r = a (o + r)) (hu : ∀ r, r < 8 → col8 u8 l r = u (o + r)) (r : Fin 8) :
    tileH h a8 u8 (ix2 r l) = go a u 0 (o + r.val + 1) := by
  have h8 : ∀ r, Coef (col8 a8 l r) := fun r => by
    by_cases e : r < 8
    · rw [ha r e]; exact hc _
    · unfold col8; rw [dif_neg e]; exact Coef.zero
  rw [tileH_row h a8 u8 l h8 r, hh]
  refine Eq.trans ?_ (go_add a u 0 o (r.val + 1)).symm
  exact go_congr _ _ fun q hq => ⟨ha q (by omega), hu q (by omega)⟩

theorem tile_last {a u : ℕ → EReal} (hc : ∀ r, Coef (a r)) (o : ℕ) (h : FVec Ideal S1x512 .f32) (a8 u8 : FVec Ideal S8x512 .f32) (l : Fin 512)
    (hh : h (ix2 0 l) = go a u 0 o) (ha : ∀ r, r < 8 → col8 a8 l r = a (o + r)) (hu : ∀ r, r < 8 → col8 u8 l r = u (o + r)) :
    lastRow (tileH h a8 u8) (ix2 0 l) = go a u 0 (o + 8) :=
  (lastRow_at _ l).trans (tile_go hc o h a8 u8 l hh ha hu 7)

/-- Column `l` of a scratch, as a sequence (zero past the end). -/
def colS (x : FVec Ideal S2048x512 .f32) (l : Fin 512) (r : ℕ) : EReal := if h : r < 2048 then x (ix2 ⟨r, h⟩ l) else 0

theorem colS_of_lt (x : FVec Ideal S2048x512 .f32) (l : Fin 512) (r : ℕ) (h : r < 2048) : colS x l r = x (ix2 ⟨r, h⟩ l) := dif_pos h

/-- Where the tiles of a trip lie. -/
theorem off_eq : ∀ k : Fin k0_t1_loop.trips, k0_off1 k 0#32 = ![32 * k.val, 0] ∧ k0_off1 k 8#32 = ![32 * k.val + 8, 0]
    ∧ k0_off1 k 16#32 = ![32 * k.val + 16, 0] ∧ k0_off1 k 24#32 = ![32 * k.val + 24, 0] ∧ k.val < 64 := by
  decide +kernel

/-- Eight rows of a scratch from row `o`. -/
theorem rows_at (x : FVec Ideal S2048x512 .f32) (off : Fin 2 → ℕ) (o : ℕ) (ho : off = ![o, 0]) (hb : o + 8 ≤ 2048)
    (h : ∀ a, off a + S8x512.size a ≤ S2048x512.size a) (l : Fin 512) (r : ℕ) (hr : r < 8) :
    col8 (View.ld (Val := Elt Ideal) (e' := .f32) x (Rect.unit (s := S2048x512) off S8x512.size h)) l r = colS x l (o + r) := by
  subst ho
  rw [colS_of_lt x l (o + r) (by omega)]
  unfold col8
  rw [dif_pos hr]
  refine congrArg x (funext fun a => Fin.ext ?_)
  fin_cases a
  · show o + 1 * r = o + r
    omega
  · show 0 + 1 * l.val = l.val
    omega

section Trip
variable (𝒱 : Variants) (c : Dev nD) (bd : Option 𝒱.V) (i : grid0.Coords) (arg2 : Memref sig .tc .vmem S2048x512 .f32) (harg2 : arg2.IsWhole) (arg3 : Memref sig .tc .vmem S2048x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S1x1x512 .f32) (harg12 : arg12.IsWhole) {arg13 : Memref sig .tc .vmem S2048x512 .f32} (harg13 : arg13.IsWhole) {arg14 : Memref sig .tc .vmem S2048x512 .f32} (harg14 : arg14.IsWhole) (X_arg13 : BufTy.Contents (Elt Ideal) arg13.view.ty) (k : Fin k0_t1_loop.trips) (acc : FVec Ideal S1x512 .f32) (f_arg14 : BufTy.Contents (Elt Ideal) arg14.view.ty)

/-- Tile `j` of a trip: eight rows of a scratch. -/
abbrev rd13 (n : BitVec 32) (h : ∀ a, (k0_off1 k n) a + S8x512.size a ≤ S2048x512.size a) : FVec Ideal S8x512 .f32 :=
  arg13.view.readAt (Elt Ideal) (Rect.unit (s := S2048x512) (k0_off1 k n) S8x512.size h).toLoadRect X_arg13
abbrev rd14 (n : BitVec 32) (h : ∀ a, (k0_off1 k n) a + S8x512.size a ≤ S2048x512.size a) : FVec Ideal S8x512 .f32 :=
  arg14.view.readAt (Elt Ideal) (Rect.unit (s := S2048x512) (k0_off1 k n) S8x512.size h).toLoadRect f_arg14

/-- The four tiles of a trip, each from the last row of the one before. -/
abbrev t0 : FVec Ideal S8x512 .f32 := (tileH acc (rd13 (arg13 := arg13) X_arg13 k (0#32) (k0_off1_inb k 0)) (rd14 (arg14 := arg14) k f_arg14 (0#32) (k0_off1_inb k 0)))
abbrev t1 : FVec Ideal S8x512 .f32 := (tileH (lastRow (t0 (arg13 := arg13) (arg14 := arg14) X_arg13 k acc f_arg14)) (rd13 (arg13 := arg13) X_arg13 k (8#32) (k0_off1_inb k 1)) (rd14 (arg14 := arg14) k f_arg14 (8#32) (k0_off1_inb k 1)))
abbrev t2 : FVec Ideal S8x512 .f32 := (tileH (lastRow (t1 (arg13 := arg13) (arg14 := arg14) X_arg13 k acc f_arg14)) (rd13 (arg13 := arg13) X_arg13 k (16#32) (k0_off1_inb k 2)) (rd14 (arg14 := arg14) k f_arg14 (16#32) (k0_off1_inb k 2)))
abbrev t3 : FVec Ideal S8x512 .f32 := (tileH (lastRow (t2 (arg13 := arg13) (arg14 := arg14) X_arg13 k acc f_arg14)) (rd13 (arg13 := arg13) X_arg13 k (24#32) (k0_off1_inb k 3)) (rd14 (arg14 := arg14) k f_arg14 (24#32) (k0_off1_inb k 3)))

theorem tripR_eq : tripR_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 rows X_arg13 k acc f_arg14 = lastRow (t3 (arg13 := arg13) (arg14 := arg14) X_arg13 k acc f_arg14) := by
  unfold tripR_k0_t1 trip_k0_t1
  rfl

theorem tripL_eq : tripL_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 rows X_arg13 k acc f_arg14
    = [⟨Rect.unit (s := S2048x512) (k0_off1 k 24#32) S8x512.size (k0_off1_inb k 3), t3 (arg13 := arg13) (arg14 := arg14) X_arg13 k acc f_arg14⟩,
       ⟨Rect.unit (s := S2048x512) (k0_off1 k 16#32) S8x512.size (k0_off1_inb k 2), t2 (arg13 := arg13) (arg14 := arg14) X_arg13 k acc f_arg14⟩,
       ⟨Rect.unit (s := S2048x512) (k0_off1 k 8#32) S8x512.size (k0_off1_inb k 1), t1 (arg13 := arg13) (arg14 := arg14) X_arg13 k acc f_arg14⟩,
       ⟨Rect.unit (s := S2048x512) (k0_off1 k 0#32) S8x512.size (k0_off1_inb k 0), t0 (arg13 := arg13) (arg14 := arg14) X_arg13 k acc f_arg14⟩] := by
  unfold tripL_k0_t1 trip_k0_t1
  dsimp only [k0_pay6, k0_pay4, k0_pay39, k0_pay37]
  rw [shapeCast_self, shapeCast_self, shapeCast_self, shapeCast_self]
  rfl
variable (G_arg14 : BufTy.Contents (Elt Ideal) arg14.view.ty) (init : FVec Ideal S1x512 .f32)

/-- The state before trip `n`: the carried row and the pieces written so far. -/
abbrev at_ (n : ℕ) := st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 rows X_arg13 G_arg14 init n

/-- What holds before trip `n`, in column `l`. -/
structure Held (n : ℕ) (l : Fin 512) (s : FVec Ideal S1x512 .f32 × List (View.Piece (Elt Ideal) S2048x512 .f32)) : Prop where
  h : s.1 (ix2 0 l) = go (colS (arg13.view.read (Elt Ideal) X_arg13) l) (colS (arg14.view.read (Elt Ideal) G_arg14) l) 0 (32 * n)
  done : ∀ r : Fin 2048, r.val < 32 * n → arg14.view.read (Elt Ideal) (arg14.view.writes (Elt Ideal) G_arg14 s.2) (ix2 r l)
    = go (colS (arg13.view.read (Elt Ideal) X_arg13) l) (colS (arg14.view.read (Elt Ideal) G_arg14) l) 0 (r.val + 1)
  todo : ∀ r : Fin 2048, 32 * n ≤ r.val → arg14.view.read (Elt Ideal) (arg14.view.writes (Elt Ideal) G_arg14 s.2) (ix2 r l)
    = arg14.view.read (Elt Ideal) G_arg14 (ix2 r l)

theorem held_succ (l : Fin 512) (hc : ∀ r, Coef (colS (arg13.view.read (Elt Ideal) X_arg13) l r))
    (ih : Held X_arg13 G_arg14 k.val l (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 rows X_arg13 G_arg14 init k.val)) :
    Held X_arg13 G_arg14 (k.val + 1) l (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 rows X_arg13 G_arg14 init (k.val + 1)) := by
  obtain ⟨o0, o1, o2, o3, hk⟩ := off_eq k
  rw [st_k0_t1_succ, tripR_eq, tripL_eq]
  generalize st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 rows X_arg13 G_arg14 init k.val = s at ih ⊢
  obtain ⟨acc, L⟩ := s
  have hh : acc (ix2 0 l) = go (colS (arg13.view.read (Elt Ideal) X_arg13) l) (colS (arg14.view.read (Elt Ideal) G_arg14) l) 0 (32 * k.val) := ih.h
  generalize hf : arg14.view.writes (Elt Ideal) G_arg14 L = f
  have todo : ∀ r : ℕ, 32 * k.val ≤ r → colS (arg14.view.read (Elt Ideal) f) l r = colS (arg14.view.read (Elt Ideal) G_arg14) l r := fun r hr => by
    by_cases e : r < 2048
    · rw [colS_of_lt _ _ _ e, colS_of_lt _ _ _ e, ← hf]
      exact ih.todo ⟨r, e⟩ hr
    · unfold colS
      rw [dif_neg e, dif_neg e]
  have ra : ∀ (n : BitVec 32) (o : ℕ) (he : k0_off1 k n = ![o, 0]) (hb : o + 8 ≤ 2048) (h : ∀ a, (k0_off1 k n) a + S8x512.size a ≤ S2048x512.size a) (r : ℕ), r < 8 →
      col8 (rd13 (arg13 := arg13) X_arg13 k n h) l r = colS (arg13.view.read (Elt Ideal) X_arg13) l (o + r) := fun n o he hb h r hr =>
    rows_at _ _ o he hb h l r hr
  have ru : ∀ (n : BitVec 32) (o : ℕ) (he : k0_off1 k n = ![o, 0]) (hb : o + 8 ≤ 2048) (hlo : 32 * k.val ≤ o) (h : ∀ a, (k0_off1 k n) a + S8x512.size a ≤ S2048x512.size a) (r : ℕ), r < 8 →
      col8 (rd14 (arg14 := arg14) k f n h) l r = colS (arg14.view.read (Elt Ideal) G_arg14) l (o + r) := fun n o he hb hlo h r hr =>
    (rows_at _ _ o he hb h l r hr).trans (todo (o + r) (by omega))
  have e0 := tile_go hc (32 * k.val) acc _ _ l hh (ra 0#32 _ o0 (by omega) (k0_off1_inb k 0)) (ru 0#32 _ o0 (by omega) (by omega) (k0_off1_inb k 0))
  have l0 := tile_last hc (32 * k.val) acc _ _ l hh (ra 0#32 _ o0 (by omega) (k0_off1_inb k 0)) (ru 0#32 _ o0 (by omega) (by omega) (k0_off1_inb k 0))
  have e1 := tile_go hc _ _ _ _ l l0 (ra 8#32 _ o1 (by omega) (k0_off1_inb k 1)) (ru 8#32 _ o1 (by omega) (by omega) (k0_off1_inb k 1))
  have l1 := tile_last hc _ _ _ _ l l0 (ra 8#32 _ o1 (by omega) (k0_off1_inb k 1)) (ru 8#32 _ o1 (by omega) (by omega) (k0_off1_inb k 1))
  have e2 := tile_go hc _ _ _ _ l l1 (ra 16#32 _ o2 (by omega) (k0_off1_inb k 2)) (ru 16#32 _ o2 (by omega) (by omega) (k0_off1_inb k 2))
  have l2 := tile_last hc _ _ _ _ l l1 (ra 16#32 _ o2 (by omega) (k0_off1_inb k 2)) (ru 16#32 _ o2 (by omega) (by omega) (k0_off1_inb k 2))
  have e3 := tile_go hc _ _ _ _ l l2 (ra 24#32 _ o3 (by omega) (k0_off1_inb k 3)) (ru 24#32 _ o3 (by omega) (by omega) (k0_off1_inb k 3))
  have l3 := tile_last hc _ _ _ _ l l2 (ra 24#32 _ o3 (by omega) (k0_off1_inb k 3)) (ru 24#32 _ o3 (by omega) (by omega) (k0_off1_inb k 3))
  refine ⟨l3, fun r hr => ?_, fun r hr => ?_⟩
  · show arg14.view.read (Elt Ideal) (arg14.view.writes (Elt Ideal) G_arg14 (_ ++ L)) (ix2 r l) = _
    rw [View.writes_append, hf]
    have hr' := r.isLt
    by_cases c3 : 32 * k.val + 24 ≤ r.val
    · refine (View.read_writes_cons_rows_of_mem _ _ _ _ _ (ix2 r l) (ix2 (⟨r.val - (32 * k.val + 24), by omega⟩ : Fin 8) l) o3 (by show r.val = _ + (r.val - _); omega) rfl).trans ((e3 _).trans ?_)
      exact congrArg (go _ _ 0) (by show 32 * k.val + 8 + 8 + 8 + (r.val - (32 * k.val + 24)) + 1 = r.val + 1; omega)
    rw [View.read_writes_cons_rows_of_not_mem _ _ _ _ _ (ix2 r l) o3 (W := 8) rfl (Or.inl (by show r.val < _; omega))]
    by_cases c2 : 32 * k.val + 16 ≤ r.val
    · refine (View.read_writes_cons_rows_of_mem _ _ _ _ _ (ix2 r l) (ix2 (⟨r.val - (32 * k.val + 16), by omega⟩ : Fin 8) l) o2 (by show r.val = _ + (r.val - _); omega) rfl).trans ((e2 _).trans ?_)
      exact congrArg (go _ _ 0) (by show 32 * k.val + 8 + 8 + (r.val - (32 * k.val + 16)) + 1 = r.val + 1; omega)
    rw [View.read_writes_cons_rows_of_not_mem _ _ _ _ _ (ix2 r l) o2 (W := 8) rfl (Or.inl (by show r.val < _; omega))]
    by_cases c1 : 32 * k.val + 8 ≤ r.val
    · refine (View.read_writes_cons_rows_of_mem _ _ _ _ _ (ix2 r l) (ix2 (⟨r.val - (32 * k.val + 8), by omega⟩ : Fin 8) l) o1 (by show r.val = _ + (r.val - _); omega) rfl).trans ((e1 _).trans ?_)
      exact congrArg (go _ _ 0) (by show 32 * k.val + 8 + (r.val - (32 * k.val + 8)) + 1 = r.val + 1; omega)
    rw [View.read_writes_cons_rows_of_not_mem _ _ _ _ _ (ix2 r l) o1 (W := 8) rfl (Or.inl (by show r.val < _; omega))]
    by_cases c0 : 32 * k.val ≤ r.val
    · refine (View.read_writes_cons_rows_of_mem _ _ _ _ _ (ix2 r l) (ix2 (⟨r.val - 32 * k.val, by omega⟩ : Fin 8) l) o0 (by show r.val = _ + (r.val - _); omega) rfl).trans ((e0 _).trans ?_)
      exact congrArg (go _ _ 0) (by show 32 * k.val + (r.val - 32 * k.val) + 1 = r.val + 1; omega)
    rw [View.read_writes_cons_rows_of_not_mem _ _ _ _ _ (ix2 r l) o0 (W := 8) rfl (Or.inl (by show r.val < _; omega)), View.writes_nil, ← hf]
    exact ih.done r (by omega)
  · show arg14.view.read (Elt Ideal) (arg14.view.writes (Elt Ideal) G_arg14 (_ ++ L)) (ix2 r l) = _
    rw [View.writes_append, hf]
    rw [View.read_writes_cons_rows_of_not_mem _ _ _ _ _ (ix2 r l) o3 (W := 8) rfl (Or.inr (by show _ ≤ r.val; omega)),
      View.read_writes_cons_rows_of_not_mem _ _ _ _ _ (ix2 r l) o2 (W := 8) rfl (Or.inr (by show _ ≤ r.val; omega)),
      View.read_writes_cons_rows_of_not_mem _ _ _ _ _ (ix2 r l) o1 (W := 8) rfl (Or.inr (by show _ ≤ r.val; omega)),
      View.read_writes_cons_rows_of_not_mem _ _ _ _ _ (ix2 r l) o0 (W := 8) rfl (Or.inr (by show _ ≤ r.val; omega)), View.writes_nil, ← hf]
    exact ih.todo r (by omega)

/-- Before trip `n` the rows above are done, the others as they were. -/
theorem held (l : Fin 512) (hc : ∀ r, Coef (colS (arg13.view.read (Elt Ideal) X_arg13) l r)) (h0 : init (ix2 0 l) = 0) : ∀ n, n ≤ 64 →
    Held X_arg13 G_arg14 n l (st_k0_t1 (F := Ideal) 𝒱 c bd i arg2 harg2 arg3 harg3 arg4 harg4 arg5 harg5 arg6 harg6 arg7 harg7 arg8 harg8 arg9 harg9 arg10 harg10 arg11 harg11 arg12 harg12 arg13 harg13 arg14 harg14 rows X_arg13 G_arg14 init n)
  | 0, _ => ⟨h0, fun r hr => absurd hr (Nat.not_lt_zero _), fun _ _ => rfl⟩
  | n + 1, hn => held_succ 𝒱 c bd i arg2 harg2 arg3 harg3 arg4 harg4 arg5 harg5 arg6 harg6 arg7 harg7 arg8 harg8 arg9 harg9 arg10 harg10 arg11 harg11 arg12 harg12 harg13 harg14 X_arg13 ⟨n, hn⟩ G_arg14 init l hc (held l hc h0 n (by omega))

end Trip

end Cert.KernelIdeal.Lru

end
-- ==== Proof.LruRun.lean ====
/- The recurrence's kernel at one point of the grid: what it leaves in its two outputs is the recurrence of the decays and
   inputs it computed from its blocks. -/
module

public import proofs.«01_k».proof.Proof.Gen.KernelIdeal.Value
public import proofs.«01_k».proof.Proof.LruScan

@[expose] public section

set_option maxRecDepth 16384

noncomputable section

open Idealize.ShloMosaic Idealize.ShloMosaic.TcCoe Idealize.ShloMosaic.Tactic Idealize.SL.Sem

namespace Cert.KernelIdeal.Lru

open Cert.KernelIdeal Cert.KernelIdeal.Gen Cert.Lru

/-- A whole store read back is what was stored. -/
theorem read_whole {sp : Space} (v : View sig .tc sp S2048x512 .f32) (f : v.ty.Contents (Elt Ideal))
    (inb : ∀ a, (![0, 0] : Fin 2 → ℕ) a + S2048x512.size a ≤ S2048x512.size a) (w : FVec Ideal S2048x512 .f32) :
    v.read (Elt Ideal) (v.writes (Elt Ideal) f [⟨Rect.unit (s := S2048x512) ![0, 0] S2048x512.size inb, w⟩]) = w := by
  funext j
  rw [eq_ix2 j]
  exact View.read_writes_cons_rows_of_mem _ _ _ _ _ (ix2 (j 0) (j 1)) (ix2 (j 0) (j 1)) rfl (by show (j 0).val = 0 + (j 0).val; omega) rfl

/-- A row of the taps. -/
def tap (k : Fin 4) (w : FVec Ideal S4x512 .f32) : FVec Ideal S1x512 .f32 := fun j => w (ix2 k (j 1))

/-- One head's weights. -/
def head (k : Fin 4) (w : FVec Ideal S4x128x128 .bf16) : FVec Ideal S1x128x128 .bf16 := fun j => w (ix3 k (j 1) (j 2))

section Blocks

variable (x0 : FVec Ideal S2048x512 .f32) (x2 : FVec Ideal S4x512 .f32) (x3 : FVec Ideal S1x512 .f32) (x4 x5 : FVec Ideal S4x128x128 .bf16)
  (x6 x7 x8 : FVec Ideal S1x512 .f32)

/-- The convolution of the block along its rows. -/
def conv : FVec Ideal S2048x512 .f32 := k0_pay41 x0 x3 (tap 3 x2) (tap 2 x2) (tap 1 x2) (tap 0 x2)

/-- The logarithm of the decays. -/
def logA (y : FVec Ideal S2048x512 .f32) : FVec Ideal S2048x512 .f32 :=
  k0_pay57 (k0_pay42 x6) (k0_pay44 x8) (k0_pay46 y (head 0 x4)) (k0_pay49 y (head 1 x4)) (k0_pay52 y (head 2 x4)) (k0_pay54 y) (head 3 x4)

/-- The gate of the input. -/
def gateI (y : FVec Ideal S2048x512 .f32) : FVec Ideal S2048x512 .f32 :=
  k0_pay56 (k0_pay43 x7) (k0_pay47 y (head 0 x5)) (k0_pay50 y (head 1 x5)) (k0_pay53 y (head 2 x5)) (k0_pay54 y) (head 3 x5)

/-- The decays. -/
def decays : FVec Ideal S2048x512 .f32 := k0_pay1 (logA x4 x6 x8 (conv x0 x2 x3))

/-- The inputs of the recurrence. -/
def drives : FVec Ideal S2048x512 .f32 :=
  k0_pay2 (conv x0 x2 x3) (gateI x5 x7 (conv x0 x2 x3)) (tanh (logA x4 x6 x8 (conv x0 x2 x3)))

end Blocks

section Point

variable (c : Dev nD) (i : grid0.Coords) (arg2 : Memref sig .tc .vmem S2048x512 .f32) (harg2 : arg2.IsWhole) (arg3 : Memref sig .tc .vmem S2048x512 .f32) (harg3 : arg3.IsWhole) (arg4 : Memref sig .tc .vmem S4x512 .f32) (harg4 : arg4.IsWhole) (arg5 : Memref sig .tc .vmem S1x512 .f32) (harg5 : arg5.IsWhole) (arg6 : Memref sig .tc .vmem S4x128x128 .bf16) (harg6 : arg6.IsWhole) (arg7 : Memref sig .tc .vmem S4x128x128 .bf16) (harg7 : arg7.IsWhole) (arg8 : Memref sig .tc .vmem S1x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S2048x512 .bf16) (harg11 : arg11.IsWhole) (arg12 : Memref sig .tc .vmem S1x1x512 .f32) (harg12 : arg12.IsWhole) (arg13 : Memref sig .tc .vmem S2048x512 .f32) (harg13 : arg13.IsWhole) (arg14 : Memref sig .tc .vmem S2048x512 .f32) (harg14 : arg14.IsWhole)
    (x0 : Vec Ideal S2048x512 .f32) (x1 : Vec Ideal S2048x512 .f32) (x2 : Vec Ideal S4x512 .f32) (x3 : Vec Ideal S1x512 .f32) (x4 : Vec Ideal S4x128x128 .bf16) (x5 : Vec Ideal S4x128x128 .bf16) (x6 : Vec Ideal S1x512 .f32) (x7 : Vec Ideal S1x512 .f32) (x8 : Vec Ideal S1x512 .f32)

theorem ld_tap (k : Fin 4) (inb) : View.ld (Val := Elt Ideal) (e' := .f32) x2 (Rect.unit (s := S4x512) ![k.val, 0] ![1, 512] inb) = tap k x2 := by
  funext j
  pointwise [tap]

theorem ld_head (w : FVec Ideal S4x128x128 .bf16) (k : Fin 4) (inb) : View.ld (Val := Elt Ideal) (e' := .bf16) w (Rect.unit (s := S4x128x128) ![k.val, 0, 0] ![1, 128, 128] inb) = head k w := by
  funext j
  pointwise [head]

theorem conv_eq : kernelRun0_A.sl.r (F := Ideal) c arg2 harg2 arg4 harg4 arg5 harg5 x0 x2 x3 = conv x0 x2 x3 := by
  unfold kernelRun0_A.sl.r conv
  simp only [View.readAt_eq_ld, harg2.read_unread, harg4.read_unread, harg5.read_unread]
  rw [View.ld_unit_zero (by decide), View.ld_unit_zero (by decide), ← ld_tap x2 3 (by decide), ← ld_tap x2 2 (by decide), ← ld_tap x2 1 (by decide), ← ld_tap x2 0 (by decide)]
  rfl

theorem logA_eq : kernelRun0_A.sl.r_12 (F := Ideal) c arg2 harg2 arg4 harg4 arg5 harg5 arg6 harg6 arg8 harg8 arg10 harg10 x0 x2 x3 x4 x6 x8 = logA x4 x6 x8 (conv x0 x2 x3) := by
  unfold kernelRun0_A.sl.r_12 kernelRun0_A.sl.r_1 kernelRun0_A.sl.r_3 kernelRun0_A.sl.r_4 kernelRun0_A.sl.r_6 kernelRun0_A.sl.r_8 kernelRun0_A.sl.r_10 logA
  rw [conv_eq]
  simp only [View.readAt_eq_ld, harg6.read_unread, harg8.read_unread, harg10.read_unread]
  rw [View.ld_unit_zero (by decide), View.ld_unit_zero (by decide), ← ld_head x4 3 (by decide), ← ld_head x4 2 (by decide), ← ld_head x4 1 (by decide), ← ld_head x4 0 (by decide)]
  rfl

theorem gateI_eq : kernelRun0_A.sl.r_11 (F := Ideal) c arg2 harg2 arg4 harg4 arg5 harg5 arg7 harg7 arg9 harg9 x0 x2 x3 x5 x7 = gateI x5 x7 (conv x0 x2 x3) := by
  unfold kernelRun0_A.sl.r_11 kernelRun0_A.sl.r_2 kernelRun0_A.sl.r_5 kernelRun0_A.sl.r_7 kernelRun0_A.sl.r_9 kernelRun0_A.sl.r_10 gateI
  rw [conv_eq]
  simp only [View.readAt_eq_ld, harg7.read_unread, harg9.read_unread]
  rw [View.ld_unit_zero (by decide), ← ld_head x5 3 (by decide), ← ld_head x5 2 (by decide), ← ld_head x5 1 (by decide), ← ld_head x5 0 (by decide)]
  rfl

theorem tanh_eq : kernelRun0_A.sl.r_13 (F := Ideal) c arg2 harg2 arg4 harg4 arg5 harg5 arg6 harg6 arg8 harg8 arg10 harg10 x0 x2 x3 x4 x6 x8 = tanh (logA x4 x6 x8 (conv x0 x2 x3)) := by
  rw [← logA_eq c arg2 harg2 arg4 harg4 arg5 harg5 arg6 harg6 arg8 harg8 arg10 harg10]
  rfl

/-- What the two scratches hold when the recurrence starts. -/
theorem scratchA (f : arg13.view.ty.Contents (Elt Ideal)) : arg13.view.read (Elt Ideal) (arg13.view.writes (Elt Ideal) f
    (kernelRun0_A.sl.HS0_1 (F := Ideal) c arg2 harg2 arg4 harg4 arg5 harg5 arg6 harg6 arg8 harg8 arg10 harg10 x0 x2 x3 x4 x6 x8))
    = decays x0 x2 x3 x4 x6 x8 := by
  unfold kernelRun0_A.sl.HS0_1 decays
  rw [logA_eq]
  exact read_whole _ _ _ _

theorem scratchU (f : arg14.view.ty.Contents (Elt Ideal)) : arg14.view.read (Elt Ideal) (arg14.view.writes (Elt Ideal) f
    (kernelRun0_A.sl.HS1_1 (F := Ideal) c arg2 harg2 arg4 harg4 arg5 harg5 arg6 harg6 arg7 harg7 arg8 harg8 arg9 harg9 arg10 harg10 x0 x2 x3 x4 x5 x6 x7 x8))
    = drives x0 x2 x3 x4 x5 x6 x7 x8 := by
  unfold kernelRun0_A.sl.HS1_1 drives
  rw [conv_eq, gateI_eq, tanh_eq]
  exact read_whole _ _ _ _

/-- The state and the stored rows after the last trip. -/
theorem final (l : Fin 512) (hc : ∀ r, Coef (colS (decays x0 x2 x3 x4 x6 x8) l r)) :
    Held (arg13.view.writes (Elt Ideal) arg13.view.junk (kernelRun0_A.sl.HS0_1 (F := Ideal) c arg2 harg2 arg4 harg4 arg5 harg5 arg6 harg6 arg8 harg8 arg10 harg10 x0 x2 x3 x4 x6 x8))
      (arg14.view.writes (Elt Ideal) arg14.view.junk (kernelRun0_A.sl.HS1_1 (F := Ideal) c arg2 harg2 arg4 harg4 arg5 harg5 arg6 harg6 arg7 harg7 arg8 harg8 arg9 harg9 arg10 harg10 x0 x2 x3 x4 x5 x6 x7 x8)) 64 l
      (st_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 rows
        (arg13.view.writes (Elt Ideal) arg13.view.junk (kernelRun0_A.sl.HS0_1 (F := Ideal) c arg2 harg2 arg4 harg4 arg5 harg5 arg6 harg6 arg8 harg8 arg10 harg10 x0 x2 x3 x4 x6 x8))
        (arg14.view.writes (Elt Ideal) arg14.view.junk (kernelRun0_A.sl.HS1_1 (F := Ideal) c arg2 harg2 arg4 harg4 arg5 harg5 arg6 harg6 arg7 harg7 arg8 harg8 arg9 harg9 arg10 harg10 x0 x2 x3 x4 x5 x6 x7 x8)) k0_pay3 64) :=
  held Variants.none c none i arg2 harg2 arg3 harg3 arg4 harg4 arg5 harg5 arg6 harg6 arg7 harg7 arg8 harg8 arg9 harg9 arg10 harg10 arg11 harg11 arg12 harg12 harg13 harg14 _ _ k0_pay3 l (by rw [scratchA]; exact hc) (by pointwise [k0_pay3]) 64 (le_refl _)

/-- The stored block: the states gated. -/
theorem out9 (r : Fin 2048) (l : Fin 512) (hc : ∀ r, Coef (colS (decays x0 x2 x3 x4 x6 x8) l r)) :
    out0_A_9 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix2 r l)
      = go (colS (decays x0 x2 x3 x4 x6 x8) l) (colS (drives x0 x2 x3 x4 x5 x6 x7 x8) l) 0 (r.val + 1) * x1 (ix2 r l) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  rw [View.canon_unit_zero (by decide)]
  simp only [View.readAt_eq_ld, harg3.read_unread]
  rw [View.ld_unit_zero (by decide)]
  have h := final c i arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 x8 l hc
  have e := h.done r (by have := r.isLt; omega)
  rw [scratchA, scratchU] at e
  pointwise [k0_pay9]
  rw [← e]
  refine congrArg (fun z : EReal => z * x1 (ix2 r l)) ?_
  unfold kernelRun0_A.sl.v131
  rw [← View.writes_append]
  show View.readAt (Elt Ideal) _ _ _ _ = _
  rw [View.readAt_eq_ld, View.ld_unit_zero (by decide)]
  rfl

/-- The stored last state. -/
theorem out10 (l : Fin 512) (hc : ∀ r, Coef (colS (decays x0 x2 x3 x4 x6 x8) l r)) :
    out0_A_10 (F := Ideal) c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 (ix3 0 0 l)
      = go (colS (decays x0 x2 x3 x4 x6 x8) l) (colS (drives x0 x2 x3 x4 x5 x6 x7 x8) l) 0 2048 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8)]
  unfold kernelRun0_A
  dsimp only
  rw [View.canon_unit_zero (by decide)]
  have h := final c i arg2 harg2 arg3 harg3 arg4 harg4 arg5 harg5 arg6 harg6 arg7 harg7 arg8 harg8 arg9 harg9 arg10 harg10 arg11 harg11 arg12 harg12 arg13 harg13 arg14 harg14 x0 x2 x3 x4 x5 x6 x7 x8 l hc
  have e := h.h
  rw [scratchA, scratchU] at e
  pointwise [k0_pay8]
  exact e

end Point

end Cert.KernelIdeal.Lru

end
-- ==== Proof.LruGate.lean ====
/- The gates of the recurrence: what the kernel computes from its blocks is what the reference computes at the block's place. -/
module

public import proofs.«01_k».proof.Proof.LruRun
public import proofs.«01_k».proof.Proof.Gen.ReferenceIdeal.Step
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

namespace Cert.KernelIdeal.Lru

open Cert.KernelIdeal Cert.KernelIdeal.Gen Cert.Lru Cert.ReferenceIdeal.Step

section Gates

variable (a0 : FVec Ideal Cert.ReferenceIdeal.S8192x7168 .f32) (a1 : FVec Ideal Cert.ReferenceIdeal.S4x1024 .f32) (a2 : FVec Ideal Cert.ReferenceIdeal.S1024 .f32) (a3 : FVec Ideal Cert.ReferenceIdeal.S8x128x128 .f32) (a4 : FVec Ideal Cert.ReferenceIdeal.S1024 .f32) (a5 : FVec Ideal Cert.ReferenceIdeal.S8x128x128 .f32) (a6 a7 : FVec Ideal Cert.ReferenceIdeal.S1024 .f32)
  (b : Fin 4) (q : Fin 2)

abbrev chan (q : Fin 2) (l : Fin 512) : Fin 1024 := ⟨512 * q.val + l.val, by omega⟩

/-- The reference's convolution, gate of the input, logarithm of the decay, decay and input. -/
def refY : FVec Ideal Cert.ReferenceIdeal.S4x2048x1024 .f32 := A_main_v33 (F := Ideal) a0 a1 a2 a3 a4 a5 a6 a7
def refI : FVec Ideal Cert.ReferenceIdeal.S4x2048x1024 .f32 := A_main_v58 (F := Ideal) a0 a1 a2 a3 a4 a5 a6 a7
def refL : FVec Ideal Cert.ReferenceIdeal.S4x2048x1024 .f32 := A_main_v65 (F := Ideal) a0 a1 a2 a3 a4 a5 a6 a7

/-- The taps summed from the last to the first, or from the first to the last. -/
theorem shuffle (c p q r s : EReal) : c + p + q + r + s = c + s + r + q + p := by ac_rfl

/-- A comparison of a row's number with a small one. -/
theorem at_least (r : Fin 2048) (k : ℕ) (hk : k < 2048) (x y : EReal) :
    Scalar.select (IntOp.cmpi .sge (BitVec.ofNat 32 r.val) (BitVec.ofNat 32 k)) x y = if k ≤ r.val then x else y := by
  have hr := r.isLt
  have h : IntOp.cmpi .sge (BitVec.ofNat 32 r.val) (BitVec.ofNat 32 k) = 1#1 ↔ k ≤ r.val := by word_cmp
  unfold Scalar.select
  by_cases c : k ≤ r.val
  · rw [if_pos c]; exact if_pos (h.2 c)
  · rw [if_neg c]; exact if_neg (fun e => c (h.1 e))

/-- The convolution at a row and a column of the block. -/
theorem conv_at (x0 : FVec Ideal S2048x512 .f32) (x2 : FVec Ideal S4x512 .f32) (x3 : FVec Ideal S1x512 .f32)
    (h0 : ∀ (r : Fin 2048) (l : Fin 512), x0 (ix2 r l) = a0 (ix2 ⟨b.val * 2048 + r.val, by omega⟩ ⟨5120 + (512 * q.val + l.val), by omega⟩))
    (h2 : ∀ (k : Fin 4) (l : Fin 512), x2 (ix2 k l) = a1 (ix2 k (chan q l)))
    (h3 : ∀ (l : Fin 512), x3 (ix2 0 l) = a2 (ix1 (chan q l)))
    (r : Fin 2048) (l : Fin 512) :
    conv x0 x2 x3 (ix2 r l) = refY a0 a1 a2 a3 a4 a5 a6 a7 (ix3 b r (chan q l)) := by
  pointwise [conv, refY, k0_pay41, tap, A_main_v0, A_main_v1, A_main_v3, A_main_v4, A_main_v5, A_main_v6, A_main_v7, A_main_v8, A_main_v9, A_main_v10, A_main_v11, A_main_v12, A_main_v13, A_main_v14, A_main_v15, A_main_v16, A_main_v17, A_main_v18, A_main_v19, A_main_v20, A_main_v21, A_main_v22, A_main_v23, A_main_v24, A_main_v25, A_main_v26, A_main_v27, A_main_v28, A_main_v29, A_main_v30, A_main_v31, A_main_v32, A_main_v33, K_main_cst, K_main_v2]
  rw [h3, h2, h2, h2, h2, h0]
  have hr := r.isLt
  have e : ∀ (k : ℕ) (hk : k < 2048) (h : (r.val + 2048 - k) % 2048 < 2048) (w : EReal), k ≤ r.val →
      x0 (ix2 (⟨(r.val + 2048 - k) % 2048, h⟩ : Fin 2048) l)
        = a0 (ix2 (⟨b.val * 2048 + (r.val - k), by omega⟩ : Fin 8192) (⟨5120 + (512 * q.val + l.val), by omega⟩ : Fin 7168)) := fun k hk h w hle => by
    rw [h0]
    refine congrArg (fun z : Fin 8192 => a0 (ix2 z _)) (Fin.ext ?_)
    show b.val * 2048 + (r.val + 2048 - k) % 2048 = b.val * 2048 + (r.val - k)
    omega
  have t1 := (at_least r 1 (by decide) (x0 (ix2 ⟨(r.val + 2048 - 1) % 2048, by omega⟩ l) * a1 (ix2 2 (chan q l))) 0)
  have t2 := (at_least r 2 (by decide) (x0 (ix2 ⟨(r.val + 2048 - 2) % 2048, by omega⟩ l) * a1 (ix2 1 (chan q l))) 0)
  have t3 := (at_least r 3 (by decide) (x0 (ix2 ⟨(r.val + 2048 - 3) % 2048, by omega⟩ l) * a1 (ix2 0 (chan q l))) 0)
  refine (congrArg₂ (fun x y : EReal => x + y) (congrArg₂ (fun x y : EReal => x + y) (congrArg (fun y : EReal => _ + y) t1) t2) t3).trans ?_
  have i1 : 1 + r.val - 3 = r.val - 2 := by omega
  have i2 : 2 + r.val - 3 = r.val - 1 := by omega
  simp only [i1, i2]
  by_cases c3 : 3 ≤ r.val
  · simp only [(show ((1 : ℕ) ≤ r.val) = True from eq_true (by omega)), (show ((2 : ℕ) ≤ r.val) = True from eq_true (by omega)), (show ((3 : ℕ) ≤ r.val) = True from eq_true (by omega)), (show (r.val < 3) = False from eq_false (by omega)), (show (1 + r.val < 3) = False from eq_false (by omega)), (show (2 + r.val < 3) = False from eq_false (by omega)), if_true, if_false, dif_pos, dif_neg, not_false_eq_true, ↓reduceIte, ↓reduceDIte, zero_mul]
    rw [e 1 (by decide) _ 0 (by omega)]
    rw [e 2 (by decide) _ 0 (by omega)]
    rw [e 3 (by decide) _ 0 (by omega)]
    exact shuffle _ _ _ _ _
  by_cases c2 : 2 ≤ r.val
  · simp only [(show ((1 : ℕ) ≤ r.val) = True from eq_true (by omega)), (show ((2 : ℕ) ≤ r.val) = True from eq_true (by omega)), (show ((3 : ℕ) ≤ r.val) = False from eq_false (by omega)), (show (r.val < 3) = True from eq_true (by omega)), (show (1 + r.val < 3) = False from eq_false (by omega)), (show (2 + r.val < 3) = False from eq_false (by omega)), if_true, if_false, dif_pos, dif_neg, not_false_eq_true, ↓reduceIte, ↓reduceDIte, zero_mul]
    rw [e 1 (by decide) _ 0 (by omega)]
    rw [e 2 (by decide) _ 0 (by omega)]
    exact shuffle _ _ _ _ _
  by_cases c1 : 1 ≤ r.val
  · simp only [(show ((1 : ℕ) ≤ r.val) = True from eq_true (by omega)), (show ((2 : ℕ) ≤ r.val) = False from eq_false (by omega)), (show ((3 : ℕ) ≤ r.val) = False from eq_false (by omega)), (show (r.val < 3) = True from eq_true (by omega)), (show (1 + r.val < 3) = True from eq_true (by omega)), (show (2 + r.val < 3) = False from eq_false (by omega)), if_true, if_false, dif_pos, dif_neg, not_false_eq_true, ↓reduceIte, ↓reduceDIte, zero_mul]
    rw [e 1 (by decide) _ 0 (by omega)]
    exact shuffle _ _ _ _ _
  · simp only [(show ((1 : ℕ) ≤ r.val) = False from eq_false (by omega)), (show ((2 : ℕ) ≤ r.val) = False from eq_false (by omega)), (show ((3 : ℕ) ≤ r.val) = False from eq_false (by omega)), (show (r.val < 3) = True from eq_true (by omega)), (show (1 + r.val < 3) = True from eq_true (by omega)), (show (2 + r.val < 3) = True from eq_true (by omega)), if_true, if_false, dif_pos, dif_neg, not_false_eq_true, ↓reduceIte, ↓reduceDIte, zero_mul]
    exact shuffle _ _ _ _ _

/-- One column of the four heads' products is the reference's product of the column's head. -/
theorem heads (y : FVec Ideal S2048x512 .f32) (w : FVec Ideal S4x128x128 .bf16) (Y : FVec Ideal Cert.ReferenceIdeal.S4x2048x1024 .f32)
    (hy : ∀ (r : Fin 2048) (l : Fin 512), y (ix2 r l) = Y (ix3 b r (chan q l)))
    (hw : ∀ (k : Fin 4) (i j : Fin 128), w (ix3 k i j) = a3 (ix3 ⟨4 * q.val + k.val, by omega⟩ i j))
    (r : Fin 2048) (l : Fin 512) :
    (if h : l.val < 128 then ∑ x : Fin 128, y (ix2 r ⟨x.val, by omega⟩) * w (ix3 0 x ⟨l.val, by omega⟩)
      else if h : l.val - 128 < 128 then ∑ x : Fin 128, y (ix2 r ⟨128 + x.val, by omega⟩) * w (ix3 1 x ⟨l.val - 128, by omega⟩)
      else if h : l.val - 128 - 128 < 128 then ∑ x : Fin 128, y (ix2 r ⟨256 + x.val, by omega⟩) * w (ix3 2 x ⟨l.val - 128 - 128, by omega⟩)
      else ∑ x : Fin 128, y (ix2 r ⟨384 + x.val, by omega⟩) * w (ix3 3 x ⟨l.val - 128 - 128 - 128, by omega⟩) : EReal)
      = ∑ x : Fin 128, a3 (ix3 ⟨(512 * q.val + l.val) / 128, by omega⟩ x ⟨(512 * q.val + l.val) % 128, by omega⟩)
          * Y (ix3 b r ⟨(512 * q.val + l.val) / 128 * 128 + x.val, by omega⟩) := by
  by_cases h0 : l.val < 128
  · skip
    rw [dif_pos h0]
    refine Finset.sum_congr rfl fun i _ => ?_
    rw [hy, hw, mul_comm]
    refine congrArg₂ (fun x y : EReal => x * y) (congrArg a3 ((ix3_inj ..).2 ⟨Fin.ext ?_, rfl, Fin.ext ?_⟩)) (congrArg Y ((ix3_inj ..).2 ⟨rfl, rfl, Fin.ext ?_⟩))
    · show 4 * q.val + 0 = (512 * q.val + l.val) / 128
      omega
    · show l.val = (512 * q.val + l.val) % 128
      omega
    · show 512 * q.val + (i.val) = (512 * q.val + l.val) / 128 * 128 + i.val
      omega
  by_cases h1 : l.val - 128 < 128
  · skip
    rw [dif_neg h0, dif_pos h1]
    refine Finset.sum_congr rfl fun i _ => ?_
    rw [hy, hw, mul_comm]
    refine congrArg₂ (fun x y : EReal => x * y) (congrArg a3 ((ix3_inj ..).2 ⟨Fin.ext ?_, rfl, Fin.ext ?_⟩)) (congrArg Y ((ix3_inj ..).2 ⟨rfl, rfl, Fin.ext ?_⟩))
    · show 4 * q.val + 1 = (512 * q.val + l.val) / 128
      omega
    · show l.val - 128 = (512 * q.val + l.val) % 128
      omega
    · show 512 * q.val + (128 + i.val) = (512 * q.val + l.val) / 128 * 128 + i.val
      omega
  by_cases h2 : l.val - 128 - 128 < 128
  · skip
    rw [dif_neg h0, dif_neg h1, dif_pos h2]
    refine Finset.sum_congr rfl fun i _ => ?_
    rw [hy, hw, mul_comm]
    refine congrArg₂ (fun x y : EReal => x * y) (congrArg a3 ((ix3_inj ..).2 ⟨Fin.ext ?_, rfl, Fin.ext ?_⟩)) (congrArg Y ((ix3_inj ..).2 ⟨rfl, rfl, Fin.ext ?_⟩))
    · show 4 * q.val + 2 = (512 * q.val + l.val) / 128
      omega
    · show l.val - 128 - 128 = (512 * q.val + l.val) % 128
      omega
    · show 512 * q.val + (256 + i.val) = (512 * q.val + l.val) / 128 * 128 + i.val
      omega
  · skip
    rw [dif_neg h0, dif_neg h1, dif_neg h2]
    refine Finset.sum_congr rfl fun i _ => ?_
    rw [hy, hw, mul_comm]
    refine congrArg₂ (fun x y : EReal => x * y) (congrArg a3 ((ix3_inj ..).2 ⟨Fin.ext ?_, rfl, Fin.ext ?_⟩)) (congrArg Y ((ix3_inj ..).2 ⟨rfl, rfl, Fin.ext ?_⟩))
    · show 4 * q.val + 3 = (512 * q.val + l.val) / 128
      omega
    · show l.val - 128 - 128 - 128 = (512 * q.val + l.val) % 128
      omega
    · show 512 * q.val + (384 + i.val) = (512 * q.val + l.val) / 128 * 128 + i.val
      omega

/-- The logarithm of the decay at a row and a column of the block. -/
theorem logA_at (y : FVec Ideal S2048x512 .f32) (x4 : FVec Ideal S4x128x128 .bf16) (x6 x8 : FVec Ideal S1x512 .f32)
    (hy : ∀ (r : Fin 2048) (l : Fin 512), y (ix2 r l) = refY a0 a1 a2 a3 a4 a5 a6 a7 (ix3 b r (chan q l)))
    (h4 : ∀ (k : Fin 4) (i j : Fin 128), x4 (ix3 k i j) = a3 (ix3 ⟨4 * q.val + k.val, by omega⟩ i j))
    (h6 : ∀ (l : Fin 512), x6 (ix2 0 l) = a4 (ix1 (chan q l)))
    (h8 : ∀ (l : Fin 512), x8 (ix2 0 l) = a7 (ix1 (chan q l)))
    (r : Fin 2048) (l : Fin 512) :
    logA x4 x6 x8 y (ix2 r l) = refL a0 a1 a2 a3 a4 a5 a6 a7 (ix3 b r (chan q l)) := by
  pointwise [logA, head, refL, k0_pay57, k0_pay42, k0_pay44, k0_pay46, k0_pay49, k0_pay52, k0_pay54, k0_pay45, k0_pay48, k0_pay51, k0_pay55, A_main_v34, A_main_v35, A_main_v36, A_main_v37, A_main_v38, A_main_v39, A_main_v40, A_main_v41, A_main_v42, A_main_v44, A_main_v46, A_main_v60, A_main_v61, A_main_call0_v1, A_main_call0_v3, A_main_call0_v4, A_main_call0_v6, A_main_call0_v7, A_main_call0_v8, A_main_call0_v9, A_main_call0_v10, A_main_call0_v11, A_main_v62, A_main_v63, A_main_v64, A_main_v65, K_main_cst, K_main_v2, K_main_cst_0, K_main_v43, K_main_cst_1, K_main_v45, K_main_cst_2, K_main_v55, K_main_cst_3, K_main_v57, K_main_cst_4, K_main_v59, K_main_call0_cst, K_main_call0_v0, K_main_call0_v2, K_main_call0_v5, K_main_cst_5, K_main_v67, K_main_cst_6, K_main_v74, K_main_cst_7, K_main_v77, K_main_c]
  rw [h6, h8, if_neg (not_not.2 rfl), zero_sub, zero_sub, zero_sub]
  refine congrArg₂ (fun x y : EReal => x * y) (congrArg (fun z : EReal => Ideal.ofBits .f32 0xC1000000#32 * Ideal.div 1 (1 + Ideal.exp (-(z + a4 (ix1 (chan q l))))))
    (heads a3 b q y x4 (refY a0 a1 a2 a3 a4 a5 a6 a7) hy h4 r l)) rfl

/-- It is not positive. -/
theorem logA_nonpos (y : FVec Ideal S2048x512 .f32) (x4 : FVec Ideal S4x128x128 .bf16) (x6 x8 : FVec Ideal S1x512 .f32) (r : Fin 2048) (l : Fin 512) :
    logA x4 x6 x8 y (ix2 r l) ≤ 0 := by
  pointwise [logA, k0_pay57, k0_pay42, k0_pay44]
  exact log_decay_nonpos (sigmoid_nonneg _) (softplus_nonneg _ _)

/-- The gate of the input at a row and a column of the block. -/
theorem gateI_at (y : FVec Ideal S2048x512 .f32) (x5 : FVec Ideal S4x128x128 .bf16) (x7 : FVec Ideal S1x512 .f32)
    (hy : ∀ (r : Fin 2048) (l : Fin 512), y (ix2 r l) = refY a0 a1 a2 a3 a4 a5 a6 a7 (ix3 b r (chan q l)))
    (h5 : ∀ (k : Fin 4) (i j : Fin 128), x5 (ix3 k i j) = a5 (ix3 ⟨4 * q.val + k.val, by omega⟩ i j))
    (h7 : ∀ (l : Fin 512), x7 (ix2 0 l) = a6 (ix1 (chan q l)))
    (r : Fin 2048) (l : Fin 512) :
    gateI x5 x7 y (ix2 r l) = refI a0 a1 a2 a3 a4 a5 a6 a7 (ix3 b r (chan q l)) := by
  pointwise [gateI, head, refI, k0_pay56, k0_pay43, k0_pay47, k0_pay50, k0_pay53, k0_pay54, k0_pay45, k0_pay48, k0_pay51, k0_pay55, A_main_v34, A_main_v47, A_main_v48, A_main_v49, A_main_v50, A_main_v51, A_main_v52, A_main_v53, A_main_v54, A_main_v56, A_main_v58, K_main_cst, K_main_v2, K_main_cst_0, K_main_v43, K_main_cst_1, K_main_v45, K_main_cst_2, K_main_v55, K_main_cst_3, K_main_v57, K_main_cst_4, K_main_v59, K_main_call0_cst, K_main_call0_v0, K_main_call0_v2, K_main_call0_v5, K_main_cst_5, K_main_v67, K_main_cst_6, K_main_v74, K_main_cst_7, K_main_v77, K_main_c]
  rw [h7, zero_sub]
  exact congrArg (fun z : EReal => Ideal.div 1 (1 + Ideal.exp (-(z + a6 (ix1 (chan q l))))))
    (heads a5 b q y x5 (refY a0 a1 a2 a3 a4 a5 a6 a7) hy h5 r l)

end Gates

end Cert.KernelIdeal.Lru

end
-- ==== Proof.LruRef.lean ====
/- The reference's recurrence: after its 2048 steps the stored states are the recurrence's states, row by row, and the
   carried state is the last of them. -/
module

public import proofs.«01_k».proof.Proof.Gen.ReferenceIdeal.Run
public import proofs.«01_k».proof.Proof.Gen.ReferenceIdeal.Step
public import proofs.«01_k».proof.Proof.LruMath
public import Idealize.ShloMosaic.Lib.Pipeline.ValueKit
public import Idealize.ShloMosaic.Lib.DynamicIndex
public import Idealize.ShloMosaic.Lib.WordCmp
public import Idealize.ShloMosaic.Lib.StableHlo.Run

@[expose] public section

set_option maxRecDepth 16384

noncomputable section

open Idealize.ShloMosaic Idealize.ShloMosaic.TcCoe Idealize.ShloMosaic.StableHlo Idealize.SL.Sem

namespace Cert.ReferenceIdeal.Lru

open Cert.ReferenceIdeal Cert.ReferenceIdeal.Gen Cert.ReferenceIdeal.Value Cert.ReferenceIdeal.Step Cert.Lru

/-- Column `(b, l)` of an array of 2048 rows, as a sequence (zero past the end). -/
def col (x : FVec Ideal S2048x4x1024 .f32) (b : Fin 4) (l : Fin 1024) (r : ℕ) : EReal :=
  if h : r < 2048 then x (ix3 ⟨r, h⟩ b l) else 0

theorem col_of_lt (x : FVec Ideal S2048x4x1024 .f32) (b : Fin 4) (l : Fin 1024) (r : ℕ) (h : r < 2048) :
    col x b l r = x (ix3 ⟨r, h⟩ b l) := dif_pos h

/-- What the loop carries before step `k`. -/
structure Inv (a u : FVec Ideal S2048x4x1024 .f32) (k : ℕ) (V : Valuation τ sig (Elt Ideal)) : Prop where
  n : V (Proc.devRef .tc main_v78_2) = constantI S_ 32 (BitVec.ofNat 32 k)
  ha : V (Proc.devRef .tc main_v78_0) = a
  hu : V (Proc.devRef .tc main_v78_1) = u
  h : ∀ (b : Fin 4) (l : Fin 1024), (V (Proc.devRef .tc main_v78_3) : FVec Ideal S4x1024 .f32) (ix2 b l) = go (col a b l) (col u b l) 0 k
  hs : ∀ (t : Fin 2048) (b : Fin 4) (l : Fin 1024), t.val < k →
    (V (Proc.devRef .tc main_v78_4) : FVec Ideal S2048x4x1024 .f32) (ix3 t b l) = go (col a b l) (col u b l) 0 (t.val + 1)

theorem fitsRow (k : ℕ) (hk : k < 2048) : S2048x4x1024.Slices ![k, 0, 0] S1x4x1024 :=
  ⟨rfl, fun a => by fin_cases a <;> simp [S2048x4x1024, S1x4x1024] <;> omega⟩

/-- The row a step reads. -/
theorem row (x : FVec Ideal S2048x4x1024 .f32) (k : ℕ) (hk : k < 2048) (st : Fin 3 → Int) (hst : ∀ a, st a = ((![k, 0, 0] a : ℕ) : Int))
    (b : Fin 4) (l : Fin 1024) :
    (shapeCast S4x1024 (Host.dynamicSlice S1x4x1024 x st sliceFits_S2048x4x1024_S1x4x1024) shapeCasts_S1x4x1024_S4x1024) (ix2 b l)
      = x (ix3 ⟨k, hk⟩ b l) := by
  rw [Host.dynamicSlice_eq_extractStridedSlice S1x4x1024 x st ![k, 0, 0] sliceFits_S2048x4x1024_S1x4x1024 (fitsRow k hk) hst]
  pointwise []

theorem starts (k : ℕ) (hk : k < 2048) (a : Fin 3) :
    ((![constantI S_ 32 (BitVec.ofNat 32 k), constantI S_ 32 0#32, constantI S_ 32 0#32] : Fin 3 → (⟨S_, .i32⟩ : BufTy).Contents (Elt Ideal)) a
      (Shape.Idx.first h_S_)).toInt = ((![k, 0, 0] a : ℕ) : Int) := by
  fin_cases a
  · exact toInt_ofNat_of_lt (by omega)
  · rfl
  · rfl

theorem step_h {a u : FVec Ideal S2048x4x1024 .f32} {k : ℕ} {V : Valuation τ sig (Elt Ideal)} (hk : k < 2048) (h : Inv a u k V)
    (b : Fin 4) (l : Fin 1024) : (res_main_while0b_v89 V : FVec Ideal S4x1024 .f32) (ix2 b l) = go (col a b l) (col u b l) 0 (k + 1) := by
  unfold res_main_while0b_v89
  rw [h.n, h.ha, h.hu]
  refine congrArg₂ (fun x y : EReal => x + y) (congrArg₂ (fun x y : EReal => x * y) ?_ (h.h b l)) ?_
  · exact (row a k hk _ (starts k hk) b l).trans (col_of_lt a b l k hk).symm
  · exact (row u k hk _ (starts k hk) b l).trans (col_of_lt u b l k hk).symm

theorem step {a u : FVec Ideal S2048x4x1024 .f32} {k : ℕ} {V : Valuation τ sig (Elt Ideal)} (hk : k < 2048) (h : Inv a u k V) :
    Inv a u (k + 1) (STEP V) where
  n := by
    rw [STEP_main_v78_2]
    unfold Value.step_main_v78_2
    rw [h.n]
    funext i
    show BitVec.ofNat 32 k + 1#32 = BitVec.ofNat 32 (k + 1)
    simp only [BitVec.ofNat_add]
  ha := (STEP_main_v78_0 V).trans h.ha
  hu := (STEP_main_v78_1 V).trans h.hu
  h b l := by
    rw [STEP_main_v78_3]
    exact step_h hk h b l
  hs t b l ht := by
    rw [STEP_main_v78_4]
    unfold Value.step_main_v78_4
    rw [h.n]
    refine (congrFun (WordCmp.dynamicUpdateSlice_eq_update _ _ _ _ ![k, 0, 0] (fitsRow k hk) (starts k hk)) _).trans ?_
    unfold updateSlice
    by_cases e : t.val = k
    · rw [dif_pos (fun d => by
        have hb := b.isLt
        have hl := l.isLt
        fin_cases d
        · exact ⟨e.ge, by show t.val < k + 1; omega⟩
        · exact ⟨Nat.zero_le _, by show b.val < 0 + 4; omega⟩
        · exact ⟨Nat.zero_le _, by show l.val < 0 + 1024; omega⟩)]
      refine Eq.trans ?_ ((step_h hk h b l).trans (congrArg (fun r => go (col a b l) (col u b l) 0 (r + 1)) e.symm))
      pointwise []
    · rw [dif_neg (fun hd => by
        have h0 := (hd 0).1
        have h1 : k ≤ t.val := h0
        omega)]
      exact h.hs t b l (by omega)

theorem iter {a u : FVec Ideal S2048x4x1024 .f32} {V : Valuation τ sig (Elt Ideal)} (h : Inv a u 0 V) :
    ∀ k, k ≤ 2048 → Inv a u k (STEP^[k] V)
  | 0, _ => h
  | k + 1, hk => by
    rw [Function.iterate_succ_apply']
    exact step (by omega) (iter h k (by omega))

variable (m : (ℓ : Loc nD τ sig) → Buf (Elt Ideal) ℓ)

/-- The coefficients and the inputs of the recurrence, of the arguments. -/
abbrev coefs (c : Dev nD) : FVec Ideal S2048x4x1024 .f32 :=
  A_main_v75 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
abbrev inputs (c : Dev nD) : FVec Ideal S2048x4x1024 .f32 :=
  A_main_v76 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

set_option maxHeartbeats 4000000 in
theorem entry_a (c : Dev nD) : entryContents preI m c (Proc.devRef .tc main_v78_0) = coefs m c := by
  simp only [entryContents, afterL_cons, afterL_nil]
  after_reads_simp
  rfl

set_option maxHeartbeats 4000000 in
theorem entry_u (c : Dev nD) : entryContents preI m c (Proc.devRef .tc main_v78_1) = inputs m c := by
  simp only [entryContents, afterL_cons, afterL_nil]
  after_reads_simp
  rfl

set_option maxHeartbeats 4000000 in
theorem entry_n (c : Dev nD) : entryContents preI m c (Proc.devRef .tc main_v78_2) = constantI S_ 32 (BitVec.ofNat 32 0) := by
  simp only [entryContents, afterL_cons, afterL_nil]
  after_reads_simp
  rfl

set_option maxHeartbeats 4000000 in
theorem entry_h (c : Dev nD) : entryContents preI m c (Proc.devRef .tc main_v78_3) = (K_main_v74 (F := Ideal)) := by
  simp only [entryContents, afterL_cons, afterL_nil]
  after_reads_simp
  rfl

theorem last (c : Dev nD) : Inv (coefs m c) (inputs m c) 2048 (STEP^[2048] (entryContents preI m c)) :=
  iter ⟨entry_n m c, entry_a m c, entry_u m c, fun b l => by
    rw [entry_h]
    pointwise [K_main_v74, K_main_cst_6]
    simp [go], fun t b l ht => absurd ht (Nat.not_lt_zero _)⟩ 2048 (le_refl _)

end Cert.ReferenceIdeal.Lru

end
-- ==== Proof.LruValue.lean ====
/- The recurrence: the two arrays the kernel leaves are the recurrence's gated states and its last states, of the
   coefficients and inputs the reference computes. -/
module

public import proofs.«01_k».proof.Proof.LruGate
public import proofs.«01_k».proof.Proof.LruRef

@[expose] public section

set_option maxRecDepth 16384

noncomputable section

open Idealize.ShloMosaic Idealize.ShloMosaic.TcCoe Idealize.ShloMosaic.StableHlo Idealize.SL.Sem

namespace Cert.KernelIdeal.Lru

open Cert.KernelIdeal Cert.KernelIdeal.Gen Cert.Lru Cert.ReferenceIdeal.Step

section Args

variable (a0 : FVec Ideal Cert.ReferenceIdeal.S8192x7168 .f32) (a1 : FVec Ideal Cert.ReferenceIdeal.S4x1024 .f32) (a2 : FVec Ideal Cert.ReferenceIdeal.S1024 .f32) (a3 : FVec Ideal Cert.ReferenceIdeal.S8x128x128 .f32) (a4 : FVec Ideal Cert.ReferenceIdeal.S1024 .f32) (a5 : FVec Ideal Cert.ReferenceIdeal.S8x128x128 .f32) (a6 a7 : FVec Ideal Cert.ReferenceIdeal.S1024 .f32)

/-- The reference's coefficients and inputs, row by row. -/
def refA : FVec Ideal Cert.ReferenceIdeal.S2048x4x1024 .f32 := A_main_v75 (F := Ideal) a0 a1 a2 a3 a4 a5 a6 a7
def refU : FVec Ideal Cert.ReferenceIdeal.S2048x4x1024 .f32 := A_main_v76 (F := Ideal) a0 a1 a2 a3 a4 a5 a6 a7

theorem refA_at (r : Fin 2048) (b : Fin 4) (l : Fin 1024) :
    refA a0 a1 a2 a3 a4 a5 a6 a7 (ix3 r b l) = Ideal.exp (refL a0 a1 a2 a3 a4 a5 a6 a7 (ix3 b r l)) := by
  pointwise [refA, refL, A_main_v75, A_main_v66]

theorem refU_at (r : Fin 2048) (b : Fin 4) (l : Fin 1024) :
    refU a0 a1 a2 a3 a4 a5 a6 a7 (ix3 r b l)
      = Ideal.sqrt (-(Ideal.exp (Ideal.ofBits .f32 0x40000000#32 * refL a0 a1 a2 a3 a4 a5 a6 a7 (ix3 b r l)) - 1))
        * (refI a0 a1 a2 a3 a4 a5 a6 a7 (ix3 b r l) * refY a0 a1 a2 a3 a4 a5 a6 a7 (ix3 b r l)) := by
  pointwise [refU, refL, refI, refY, A_main_v76, A_main_v73, A_main_v72, A_main_v71, A_main_v70, A_main_v69, A_main_v68, K_main_v67, K_main_cst_5]

/-- The gated states. -/
def states : FVec Ideal S8192x1024 .bf16 := fun j =>
  go (Cert.ReferenceIdeal.Lru.col (refA a0 a1 a2 a3 a4 a5 a6 a7) ⟨(j 0).val / 2048, by have : (j 0).val < 8192 := (j 0).isLt; omega⟩ (j 1))
    (Cert.ReferenceIdeal.Lru.col (refU a0 a1 a2 a3 a4 a5 a6 a7) ⟨(j 0).val / 2048, by have : (j 0).val < 8192 := (j 0).isLt; omega⟩ (j 1)) 0 ((j 0).val % 2048 + 1)
    * a0 (ix2 (j 0) ⟨6144 + (j 1).val, by have : (j 1).val < 1024 := (j 1).isLt; omega⟩)

/-- The last states. -/
def lasts : FVec Ideal S4x1x1024 .f32 := fun j =>
  go (Cert.ReferenceIdeal.Lru.col (refA a0 a1 a2 a3 a4 a5 a6 a7) (j 0) (j 2))
    (Cert.ReferenceIdeal.Lru.col (refU a0 a1 a2 a3 a4 a5 a6 a7) (j 0) (j 2)) 0 2048

end Args

variable (m : (ℓ : Loc nD τ sig) → Buf (Elt Ideal) ℓ)

/-- Where each window's block lies at a point: batch `t / 2`, half `t % 2` of the channels. -/
theorem tiles : ∀ t : Fin cfg0.N, win0_0.index t = ![t.val / 2, 10 + t.val % 2] ∧ win0_1.index t = ![t.val / 2, 12 + t.val % 2]
    ∧ win0_2.index t = ![0, t.val % 2] ∧ win0_3.index t = ![0, t.val % 2] ∧ win0_4.index t = ![t.val % 2, 0, 0]
    ∧ win0_5.index t = ![t.val % 2, 0, 0] ∧ win0_6.index t = ![0, t.val % 2] ∧ win0_7.index t = ![0, t.val % 2]
    ∧ win0_8.index t = ![0, t.val % 2] ∧ win0_9.index t = ![t.val / 2, t.val % 2] ∧ win0_10.index t = ![t.val / 2, 0, t.val % 2] :=
  (by decide +kernel : ∀ t : Fin grid0.N, _)

section Blocks

variable (c : Dev nD) (t : Fin cfg0.N)

theorem lt8 : t.val < 8 := by have h := t.isLt; have e : cfg0.N = 8 := N_0; omega

abbrev bat : Fin 4 := ⟨t.val / 2, by have := lt8 t; omega⟩
abbrev half : Fin 2 := ⟨t.val % 2, by omega⟩

theorem b0 (r : Fin 2048) (l : Fin 512) : (iblk m c 0 t : FVec Ideal S2048x512 .f32) (ix2 r l)
    = (m ((c : Thread nD τ).loc main_arg0) : FVec Ideal S8192x7168 .f32) (ix2 ⟨(bat t).val * 2048 + r.val, by have := lt8 t; omega⟩ ⟨5120 + (512 * (half t).val + l.val), by omega⟩) := by
  blk_point [iblk, V, tiles t]

theorem b1 (r : Fin 2048) (l : Fin 512) : (iblk m c 1 t : FVec Ideal S2048x512 .f32) (ix2 r l)
    = (m ((c : Thread nD τ).loc main_arg0) : FVec Ideal S8192x7168 .f32) (ix2 ⟨(bat t).val * 2048 + r.val, by have := lt8 t; omega⟩ ⟨6144 + (512 * (half t).val + l.val), by omega⟩) := by
  blk_point [iblk, V, tiles t]

theorem b2 (k : Fin 4) (l : Fin 512) : (iblk m c 2 t : FVec Ideal S4x512 .f32) (ix2 k l)
    = (m ((c : Thread nD τ).loc main_arg1) : FVec Ideal S4x1024 .f32) (ix2 k (chan (half t) l)) := by
  blk_point [iblk, V, tiles t]

theorem b3 (l : Fin 512) : (iblk m c 3 t : FVec Ideal S1x512 .f32) (ix2 0 l)
    = (m ((c : Thread nD τ).loc main_arg2) : FVec Ideal S1024 .f32) (ix1 (chan (half t) l)) := by
  blk_point [iblk, V, tiles t]

theorem b6 (l : Fin 512) : (iblk m c 6 t : FVec Ideal S1x512 .f32) (ix2 0 l)
    = (m ((c : Thread nD τ).loc main_arg4) : FVec Ideal S1024 .f32) (ix1 (chan (half t) l)) := by
  blk_point [iblk, V, tiles t]

theorem b7 (l : Fin 512) : (iblk m c 7 t : FVec Ideal S1x512 .f32) (ix2 0 l)
    = (m ((c : Thread nD τ).loc main_arg6) : FVec Ideal S1024 .f32) (ix1 (chan (half t) l)) := by
  blk_point [iblk, V, tiles t]

theorem b8 (l : Fin 512) : (iblk m c 8 t : FVec Ideal S1x512 .f32) (ix2 0 l)
    = (m ((c : Thread nD τ).loc main_arg7) : FVec Ideal S1024 .f32) (ix1 (chan (half t) l)) := by
  blk_point [iblk, V, tiles t]

theorem b4 (k : Fin 4) (i j : Fin 128) : (iblk m c 4 t : FVec Ideal S4x128x128 .bf16) (ix3 k i j)
    = (m ((c : Thread nD τ).loc main_arg3) : FVec Ideal S8x128x128 .f32) (ix3 ⟨4 * (half t).val + k.val, by omega⟩ i j) := by
  blk_point [iblk, V, tiles t]

theorem b5 (k : Fin 4) (i j : Fin 128) : (iblk m c 5 t : FVec Ideal S4x128x128 .bf16) (ix3 k i j)
    = (m ((c : Thread nD τ).loc main_arg5) : FVec Ideal S8x128x128 .f32) (ix3 ⟨4 * (half t).val + k.val, by omega⟩ i j) := by
  blk_point [iblk, V, tiles t]

/-- The convolution, the logarithm of the decay and the gate of the point's blocks. -/
theorem conv_blk (r : Fin 2048) (l : Fin 512) : conv (iblk m c 0 t) (iblk m c 2 t) (iblk m c 3 t) (ix2 r l)
    = refY (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (bat t) r (chan (half t) l)) :=
  conv_at _ _ _ _ _ _ _ _ (bat t) (half t) _ _ _ (b0 m c t) (b2 m c t) (b3 m c t) r l

theorem logA_blk (r : Fin 2048) (l : Fin 512) : logA (iblk m c 4 t) (iblk m c 6 t) (iblk m c 8 t) (conv (iblk m c 0 t) (iblk m c 2 t) (iblk m c 3 t)) (ix2 r l)
    = refL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (bat t) r (chan (half t) l)) :=
  logA_at _ _ _ _ _ _ _ _ (bat t) (half t) _ _ _ _ (conv_blk m c t) (b4 m c t) (b6 m c t) (b8 m c t) r l

theorem gateI_blk (r : Fin 2048) (l : Fin 512) : gateI (iblk m c 5 t) (iblk m c 7 t) (conv (iblk m c 0 t) (iblk m c 2 t) (iblk m c 3 t)) (ix2 r l)
    = refI (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 (bat t) r (chan (half t) l)) :=
  gateI_at _ _ _ _ _ _ _ _ (bat t) (half t) _ _ _ (conv_blk m c t) (b5 m c t) (b7 m c t) r l

/-- The decays and inputs of the point's blocks are the reference's coefficients and inputs. -/
theorem decays_blk (r : Fin 2048) (l : Fin 512) : decays (iblk m c 0 t) (iblk m c 2 t) (iblk m c 3 t) (iblk m c 4 t) (iblk m c 6 t) (iblk m c 8 t) (ix2 r l)
    = refA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 r (bat t) (chan (half t) l)) := by
  rw [refA_at, ← logA_blk]
  pointwise [decays, k0_pay1]

theorem drives_blk (r : Fin 2048) (l : Fin 512) : drives (iblk m c 0 t) (iblk m c 2 t) (iblk m c 3 t) (iblk m c 4 t) (iblk m c 5 t) (iblk m c 6 t) (iblk m c 7 t) (iblk m c 8 t) (ix2 r l)
    = refU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (ix3 r (bat t) (chan (half t) l)) := by
  rw [refU_at, ← logA_blk, ← gateI_blk, ← conv_blk, ← tanh_expm1 (logA_nonpos _ _ _ _ _ _)]
  pointwise [drives, k0_pay2]

theorem colA (l : Fin 512) : colS (decays (iblk m c 0 t) (iblk m c 2 t) (iblk m c 3 t) (iblk m c 4 t) (iblk m c 6 t) (iblk m c 8 t)) l = Cert.ReferenceIdeal.Lru.col (refA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (bat t) (chan (half t) l) := by
  funext r
  unfold colS Cert.ReferenceIdeal.Lru.col
  by_cases h : r < 2048
  · rw [dif_pos h, dif_pos h]; exact decays_blk m c t ⟨r, h⟩ l
  · rw [dif_neg h, dif_neg h]

theorem colU (l : Fin 512) : colS (drives (iblk m c 0 t) (iblk m c 2 t) (iblk m c 3 t) (iblk m c 4 t) (iblk m c 5 t) (iblk m c 6 t) (iblk m c 7 t) (iblk m c 8 t)) l = Cert.ReferenceIdeal.Lru.col (refU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (bat t) (chan (half t) l) := by
  funext r
  unfold colS Cert.ReferenceIdeal.Lru.col
  by_cases h : r < 2048
  · rw [dif_pos h, dif_pos h]; exact drives_blk m c t ⟨r, h⟩ l
  · rw [dif_neg h, dif_neg h]

/-- The decays are coefficients: exponentials of what is not positive. -/
theorem decays_coef (x0 : FVec Ideal S2048x512 .f32) (x2 : FVec Ideal S4x512 .f32) (x3 : FVec Ideal S1x512 .f32) (x4 : FVec Ideal S4x128x128 .bf16)
    (x6 x8 : FVec Ideal S1x512 .f32) (l : Fin 512) (r : ℕ) : Coef (colS (decays x0 x2 x3 x4 x6 x8) l r) := by
  unfold colS
  by_cases h : r < 2048
  · rw [dif_pos h]
    have e := exp_coef (logA_nonpos (conv x0 x2 x3) x4 x6 x8 ⟨r, h⟩ l)
    have w : decays x0 x2 x3 x4 x6 x8 (ix2 ⟨r, h⟩ l) = Ideal.exp (logA x4 x6 x8 (conv x0 x2 x3) (ix2 ⟨r, h⟩ l)) := by
      pointwise [decays, k0_pay1]
    rw [w]; exact e
  · rw [dif_neg h]; exact Coef.zero

theorem out9_blk (r : Fin 2048) (l : Fin 512) : ((outsAt0 m c t).1 : FVec Ideal S2048x512 .bf16) (ix2 r l)
    = go (Cert.ReferenceIdeal.Lru.col (refA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (bat t) (chan (half t) l)) (Cert.ReferenceIdeal.Lru.col (refU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (bat t) (chan (half t) l)) 0 (r.val + 1)
      * (m ((c : Thread nD τ).loc main_arg0) : FVec Ideal S8192x7168 .f32) (ix2 ⟨(bat t).val * 2048 + r.val, by have := lt8 t; omega⟩ ⟨6144 + (512 * (half t).val + l.val), by omega⟩) := by
  have h := out9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) r l (decays_coef (iblk m c 0 t) (iblk m c 2 t) (iblk m c 3 t) (iblk m c 4 t) (iblk m c 6 t) (iblk m c 8 t) l)
  rw [b1 m c t, colA m c t, colU m c t] at h
  unfold outsAt0
  dsimp only
  exact h

theorem out10_blk (l : Fin 512) : ((outsAt0 m c t).2 : FVec Ideal S1x1x512 .f32) (ix3 0 0 l)
    = go (Cert.ReferenceIdeal.Lru.col (refA (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (bat t) (chan (half t) l)) (Cert.ReferenceIdeal.Lru.col (refU (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (bat t) (chan (half t) l)) 0 2048 := by
  have h := out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) l (decays_coef (iblk m c 0 t) (iblk m c 2 t) (iblk m c 3 t) (iblk m c 4 t) (iblk m c 6 t) (iblk m c 8 t) l)
  rw [colA m c t, colU m c t] at h
  unfold outsAt0
  dsimp only
  exact h

end Blocks

/-- The first output: the gated states. -/
theorem result (c : Dev nD) : (dats m 0 c).arrAt 9 (cfgs 0).N = states (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 9 _ (by decide +kernel) fun t _ y => ?_
  blk_simp
  rw [after0_9]
  obtain ⟨r, l, rfl⟩ : ∃ (r : Fin 2048) (l : Fin 512), y = ix2 r l := ⟨y 0, y 1, eq_ix2 y⟩
  have hr : (bat t).val * 2048 + r.val < 8192 := by have := lt8 t; omega
  have e : (win0_9.blk t).view.emb (ix2 r l) = ix2 (⟨(bat t).val * 2048 + r.val, hr⟩ : Fin 8192) (chan (half t) l) := by
    blk_ext [tiles t]
  rw [e]
  refine (out9_blk m c t r l).trans ?_
  have e1 : (⟨((bat t).val * 2048 + r.val) / 2048, by omega⟩ : Fin 4) = bat t := Fin.ext (by show ((bat t).val * 2048 + r.val) / 2048 = (bat t).val; omega)
  have e2 : ((bat t).val * 2048 + r.val) % 2048 = r.val := by omega
  unfold states
  simp only [ix2_0, ix2_1, e1, e2]

/-- The second output: the last states. -/
theorem resultS (c : Dev nD) : (dats m 0 c).arrAt 10 (cfgs 0).N = lasts (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 10 _ (by decide +kernel) fun t _ y => ?_
  blk_simp
  rw [after0_10]
  obtain ⟨l, rfl⟩ : ∃ (l : Fin 512), y = ix3 (0 : Fin 1) (0 : Fin 1) l := ⟨y 2, by
    funext k; fin_cases k; exacts [Subsingleton.elim (α := Fin 1) _ _, Subsingleton.elim (α := Fin 1) _ _, rfl]⟩
  have e : (win0_10.blk t).view.emb (ix3 0 0 l) = ix3 (bat t) (0 : Fin 1) (chan (half t) l) := by
    blk_ext [tiles t]
  rw [e]
  exact out10_blk m c t l

end Cert.KernelIdeal.Lru

namespace Cert.ReferenceIdeal.Lru

open Cert.ReferenceIdeal Cert.ReferenceIdeal.Gen Cert.ReferenceIdeal.Value Cert.ReferenceIdeal.Step Cert.Lru

variable (m : (ℓ : Loc nD τ sig) → Buf (Elt Ideal) ℓ)

/-- The reference's results are the same. -/
theorem out84 (c : Dev nD) : out_main_v84 (STEP^[2048] (entryContents preI m c)) = Cert.KernelIdeal.Lru.states (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h := last m c
  have h0 := iter_main_arg0 m c 2048
  generalize STEP^[2048] (entryContents preI m c) = W at h h0
  funext j
  unfold out_main_v84
  rw [h0]
  pointwise [Cert.KernelIdeal.Lru.states]
  have e := h.hs ⟨(j 0).val % 2048, Nat.mod_lt _ (by decide)⟩ ⟨(j 0).val / 2048, by have : (j 0).val < 8192 := (j 0).isLt; omega⟩ (j 1) (Nat.mod_lt _ (by decide))
  exact congrArg (fun x : EReal => x * (m (c.tc.loc main_arg0) : FVec Ideal S8192x7168 .f32) (ix2 (j 0) ⟨6144 + (j 1).val, by have : (j 1).val < 1024 := (j 1).isLt; omega⟩)) e

theorem out85 (c : Dev nD) : out_main_v85 (STEP^[2048] (entryContents preI m c)) = Cert.KernelIdeal.Lru.lasts (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  have h := last m c
  generalize STEP^[2048] (entryContents preI m c) = W at h
  funext j
  unfold out_main_v85
  pointwise [Cert.KernelIdeal.Lru.lasts]
  exact h.h (j 0) (j 2)

end Cert.ReferenceIdeal.Lru

end
-- ==== Proof.Twins.lean ====
/- The frames of the calls as they are: each has the text of its idealized call, so the one run serves both. -/
module

public import proofs.«01_k».proof.Defs
public import proofs.«01_k».proof.Proof.GmRun
public import proofs.«01_k».proof.Proof.Gen.Kernel4.Frame
public import proofs.«01_k».proof.Proof.MidRun
public import proofs.«01_k».proof.Proof.Gen.Kernel5.Frame
public import proofs.«01_k».proof.Proof.QRun
public import proofs.«01_k».proof.Proof.Gen.Kernel7.Frame
public import proofs.«01_k».proof.Proof.GnRun
public import proofs.«01_k».proof.Proof.Gen.Kernel11.Frame
public import proofs.«01_k».proof.Proof.KvRun
public import proofs.«01_k».proof.Proof.Gen.Kernel8.Frame

@[expose] public section

set_option maxRecDepth 65536

open Idealize.ShloMosaic Idealize.ShloMosaic.TcCoe Idealize.SL.Sem

namespace Cert.Twins

set_option maxHeartbeats 4000000 in
/-- The two programs' tables of bodies are the same. -/
theorem bodies4 : Cert.Kernel4.defs₀ (F := Bits) = Cert.Kernel4Ideal.defs₀ (F := Bits) := by
  unfold Cert.Kernel4.defs₀ Cert.Kernel4Ideal.defs₀
  refine congrArg Defs.onTc ?_
  funext x y
  match x, y with
  | 0, (t, s) => rfl

theorem defs4 : Cert.Kernel4.defs (F := Bits) = Cert.Kernel4Ideal.defs (F := Bits) :=
  congrArg (Pipeline.defs (Cert.Kernel4Ideal.pcfgs (F := Bits))) bodies4

theorem frame4 : Cert.quiescent_Kernel4 := fun m ρ _ => by
  rw [defs4]
  exact Cert.Kernel4Ideal.Run.frame (F := Bits) m ρ

set_option maxHeartbeats 4000000 in
/-- The two programs' tables of bodies are the same. -/
theorem bodies5 : Cert.Kernel5.defs₀ (F := Bits) = Cert.Kernel5Ideal.defs₀ (F := Bits) := by
  unfold Cert.Kernel5.defs₀ Cert.Kernel5Ideal.defs₀
  refine congrArg Defs.onTc ?_
  funext x y
  match x, y with
  | 0, (t, s) => rfl

theorem defs5 : Cert.Kernel5.defs (F := Bits) = Cert.Kernel5Ideal.defs (F := Bits) :=
  congrArg (Pipeline.defs (Cert.Kernel5Ideal.pcfgs (F := Bits))) bodies5

theorem frame5 : Cert.quiescent_Kernel5 := fun m ρ _ => by
  rw [defs5]
  exact Cert.Kernel5Ideal.Run.frame (F := Bits) m ρ

set_option maxHeartbeats 4000000 in
/-- The two programs' tables of bodies are the same. -/
theorem bodies7 : Cert.Kernel7.defs₀ (F := Bits) = Cert.Kernel7Ideal.defs₀ (F := Bits) := by
  unfold Cert.Kernel7.defs₀ Cert.Kernel7Ideal.defs₀
  refine congrArg Defs.onTc ?_
  funext x y
  match x, y with
  | 0, (t, s) => rfl

theorem defs7 : Cert.Kernel7.defs (F := Bits) = Cert.Kernel7Ideal.defs (F := Bits) :=
  congrArg (Pipeline.defs (Cert.Kernel7Ideal.pcfgs (F := Bits))) bodies7

theorem frame7 : Cert.quiescent_Kernel7 := fun m ρ _ => by
  rw [defs7]
  exact Cert.Kernel7Ideal.Run.frame (F := Bits) m ρ

set_option maxHeartbeats 4000000 in
/-- The two programs' tables of bodies are the same. -/
theorem bodies11 : Cert.Kernel11.defs₀ (F := Bits) = Cert.Kernel11Ideal.defs₀ (F := Bits) := by
  unfold Cert.Kernel11.defs₀ Cert.Kernel11Ideal.defs₀
  refine congrArg Defs.onTc ?_
  funext x y
  match x, y with
  | 0, (t, s) => rfl

theorem defs11 : Cert.Kernel11.defs (F := Bits) = Cert.Kernel11Ideal.defs (F := Bits) :=
  congrArg (Pipeline.defs (Cert.Kernel11Ideal.pcfgs (F := Bits))) bodies11

theorem frame11 : Cert.quiescent_Kernel11 := fun m ρ _ => by
  rw [defs11]
  exact Cert.Kernel11Ideal.Run.frame (F := Bits) m ρ

set_option maxHeartbeats 4000000 in
/-- The two programs' tables of bodies are the same. -/
theorem bodies8 : Cert.Kernel8.defs₀ (F := Bits) = Cert.Kernel8Ideal.defs₀ (F := Bits) := by
  unfold Cert.Kernel8.defs₀ Cert.Kernel8Ideal.defs₀
  refine congrArg Defs.onTc ?_
  funext x y
  match x, y with
  | 0, (t, s) => rfl

theorem defs8 : Cert.Kernel8.defs (F := Bits) = Cert.Kernel8Ideal.defs (F := Bits) :=
  congrArg (Pipeline.defs (Cert.Kernel8Ideal.pcfgs (F := Bits))) bodies8

theorem frame8 : Cert.quiescent_Kernel8 := fun m ρ _ => by
  rw [defs8]
  exact Cert.Kernel8Ideal.Run.frame (F := Bits) m ρ

end Cert.Twins

end
-- ==== Proof.lean ====
/- The proof of the claims: the frames and the arguments kept by every program, and the equality of each
   idealized kernel call with the mathematics it stands for. The values are proved in the modules imported
   here; this file puts each run together with its value. -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Reference12Ideal
public import proofs.«01_k».proof.Proof.Gen.KernelIdeal.Value
public import proofs.«01_k».proof.Proof.Gen.ReferenceIdeal.Run
public import proofs.«01_k».proof.Proof.Gen.ReferenceIdeal.Step
public import proofs.«01_k».proof.Proof.QRun
public import proofs.«01_k».proof.Proof.Gen.Reference5Ideal.Run
public import proofs.«01_k».proof.Proof.Gen.Reference8Ideal.Run
public import proofs.«01_k».proof.Proof.Gen.Reference10Ideal.Run
public import proofs.«01_k».proof.Proof.GmValue
public import proofs.«01_k».proof.Proof.GnValue
public import proofs.«01_k».proof.Proof.KvValue
public import proofs.«01_k».proof.Proof.MergeValue
public import proofs.«01_k».proof.Proof.MidValue
public import proofs.«01_k».proof.Proof.OutSampleValue
public import proofs.«01_k».proof.Proof.OutValue
public import proofs.«01_k».proof.Proof.PointValue
public import proofs.«01_k».proof.Proof.QValue
public import proofs.«01_k».proof.Proof.RmsValue
public import proofs.«01_k».proof.Proof.LruValue
public import proofs.«01_k».proof.Proof.KvRun
public import proofs.«01_k».proof.Proof.Twins
public import Idealize.ShloMosaic.Lib.StableHlo.Run
public import Idealize.ShloMosaic.Lib.Quiescent
public import Idealize.ShloMosaic.Adequacy
public import Idealize.ShloMosaic.Init

@[expose] public section

set_option maxRecDepth 16384

noncomputable section

namespace Cert.Proof

open Idealize.ShloMosaic Idealize.SL.Sem

theorem quiescent_Kernel : Cert.quiescent_Kernel := fun m ρ _ => Cert.Kernel.Gen.frame m ρ

theorem quiescent_KernelIdeal : Cert.quiescent_KernelIdeal := fun m ρ _ => Cert.KernelIdeal.Gen.frame m ρ

theorem quiescent_ReferenceIdeal : Cert.quiescent_ReferenceIdeal := fun m ρ _ => (θ_run _ _ _).mono (fun r h => ⟨fun c => (h c).2.2, sem_eq_zero_of_no_sems (sig := Cert.ReferenceIdeal.sig) (by decide) _⟩) (Cert.ReferenceIdeal.Value.run m ρ)

theorem quiescent_Kernel2 : Cert.quiescent_Kernel2 := fun m ρ _ => Cert.Kernel2.Gen.frame m ρ

theorem quiescent_Kernel2Ideal : Cert.quiescent_Kernel2Ideal := fun m ρ _ => Cert.Kernel2Ideal.Gen.frame m ρ

theorem quiescent_Reference2Ideal : Cert.quiescent_Reference2Ideal := by
  intro m ρ hm
  hlo_run
  all_goals first | (intro c; simp) | (refine sem_eq_zero_of_no_sems ?_ _; decide)

theorem quiescent_Kernel3 : Cert.quiescent_Kernel3 := fun m ρ _ => Cert.Kernel3.Gen.frame m ρ

theorem quiescent_Kernel3Ideal : Cert.quiescent_Kernel3Ideal := fun m ρ _ => Cert.Kernel3Ideal.Gen.frame m ρ

theorem quiescent_Reference3Ideal : Cert.quiescent_Reference3Ideal := by
  intro m ρ hm
  hlo_run
  all_goals first | (intro c; simp) | (refine sem_eq_zero_of_no_sems ?_ _; decide)

theorem quiescent_Kernel4 : Cert.quiescent_Kernel4 := Cert.Twins.frame4

theorem quiescent_Kernel4Ideal : Cert.quiescent_Kernel4Ideal := fun m ρ _ => Cert.Kernel4Ideal.Run.frame m ρ

theorem quiescent_Reference4Ideal : Cert.quiescent_Reference4Ideal := by
  intro m ρ hm
  hlo_run
  all_goals first | (intro c; simp) | (refine sem_eq_zero_of_no_sems ?_ _; decide)

theorem quiescent_Kernel5 : Cert.quiescent_Kernel5 := Cert.Twins.frame5

theorem quiescent_Kernel5Ideal : Cert.quiescent_Kernel5Ideal := fun m ρ _ => Cert.Kernel5Ideal.Run.frame m ρ

theorem quiescent_Reference5Ideal : Cert.quiescent_Reference5Ideal := by
  intro m ρ hm
  hlo_run
  all_goals first | (intro c; simp) | (refine sem_eq_zero_of_no_sems ?_ _; decide)

theorem quiescent_Kernel7 : Cert.quiescent_Kernel7 := Cert.Twins.frame7

theorem quiescent_Kernel7Ideal : Cert.quiescent_Kernel7Ideal := fun m ρ _ => Cert.Kernel7Ideal.Run.frame m ρ

theorem quiescent_Reference7Ideal : Cert.quiescent_Reference7Ideal := by
  intro m ρ hm
  hlo_run
  all_goals first | (intro c; simp) | (refine sem_eq_zero_of_no_sems ?_ _; decide)

theorem quiescent_Kernel8 : Cert.quiescent_Kernel8 := Cert.Twins.frame8

theorem quiescent_Kernel8Ideal : Cert.quiescent_Kernel8Ideal := fun m ρ _ => Cert.Kernel8Ideal.Run.frame m ρ

theorem quiescent_Reference8Ideal : Cert.quiescent_Reference8Ideal := by
  intro m ρ hm
  hlo_run
  all_goals first | (intro c; simp) | (refine sem_eq_zero_of_no_sems ?_ _; decide)

theorem quiescent_Kernel9 : Cert.quiescent_Kernel9 := fun m ρ _ => Cert.Kernel9.Gen.frame m ρ

theorem quiescent_Kernel9Ideal : Cert.quiescent_Kernel9Ideal := fun m ρ _ => Cert.Kernel9Ideal.Gen.frame m ρ

theorem quiescent_Reference9Ideal : Cert.quiescent_Reference9Ideal := by
  intro m ρ hm
  hlo_run
  all_goals first | (intro c; simp) | (refine sem_eq_zero_of_no_sems ?_ _; decide)

theorem quiescent_Kernel10 : Cert.quiescent_Kernel10 := fun m ρ _ => Cert.Kernel10.Gen.frame m ρ

theorem quiescent_Kernel10Ideal : Cert.quiescent_Kernel10Ideal := fun m ρ _ => Cert.Kernel10Ideal.Gen.frame m ρ

theorem quiescent_Reference10Ideal : Cert.quiescent_Reference10Ideal := by
  intro m ρ hm
  hlo_run
  all_goals first | (intro c; simp) | (refine sem_eq_zero_of_no_sems ?_ _; decide)

theorem preserves_Kernel_KernelIdeal : Cert.preserves_Kernel_KernelIdeal := trivial

set_option maxRecDepth 65536 in
set_option maxHeartbeats 4000000 in
theorem algebraic_KernelIdeal_ReferenceIdeal : Cert.algebraic_KernelIdeal_ReferenceIdeal := by
  pair_intro
  · run_from Cert.KernelIdeal.Gen.run_main m g
  · refine (θ_run _ _ _).mono (fun r h c => ⟨(h c).1.trans ?_, (h c).2.1.trans ?_, (h c).2.2⟩) (Cert.ReferenceIdeal.Value.run m' g')
    · rw [Cert.ReferenceIdeal.Lru.out84, (hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.KernelIdeal.Lru.result m c).symm
    · rw [Cert.ReferenceIdeal.Lru.out85, (hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.KernelIdeal.Lru.resultS m c).symm

theorem preserves_Kernel2_Kernel2Ideal : Cert.preserves_Kernel2_Kernel2Ideal := trivial

theorem algebraic_Kernel2Ideal_Reference2Ideal : Cert.algebraic_Kernel2Ideal_Reference2Ideal := by
  pair_intro
  · run_from Cert.Kernel2Ideal.Gen.run_main m g
  · hlo_run
    exact (Cert.Kernel2Ideal.Value.result m c).symm

theorem preserves_Kernel3_Kernel3Ideal : Cert.preserves_Kernel3_Kernel3Ideal := trivial

theorem algebraic_Kernel3Ideal_Reference3Ideal : Cert.algebraic_Kernel3Ideal_Reference3Ideal := by
  pair_intro
  · run_from Cert.Kernel3Ideal.Gen.run_main m g
  · hlo_run
    exact (Cert.Kernel3Ideal.Value.result m c).symm

theorem preserves_Kernel4_Kernel4Ideal : Cert.preserves_Kernel4_Kernel4Ideal := trivial

theorem algebraic_Kernel4Ideal_Reference4Ideal : Cert.algebraic_Kernel4Ideal_Reference4Ideal := by
  pair_intro
  · run_from Cert.Kernel4Ideal.Run.run_main m g
  · hlo_run
    · exact (Cert.Kernel4Ideal.Value.result m c).symm
    · exact (Cert.Kernel4Ideal.Value.resultS m c).symm

theorem preserves_Kernel5_Kernel5Ideal : Cert.preserves_Kernel5_Kernel5Ideal := trivial

theorem algebraic_Kernel5Ideal_Reference5Ideal : Cert.algebraic_Kernel5Ideal_Reference5Ideal := by
  pair_intro
  · run_from Cert.Kernel5Ideal.Run.run_main m g
  · refine (θ_run _ _ _).mono (fun r h c => ⟨(h c).1.trans ?_, (h c).2.1.trans ?_, (h c).2.2⟩) (Cert.Reference5Ideal.Value.run m' g')
    · unfold Cert.Reference5Ideal.Value.res_main_v39
      rw [(hagree c).1, (hagree c).2.2]
      exact (Cert.Kernel5Ideal.Value.result m c).symm
    · unfold Cert.Reference5Ideal.Value.res_main_v79
      rw [(hagree c).2.1, (hagree c).2.2]
      exact (Cert.Kernel5Ideal.Value.resultS m c).symm

theorem preserves_Kernel7_Kernel7Ideal : Cert.preserves_Kernel7_Kernel7Ideal := trivial

theorem algebraic_Kernel7Ideal_Reference7Ideal : Cert.algebraic_Kernel7Ideal_Reference7Ideal := by
  pair_intro
  · run_from Cert.Kernel7Ideal.Run.run_main m g
  · hlo_run
    · exact (Cert.Kernel7Ideal.Value.result m c).symm
    · exact (Cert.Kernel7Ideal.Value.resultS m c).symm

theorem preserves_Kernel8_Kernel8Ideal : Cert.preserves_Kernel8_Kernel8Ideal := trivial

set_option maxRecDepth 65536 in
set_option maxHeartbeats 4000000 in
theorem algebraic_Kernel8Ideal_Reference8Ideal : Cert.algebraic_Kernel8Ideal_Reference8Ideal := by
  pair_intro
  · run_from Cert.Kernel8Ideal.Run.run_main m g
  · refine (θ_run _ _ _).mono (fun r h c => ⟨(h c).1.trans ?_, (h c).2.1.trans ?_, (h c).2.2.1.trans ?_, (h c).2.2.2.1.trans ?_, (h c).2.2.2.2⟩) (Cert.Reference8Ideal.Value.run m' g')
    · refine Eq.trans ?_ (Cert.Kernel8Ideal.Value.resultP m c).symm
      obtain ⟨e0, e1, e2, e3, e4⟩ := hagree c
      rw [← e0, ← e1, ← e2, ← e3, ← e4]
      rfl
    · refine Eq.trans ?_ (Cert.Kernel8Ideal.Value.resultB m c).symm
      obtain ⟨e0, e1, e2, e3, e4⟩ := hagree c
      rw [← e0, ← e1, ← e2, ← e3, ← e4]
      rfl
    · refine Eq.trans ?_ (Cert.Kernel8Ideal.Value.resultH m c).symm
      obtain ⟨e0, e1, e2, e3, e4⟩ := hagree c
      rw [← e0, ← e1, ← e2, ← e3, ← e4]
      rfl
    · refine Eq.trans ?_ (Cert.Kernel8Ideal.Value.resultS m c).symm
      obtain ⟨e0, e1, e2, e3, e4⟩ := hagree c
      rw [← e0, ← e1, ← e2, ← e3, ← e4]
      rfl

theorem preserves_Kernel9_Kernel9Ideal : Cert.preserves_Kernel9_Kernel9Ideal := trivial

theorem algebraic_Kernel9Ideal_Reference9Ideal : Cert.algebraic_Kernel9Ideal_Reference9Ideal := by
  pair_intro
  · run_from Cert.Kernel9Ideal.Gen.run_main m g
  · hlo_run
    exact (Cert.Kernel9Ideal.Value.result m c).symm

theorem preserves_Kernel10_Kernel10Ideal : Cert.preserves_Kernel10_Kernel10Ideal := trivial

set_option maxRecDepth 65536 in
set_option maxHeartbeats 4000000 in
theorem algebraic_Kernel10Ideal_Reference10Ideal : Cert.algebraic_Kernel10Ideal_Reference10Ideal := by
  intro m g m' g' _ hagree
  refine ⟨fun c => Cert.Kernel10Ideal.Value.omlp (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg15)) (m ((c.tc : Thread Cert.Kernel10Ideal.nD Cert.Kernel10Ideal.τ).loc Cert.Kernel10Ideal.main_arg16)),
    fun c => Cert.Kernel10Ideal.Value.norm (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg15)) (m ((c.tc : Thread Cert.Kernel10Ideal.nD Cert.Kernel10Ideal.τ).loc Cert.Kernel10Ideal.main_arg16)),
    fun c => Cert.Kernel10Ideal.Value.olru (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg15)) (m ((c.tc : Thread Cert.Kernel10Ideal.nD Cert.Kernel10Ideal.τ).loc Cert.Kernel10Ideal.main_arg16)),
    fun c => Cert.Kernel10Ideal.Value.state (m ((c.tc : Thread Cert.Kernel10Ideal.nD Cert.Kernel10Ideal.τ).loc Cert.Kernel10Ideal.main_arg0)) (m ((c.tc : Thread Cert.Kernel10Ideal.nD Cert.Kernel10Ideal.τ).loc Cert.Kernel10Ideal.main_arg1)) (m ((c.tc : Thread Cert.Kernel10Ideal.nD Cert.Kernel10Ideal.τ).loc Cert.Kernel10Ideal.main_arg2)) (m ((c.tc : Thread Cert.Kernel10Ideal.nD Cert.Kernel10Ideal.τ).loc Cert.Kernel10Ideal.main_arg3)) (m ((c.tc : Thread Cert.Kernel10Ideal.nD Cert.Kernel10Ideal.τ).loc Cert.Kernel10Ideal.main_arg4)) (m ((c.tc : Thread Cert.Kernel10Ideal.nD Cert.Kernel10Ideal.τ).loc Cert.Kernel10Ideal.main_arg5)) (m ((c.tc : Thread Cert.Kernel10Ideal.nD Cert.Kernel10Ideal.τ).loc Cert.Kernel10Ideal.main_arg6)) (m ((c.tc : Thread Cert.Kernel10Ideal.nD Cert.Kernel10Ideal.τ).loc Cert.Kernel10Ideal.main_arg7)) (m ((c.tc : Thread Cert.Kernel10Ideal.nD Cert.Kernel10Ideal.τ).loc Cert.Kernel10Ideal.main_arg8)) (m ((c.tc : Thread Cert.Kernel10Ideal.nD Cert.Kernel10Ideal.τ).loc Cert.Kernel10Ideal.main_arg9)) (m ((c.tc : Thread Cert.Kernel10Ideal.nD Cert.Kernel10Ideal.τ).loc Cert.Kernel10Ideal.main_arg10)) (m ((c.tc : Thread Cert.Kernel10Ideal.nD Cert.Kernel10Ideal.τ).loc Cert.Kernel10Ideal.main_arg11)) (m ((c.tc : Thread Cert.Kernel10Ideal.nD Cert.Kernel10Ideal.τ).loc Cert.Kernel10Ideal.main_arg12)) (m ((c.tc : Thread Cert.Kernel10Ideal.nD Cert.Kernel10Ideal.τ).loc Cert.Kernel10Ideal.main_arg13)) (m ((c.tc : Thread Cert.Kernel10Ideal.nD Cert.Kernel10Ideal.τ).loc Cert.Kernel10Ideal.main_arg14)) (m ((c.tc : Thread Cert.Kernel10Ideal.nD Cert.Kernel10Ideal.τ).loc Cert.Kernel10Ideal.main_arg15)) (m ((c.tc : Thread Cert.Kernel10Ideal.nD Cert.Kernel10Ideal.τ).loc Cert.Kernel10Ideal.main_arg16)), ?_, ?_⟩
  · exact (θ_run _ _ _).mono (fun r h c => ⟨((h.1 c).1 18).trans (Cert.Kernel10Ideal.Value.resultMlp m c), ((h.1 c).1 19).trans (Cert.Kernel10Ideal.Value.resultRows m c), ((h.1 c).1 20).trans (Cert.Kernel10Ideal.Value.resultLru m c), ((h.1 c).1 21).trans (Cert.Kernel10Ideal.Value.resultState m c), h.2 c⟩) (θ_run_and (Cert.Kernel10Ideal.Gen.run_main m g) (Cert.Kernel10Ideal.Gen.unchanged m g))
  · refine (θ_run _ _ _).mono (fun r h c => ⟨(h c).1.trans ?_, (h c).2.1.trans ?_, (h c).2.2.1.trans ?_, (h c).2.2.2.1.trans ?_, (h c).2.2.2.2⟩) (Cert.Reference10Ideal.Value.run m' g')
    · beta_reduce
      obtain ⟨e0, e1, e2, e3, e4, e5, e6, e7, e8, e9, e10, e11, e12, e13, e14, e15, e16⟩ := hagree c
      rw [← e0, ← e1, ← e2, ← e3, ← e4, ← e5, ← e6, ← e7, ← e8, ← e9, ← e10, ← e11, ← e12, ← e13, ← e14, ← e15, ← e16]
      rfl
    · beta_reduce
      obtain ⟨e0, e1, e2, e3, e4, e5, e6, e7, e8, e9, e10, e11, e12, e13, e14, e15, e16⟩ := hagree c
      rw [← e0, ← e1, ← e2, ← e3, ← e4, ← e5, ← e6, ← e7, ← e8, ← e9, ← e10, ← e11, ← e12, ← e13, ← e14, ← e15, ← e16]
      rfl
    · beta_reduce
      obtain ⟨e0, e1, e2, e3, e4, e5, e6, e7, e8, e9, e10, e11, e12, e13, e14, e15, e16⟩ := hagree c
      rw [← e0, ← e1, ← e2, ← e3, ← e4, ← e5, ← e6, ← e7, ← e8, ← e9, ← e10, ← e11, ← e12, ← e13, ← e14, ← e15, ← e16]
      rfl
    · beta_reduce
      obtain ⟨e0, e1, e2, e3, e4, e5, e6, e7, e8, e9, e10, e11, e12, e13, e14, e15, e16⟩ := hagree c
      rw [← e0, ← e1, ← e2, ← e3, ← e4, ← e5, ← e6, ← e7, ← e8, ← e9, ← e10, ← e11, ← e12, ← e13, ← e14, ← e15, ← e16]
      rfl

theorem quiescent_Kernel11 : Cert.quiescent_Kernel11 := Cert.Twins.frame11

theorem quiescent_Kernel11Ideal : Cert.quiescent_Kernel11Ideal := fun m ρ _ => Cert.Kernel11Ideal.Run.frame m ρ

theorem quiescent_Reference11Ideal : Cert.quiescent_Reference11Ideal := by
  intro m ρ hm
  hlo_run
  all_goals first | (intro c; simp) | (refine sem_eq_zero_of_no_sems ?_ _; decide)

theorem preserves_Kernel11_Kernel11Ideal : Cert.preserves_Kernel11_Kernel11Ideal := trivial

theorem algebraic_Kernel11Ideal_Reference11Ideal : Cert.algebraic_Kernel11Ideal_Reference11Ideal := by
  pair_intro
  · run_from Cert.Kernel11Ideal.Run.run_main m g
  · hlo_run
    · exact (Cert.Kernel11Ideal.Value.result m c).symm
    · exact (Cert.Kernel11Ideal.Value.resultS m c).symm

theorem quiescent_Kernel12 : Cert.quiescent_Kernel12 := fun m ρ _ => Cert.Kernel12.Gen.frame m ρ

theorem quiescent_Kernel12Ideal : Cert.quiescent_Kernel12Ideal := fun m ρ _ => Cert.Kernel12Ideal.Gen.frame m ρ

theorem quiescent_Reference12Ideal : Cert.quiescent_Reference12Ideal := by
  intro m ρ hm
  hlo_run
  all_goals first | (intro c; simp) | (refine sem_eq_zero_of_no_sems ?_ _; decide)

theorem preserves_Kernel12_Kernel12Ideal : Cert.preserves_Kernel12_Kernel12Ideal := trivial

theorem algebraic_Kernel12Ideal_Reference12Ideal : Cert.algebraic_Kernel12Ideal_Reference12Ideal := by
  pair_intro
  · run_from Cert.Kernel12Ideal.Gen.run_main m g
  · hlo_run
    exact (Cert.Kernel12Ideal.Value.result m c).symm

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts,
   quiescent_Kernel,
   quiescent_KernelIdeal,
   quiescent_ReferenceIdeal,
   quiescent_Kernel2,
   quiescent_Kernel2Ideal,
   quiescent_Reference2Ideal,
   quiescent_Kernel3,
   quiescent_Kernel3Ideal,
   quiescent_Reference3Ideal,
   quiescent_Kernel4,
   quiescent_Kernel4Ideal,
   quiescent_Reference4Ideal,
   quiescent_Kernel5,
   quiescent_Kernel5Ideal,
   quiescent_Reference5Ideal,
   quiescent_Kernel7,
   quiescent_Kernel7Ideal,
   quiescent_Reference7Ideal,
   quiescent_Kernel8,
   quiescent_Kernel8Ideal,
   quiescent_Reference8Ideal,
   quiescent_Kernel9,
   quiescent_Kernel9Ideal,
   quiescent_Reference9Ideal,
   quiescent_Kernel10,
   quiescent_Kernel10Ideal,
   quiescent_Reference10Ideal,
   quiescent_Kernel11,
   quiescent_Kernel11Ideal,
   quiescent_Reference11Ideal,
   quiescent_Kernel12,
   quiescent_Kernel12Ideal,
   quiescent_Reference12Ideal,
   preserves_Kernel_KernelIdeal,
   algebraic_KernelIdeal_ReferenceIdeal,
   preserves_Kernel2_Kernel2Ideal,
   algebraic_Kernel2Ideal_Reference2Ideal,
   preserves_Kernel3_Kernel3Ideal,
   algebraic_Kernel3Ideal_Reference3Ideal,
   preserves_Kernel4_Kernel4Ideal,
   algebraic_Kernel4Ideal_Reference4Ideal,
   preserves_Kernel5_Kernel5Ideal,
   algebraic_Kernel5Ideal_Reference5Ideal,
   preserves_Kernel7_Kernel7Ideal,
   algebraic_Kernel7Ideal_Reference7Ideal,
   preserves_Kernel8_Kernel8Ideal,
   algebraic_Kernel8Ideal_Reference8Ideal,
   preserves_Kernel9_Kernel9Ideal,
   algebraic_Kernel9Ideal_Reference9Ideal,
   preserves_Kernel10_Kernel10Ideal,
   algebraic_Kernel10Ideal_Reference10Ideal,
   preserves_Kernel11_Kernel11Ideal,
   algebraic_Kernel11Ideal_Reference11Ideal,
   preserves_Kernel12_Kernel12Ideal,
   algebraic_Kernel12Ideal_Reference12Ideal⟩

end Cert.Proof

end
